-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_QuantK (m : (ℓ : Loc Cert.QuantK.nD Cert.QuantK.τ Cert.QuantK.sig) → Buf (Elt Bits) ℓ) : Prop :=
  True

def Pre_QuantKIdeal (m : (ℓ : Loc Cert.QuantKIdeal.nD Cert.QuantKIdeal.τ Cert.QuantKIdeal.sig) → Buf (Elt Ideal) ℓ) : Prop :=
  True

def Pre_QuantKIdeal_range_k [hPre_range_k : Cert.Pre_range_k.Facts] (m : (ℓ : Loc Cert.QuantKIdeal.nD Cert.QuantKIdeal.τ Cert.QuantKIdeal.sig) → Buf (Elt Ideal) ℓ) : Prop :=
  ∀ c : Dev Cert.QuantKIdeal.nD,
    (Cert.Pre_range_k.fn (F := Ideal) (m ((c.tc : Thread Cert.QuantKIdeal.nD Cert.QuantKIdeal.τ).loc Cert.QuantKIdeal.main_arg0))).1 = (fun _ => 1#1)
    ∧ (Cert.Pre_range_k.fn (F := Ideal) (m ((c.tc : Thread Cert.QuantKIdeal.nD Cert.QuantKIdeal.τ).loc Cert.QuantKIdeal.main_arg0))).2 = (fun _ => 1#1)

def Pre_RefKIdeal (m : (ℓ : Loc Cert.RefKIdeal.nD Cert.RefKIdeal.τ Cert.RefKIdeal.sig) → Buf (Elt Ideal) ℓ) : Prop :=
  True

def Pre_RefKIdeal_range_k [hPre_range_k : Cert.Pre_range_k.Facts] (m : (ℓ : Loc Cert.RefKIdeal.nD Cert.RefKIdeal.τ Cert.RefKIdeal.sig) → Buf (Elt Ideal) ℓ) : Prop :=
  ∀ c : Dev Cert.RefKIdeal.nD,
    (Cert.Pre_range_k.fn (F := Ideal) (m ((c.tc : Thread Cert.RefKIdeal.nD Cert.RefKIdeal.τ).loc Cert.RefKIdeal.main_arg0))).1 = (fun _ => 1#1)
    ∧ (Cert.Pre_range_k.fn (F := Ideal) (m ((c.tc : Thread Cert.RefKIdeal.nD Cert.RefKIdeal.τ).loc Cert.RefKIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_QuantK [hQuantK : Cert.QuantK.Facts] : Prop :=
  ∀ (m : (ℓ : Loc Cert.QuantK.nD Cert.QuantK.τ Cert.QuantK.sig) → Buf (Elt Bits) ℓ) (g : Dev Cert.QuantK.nD → PrngReg), Pre_QuantK m →
    θ_run (Cert.QuantK.defs (F := Bits)) (onTc (τ := Cert.QuantK.τ) (Cert.QuantK.main (F := Bits))) ⟨m, fun _ => 0, g⟩ (fun r => (∀ c : Dev Cert.QuantK.nD,
      r.2.mem ((c.tc : Thread Cert.QuantK.nD Cert.QuantK.τ).loc Cert.QuantK.main_arg0) = m ((c.tc : Thread Cert.QuantK.nD Cert.QuantK.τ).loc Cert.QuantK.main_arg0))
      ∧ r.2.sem = fun _ => 0)

def quiescent_QuantKIdeal [hQuantKIdeal : Cert.QuantKIdeal.Facts] : Prop :=
  ∀ (m : (ℓ : Loc Cert.QuantKIdeal.nD Cert.QuantKIdeal.τ Cert.QuantKIdeal.sig) → Buf (Elt Ideal) ℓ) (g : Dev Cert.QuantKIdeal.nD → PrngReg), Pre_QuantKIdeal m →
    θ_run (Cert.QuantKIdeal.defs (F := Ideal)) (onTc (τ := Cert.QuantKIdeal.τ) (Cert.QuantKIdeal.main (F := Ideal))) ⟨m, fun _ => 0, g⟩ (fun r => (∀ c : Dev Cert.QuantKIdeal.nD,
      r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ r.2.sem = fun _ => 0)

def quiescent_QuantKIdeal_pre_range_k [hQuantKIdeal : Cert.QuantKIdeal.Facts] [hPre_range_k : Cert.Pre_range_k.Facts] : Prop :=
  ∀ (m : (ℓ : Loc Cert.QuantKIdeal.nD Cert.QuantKIdeal.τ Cert.QuantKIdeal.sig) → Buf (Elt Ideal) ℓ) (g : Dev Cert.QuantKIdeal.nD → PrngReg), Pre_QuantKIdeal_range_k m →
    θ_run (Cert.QuantKIdeal.defs (F := Ideal)) (onTc (τ := Cert.QuantKIdeal.τ) (Cert.QuantKIdeal.main (F := Ideal))) ⟨m, fun _ => 0, g⟩ (fun r => (∀ c : Dev Cert.QuantKIdeal.nD,
      r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ r.2.sem = fun _ => 0)

def quiescent_RefKIdeal [hRefKIdeal : Cert.RefKIdeal.Facts] : Prop :=
  ∀ (m : (ℓ : Loc Cert.RefKIdeal.nD Cert.RefKIdeal.τ Cert.RefKIdeal.sig) → Buf (Elt Ideal) ℓ) (g : Dev Cert.RefKIdeal.nD → PrngReg), Pre_RefKIdeal m →
    θ_run (Cert.RefKIdeal.defs (F := Ideal)) (onTc (τ := Cert.RefKIdeal.τ) (Cert.RefKIdeal.main (F := Ideal))) ⟨m, fun _ => 0, g⟩ (fun r => (∀ c : Dev Cert.RefKIdeal.nD,
      r.2.mem ((c.tc : Thread Cert.RefKIdeal.nD Cert.RefKIdeal.τ).loc Cert.RefKIdeal.main_arg0) = m ((c.tc : Thread Cert.RefKIdeal.nD Cert.RefKIdeal.τ).loc Cert.RefKIdeal.main_arg0))
      ∧ r.2.sem = fun _ => 0)

def quiescent_RefKIdeal_pre_range_k [hRefKIdeal : Cert.RefKIdeal.Facts] [hPre_range_k : Cert.Pre_range_k.Facts] : Prop :=
  ∀ (m : (ℓ : Loc Cert.RefKIdeal.nD Cert.RefKIdeal.τ Cert.RefKIdeal.sig) → Buf (Elt Ideal) ℓ) (g : Dev Cert.RefKIdeal.nD → PrngReg), Pre_RefKIdeal_range_k m →
    θ_run (Cert.RefKIdeal.defs (F := Ideal)) (onTc (τ := Cert.RefKIdeal.τ) (Cert.RefKIdeal.main (F := Ideal))) ⟨m, fun _ => 0, g⟩ (fun r => (∀ c : Dev Cert.RefKIdeal.nD,
      r.2.mem ((c.tc : Thread Cert.RefKIdeal.nD Cert.RefKIdeal.τ).loc Cert.RefKIdeal.main_arg0) = m ((c.tc : Thread Cert.RefKIdeal.nD Cert.RefKIdeal.τ).loc Cert.RefKIdeal.main_arg0))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "log2_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_QuantK_QuantKIdeal : Prop :=
  IdealRules.named_const.Statement Cert.QuantKIdeal.κ "log2_e" .f32 0x3FB8AA3B#32 (((Real.log 2)⁻¹ : ℝ) : EReal)

def algebraic_QuantKIdeal_RefKIdeal_pre_range_k [hQuantKIdeal : Cert.QuantKIdeal.Facts] [hRefKIdeal : Cert.RefKIdeal.Facts] [hPre_range_k : Cert.Pre_range_k.Facts] : Prop :=
  ∀ (m : (ℓ : Loc Cert.QuantKIdeal.nD Cert.QuantKIdeal.τ Cert.QuantKIdeal.sig) → Buf (Elt Ideal) ℓ) (g : Dev Cert.QuantKIdeal.nD → PrngReg)
    (m' : (ℓ : Loc Cert.RefKIdeal.nD Cert.RefKIdeal.τ Cert.RefKIdeal.sig) → Buf (Elt Ideal) ℓ) (g' : Dev Cert.RefKIdeal.nD → PrngReg), Pre_QuantKIdeal_range_k m →
    (∀ c : Dev Cert.QuantKIdeal.nD,
      m' ((c.tc : Thread Cert.RefKIdeal.nD Cert.RefKIdeal.τ).loc Cert.RefKIdeal.main_arg0) = m ((c.tc : Thread Cert.QuantKIdeal.nD Cert.QuantKIdeal.τ).loc Cert.QuantKIdeal.main_arg0)) →
    ∃ (v0 : (c : Dev Cert.QuantKIdeal.nD) → Buf (Elt Ideal) ((c.tc : Thread Cert.QuantKIdeal.nD Cert.QuantKIdeal.τ).loc Cert.QuantKIdeal.main_v0_0)) (v1 : (c : Dev Cert.QuantKIdeal.nD) → Buf (Elt Ideal) ((c.tc : Thread Cert.QuantKIdeal.nD Cert.QuantKIdeal.τ).loc Cert.QuantKIdeal.main_v0_1)) (v2 : (c : Dev Cert.QuantKIdeal.nD) → Buf (Elt Ideal) ((c.tc : Thread Cert.QuantKIdeal.nD Cert.QuantKIdeal.τ).loc Cert.QuantKIdeal.main_v0_2)),
      θ_run (Cert.QuantKIdeal.defs (F := Ideal)) (onTc (τ := Cert.QuantKIdeal.τ) (Cert.QuantKIdeal.main (F := Ideal))) ⟨m, fun _ => 0, g⟩ (fun r => ∀ c : Dev Cert.QuantKIdeal.nD,
          r.2.mem ((c.tc : Thread Cert.QuantKIdeal.nD Cert.QuantKIdeal.τ).loc Cert.QuantKIdeal.main_v0_0) = v0 c
          ∧ r.2.mem ((c.tc : Thread Cert.QuantKIdeal.nD Cert.QuantKIdeal.τ).loc Cert.QuantKIdeal.main_v0_1) = v1 c
          ∧ r.2.mem ((c.tc : Thread Cert.QuantKIdeal.nD Cert.QuantKIdeal.τ).loc Cert.QuantKIdeal.main_v0_2) = v2 c
          ∧ r.2.mem ((c.tc : Thread Cert.QuantKIdeal.nD Cert.QuantKIdeal.τ).loc Cert.QuantKIdeal.main_arg0) = m ((c.tc : Thread Cert.QuantKIdeal.nD Cert.QuantKIdeal.τ).loc Cert.QuantKIdeal.main_arg0))
      ∧ θ_run (Cert.RefKIdeal.defs (F := Ideal)) (onTc (τ := Cert.RefKIdeal.τ) (Cert.RefKIdeal.main (F := Ideal))) ⟨m', fun _ => 0, g'⟩ (fun r => ∀ c : Dev Cert.RefKIdeal.nD,
          r.2.mem ((c.tc : Thread Cert.RefKIdeal.nD Cert.RefKIdeal.τ).loc Cert.RefKIdeal.main_v23) = v0 c
          ∧ r.2.mem ((c.tc : Thread Cert.RefKIdeal.nD Cert.RefKIdeal.τ).loc Cert.RefKIdeal.main_v28) = v1 c
          ∧ r.2.mem ((c.tc : Thread Cert.RefKIdeal.nD Cert.RefKIdeal.τ).loc Cert.RefKIdeal.main_v29) = v2 c
          ∧ r.2.mem ((c.tc : Thread Cert.RefKIdeal.nD Cert.RefKIdeal.τ).loc Cert.RefKIdeal.main_arg0) = m' ((c.tc : Thread Cert.RefKIdeal.nD Cert.RefKIdeal.τ).loc Cert.RefKIdeal.main_arg0))

def Claim : Prop :=
  ∃ (hKernel : Cert.Kernel.Facts) (hKernelIdeal : Cert.KernelIdeal.Facts) (hReferenceIdeal : Cert.ReferenceIdeal.Facts) (hQuantK : Cert.QuantK.Facts) (hQuantKIdeal : Cert.QuantKIdeal.Facts) (hRefKIdeal : Cert.RefKIdeal.Facts) (hPre_finite : Cert.Pre_finite.Facts) (hPre_range_k : Cert.Pre_range_k.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_QuantK (hQuantK := hQuantK)
    ∧ quiescent_QuantKIdeal (hQuantKIdeal := hQuantKIdeal)
    ∧ quiescent_QuantKIdeal_pre_range_k (hQuantKIdeal := hQuantKIdeal) (hPre_range_k := hPre_range_k)
    ∧ quiescent_RefKIdeal (hRefKIdeal := hRefKIdeal)
    ∧ quiescent_RefKIdeal_pre_range_k (hRefKIdeal := hRefKIdeal) (hPre_range_k := hPre_range_k)
    ∧ preserves_Kernel_KernelIdeal
    ∧ algebraic_KernelIdeal_ReferenceIdeal_pre_finite (hKernelIdeal := hKernelIdeal) (hReferenceIdeal := hReferenceIdeal) (hPre_finite := hPre_finite)
    ∧ preserves_QuantK_QuantKIdeal
    ∧ algebraic_QuantKIdeal_RefKIdeal_pre_range_k (hQuantKIdeal := hQuantKIdeal) (hRefKIdeal := hRefKIdeal) (hPre_range_k := hPre_range_k)
-- ==== Pre_finite.lean ====
abbrev S2x262144x128 : Shape := ⟨3, ![2, 262144, 128]⟩
abbrev S2x8x32768 : Shape := ⟨3, ![2, 8, 32768]⟩
abbrev S2x128x128x256 : Shape := ⟨4, ![2, 128, 128, 256]⟩
abbrev S2x256x1x128 : Shape := ⟨4, ![2, 256, 1, 128]⟩
abbrev S2x32768x128 : Shape := ⟨3, ![2, 32768, 128]⟩
abbrev S2x1x128 : Shape := ⟨3, ![2, 1, 128]⟩
abbrev S_ : Shape := ⟨0, ![]⟩

class Facts : Prop where
  bcast_S_S2x262144x128 : S_.BroadcastsInDim S2x262144x128 (![] : Fin 0 → Fin S2x262144x128.rank)
  bcast_S_S2x128x128x256 : S_.BroadcastsInDim S2x128x128x256 (![] : Fin 0 → Fin S2x128x128x256.rank)
  bcast_S_S2x8x32768 : S_.BroadcastsInDim S2x8x32768 (![] : Fin 0 → Fin S2x8x32768.rank)
  bcast_S_S2x256x1x128 : S_.BroadcastsInDim S2x256x1x128 (![] : Fin 0 → Fin S2x256x1x128.rank)

variable [Facts]

def fn {F : FTy → Type} [FloatOps F] (main_arg0 : FVec F S2x262144x128 .f32) (main_arg1 : FVec F S2x8x32768 .f32) (main_arg2 : FVec F S2x128x128x256 .f32) (main_arg3 : FVec F S2x256x1x128 .f32) (main_arg4 : FVec F S2x32768x128 .fp8e4m3) (main_arg5 : FVec F S2x1x128 .f32) : IVec S2x262144x128 1 × IVec S2x128x128x256 1 × IVec S2x8x32768 1 × IVec S2x8x32768 1 × IVec S2x256x1x128 1 :=
  let main_v0 : FVec F S2x262144x128 .f32 := Host.absf main_arg0
  let main_cst : FVec F S_ .f32 := constant S_ .f32 0x7F800000#32
  let main_v1 : FVec F S2x262144x128 .f32 := broadcastInDim S2x262144x128 ![] bcast_S_S2x262144x128 main_cst
  let main_v2 : IVec S2x262144x128 1 := cmpf .olt main_v0 main_v1
  let main_v3 : FVec F S2x128x128x256 .f32 := Host.absf main_arg2
  let main_cst_0 : FVec F S_ .f32 := constant S_ .f32 0x7F800000#32
  let main_v4 : FVec F S2x128x128x256 .f32 := broadcastInDim S2x128x128x256 ![] bcast_S_S2x128x128x256 main_cst_0
  let main_v5 : IVec S2x128x128x256 1 := cmpf .olt main_v3 main_v4
  let main_cst_1 : FVec F S_ .f32 := constant S_ .f32 0x00000000#32
  let main_v6 : FVec F S2x8x32768 .f32 := broadcastInDim S2x8x32768 ![] bcast_S_S2x8x32768 main_cst_1
  let main_v7 : IVec S2x8x32768 1 := cmpf .ogt main_arg1 main_v6
  let main_cst_2 : FVec F S_ .f32 := constant S_ .f32 0x7F800000#32
  let main_v8 : FVec F S2x8x32768 .f32 := broadcastInDim S2x8x32768 ![] bcast_S_S2x8x32768 main_cst_2
  let main_v9 : IVec S2x8x32768 1 := cmpf .olt main_arg1 main_v8
  let main_v10 : FVec F S2x256x1x128 .f32 := Host.absf main_arg3
  let main_cst_3 : FVec F S_ .f32 := constant S_ .f32 0x7F800000#32
  let main_v11 : FVec F S2x256x1x128 .f32 := broadcastInDim S2x256x1x128 ![] bcast_S_S2x256x1x128 main_cst_3
  let main_v12 : IVec S2x256x1x128 1 := cmpf .olt main_v10 main_v11
  (main_v2, main_v5, main_v7, main_v9, main_v12)
-- ==== Pre_range_k.lean ====
abbrev S2x32768x128 : Shape := ⟨3, ![2, 32768, 128]⟩
abbrev S_ : Shape := ⟨0, ![]⟩
abbrev S2x32768 : Shape := ⟨2, ![2, 32768]⟩

class Facts : Prop where
  bitsLt_bf16_f32 : FTy.bits .bf16 < FTy.bits .f32
  reducesTo_S2x32768x128_S2x32768_d2 : S2x32768x128.ReducesTo [2] S2x32768
  h_S_ : 0 < S_.numel
  bcast_S_S2x32768 : S_.BroadcastsInDim S2x32768 (![] : Fin 0 → Fin S2x32768.rank)

variable [Facts]

def fn {F : FTy → Type} [FloatOps F] (main_arg0 : FVec F S2x32768x128 .bf16) : IVec S2x32768 1 × IVec S2x32768 1 :=
  let main_v0 : FVec F S2x32768x128 .f32 := (extf .f32 · bitsLt_bf16_f32) main_arg0
  let main_v1 : FVec F S2x32768x128 .f32 := Host.absf main_v0
  let main_cst : FVec F S_ .f32 := constant S_ .f32 0xFF800000#32
  let main_v2 : FVec F S2x32768 .f32 := (fun x v => Host.reduce FloatOps.maximumf x v reducesTo_S2x32768x128_S2x32768_d2 h_S_) main_v1 main_cst
  let main_cst_0 : FVec F S_ .f32 := constant S_ .f32 0x00000000#32
  let main_v3 : FVec F S2x32768 .f32 := broadcastInDim S2x32768 ![] bcast_S_S2x32768 main_cst_0
  let main_v4 : IVec S2x32768 1 := cmpf .oeq main_v2 main_v3
  let main_cst_1 : FVec F S_ .f32 := constant S_ .f32 0x3B124925#32
  let main_v5 : FVec F S2x32768 .f32 := broadcastInDim S2x32768 ![] bcast_S_S2x32768 main_cst_1
  let main_v6 : FVec F S2x32768 .f32 := mulf main_v2 main_v5
  let main_cst_2 : FVec F S_ .f32 := constant S_ .f32 0x00800000#32
  let main_v7 : FVec F S2x32768 .f32 := broadcastInDim S2x32768 ![] bcast_S_S2x32768 main_cst_2
  let main_v8 : IVec S2x32768 1 := cmpf .oge main_v6 main_v7
  let main_v9 : IVec S2x32768 1 := ori main_v4 main_v8
  let main_cst_3 : FVec F S_ .f32 := constant S_ .f32 0x7F7F0000#32
  let main_v10 : FVec F S2x32768 .f32 := broadcastInDim S2x32768 ![] bcast_S_S2x32768 main_cst_3
  let main_v11 : IVec S2x32768 1 := cmpf .ole main_v2 main_v10
  (main_v9, main_v11)
-- ==== Kernel.lean ====
abbrev S2x262144x128 : Shape := ⟨3, ![2, 262144, 128]⟩
abbrev S2x8x32768 : Shape := ⟨3, ![2, 8, 32768]⟩
abbrev S2x128x128x256 : Shape := ⟨4, ![2, 128, 128, 256]⟩
abbrev S2x256x1x128 : Shape := ⟨4, ![2, 256, 1, 128]⟩
abbrev S2x32768x128 : Shape := ⟨3, ![2, 32768, 128]⟩
abbrev S2x1x128 : Shape := ⟨3, ![2, 1, 128]⟩
abbrev S2x8x1024x32 : Shape := ⟨4, ![2, 8, 1024, 32]⟩
abbrev S2x1024x8x32 : Shape := ⟨4, ![2, 1024, 8, 32]⟩
abbrev S2x32768x1024 : Shape := ⟨3, ![2, 32768, 1024]⟩
abbrev S1x256x128 : Shape := ⟨3, ![1, 256, 128]⟩
abbrev S1x1x8x32 : Shape := ⟨4, ![1, 1, 8, 32]⟩
abbrev S1x128x128x256 : Shape := ⟨4, ![1, 128, 128, 256]⟩
abbrev S1x256x1x128 : Shape := ⟨4, ![1, 256, 1, 128]⟩
abbrev S1x32768x128 : Shape := ⟨3, ![1, 32768, 128]⟩
abbrev S1x1x128 : Shape := ⟨3, ![1, 1, 128]⟩
abbrev S1x32x1024 : Shape := ⟨3, ![1, 32, 1024]⟩
abbrev S256x128x128 : Shape := ⟨3, ![256, 128, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩
abbrev S1x1x8x1 : Shape := ⟨4, ![1, 1, 8, 1]⟩
abbrev S8x1 : Shape := ⟨2, ![8, 1]⟩
abbrev S8x128 : Shape := ⟨2, ![8, 128]⟩
abbrev S128x2048 : Shape := ⟨2, ![128, 2048]⟩
abbrev S1x2048x128 : Shape := ⟨3, ![1, 2048, 128]⟩
abbrev S2048x128 : Shape := ⟨2, ![2048, 128]⟩
abbrev S32x128 : Shape := ⟨2, ![32, 128]⟩
abbrev S1x32x128 : Shape := ⟨3, ![1, 32, 128]⟩
abbrev S1x1x128x256 : Shape := ⟨4, ![1, 1, 128, 256]⟩
abbrev S128x256 : Shape := ⟨2, ![128, 256]⟩
abbrev S1x1x1x128 : Shape := ⟨4, ![1, 1, 1, 128]⟩
abbrev S16x128 : Shape := ⟨2, ![16, 128]⟩
abbrev S1x16x128 : Shape := ⟨3, ![1, 16, 128]⟩

abbrev nBuf : Space → Nat
  | .hbm => 11
  | .vmem => 24
  | .smem => 0
  | _ => 0

abbrev bufTy : (tb : Table) → Fin (tcTables nBuf tb) → BufTy
  | .hbm, ⟨0, _⟩ => ⟨S2x262144x128, .f32⟩
  | .hbm, ⟨1, _⟩ => ⟨S2x8x32768, .f32⟩
  | .hbm, ⟨2, _⟩ => ⟨S2x128x128x256, .f32⟩
  | .hbm, ⟨3, _⟩ => ⟨S2x256x1x128, .f32⟩
  | .hbm, ⟨4, _⟩ => ⟨S2x32768x128, .fp8e4m3⟩
  | .hbm, ⟨5, _⟩ => ⟨S2x1x128, .f32⟩
  | .hbm, ⟨6, _⟩ => ⟨S2x262144x128, .fp8e4m3⟩
  | .hbm, ⟨7, _⟩ => ⟨S2x128x128x256, .fp8e4m3⟩
  | .hbm, ⟨8, _⟩ => ⟨S2x8x1024x32, .f32⟩
  | .hbm, ⟨9, _⟩ => ⟨S2x1024x8x32, .f32⟩
  | .hbm, ⟨10, _⟩ => ⟨S2x32768x1024, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x1x8x32, .f32⟩
  | .local _ .vmem, ⟨3, _⟩ => ⟨S1x1x8x32, .f32⟩
  | .local _ .vmem, ⟨4, _⟩ => ⟨S1x128x128x256, .fp8e4m3⟩
  | .local _ .vmem, ⟨5, _⟩ => ⟨S1x128x128x256, .fp8e4m3⟩
  | .local _ .vmem, ⟨6, _⟩ => ⟨S1x256x1x128, .f32⟩
  | .local _ .vmem, ⟨7, _⟩ => ⟨S1x256x1x128, .f32⟩
  | .local _ .vmem, ⟨8, _⟩ => ⟨S1x32768x128, .fp8e4m3⟩
  | .local _ .vmem, ⟨9, _⟩ => ⟨S1x32768x128, .fp8e4m3⟩
  | .local _ .vmem, ⟨10, _⟩ => ⟨S1x1x128, .f32⟩
  | .local _ .vmem, ⟨11, _⟩ => ⟨S1x1x128, .f32⟩
  | .local _ .vmem, ⟨12, _⟩ => ⟨S1x32x1024, .bf16⟩
  | .local _ .vmem, ⟨13, _⟩ => ⟨S1x32x1024, .bf16⟩
  | .local _ .vmem, ⟨14, _⟩ => ⟨S256x128x128, .f32⟩
  | .local _ .vmem, ⟨15, _⟩ => ⟨S256x128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | _, _ => ⟨S2x262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1025], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_436 : BitVec 32 := 0#32
  let c256_i32 : BitVec 32 := 256#32
  let v691 : BitVec 32 := Scalar.addi c0_i32_436 c256_i32
  let c1_i32_437 : BitVec 32 := 1#32
  ⟨c0_i32_436, v691, c1_i32_437⟩
def k0_off1 (k0_t1 : Fin k0_t1_loop.trips) : Fin 3 → Nat :=
  let c0_i32_436 : BitVec 32 := 0#32
  let c1_i32_437 : BitVec 32 := 1#32
  let arg19 : BitVec 32 := Scf.iv c0_i32_436 c1_i32_437 k0_t1
  let v713 : Index := Scalar.indexCast arg19
  let c0_455 : Index := 0#32
  let c0_456 : Index := 0#32
  ![v713.toNat, 0, 0]
@[reducible] def k0_t2_loop (i : grid0.Coords) : Scf.Loop 32 :=
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_154 : BitVec 32 := 1#32
  ⟨c0_i32_152, v292, c1_i32_154⟩
def k0_off2 (i : grid0.Coords) (k0_t2 : Fin (k0_t2_loop i).trips) (c0_i32_437 : BitVec 32) : Fin 3 → Nat :=
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult1 (i : grid0.Coords) (k0_t2 : Fin (k0_t2_loop i).trips) : BitVec 32 :=
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c2048_i32_505 : BitVec 32 := 2048#32
  let v807 : BitVec 32 := Scalar.muli v692 c2048_i32_505
  v807
def k0_off3 (i : grid0.Coords) (k0_t2 : Fin (k0_t2_loop i).trips) : Fin 3 → Nat :=
  let c0_506 : Index := 0#32
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off4 (i : grid0.Coords) (k0_t2 : Fin (k0_t2_loop i).trips) (c0_i32_515 : BitVec 32) : Fin 3 → Nat :=
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off5 (i : grid0.Coords) (k0_t2 : Fin (k0_t2_loop i).trips) (c0_i32_679 : BitVec 32) : Fin 3 → Nat :=
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off6 (i : grid0.Coords) (k0_t2 : Fin (k0_t2_loop i).trips) (c0_i32_843 : BitVec 32) : Fin 3 → Nat :=
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off7 (i : grid0.Coords) (k0_t2 : Fin (k0_t2_loop i).trips) (c0_i32_1007 : BitVec 32) : Fin 3 → Nat :=
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off8 (i : grid0.Coords) (k0_t2 : Fin (k0_t2_loop i).trips) (c0_i32_1173 : BitVec 32) : Fin 4 → Nat :=
  let c0_1174 : Index := 0#32
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off9 (i : grid0.Coords) (k0_t2 : Fin (k0_t2_loop i).trips) (c0_i32_1178 : BitVec 32) : Fin 4 → Nat :=
  let c0_1179 : Index := 0#32
  let c0_i32_151 : BitVec 32 := 0#32
  let c0_i32_152 : BitVec 32 := 0#32
  let c1_i32_154 : BitVec 32 := 1#32
  let arg19 : BitVec 32 := Scf.iv c0_i32_152 c1_i32_154 k0_t2
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
@[reducible] def k0_t3_loop (i : grid0.Coords) : Scf.Loop 32 :=
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let v289 : BitVec 32 := Scalar.addi c0_i32_152 v288
  let c1_i32_155 : BitVec 32 := 1#32
  ⟨v292, v289, c1_i32_155⟩
def k0_off10 (i : grid0.Coords) (k0_t3 : Fin (k0_t3_loop i).trips) (c0_i32_437 : BitVec 32) : Fin 3 → Nat :=
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult2 (i : grid0.Coords) (k0_t3 : Fin (k0_t3_loop i).trips) : BitVec 32 :=
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c2048_i32_505 : BitVec 32 := 2048#32
  let v807 : BitVec 32 := Scalar.muli v692 c2048_i32_505
  v807
def k0_off11 (i : grid0.Coords) (k0_t3 : Fin (k0_t3_loop i).trips) : Fin 3 → Nat :=
  let c0_506 : Index := 0#32
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off12 (i : grid0.Coords) (k0_t3 : Fin (k0_t3_loop i).trips) (c0_i32_515 : BitVec 32) : Fin 3 → Nat :=
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off13 (i : grid0.Coords) (k0_t3 : Fin (k0_t3_loop i).trips) (c0_i32_679 : BitVec 32) : Fin 3 → Nat :=
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off14 (i : grid0.Coords) (k0_t3 : Fin (k0_t3_loop i).trips) (c0_i32_843 : BitVec 32) : Fin 3 → Nat :=
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off15 (i : grid0.Coords) (k0_t3 : Fin (k0_t3_loop i).trips) (c0_i32_1007 : BitVec 32) : Fin 3 → Nat :=
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off16 (i : grid0.Coords) (k0_t3 : Fin (k0_t3_loop i).trips) (c0_i32_1173 : BitVec 32) : Fin 4 → Nat :=
  let c0_1174 : Index := 0#32
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off17 (i : grid0.Coords) (k0_t3 : Fin (k0_t3_loop i).trips) (c0_i32_1178 : BitVec 32) : Fin 4 → Nat :=
  let c0_1179 : Index := 0#32
  let c0_i32_151 : BitVec 32 := 0#32
  let c0_i32_152 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_146 : BitVec 32 := 0#32
  let v284 : BitVec 32 := Scalar.subi v261 c0_i32_146
  let c1_i32_147 : BitVec 32 := 1#32
  let c1_i32_148 : BitVec 32 := 1#32
  let v285 : BitVec 32 := Scalar.subi c1_i32_147 c1_i32_148
  let v286 : BitVec 32 := Scalar.addi v284 v285
  let c1_i32_149 : BitVec 32 := 1#32
  let v287 : BitVec 32 := Scalar.divsi v286 c1_i32_149
  let v288 : BitVec 32 := Scalar.subi v287 c0_i32_152
  let c1_i32_153 : BitVec 32 := 1#32
  let v290 : BitVec 32 := Scalar.divsi v288 c1_i32_153
  let v291 : BitVec 32 := Scalar.muli v290 c1_i32_153
  let v292 : BitVec 32 := Scalar.addi c0_i32_152 v291
  let c1_i32_155 : BitVec 32 := 1#32
  let arg19 : BitVec 32 := Scf.iv v292 c1_i32_155 k0_t3
  let c1_i32_150 : BitVec 32 := 1#32
  let v691 : BitVec 32 := Scalar.muli arg19 c1_i32_150
  let v692 : BitVec 32 := Scalar.addi c0_i32_151 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
@[reducible] def k0_t4_loop (i : grid0.Coords) : Scf.Loop 32 :=
  let c0_i32_160 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_162 : BitVec 32 := 1#32
  ⟨c0_i32_160, v301, c1_i32_162⟩
def k0_off18 (i : grid0.Coords) (k0_t4 : Fin (k0_t4_loop i).trips) (c0_i32_437 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult3 (i : grid0.Coords) (k0_t4 : Fin (k0_t4_loop i).trips) : BitVec 32 :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c2048_i32_505 : BitVec 32 := 2048#32
  let v807 : BitVec 32 := Scalar.muli v692 c2048_i32_505
  v807
def k0_off19 (i : grid0.Coords) (k0_t4 : Fin (k0_t4_loop i).trips) : Fin 3 → Nat :=
  let c0_506 : Index := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off20 (i : grid0.Coords) (k0_t4 : Fin (k0_t4_loop i).trips) (c0_i32_515 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off21 (i : grid0.Coords) (k0_t4 : Fin (k0_t4_loop i).trips) (c0_i32_679 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off22 (i : grid0.Coords) (k0_t4 : Fin (k0_t4_loop i).trips) (c0_i32_843 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off23 (i : grid0.Coords) (k0_t4 : Fin (k0_t4_loop i).trips) (c0_i32_1007 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off24 (i : grid0.Coords) (k0_t4 : Fin (k0_t4_loop i).trips) (c0_i32_1173 : BitVec 32) : Fin 4 → Nat :=
  let c0_1174 : Index := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off25 (i : grid0.Coords) (k0_t4 : Fin (k0_t4_loop i).trips) (c0_i32_1178 : BitVec 32) : Fin 4 → Nat :=
  let c0_1179 : Index := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c1_i32_162 : BitVec 32 := 1#32
  let arg19 : BitVec 32 := Scf.iv c0_i32_160 c1_i32_162 k0_t4
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
@[reducible] def k0_t5_loop (i : grid0.Coords) : Scf.Loop 32 :=
  let c0_i32_160 : BitVec 32 := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let v298 : BitVec 32 := Scalar.addi c0_i32_160 v297
  let c1_i32_163 : BitVec 32 := 1#32
  ⟨v301, v298, c1_i32_163⟩
def k0_off26 (i : grid0.Coords) (k0_t5 : Fin (k0_t5_loop i).trips) (c0_i32_437 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult4 (i : grid0.Coords) (k0_t5 : Fin (k0_t5_loop i).trips) : BitVec 32 :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c2048_i32_505 : BitVec 32 := 2048#32
  let v807 : BitVec 32 := Scalar.muli v692 c2048_i32_505
  v807
def k0_off27 (i : grid0.Coords) (k0_t5 : Fin (k0_t5_loop i).trips) : Fin 3 → Nat :=
  let c0_506 : Index := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off28 (i : grid0.Coords) (k0_t5 : Fin (k0_t5_loop i).trips) (c0_i32_515 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off29 (i : grid0.Coords) (k0_t5 : Fin (k0_t5_loop i).trips) (c0_i32_679 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off30 (i : grid0.Coords) (k0_t5 : Fin (k0_t5_loop i).trips) (c0_i32_843 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off31 (i : grid0.Coords) (k0_t5 : Fin (k0_t5_loop i).trips) (c0_i32_1007 : BitVec 32) : Fin 3 → Nat :=
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off32 (i : grid0.Coords) (k0_t5 : Fin (k0_t5_loop i).trips) (c0_i32_1173 : BitVec 32) : Fin 4 → Nat :=
  let c0_1174 : Index := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off33 (i : grid0.Coords) (k0_t5 : Fin (k0_t5_loop i).trips) (c0_i32_1178 : BitVec 32) : Fin 4 → Nat :=
  let c0_1179 : Index := 0#32
  let c2047_i32 : BitVec 32 := 2047#32
  let c2_i32 : BitVec 32 := 2#32
  let arg1 : BitVec 32 := BitVec.ofNat 32 (i 1).val
  let v5 : BitVec 32 := Scalar.muli c2_i32 arg1
  let v6 : BitVec 32 := Scalar.subi c2047_i32 v5
  let c0_i32_2 : BitVec 32 := 0#32
  let v7 : BitVec 32 := Scalar.subi v6 c0_i32_2
  let c0_i32_3 : BitVec 32 := 0#32
  let v8 : BitVec 32 := Scalar.maxsi v7 c0_i32_3
  let c16_i32 : BitVec 32 := 16#32
  let v9 : BitVec 32 := Scalar.muli v8 c16_i32
  let c0_i32_129 : BitVec 32 := 0#32
  let v246 : BitVec 1 := Scalar.cmpi .sgt v9 c0_i32_129
  let v247 : BitVec 32 := Scalar.extui v246
  let c0_i32_130 : BitVec 32 := 0#32
  let v248 : BitVec 1 := Scalar.cmpi .slt v9 c0_i32_130
  let v249 : BitVec 32 := Scalar.extui v248
  let v250 : BitVec 32 := Scalar.subi v247 v249
  let c2048_i32 : BitVec 32 := 2048#32
  let c0_i32_131 : BitVec 32 := 0#32
  let v251 : BitVec 1 := Scalar.cmpi .sgt c2048_i32 c0_i32_131
  let v252 : BitVec 32 := Scalar.extui v251
  let c0_i32_132 : BitVec 32 := 0#32
  let v253 : BitVec 1 := Scalar.cmpi .slt c2048_i32 c0_i32_132
  let v254 : BitVec 32 := Scalar.extui v253
  let v255 : BitVec 32 := Scalar.subi v252 v254
  let v256 : BitVec 1 := Scalar.cmpi .ne v250 v255
  let v257 : BitVec 32 := Scalar.remsi v9 c2048_i32
  let c0_i32_133 : BitVec 32 := 0#32
  let v258 : BitVec 1 := Scalar.cmpi .ne v257 c0_i32_133
  let v259 : BitVec 1 := Scalar.andi v256 v258
  let v245 : BitVec 32 := Scalar.divsi v9 c2048_i32
  let c1_i32_134 : BitVec 32 := 1#32
  let v260 : BitVec 32 := Scalar.subi v245 c1_i32_134
  let v261 : BitVec 32 := Scalar.select v259 v260 v245
  let c0_i32_160 : BitVec 32 := 0#32
  let c3_i32 : BitVec 32 := 3#32
  let v262 : BitVec 32 := Scalar.addi v7 c3_i32
  let c2048_i32_135 : BitVec 32 := 2048#32
  let v263 : BitVec 32 := Scalar.minsi v262 c2048_i32_135
  let c16_i32_136 : BitVec 32 := 16#32
  let v264 : BitVec 32 := Scalar.muli v263 c16_i32_136
  let c2048_i32_137 : BitVec 32 := 2048#32
  let v265 : BitVec 32 := Scalar.addi v264 c2048_i32_137
  let c1_i32_138 : BitVec 32 := 1#32
  let v266 : BitVec 32 := Scalar.subi v265 c1_i32_138
  let c0_i32_140 : BitVec 32 := 0#32
  let v268 : BitVec 1 := Scalar.cmpi .sgt v266 c0_i32_140
  let v269 : BitVec 32 := Scalar.extui v268
  let c0_i32_141 : BitVec 32 := 0#32
  let v270 : BitVec 1 := Scalar.cmpi .slt v266 c0_i32_141
  let v271 : BitVec 32 := Scalar.extui v270
  let v272 : BitVec 32 := Scalar.subi v269 v271
  let c2048_i32_139 : BitVec 32 := 2048#32
  let c0_i32_142 : BitVec 32 := 0#32
  let v273 : BitVec 1 := Scalar.cmpi .sgt c2048_i32_139 c0_i32_142
  let v274 : BitVec 32 := Scalar.extui v273
  let c0_i32_143 : BitVec 32 := 0#32
  let v275 : BitVec 1 := Scalar.cmpi .slt c2048_i32_139 c0_i32_143
  let v276 : BitVec 32 := Scalar.extui v275
  let v277 : BitVec 32 := Scalar.subi v274 v276
  let v278 : BitVec 1 := Scalar.cmpi .ne v272 v277
  let v279 : BitVec 32 := Scalar.remsi v266 c2048_i32_139
  let c0_i32_144 : BitVec 32 := 0#32
  let v280 : BitVec 1 := Scalar.cmpi .ne v279 c0_i32_144
  let v281 : BitVec 1 := Scalar.andi v278 v280
  let v267 : BitVec 32 := Scalar.divsi v266 c2048_i32_139
  let c1_i32_145 : BitVec 32 := 1#32
  let v282 : BitVec 32 := Scalar.subi v267 c1_i32_145
  let v283 : BitVec 32 := Scalar.select v281 v282 v267
  let v293 : BitVec 32 := Scalar.subi v283 v261
  let c1_i32_156 : BitVec 32 := 1#32
  let c1_i32_157 : BitVec 32 := 1#32
  let v294 : BitVec 32 := Scalar.subi c1_i32_156 c1_i32_157
  let v295 : BitVec 32 := Scalar.addi v293 v294
  let c1_i32_158 : BitVec 32 := 1#32
  let v296 : BitVec 32 := Scalar.divsi v295 c1_i32_158
  let v297 : BitVec 32 := Scalar.subi v296 c0_i32_160
  let c1_i32_161 : BitVec 32 := 1#32
  let v299 : BitVec 32 := Scalar.divsi v297 c1_i32_161
  let v300 : BitVec 32 := Scalar.muli v299 c1_i32_161
  let v301 : BitVec 32 := Scalar.addi c0_i32_160 v300
  let c1_i32_163 : BitVec 32 := 1#32
  let arg19 : BitVec 32 := Scf.iv v301 c1_i32_163 k0_t5
  let c1_i32_159 : BitVec 32 := 1#32
  let v691 : BitVec 32 := Scalar.muli arg19 c1_i32_159
  let v692 : BitVec 32 := Scalar.addi v261 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
@[reducible] def k0_t6_loop (i : grid0.Coords) : Scf.Loop 32 :=
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_380 : BitVec 32 := 1#32
  ⟨c0_i32_378, v635, c1_i32_380⟩
def k0_off34 (i : grid0.Coords) (k0_t6 : Fin (k0_t6_loop i).trips) (c0_i32_437 : BitVec 32) : Fin 3 → Nat :=
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult5 (i : grid0.Coords) (k0_t6 : Fin (k0_t6_loop i).trips) : BitVec 32 :=
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c2048_i32_505 : BitVec 32 := 2048#32
  let v807 : BitVec 32 := Scalar.muli v692 c2048_i32_505
  v807
def k0_off35 (i : grid0.Coords) (k0_t6 : Fin (k0_t6_loop i).trips) : Fin 3 → Nat :=
  let c0_506 : Index := 0#32
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off36 (i : grid0.Coords) (k0_t6 : Fin (k0_t6_loop i).trips) (c0_i32_515 : BitVec 32) : Fin 3 → Nat :=
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off37 (i : grid0.Coords) (k0_t6 : Fin (k0_t6_loop i).trips) (c0_i32_679 : BitVec 32) : Fin 3 → Nat :=
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off38 (i : grid0.Coords) (k0_t6 : Fin (k0_t6_loop i).trips) (c0_i32_843 : BitVec 32) : Fin 3 → Nat :=
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off39 (i : grid0.Coords) (k0_t6 : Fin (k0_t6_loop i).trips) (c0_i32_1007 : BitVec 32) : Fin 3 → Nat :=
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off40 (i : grid0.Coords) (k0_t6 : Fin (k0_t6_loop i).trips) (c0_i32_1173 : BitVec 32) : Fin 4 → Nat :=
  let c0_1174 : Index := 0#32
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off41 (i : grid0.Coords) (k0_t6 : Fin (k0_t6_loop i).trips) (c0_i32_1178 : BitVec 32) : Fin 4 → Nat :=
  let c0_1179 : Index := 0#32
  let c0_i32_377 : BitVec 32 := 0#32
  let c0_i32_378 : BitVec 32 := 0#32
  let c1_i32_380 : BitVec 32 := 1#32
  let arg19 : BitVec 32 := Scf.iv c0_i32_378 c1_i32_380 k0_t6
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
@[reducible] def k0_t7_loop (i : grid0.Coords) : Scf.Loop 32 :=
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let v632 : BitVec 32 := Scalar.addi c0_i32_378 v631
  let c1_i32_381 : BitVec 32 := 1#32
  ⟨v635, v632, c1_i32_381⟩
def k0_off42 (i : grid0.Coords) (k0_t7 : Fin (k0_t7_loop i).trips) (c0_i32_437 : BitVec 32) : Fin 3 → Nat :=
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult6 (i : grid0.Coords) (k0_t7 : Fin (k0_t7_loop i).trips) : BitVec 32 :=
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c2048_i32_505 : BitVec 32 := 2048#32
  let v807 : BitVec 32 := Scalar.muli v692 c2048_i32_505
  v807
def k0_off43 (i : grid0.Coords) (k0_t7 : Fin (k0_t7_loop i).trips) : Fin 3 → Nat :=
  let c0_506 : Index := 0#32
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off44 (i : grid0.Coords) (k0_t7 : Fin (k0_t7_loop i).trips) (c0_i32_515 : BitVec 32) : Fin 3 → Nat :=
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off45 (i : grid0.Coords) (k0_t7 : Fin (k0_t7_loop i).trips) (c0_i32_679 : BitVec 32) : Fin 3 → Nat :=
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off46 (i : grid0.Coords) (k0_t7 : Fin (k0_t7_loop i).trips) (c0_i32_843 : BitVec 32) : Fin 3 → Nat :=
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off47 (i : grid0.Coords) (k0_t7 : Fin (k0_t7_loop i).trips) (c0_i32_1007 : BitVec 32) : Fin 3 → Nat :=
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off48 (i : grid0.Coords) (k0_t7 : Fin (k0_t7_loop i).trips) (c0_i32_1173 : BitVec 32) : Fin 4 → Nat :=
  let c0_1174 : Index := 0#32
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off49 (i : grid0.Coords) (k0_t7 : Fin (k0_t7_loop i).trips) (c0_i32_1178 : BitVec 32) : Fin 4 → Nat :=
  let c0_1179 : Index := 0#32
  let c0_i32_377 : BitVec 32 := 0#32
  let c0_i32_378 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_372 : BitVec 32 := 0#32
  let v627 : BitVec 32 := Scalar.subi v604 c0_i32_372
  let c1_i32_373 : BitVec 32 := 1#32
  let c1_i32_374 : BitVec 32 := 1#32
  let v628 : BitVec 32 := Scalar.subi c1_i32_373 c1_i32_374
  let v629 : BitVec 32 := Scalar.addi v627 v628
  let c1_i32_375 : BitVec 32 := 1#32
  let v630 : BitVec 32 := Scalar.divsi v629 c1_i32_375
  let v631 : BitVec 32 := Scalar.subi v630 c0_i32_378
  let c1_i32_379 : BitVec 32 := 1#32
  let v633 : BitVec 32 := Scalar.divsi v631 c1_i32_379
  let v634 : BitVec 32 := Scalar.muli v633 c1_i32_379
  let v635 : BitVec 32 := Scalar.addi c0_i32_378 v634
  let c1_i32_381 : BitVec 32 := 1#32
  let arg19 : BitVec 32 := Scf.iv v635 c1_i32_381 k0_t7
  let c1_i32_376 : BitVec 32 := 1#32
  let v691 : BitVec 32 := Scalar.muli arg19 c1_i32_376
  let v692 : BitVec 32 := Scalar.addi c0_i32_377 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
@[reducible] def k0_t8_loop (i : grid0.Coords) : Scf.Loop 32 :=
  let c0_i32_386 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_388 : BitVec 32 := 1#32
  ⟨c0_i32_386, v644, c1_i32_388⟩
def k0_off50 (i : grid0.Coords) (k0_t8 : Fin (k0_t8_loop i).trips) (c0_i32_437 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult7 (i : grid0.Coords) (k0_t8 : Fin (k0_t8_loop i).trips) : BitVec 32 :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c2048_i32_505 : BitVec 32 := 2048#32
  let v807 : BitVec 32 := Scalar.muli v692 c2048_i32_505
  v807
def k0_off51 (i : grid0.Coords) (k0_t8 : Fin (k0_t8_loop i).trips) : Fin 3 → Nat :=
  let c0_506 : Index := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off52 (i : grid0.Coords) (k0_t8 : Fin (k0_t8_loop i).trips) (c0_i32_515 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off53 (i : grid0.Coords) (k0_t8 : Fin (k0_t8_loop i).trips) (c0_i32_679 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off54 (i : grid0.Coords) (k0_t8 : Fin (k0_t8_loop i).trips) (c0_i32_843 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off55 (i : grid0.Coords) (k0_t8 : Fin (k0_t8_loop i).trips) (c0_i32_1007 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off56 (i : grid0.Coords) (k0_t8 : Fin (k0_t8_loop i).trips) (c0_i32_1173 : BitVec 32) : Fin 4 → Nat :=
  let c0_1174 : Index := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off57 (i : grid0.Coords) (k0_t8 : Fin (k0_t8_loop i).trips) (c0_i32_1178 : BitVec 32) : Fin 4 → Nat :=
  let c0_1179 : Index := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c1_i32_388 : BitVec 32 := 1#32
  let arg19 : BitVec 32 := Scf.iv c0_i32_386 c1_i32_388 k0_t8
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
@[reducible] def k0_t9_loop (i : grid0.Coords) : Scf.Loop 32 :=
  let c0_i32_386 : BitVec 32 := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let v641 : BitVec 32 := Scalar.addi c0_i32_386 v640
  let c1_i32_389 : BitVec 32 := 1#32
  ⟨v644, v641, c1_i32_389⟩
def k0_off58 (i : grid0.Coords) (k0_t9 : Fin (k0_t9_loop i).trips) (c0_i32_437 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v694 : BitVec 32 := Scalar.addi v693 c0_i32_437
  let v695 : Index := Scalar.indexCast v694
  let c0_438 : Index := 0#32
  let c0_439 : Index := 0#32
  ![v695.toNat, 0, 0]
def k0_mult8 (i : grid0.Coords) (k0_t9 : Fin (k0_t9_loop i).trips) : BitVec 32 :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c2048_i32_505 : BitVec 32 := 2048#32
  let v807 : BitVec 32 := Scalar.muli v692 c2048_i32_505
  v807
def k0_off59 (i : grid0.Coords) (k0_t9 : Fin (k0_t9_loop i).trips) : Fin 3 → Nat :=
  let c0_506 : Index := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c2048_i32_505 : BitVec 32 := 2048#32
  let v807 : BitVec 32 := Scalar.muli v692 c2048_i32_505
  let v808 : BitVec 32 := v807
  let v809 : Index := Scalar.indexCast v808
  let c0_507 : Index := 0#32
  ![0, v809.toNat, 0]
def k0_off60 (i : grid0.Coords) (k0_t9 : Fin (k0_t9_loop i).trips) (c0_i32_515 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v819 : BitVec 32 := Scalar.addi v693 c0_i32_515
  let v820 : Index := Scalar.indexCast v819
  let c0_516 : Index := 0#32
  let c0_517 : Index := 0#32
  ![v820.toNat, 0, 0]
def k0_off61 (i : grid0.Coords) (k0_t9 : Fin (k0_t9_loop i).trips) (c0_i32_679 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1063 : BitVec 32 := Scalar.addi v693 c0_i32_679
  let v1064 : Index := Scalar.indexCast v1063
  let c32_680 : Index := 32#32
  let c0_681 : Index := 0#32
  ![v1064.toNat, 32, 0]
def k0_off62 (i : grid0.Coords) (k0_t9 : Fin (k0_t9_loop i).trips) (c0_i32_843 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1307 : BitVec 32 := Scalar.addi v693 c0_i32_843
  let v1308 : Index := Scalar.indexCast v1307
  let c64_844 : Index := 64#32
  let c0_845 : Index := 0#32
  ![v1308.toNat, 64, 0]
def k0_off63 (i : grid0.Coords) (k0_t9 : Fin (k0_t9_loop i).trips) (c0_i32_1007 : BitVec 32) : Fin 3 → Nat :=
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1551 : BitVec 32 := Scalar.addi v693 c0_i32_1007
  let v1552 : Index := Scalar.indexCast v1551
  let c96_1008 : Index := 96#32
  let c0_1009 : Index := 0#32
  ![v1552.toNat, 96, 0]
def k0_off64 (i : grid0.Coords) (k0_t9 : Fin (k0_t9_loop i).trips) (c0_i32_1173 : BitVec 32) : Fin 4 → Nat :=
  let c0_1174 : Index := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c8_i32_1172 : BitVec 32 := 8#32
  let v1796 : BitVec 32 := Scalar.muli v692 c8_i32_1172
  let v1797 : BitVec 32 := Scalar.addi v1796 c0_i32_1173
  let v1798 : Index := Scalar.indexCast v1797
  let c0_1175 : Index := 0#32
  let c0_1176 : Index := 0#32
  ![0, v1798.toNat, 0, 0]
def k0_off65 (i : grid0.Coords) (k0_t9 : Fin (k0_t9_loop i).trips) (c0_i32_1178 : BitVec 32) : Fin 4 → Nat :=
  let c0_1179 : Index := 0#32
  let c2047_i32_197 : BitVec 32 := 2047#32
  let c2_i32_196 : BitVec 32 := 2#32
  let arg1 : BitVec 32 := BitVec.ofNat 32 (i 1).val
  let v348 : BitVec 32 := Scalar.muli c2_i32_196 arg1
  let v349 : BitVec 32 := Scalar.subi c2047_i32_197 v348
  let c1_i32_198 : BitVec 32 := 1#32
  let v350 : BitVec 32 := Scalar.subi v349 c1_i32_198
  let c0_i32_199 : BitVec 32 := 0#32
  let v351 : BitVec 32 := Scalar.maxsi v350 c0_i32_199
  let c16_i32_200 : BitVec 32 := 16#32
  let v352 : BitVec 32 := Scalar.muli v351 c16_i32_200
  let c0_i32_354 : BitVec 32 := 0#32
  let v589 : BitVec 1 := Scalar.cmpi .sgt v352 c0_i32_354
  let v590 : BitVec 32 := Scalar.extui v589
  let c0_i32_355 : BitVec 32 := 0#32
  let v591 : BitVec 1 := Scalar.cmpi .slt v352 c0_i32_355
  let v592 : BitVec 32 := Scalar.extui v591
  let v593 : BitVec 32 := Scalar.subi v590 v592
  let c2048_i32_353 : BitVec 32 := 2048#32
  let c0_i32_356 : BitVec 32 := 0#32
  let v594 : BitVec 1 := Scalar.cmpi .sgt c2048_i32_353 c0_i32_356
  let v595 : BitVec 32 := Scalar.extui v594
  let c0_i32_357 : BitVec 32 := 0#32
  let v596 : BitVec 1 := Scalar.cmpi .slt c2048_i32_353 c0_i32_357
  let v597 : BitVec 32 := Scalar.extui v596
  let v598 : BitVec 32 := Scalar.subi v595 v597
  let v599 : BitVec 1 := Scalar.cmpi .ne v593 v598
  let v600 : BitVec 32 := Scalar.remsi v352 c2048_i32_353
  let c0_i32_358 : BitVec 32 := 0#32
  let v601 : BitVec 1 := Scalar.cmpi .ne v600 c0_i32_358
  let v602 : BitVec 1 := Scalar.andi v599 v601
  let v588 : BitVec 32 := Scalar.divsi v352 c2048_i32_353
  let c1_i32_359 : BitVec 32 := 1#32
  let v603 : BitVec 32 := Scalar.subi v588 c1_i32_359
  let v604 : BitVec 32 := Scalar.select v602 v603 v588
  let c0_i32_386 : BitVec 32 := 0#32
  let c3_i32_360 : BitVec 32 := 3#32
  let v605 : BitVec 32 := Scalar.addi v350 c3_i32_360
  let c2048_i32_361 : BitVec 32 := 2048#32
  let v606 : BitVec 32 := Scalar.minsi v605 c2048_i32_361
  let c16_i32_362 : BitVec 32 := 16#32
  let v607 : BitVec 32 := Scalar.muli v606 c16_i32_362
  let c2048_i32_363 : BitVec 32 := 2048#32
  let v608 : BitVec 32 := Scalar.addi v607 c2048_i32_363
  let c1_i32_364 : BitVec 32 := 1#32
  let v609 : BitVec 32 := Scalar.subi v608 c1_i32_364
  let c0_i32_366 : BitVec 32 := 0#32
  let v611 : BitVec 1 := Scalar.cmpi .sgt v609 c0_i32_366
  let v612 : BitVec 32 := Scalar.extui v611
  let c0_i32_367 : BitVec 32 := 0#32
  let v613 : BitVec 1 := Scalar.cmpi .slt v609 c0_i32_367
  let v614 : BitVec 32 := Scalar.extui v613
  let v615 : BitVec 32 := Scalar.subi v612 v614
  let c2048_i32_365 : BitVec 32 := 2048#32
  let c0_i32_368 : BitVec 32 := 0#32
  let v616 : BitVec 1 := Scalar.cmpi .sgt c2048_i32_365 c0_i32_368
  let v617 : BitVec 32 := Scalar.extui v616
  let c0_i32_369 : BitVec 32 := 0#32
  let v618 : BitVec 1 := Scalar.cmpi .slt c2048_i32_365 c0_i32_369
  let v619 : BitVec 32 := Scalar.extui v618
  let v620 : BitVec 32 := Scalar.subi v617 v619
  let v621 : BitVec 1 := Scalar.cmpi .ne v615 v620
  let v622 : BitVec 32 := Scalar.remsi v609 c2048_i32_365
  let c0_i32_370 : BitVec 32 := 0#32
  let v623 : BitVec 1 := Scalar.cmpi .ne v622 c0_i32_370
  let v624 : BitVec 1 := Scalar.andi v621 v623
  let v610 : BitVec 32 := Scalar.divsi v609 c2048_i32_365
  let c1_i32_371 : BitVec 32 := 1#32
  let v625 : BitVec 32 := Scalar.subi v610 c1_i32_371
  let v626 : BitVec 32 := Scalar.select v624 v625 v610
  let v636 : BitVec 32 := Scalar.subi v626 v604
  let c1_i32_382 : BitVec 32 := 1#32
  let c1_i32_383 : BitVec 32 := 1#32
  let v637 : BitVec 32 := Scalar.subi c1_i32_382 c1_i32_383
  let v638 : BitVec 32 := Scalar.addi v636 v637
  let c1_i32_384 : BitVec 32 := 1#32
  let v639 : BitVec 32 := Scalar.divsi v638 c1_i32_384
  let v640 : BitVec 32 := Scalar.subi v639 c0_i32_386
  let c1_i32_387 : BitVec 32 := 1#32
  let v642 : BitVec 32 := Scalar.divsi v640 c1_i32_387
  let v643 : BitVec 32 := Scalar.muli v642 c1_i32_387
  let v644 : BitVec 32 := Scalar.addi c0_i32_386 v643
  let c1_i32_389 : BitVec 32 := 1#32
  let arg19 : BitVec 32 := Scf.iv v644 c1_i32_389 k0_t9
  let c1_i32_385 : BitVec 32 := 1#32
  let v691 : BitVec 32 := Scalar.muli arg19 c1_i32_385
  let v692 : BitVec 32 := Scalar.addi v604 v691
  let c16_i32_436 : BitVec 32 := 16#32
  let v693 : BitVec 32 := Scalar.muli v692 c16_i32_436
  let v1803 : BitVec 32 := Scalar.addi v693 c0_i32_1178
  let v1804 : Index := Scalar.indexCast v1803
  let c0_1180 : Index := 0#32
  let c0_1181 : Index := 0#32
  ![0, v1804.toNat, 0, 0]
def cc0_transform_0 (i : grid0.Coords) : Fin 3 → Nat :=
  let arg0 : BitVec 32 := BitVec.ofNat 32 (i 0).val
  let arg1 : BitVec 32 := BitVec.ofNat 32 (i 1).val
  let c1023_i32 : BitVec 32 := 1023#32
  let v0 : BitVec 32 := Scalar.subi c1023_i32 arg1
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1023_i32 : BitVec 32 := 1023#32
  let v0 : BitVec 32 := Scalar.subi c1023_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.subi c1024_i32 arg1
  let c1023_i32 : BitVec 32 := 1023#32
  let v1 : BitVec 32 := Scalar.minsi v0 c1023_i32
  let c0_i32 : BitVec 32 := 0#32
  let c0_i32_0 : BitVec 32 := 0#32
  ![arg0.toNat, v1.toNat, c0_i32.toNat]

abbrev stage0_0 : Fin 2 → Memref sig .tc .vmem S1x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32768x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2_e" => some (((Real.log 2)⁻¹ : ℝ) : EReal)
  | "log2_scale" => some (((Real.sqrt 128)⁻¹ * (Real.log 2)⁻¹ : ℝ) : EReal)
  | _ => none
-- ==== ReferenceIdeal.lean ====
abbrev S2x262144x128 : Shape := ⟨3, ![2, 262144, 128]⟩
abbrev S2x8x32768 : Shape := ⟨3, ![2, 8, 32768]⟩
abbrev S2x128x128x256 : Shape := ⟨4, ![2, 128, 128, 256]⟩
abbrev S2x256x1x128 : Shape := ⟨4, ![2, 256, 1, 128]⟩
abbrev S2x32768x128 : Shape := ⟨3, ![2, 32768, 128]⟩
abbrev S2x1x128 : Shape := ⟨3, ![2, 1, 128]⟩
abbrev S2x32768x8 : Shape := ⟨3, ![2, 32768, 8]⟩
abbrev S2x262144x1 : Shape := ⟨3, ![2, 262144, 1]⟩
abbrev S2x128x256x128 : Shape := ⟨4, ![2, 128, 256, 128]⟩
abbrev S2x1x32768 : Shape := ⟨3, ![2, 1, 32768]⟩
abbrev S2x32768x1024 : Shape := ⟨3, ![2, 32768, 1024]⟩
abbrev S2x262144x32768 : Shape := ⟨3, ![2, 262144, 32768]⟩
abbrev S2x262144 : Shape := ⟨2, ![2, 262144]⟩

abbrev nBuf : Space → Nat
  | .hbm => 14
  | .vmem => 7
  | .smem => 0
  | _ => 0

abbrev bufTy : (tb : Table) → Fin (tcTables nBuf tb) → BufTy
  | .hbm, ⟨0, _⟩ => ⟨S2x262144x128, .f32⟩
  | .hbm, ⟨1, _⟩ => ⟨S2x8x32768, .f32⟩
  | .hbm, ⟨2, _⟩ => ⟨S2x128x128x256, .f32⟩
  | .hbm, ⟨3, _⟩ => ⟨S2x256x1x128, .f32⟩
  | .hbm, ⟨4, _⟩ => ⟨S2x32768x128, .fp8e4m3⟩
  | .hbm, ⟨5, _⟩ => ⟨S2x1x128, .f32⟩
  | .hbm, ⟨6, _⟩ => ⟨S2x262144x128, .fp8e4m3⟩
  | .hbm, ⟨7, _⟩ => ⟨S2x128x128x256, .fp8e4m3⟩
  | .hbm, ⟨8, _⟩ => ⟨S2x32768x8, .f32⟩
  | .hbm, ⟨9, _⟩ => ⟨S2x262144x1, .f32⟩
  | .hbm, ⟨10, _⟩ => ⟨S2x128x256x128, .fp8e4m3⟩
  | .hbm, ⟨11, _⟩ => ⟨S2x32768x128, .fp8e4m3⟩
  | .hbm, ⟨12, _⟩ => ⟨S2x1x32768, .f32⟩
  | .hbm, ⟨13, _⟩ => ⟨S2x32768x1024, .bf16⟩
  | .local _ .vmem, ⟨0, _⟩ => ⟨S2x262144x128, .fp8e4m3⟩
  | .local _ .vmem, ⟨1, _⟩ => ⟨S2x262144x1, .f32⟩
  | .local _ .vmem, ⟨2, _⟩ => ⟨S2x32768x128, .fp8e4m3⟩
  | .local _ .vmem, ⟨3, _⟩ => ⟨S2x1x32768, .f32⟩
  | .local _ .vmem, ⟨4, _⟩ => ⟨S2x32768x128, .fp8e4m3⟩
  | .local _ .vmem, ⟨5, _⟩ => ⟨S2x1x128, .f32⟩
  | .local _ .vmem, ⟨6, _⟩ => ⟨S2x32768x1024, .bf16⟩
  | _, _ => ⟨S2x262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log2_e" => some (((Real.log 2)⁻¹ : ℝ) : EReal)
  | "sm_scale" => some (((Real.sqrt 128)⁻¹ : ℝ) : EReal)
  | _ => none

abbrev grid0 : Pipeline.Grid := .none

abbrev stage0_0 : Fin 1 → Memref sig .tc .vmem S2x262144x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x262144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QuantK.lean ====
abbrev S2x32768x128 : Shape := ⟨3, ![2, 32768, 128]⟩
abbrev S2x128x128x256 : Shape := ⟨4, ![2, 128, 128, 256]⟩
abbrev S2x256x1x128 : Shape := ⟨4, ![2, 256, 1, 128]⟩
abbrev S1x2048x128 : Shape := ⟨3, ![1, 2048, 128]⟩
abbrev S1x8x128x256 : Shape := ⟨4, ![1, 8, 128, 256]⟩
abbrev S1x16x1x128 : Shape := ⟨4, ![1, 16, 1, 128]⟩
abbrev S2048x128 : Shape := ⟨2, ![2048, 128]⟩
abbrev S128x2048 : Shape := ⟨2, ![128, 2048]⟩
abbrev S2048 : Shape := ⟨1, ![2048]⟩
abbrev S1x2048 : Shape := ⟨2, ![1, 2048]⟩
abbrev S128x256 : Shape := ⟨2, ![128, 256]⟩
abbrev S1x1x128x256 : Shape := ⟨4, ![1, 1, 128, 256]⟩
abbrev S1x128 : Shape := ⟨2, ![1, 128]⟩
abbrev S1x1x1x128 : Shape := ⟨4, ![1, 1, 1, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x32768x128, .bf16⟩
  | .hbm, ⟨1, _⟩ => ⟨S2x32768x128, .fp8e4m3⟩
  | .hbm, ⟨2, _⟩ => ⟨S2x128x128x256, .fp8e4m3⟩
  | .hbm, ⟨3, _⟩ => ⟨S2x256x1x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x8x128x256, .fp8e4m3⟩
  | .local _ .vmem, ⟨5, _⟩ => ⟨S1x8x128x256, .fp8e4m3⟩
  | .local _ .vmem, ⟨6, _⟩ => ⟨S1x16x1x128, .f32⟩
  | .local _ .vmem, ⟨7, _⟩ => ⟨S1x16x1x128, .f32⟩
  | _, _ => ⟨S2x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QuantKIdeal.lean ====
variable {F : FTy → Type} [FloatOps F] [Named F]
def κ : String → Option EReal := fun
  | "log2_e" => some (((Real.log 2)⁻¹ : ℝ) : EReal)
  | _ => none
-- ==== RefKIdeal.lean ====
abbrev S2x32768x128 : Shape := ⟨3, ![2, 32768, 128]⟩
abbrev S_ : Shape := ⟨0, ![]⟩
abbrev S2x32768 : Shape := ⟨2, ![2, 32768]⟩
abbrev S2x32768x1 : Shape := ⟨3, ![2, 32768, 1]⟩
abbrev S2x128x256x128 : Shape := ⟨4, ![2, 128, 256, 128]⟩
abbrev S2x128x128x256 : Shape := ⟨4, ![2, 128, 128, 256]⟩
abbrev S2x256x1x128 : Shape := ⟨4, ![2, 256, 1, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x32768x128, .bf16⟩
  | .hbm, ⟨1, _⟩ => ⟨S2x32768x128, .f32⟩
  | .hbm, ⟨2, _⟩ => ⟨S2x32768x128, .f32⟩
  | .hbm, ⟨3, _⟩ => ⟨S_, .f32⟩
  | .hbm, ⟨4, _⟩ => ⟨S2x32768, .f32⟩
  | .hbm, ⟨5, _⟩ => ⟨S2x32768x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x32768x1, .f32⟩
  | .hbm, ⟨10, _⟩ => ⟨S2x32768x1, .i1⟩
  | .hbm, ⟨11, _⟩ => ⟨S_, .f32⟩
  | .hbm, ⟨12, _⟩ => ⟨S2x32768x1, .f32⟩
  | .hbm, ⟨13, _⟩ => ⟨S2x32768x1, .f32⟩
  | .hbm, ⟨14, _⟩ => ⟨S2x32768x1, .f32⟩
  | .hbm, ⟨15, _⟩ => ⟨S2x32768x1, .f32⟩
  | .hbm, ⟨16, _⟩ => ⟨S2x32768x1, .f32⟩
  | .hbm, ⟨17, _⟩ => ⟨S2x32768x1, .f32⟩
  | .hbm, ⟨18, _⟩ => ⟨S_, .f32⟩
  | .hbm, ⟨19, _⟩ => ⟨S2x32768x1, .f32⟩
  | .hbm, ⟨20, _⟩ => ⟨S2x32768x1, .f32⟩
  | .hbm, ⟨21, _⟩ => ⟨S_, .f32⟩
  | .hbm, ⟨22, _⟩ => ⟨S_, .f32⟩
  | .hbm, ⟨23, _⟩ => ⟨S2x32768x1, .f32⟩
  | .hbm, ⟨24, _⟩ => ⟨S2x32768x1, .f32⟩
  | .hbm, ⟨25, _⟩ => ⟨S2x32768x1, .f32⟩
  | .hbm, ⟨26, _⟩ => ⟨S2x32768x1, .f32⟩
  | .hbm, ⟨27, _⟩ => ⟨S2x32768x1, .f32⟩
  | .hbm, ⟨28, _⟩ => ⟨S2x32768x1, .f32⟩
  | .hbm, ⟨29, _⟩ => ⟨S2x32768x128, .f32⟩
  | .hbm, ⟨30, _⟩ => ⟨S2x32768x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x32768x128, .f32⟩
  | .hbm, ⟨35, _⟩ => ⟨S2x32768x128, .f32⟩
  | .hbm, ⟨36, _⟩ => ⟨S_, .f32⟩
  | .hbm, ⟨37, _⟩ => ⟨S2x32768x128, .f32⟩
  | .hbm, ⟨38, _⟩ => ⟨S2x32768x128, .f32⟩
  | .hbm, ⟨39, _⟩ => ⟨S2x32768x128, .fp8e4m3⟩
  | .hbm, ⟨40, _⟩ => ⟨S2x32768x1, .f32⟩
  | .hbm, ⟨41, _⟩ => ⟨S2x32768x1, .f32⟩
  | .hbm, ⟨42, _⟩ => ⟨S2x32768x1, .f32⟩
  | .hbm, ⟨43, _⟩ => ⟨S2x128x256x128, .fp8e4m3⟩
  | .hbm, ⟨44, _⟩ => ⟨S2x128x128x256, .fp8e4m3⟩
  | .hbm, ⟨45, _⟩ => ⟨S2x256x1x128, .f32⟩
  | _, _ => ⟨S2x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.Mp.lean ====
/-
  A small language of straight-line loads and stores with loops over the seventeen memory regions of the attention kernel,
  its meaning as a kernel program, its meaning as a function on the regions' contents, and the theorem that the first
  computes the second.
-/
module

public import Idealize.ShloMosaic.Lib.Pipeline.Frame
public import Idealize.ShloMosaic.Lib.Pipeline.FrameBody
public import Idealize.ShloMosaic.Lib.Scf

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The regions of one core's memory the kernel's body works on: the six blocks it reads (queries, their scales, keys, their
    scales, values, their scales), the block it writes, and its ten scratch arrays. -/
inductive W
  | q | qs | kt | ks | v | vs | out | buf (s : Bool) | aq (s : Bool) | rm | rs | oa | sh | no | os
  deriving DecidableEq

/-- Every region, listed. -/
def W.all : List W :=
  [.q, .qs, .kt, .ks, .v, .vs, .out, .buf false, .buf true, .aq false, .aq true, .rm, .rs, .oa, .sh, .no, .os]

theorem W.mem_all (w : W) : w ∈ W.all := by
  rcases w with _ | _ | _ | _ | _ | _ | _ | s | s | _ | _ | _ | _ | _ | _ <;> first | (cases s <;> decide) | decide

theorem W.nodup_all : W.all.Nodup := by decide

instance : Fintype W := ⟨⟨W.all, W.nodup_all⟩, W.mem_all⟩

/-- A region's shape, -/
@[reducible] def W.shape : W → Shape
  | .q => ⟨3, ![1, 256, 128]⟩
  | .qs => ⟨4, ![1, 1, 8, 32]⟩
  | .kt => ⟨4, ![1, 128, 128, 256]⟩
  | .ks => ⟨4, ![1, 256, 1, 128]⟩
  | .v => ⟨3, ![1, 32768, 128]⟩
  | .vs => ⟨3, ![1, 1, 128]⟩
  | .out => ⟨3, ![1, 32, 1024]⟩
  | .buf _ => ⟨3, ![256, 128, 128]⟩
  | _ => ⟨2, ![128, 128]⟩

/-- and its element type. -/
@[reducible] def W.elt : W → EltTy
  | .q => .fp8e4m3
  | .qs => .f32
  | .kt => .fp8e4m3
  | .ks => .f32
  | .v => .fp8e4m3
  | .vs => .f32
  | .out => .bf16
  | .buf _ => .f32
  | _ => .f32

variable (F : FTy → Type)

/-- The contents of a region, -/
abbrev RegOf (w : W) : Type := w.shape.Idx → Elt F w.elt
/-- and of all of them. -/
abbrev St : Type := (w : W) → RegOf F w

/-- A program: loads, stores, a choice, loops. -/
inductive MP : Type
  | done : MP
  | ld (w : W) (r : LoadRect w.shape) (h : 0 < r.shape.numel) (k : (r.shape.Idx → Elt F w.elt) → MP) : MP
  | st (w : W) (r : Rect w.shape) (x : r.shape.Idx → Elt F w.elt) (h : 0 < r.shape.numel)
      (hx : w.elt.bits = 32 ∨ r.PackedRows w.elt.packing) (k : MP) : MP
  | cond (p : Prop) (dec : Decidable p) (a : p → MP) (b : MP) : MP
  | loop (L : Scf.Loop 32) (ok : L.OK) (body : Fin L.trips → MP) (k : MP) : MP

variable {F}

/-! ## What a program does to the contents -/

/-- The contents after a program. -/
def run (p : MP F) : St F → St F :=
  MP.rec (motive := fun _ => St F → St F) (fun s => s)
    (fun w r _ _ ih s => ih (fun x => s w (r.idx x)) s)
    (fun w r x _ _ _ ih s => ih (Function.update s w (r.overlay (s w) x)))
    (fun p dec _ _ iha ihb s => if h : p then iha h s else ihb s)
    (fun L _ _ _ ihb ih s => ih ((List.finRange L.trips).foldl (fun s k => ihb k s) s)) p

@[simp] theorem run_done (s : St F) : run .done s = s := rfl
@[simp] theorem run_ld (w : W) (r : LoadRect w.shape) (h) (k : (r.shape.Idx → Elt F w.elt) → MP F) (s : St F) :
    run (.ld w r h k) s = run (k fun x => s w (r.idx x)) s := rfl
@[simp] theorem run_st (w : W) (r : Rect w.shape) (x : r.shape.Idx → Elt F w.elt) (h hx) (k : MP F) (s : St F) :
    run (.st w r x h hx k) s = run k (Function.update s w (r.overlay (s w) x)) := rfl
@[simp] theorem run_cond (p : Prop) (dec : Decidable p) (a : p → MP F) (b : MP F) (s : St F) :
    run (.cond p dec a b) s = if h : p then run (a h) s else run b s := rfl
@[simp] theorem run_loop (L : Scf.Loop 32) (ok : L.OK) (body : Fin L.trips → MP F) (k : MP F) (s : St F) :
    run (.loop L ok body k) s = run k ((List.finRange L.trips).foldl (fun s k => run (body k) s) s) := rfl

/-! ## A program as a kernel program -/

section Denote
variable {nD : ℕ} {τ : Topo} {sig : RefSig} {Λ : Labels}

/-- The regions as references into memory. -/
abbrev Args (sig : RefSig) : Type := (w : W) → Memref sig .tc .vmem w.shape w.elt

theorem stores_of {s : Shape} {e : EltTy} (m : Memref sig .tc .vmem s e) (hm : m.IsWhole) (r : Rect s) (h : 0 < r.shape.numel)
    (hx : e.bits = 32 ∨ r.PackedRows e.packing) : (m.access r).Stores Finset.univ := by
  rcases hx with hx | hx
  · exact View.stores_vmem_bits_univ h hx
  · exact View.stores_vmem h (hm.storeExact_slice rfl r hx) fun _ => rfl

/-- The kernel program a program means. -/
def denote (A : Args sig) (hA : ∀ w, (A w).IsWhole) (p : MP F) : Prog (TpuEff nD τ sig (Elt F) Λ .tc) PUnit :=
  MP.rec (motive := fun _ => Prog (TpuEff nD τ sig (Elt F) Λ .tc) PUnit) (.ret ⟨⟩)
    (fun w r h _ ih => .op (.load (A w) r (View.loadsAt_vmem h)) ih)
    (fun w r x h hx _ ih => .op (.store (A w) r x Finset.univ (stores_of (A w) (hA w) r h hx) (.inl rfl)) fun _ => ih)
    (fun p dec _ _ ihb ih => dite p (fun h => ihb h) fun _ => ih)
    (fun L ok _ _ ihb ih => (Scf.Loop.for L ok ⟨⟩ fun k _ => ihb k) >>= fun _ => ih) p

/-- The same with a program at the end. -/
def denoteK {α : Type} (A : Args sig) (hA : ∀ w, (A w).IsWhole) (p : MP F) (K : Prog (TpuEff nD τ sig (Elt F) Λ .tc) α) :
    Prog (TpuEff nD τ sig (Elt F) Λ .tc) α :=
  MP.rec (motive := fun _ => Prog (TpuEff nD τ sig (Elt F) Λ .tc) α) K
    (fun w r h _ ih => .op (.load (A w) r (View.loadsAt_vmem h)) ih)
    (fun w r x h hx _ ih => .op (.store (A w) r x Finset.univ (stores_of (A w) (hA w) r h hx) (.inl rfl)) fun _ => ih)
    (fun p dec _ _ ihb ih => dite p (fun h => ihb h) fun _ => ih)
    (fun L ok body _ _ ih => (Scf.Loop.for L ok ⟨⟩ fun k _ => denote A hA (body k)) >>= fun _ => ih) p

/-- What comes after the end may be moved in. -/
theorem denoteK_bind {α β : Type} (A : Args sig) (hA : ∀ w, (A w).IsWhole) (p : MP F)
    (K : Prog (TpuEff nD τ sig (Elt F) Λ .tc) α) (g : α → Prog (TpuEff nD τ sig (Elt F) Λ .tc) β) :
    denoteK A hA p K >>= g = denoteK A hA p (K >>= g) := by
  induction p with
  | done => rfl
  | ld w r h k ih => exact congrArg (Prog.op _) (funext fun x => ih x)
  | st w r x h hx k ih => exact congrArg (Prog.op _) (funext fun _ => ih)
  | cond p dec a b iha ihb =>
    show (dite p (fun h => denoteK A hA (a h) K) fun _ => denoteK A hA b K) >>= g
      = dite p (fun h => denoteK A hA (a h) (K >>= g)) fun _ => denoteK A hA b (K >>= g)
    by_cases hp : p
    · rw [dif_pos hp, dif_pos hp]; exact iha hp
    · rw [dif_neg hp, dif_neg hp]; exact ihb
  | loop L ok body k ihb ih =>
    exact (Prog.bind_assoc _ _ _).trans (congrArg (Prog.bind _) (funext fun _ => ih))

section Laws
variable (A : Args sig) (hA : ∀ w, (A w).IsWhole)

theorem denote_done : denote (nD := nD) (τ := τ) (Λ := Λ) A hA (.done : MP F) = .ret ⟨⟩ := rfl
theorem denote_ld (w : W) (r : LoadRect w.shape) (h) (k : (r.shape.Idx → Elt F w.elt) → MP F) :
    denote (nD := nD) (τ := τ) (Λ := Λ) A hA (.ld w r h k)
      = .op (.load (A w) r (View.loadsAt_vmem h)) fun x => denote A hA (k x) := rfl
theorem denote_st (w : W) (r : Rect w.shape) (x : r.shape.Idx → Elt F w.elt) (h hx) (k : MP F) :
    denote (nD := nD) (τ := τ) (Λ := Λ) A hA (.st w r x h hx k)
      = .op (.store (A w) r x Finset.univ (stores_of (A w) (hA w) r h hx) (.inl rfl)) fun _ => denote A hA k := rfl
theorem denote_cond (p : Prop) (dec : Decidable p) (a : p → MP F) (b : MP F) :
    denote (nD := nD) (τ := τ) (Λ := Λ) A hA (.cond p dec a b)
      = dite p (fun h => denote A hA (a h)) fun _ => denote A hA b := rfl
theorem denote_loop (L : Scf.Loop 32) (ok : L.OK) (body : Fin L.trips → MP F) (k : MP F) :
    denote (nD := nD) (τ := τ) (Λ := Λ) A hA (.loop L ok body k)
      = ((Scf.Loop.for L ok ⟨⟩ fun k _ => denote A hA (body k)) >>= fun _ => denote A hA k) := rfl

end Laws

/-! ## The kernel program computes the function -/

section Wp
variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
local notation "𝕄" => MT nD τ sig Ix (Elt F) Name U Lvl
variable (A : Args sig) (hA : ∀ w, (A w).IsWhole)

/-- Every region owned, with its contents. -/
def Own (s : St F) : sProp 𝕄 := bigSep Finset.univ fun w => owns (c : Thread nD τ) (A w) fullShare (s w)

theorem Own_split (s : St F) (w : W) :
    (Own c A s : sProp 𝕄) = iprop(owns (c : Thread nD τ) (A w) fullShare (s w)
      ∗ bigSep (Finset.univ.erase w) fun w => owns (c : Thread nD τ) (A w) fullShare (s w)) := bigSep_univ_split w

theorem Own_update (s : St F) (w : W) (x : RegOf F w) :
    (Own c A (Function.update s w x) : sProp 𝕄) = iprop(owns (c : Thread nD τ) (A w) fullShare x
      ∗ bigSep (Finset.univ.erase w) fun w => owns (c : Thread nD τ) (A w) fullShare (s w)) := by
  rw [Own_split c A _ w, Function.update_self]
  congr 1
  exact bigSep_congr fun v hv => by rw [Function.update_of_ne (Finset.ne_of_mem_erase hv)]

theorem wp_foldl {n : ℕ} (body : Fin n → PUnit → Prog (TpuEff nD τ sig (Elt F) Λ .tc) PUnit) (f : Fin n → St F → St F)
    (hb : ∀ k (s : St F) (Q : PUnit → sProp 𝕄), iprop(Own c A s ∗ (Own c A (f k s) -∗ Q ⟨⟩))
      ⊢ wp frame (wpE defs 𝒱 c bd) E (body k ⟨⟩) Q) (l : List (Fin n)) :
    ∀ (s : St F) (Q : PUnit → sProp 𝕄), iprop(Own c A s ∗ (Own c A (l.foldl (fun s k => f k s) s) -∗ Q ⟨⟩))
      ⊢ wp frame (wpE defs 𝒱 c bd) E (Scf.forFrom body l ⟨⟩) Q := by
  induction l with
  | nil =>
    intro s Q
    rw [Scf.forFrom_nil, wp_ret]
    iintro ⟨H, HQ⟩
    imodintro
    iapply HQ
    iexact H
  | cons k ks ih =>
    intro s Q
    rw [Scf.forFrom_cons, wp_bind]
    iintro ⟨H, HQ⟩
    iapply (hb k s)
    isplitl [H]; · iexact H
    iintro H
    iapply (ih (f k s) Q)
    isplitl [H]; · iexact H
    iexact HQ

/-- Owning every region, the kernel program of `p` runs to its end and leaves the contents `run p` says. -/
theorem wp_run (p : MP F) : ∀ (s : St F) (Q : PUnit → sProp 𝕄),
    iprop(Own c A s ∗ (Own c A (run p s) -∗ Q ⟨⟩)) ⊢ wp frame (wpE defs 𝒱 c bd) E (denote A hA p) Q := by
  induction p with
  | done =>
    intro s Q
    rw [denote_done, wp_ret, run_done]
    iintro ⟨H, HQ⟩
    imodintro
    iapply HQ
    iexact H
  | ld w r h k ih =>
    intro s Q
    rw [denote_ld, run_ld, Own_split c A s w]
    unfold owns
    iintro ⟨⟨⟨%f, %hf, H⟩, HR⟩, HQ⟩
    iapply (wp_load 𝒱 c bd E (View.setOn_subset_set _ _)) $$ [H]
    · iexact H
    iintro H
    have e : (A w).view.readAt (Elt F) r f = fun x => s w (r.idx x) := by
      rw [← hf]; rfl
    rw [e]
    iapply (ih _ s Q)
    isplitl [H HR]
    · rw [Own_split c A s w]; unfold owns
      isplitl [H]
      · iexists f
        isplitr
        · ipureintro; exact hf
        iexact H
      iexact HR
    iexact HQ
  | st w r x h hx k ih =>
    intro s Q
    rw [denote_st, run_st, Own_split c A s w]
    unfold owns
    iintro ⟨⟨⟨%f, %hf, H⟩, HR⟩, HQ⟩
    iapply (wp_store 𝒱 c bd E (S := (A w).view.set) (View.setOn_subset_set _ _ |>.trans (View.set_slice_subset _ _))) $$ [H]
    · iexact H
    iintro H
    iapply (ih (Function.update s w (r.overlay (s w) x)) Q)
    isplitl [H HR]
    · rw [Own_update]; unfold owns
      isplitl [H]
      · iexists _
        isplitr
        swap
        · iexact H
        ipureintro
        funext y
        by_cases hy : y ∈ Finset.univ.map r.emb
        · obtain ⟨z, -, rfl⟩ := Finset.mem_map.mp hy
          rw [Rect.overlay_emb]
          exact View.read_slice_write_emb r _ x (Finset.mem_univ z)
        · rw [Rect.overlay_of_not_mem _ _ _ (by rwa [← Rect.map_emb_univ]), ← hf]
          exact View.read_slice_write_of_not_mem r _ _ _ hy
      iexact HR
    iexact HQ
  | cond p dec a b iha ihb =>
    intro s Q
    rw [denote_cond, run_cond]
    by_cases hp : p
    · rw [dif_pos hp, dif_pos hp]
      exact iha hp s Q
    · rw [dif_neg hp, dif_neg hp]
      exact ihb s Q
  | loop L ok body k ihb ih =>
    intro s Q
    rw [denote_loop, run_loop, wp_bind, Scf.Loop.for, Scf.for_eq]
    iintro ⟨H, HQ⟩
    iapply (wp_foldl 𝒱 c bd E A (fun k _ => denote A hA (body k)) (fun k => run (body k)) (fun k => ihb k) _ s)
    isplitl [H]; · iexact H
    iintro H
    iapply (ih _ Q)
    isplitl [H]; · iexact H
    iexact HQ

end Wp

end Denote

end Cert.Attn
-- ==== Proof.Block.lean ====
/-
  The kernel's body over one block of keys, written once for both halves of a grid point and for the masked and the unmasked
  loop, as a program of `Mp.lean`.
-/
module

public import proofs.«01_k».proof.Proof.Mp
public import Idealize.ShloMosaic.PureOps

@[expose] public section

noncomputable section

namespace Cert.Attn

open Idealize.ShloMosaic Idealize.ShloMosaic.TcCoe

abbrev S128x128 : Shape := ⟨2, ![128, 128]⟩
abbrev S1x128x128 : Shape := ⟨3, ![1, 128, 128]⟩
abbrev S256x128x128 : Shape := ⟨3, ![256, 128, 128]⟩
abbrev S128x2048 : Shape := ⟨2, ![128, 2048]⟩
abbrev S2048x128 : Shape := ⟨2, ![2048, 128]⟩
abbrev S1x2048x128 : Shape := ⟨3, ![1, 2048, 128]⟩
abbrev S1x32768x128 : Shape := ⟨3, ![1, 32768, 128]⟩
abbrev S32x128 : Shape := ⟨2, ![32, 128]⟩
abbrev S1x32x128 : Shape := ⟨3, ![1, 32, 128]⟩
abbrev S1x256x128 : Shape := ⟨3, ![1, 256, 128]⟩
abbrev S128x256 : Shape := ⟨2, ![128, 256]⟩
abbrev S1x1x128x256 : Shape := ⟨4, ![1, 1, 128, 256]⟩
abbrev S1x128x128x256 : Shape := ⟨4, ![1, 128, 128, 256]⟩
abbrev S1x1x1x128 : Shape := ⟨4, ![1, 1, 1, 128]⟩
abbrev S1x256x1x128 : Shape := ⟨4, ![1, 256, 1, 128]⟩
abbrev S1x128 : Shape := ⟨2, ![1, 128]⟩
abbrev S128x1 : Shape := ⟨2, ![128, 1]⟩
abbrev S128 : Shape := ⟨1, ![128]⟩
abbrev S1x1x128 : Shape := ⟨3, ![1, 1, 128]⟩
abbrev S1x1x8x32 : Shape := ⟨4, ![1, 1, 8, 32]⟩
abbrev S1x1x8x1 : Shape := ⟨4, ![1, 1, 8, 1]⟩
abbrev S8x1 : Shape := ⟨2, ![8, 1]⟩
abbrev S8x128 : Shape := ⟨2, ![8, 128]⟩
abbrev S16x128 : Shape := ⟨2, ![16, 128]⟩
abbrev S1x16x128 : Shape := ⟨3, ![1, 16, 128]⟩
abbrev S1x32x1024 : Shape := ⟨3, ![1, 32, 1024]⟩

variable {F : FTy → Type} [FloatOps F]

/-! ## Repeating a step -/

/-- Sixteen steps in order, each producing a value; the sixteen values are handed on. -/
def seq16 {X : Type} (f : Fin 16 → (X → MP F) → MP F) (k : (Fin 16 → X) → MP F) : MP F :=
  f 0 fun x0 => f 1 fun x1 => f 2 fun x2 => f 3 fun x3 => f 4 fun x4 => f 5 fun x5 => f 6 fun x6 => f 7 fun x7 =>
  f 8 fun x8 => f 9 fun x9 => f 10 fun x10 => f 11 fun x11 => f 12 fun x12 => f 13 fun x13 => f 14 fun x14 => f 15 fun x15 =>
  k ![x0, x1, x2, x3, x4, x5, x6, x7, x8, x9, x10, x11, x12, x13, x14, x15]

/-- Sixteen steps in order, each turning a value into the next. -/
def fold16 {X : Type} (f : Fin 16 → X → (X → MP F) → MP F) (x : X) (k : X → MP F) : MP F :=
  f 0 x fun x => f 1 x fun x => f 2 x fun x => f 3 x fun x => f 4 x fun x => f 5 x fun x => f 6 x fun x => f 7 x fun x =>
  f 8 x fun x => f 9 x fun x => f 10 x fun x => f 11 x fun x => f 12 x fun x => f 13 x fun x => f 14 x fun x => f 15 x k

/-- Eight steps in order. -/
def do8 (f : Fin 8 → MP F → MP F) (k : MP F) : MP F :=
  f 0 <| f 1 <| f 2 <| f 3 <| f 4 <| f 5 <| f 6 <| f 7 k

/-- Four steps in order. -/
def do4 (f : Fin 4 → MP F → MP F) (k : MP F) : MP F := f 0 <| f 1 <| f 2 <| f 3 k

/-! ## Whole arrays of 128 rows and 128 columns -/

abbrev r0 : Rect S128x128 := Rect.unit (s := S128x128) ![0, 0] S128x128.size (by decide)

/-- The second coordinate of a 32-row group. -/
abbrev rg (g : Fin 4) : Rect S128x128 :=
  Rect.unit (s := S128x128) ![32 * g.val, 0] S32x128.size
    (by intro a; fin_cases a <;> simp <;> omega)

/-! ## Where block `w`'s tiles lie -/

/-- Tile `j` of block `w`, as the program computes its number. -/
abbrev tileW (w : BitVec 32) (j : Fin 16) : BitVec 32 :=
  Scalar.indexCast (Scalar.addi (Scalar.muli w 16#32) (BitVec.ofNat 32 j.val))
/-- Key tile `j` of block `w`. -/
abbrev ktW (w : BitVec 32) (j : Fin 8) : BitVec 32 :=
  Scalar.indexCast (Scalar.addi (Scalar.muli w 8#32) (BitVec.ofNat 32 j.val))
/-- The first value row of block `w`. -/
abbrev vW (w : BitVec 32) : BitVec 32 := Scalar.indexCast (Scalar.muli w 2048#32)

theorem tileW_toNat (w : BitVec 32) (hw : w.toNat < 16) (j : Fin 16) : (tileW w j).toNat = 16 * w.toNat + j.val := by
  have hj := j.isLt
  simp only [tileW, Scalar.indexCast, Scalar.addi, Scalar.muli, IntOp.addi, IntOp.muli, BitVec.toNat_add, BitVec.toNat_mul, BitVec.toNat_ofNat,
    BitVec.toNat_signExtend, BitVec.setWidth_eq] <;> omega

theorem ktW_toNat (w : BitVec 32) (hw : w.toNat < 16) (j : Fin 8) : (ktW w j).toNat = 8 * w.toNat + j.val := by
  have hj := j.isLt
  simp only [ktW, Scalar.indexCast, Scalar.addi, Scalar.muli, IntOp.addi, IntOp.muli, BitVec.toNat_add, BitVec.toNat_mul, BitVec.toNat_ofNat] <;> omega

theorem vW_toNat (w : BitVec 32) (hw : w.toNat < 16) : (vW w).toNat = 2048 * w.toNat := by
  simp only [vW, Scalar.indexCast, Scalar.addi, Scalar.muli, IntOp.addi, IntOp.muli, BitVec.toNat_add, BitVec.toNat_mul, BitVec.toNat_ofNat] <;> omega

abbrev rTile (w : BitVec 32) (hw : w.toNat < 16) (j : Fin 16) : Rect S256x128x128 :=
  Rect.unit (s := S256x128x128) ![(tileW w j).toNat, 0, 0] S1x128x128.size
    (by have h := tileW_toNat w hw j; intro a; fin_cases a <;> simp <;> omega)

abbrev rTileG (w : BitVec 32) (hw : w.toNat < 16) (j : Fin 16) (g : Fin 4) : Rect S256x128x128 :=
  Rect.unit (s := S256x128x128) ![(tileW w j).toNat, 32 * g.val, 0] S1x32x128.size
    (by have h := tileW_toNat w hw j; intro a; fin_cases a <;> simp <;> omega)

abbrev rV (w : BitVec 32) (hw : w.toNat < 16) : Rect S1x32768x128 :=
  Rect.unit (s := S1x32768x128) ![0, (vW w).toNat, 0] S1x2048x128.size
    (by have h := vW_toNat w hw; intro a; fin_cases a <;> simp <;> omega)

abbrev rKt (w : BitVec 32) (hw : w.toNat < 16) (j : Fin 8) : Rect S1x128x128x256 :=
  Rect.unit (s := S1x128x128x256) ![0, (ktW w j).toNat, 0, 0] S1x1x128x256.size
    (by have h := ktW_toNat w hw j; intro a; fin_cases a <;> simp <;> omega)

abbrev rKs (w : BitVec 32) (hw : w.toNat < 16) (j : Fin 16) : Rect S1x256x1x128 :=
  Rect.unit (s := S1x256x1x128) ![0, (tileW w j).toNat, 0, 0] S1x1x1x128.size
    (by have h := tileW_toNat w hw j; intro a; fin_cases a <;> simp <;> omega)

/-- The queries of a half: the second block of the pair first. -/
abbrev rQ (s : Bool) : Rect S1x256x128 :=
  Rect.unit (s := S1x256x128) ![0, (bif s then 0 else 128), 0] S1x128x128.size (by cases s <;> decide)

/-- Columns of half a key tile. -/
abbrev offS (h : Fin 2) : Fin 2 → Nat := ![0, 128 * h.val]

def dotPV : DotDims S128x2048 S2048x128 S128x128 where
  lhsContracting := [1]
  rhsContracting := [0]
  lhsNonContracting := [0]
  rhsNonContracting := [1]
  lhsBatch := []
  rhsBatch := []
  wf := by decide

def dotQK : DotDims S128x128 S128x256 S128x256 where
  lhsContracting := [1]
  rhsContracting := [0]
  lhsNonContracting := [0]
  rhsNonContracting := [1]
  lhsBatch := []
  rhsBatch := []
  wf := by decide

/-! ## Facts of shapes -/

theorem pos_1x128x128 : 0 < S1x128x128.numel := by decide
theorem pos_128x128 : 0 < S128x128.numel := by decide
theorem pos_1x2048x128 : 0 < S1x2048x128.numel := by decide
theorem pos_1x32x128 : 0 < S1x32x128.numel := by decide
theorem pos_32x128 : 0 < S32x128.numel := by decide
theorem pos_1x1x1x128 : 0 < S1x1x1x128.numel := by decide
theorem pos_1x1x128x256 : 0 < S1x1x128x256.numel := by decide
theorem c_tile : S1x128x128.ShapeCasts S128x128 := by decide
theorem c_tile' : S128x128.ShapeCasts S1x128x128 := by decide
theorem c_whole : S128x128.ShapeCasts S128x128 := by decide
theorem c_v : S1x2048x128.ShapeCasts S2048x128 := by decide
theorem c_grp : S1x32x128.ShapeCasts S32x128 := by decide
theorem c_grp' : S32x128.ShapeCasts S1x32x128 := by decide
theorem c_rows : S32x128.ShapeCasts S32x128 := by decide
theorem c_ks : S1x1x1x128.ShapeCasts S1x128 := by decide
theorem c_kt : S1x1x128x256.ShapeCasts S128x256 := by decide
theorem b_ks : S1x128.Broadcasts S128x128 := by decide
theorem concat_16 : Shape.Concatenates [S128x128, S128x128, S128x128, S128x128, S128x128, S128x128, S128x128, S128x128,
    S128x128, S128x128, S128x128, S128x128, S128x128, S128x128, S128x128, S128x128] S128x2048 1 := by decide
theorem slice_0 : S128x256.Slices (offS 0) S128x128 := by decide
theorem slice_1 : S128x256.Slices (offS 1) S128x128 := by decide

/-! ## The three stages over a block -/

/-- The previous block of queries' weights, rounded, from one tile of the buffer. -/
def pTile (s : Bool) (w : BitVec 32) (hw : w.toNat < 16) (j : Fin 16) (k : FVec F S128x128 .fp8e4m3 → MP F) : MP F :=
  .ld (.buf s) (rTile w hw j).toLoadRect pos_1x128x128 fun a =>
  .ld .no r0.toLoadRect pos_128x128 fun n =>
  k (truncf .fp8e4m3 (mulf (shapeCast S128x128 a c_tile) n) (by decide))

/-- The weights times the values, added to the output's accumulator. -/
def stageC (s : Bool) (w : BitVec 32) (hw : w.toNat < 16) (k : MP F) : MP F :=
  seq16 (pTile s w hw) fun p =>
  .ld .v (rV w hw).toLoadRect pos_1x2048x128 fun v =>
  .ld .oa r0.toLoadRect pos_128x128 fun o =>
  .ld .oa r0.toLoadRect pos_128x128 fun _ =>
  .st .oa r0 (shapeCast S128x128 (addf o (matmul dotPV none
      (concatenate S128x2048 1 [⟨S128x128, p 0⟩, ⟨S128x128, p 1⟩, ⟨S128x128, p 2⟩, ⟨S128x128, p 3⟩, ⟨S128x128, p 4⟩, ⟨S128x128, p 5⟩,
        ⟨S128x128, p 6⟩, ⟨S128x128, p 7⟩, ⟨S128x128, p 8⟩, ⟨S128x128, p 9⟩, ⟨S128x128, p 10⟩, ⟨S128x128, p 11⟩, ⟨S128x128, p 12⟩,
        ⟨S128x128, p 13⟩, ⟨S128x128, p 14⟩, ⟨S128x128, p 15⟩] concat_16)
      (shapeCast S2048x128 v c_v) (constant S128x128 .f32 0x00000000#32))) c_whole) pos_128x128 (.inl rfl) k

/-- One tile's rows of one group: the weights over the scores, and added to the rows' sum. -/
def uTile (s : Bool) (w : BitVec 32) (hw : w.toNat < 16) (g : Fin 4) (j : Fin 16) (acc : FVec F S32x128 .f32)
    (k : FVec F S32x128 .f32 → MP F) : MP F :=
  .ld (.buf (!s)) (rTileG w hw j g).toLoadRect pos_1x32x128 fun b =>
  .ld (.aq (!s)) (rg g).toLoadRect pos_32x128 fun a =>
  .ld .sh (rg g).toLoadRect pos_32x128 fun h =>
  .ld (.buf (!s)) (rTileG w hw j g).toLoadRect pos_1x32x128 fun _ =>
  .st (.buf (!s)) (rTileG w hw j g)
    (shapeCast S1x32x128 (exp2 (subf (mulf (shapeCast S32x128 b c_grp) a) h)) c_grp') pos_1x32x128 (.inl rfl) <|
  k (addf acc (exp2 (subf (mulf (shapeCast S32x128 b c_grp) a) h)))

/-- One group of rows. -/
def stageB (s : Bool) (w : BitVec 32) (hw : w.toNat < 16) (g : Fin 4) (k : MP F) : MP F :=
  .ld .rs (rg g).toLoadRect pos_32x128 fun x =>
  fold16 (uTile s w hw g) x fun acc =>
  .ld .rs (rg g).toLoadRect pos_32x128 fun _ =>
  .st .rs (rg g) (shapeCast S32x128 acc c_rows) pos_32x128 (.inl rfl) k

/-- Half a key tile: its scores into the buffer, and into the rows' largest. -/
def tTile (s : Bool) (w : BitVec 32) (hw : w.toNat < 16) (mk : Fin 16 → FVec F S128x128 .f32 → FVec F S128x128 .f32)
    (d : FVec F S128x256 .f32) (h : Fin 2) (hd : S128x256.Slices (offS h) S128x128) (j : Fin 16) (k : MP F) : MP F :=
  .ld .ks (rKs w hw j).toLoadRect pos_1x1x1x128 fun c =>
  .ld (.buf s) (rTile w hw j).toLoadRect pos_1x128x128 fun _ =>
  .st (.buf s) (rTile w hw j) (shapeCast S1x128x128
    (mk j (mulf (extractStridedSlice S128x128 (offS h) d hd)
      (broadcastTo S128x128 (shapeCast S1x128 c c_ks) b_ks))) c_tile') pos_1x128x128 (.inl rfl) <|
  .ld .rm r0.toLoadRect pos_128x128 fun m =>
  .ld .rm r0.toLoadRect pos_128x128 fun _ =>
  .st .rm r0 (shapeCast S128x128 (maximumf m
    (mk j (mulf (extractStridedSlice S128x128 (offS h) d hd)
      (broadcastTo S128x128 (shapeCast S1x128 c c_ks) b_ks)))) c_whole) pos_128x128 (.inl rfl) k

/-- One key tile. -/
def stageA (s : Bool) (w : BitVec 32) (hw : w.toNat < 16) (mk : Fin 16 → FVec F S128x128 .f32 → FVec F S128x128 .f32)
    (q : FVec F S128x128 .fp8e4m3) (jt : Fin 8) (k : MP F) : MP F :=
  .ld .kt (rKt w hw jt).toLoadRect pos_1x1x128x256 fun x =>
  let d : FVec F S128x256 .f32 := matmul dotQK none q (shapeCast S128x256 x c_kt) (constant S128x256 .f32 0x00000000#32)
  tTile s w hw mk d 0 slice_0 ⟨2 * jt.val, by omega⟩ <|
  tTile s w hw mk d 1 slice_1 ⟨2 * jt.val + 1, by omega⟩ k

/-- The body over block `w` of keys. -/
def blk (s : Bool) (w : BitVec 32) (hw : w.toNat < 16) (mk : Fin 16 → FVec F S128x128 .f32 → FVec F S128x128 .f32)
    (k : MP F) : MP F :=
  stageC s w hw <| do4 (stageB s w hw) <|
  .ld .q (rQ s).toLoadRect pos_1x128x128 fun q =>
  do8 (stageA s w hw mk (shapeCast S128x128 q c_tile)) k

/-- No mask. -/
def noMask (j : Fin 16) (t : FVec F S128x128 .f32) : FVec F S128x128 .f32 := t

/-- The causal mask of tile `j` of block `w`, the block of queries starting at token `first`: the key's position against the
    row's token. -/
def mask (first w : BitVec 32) (j : Fin 16) (t : FVec F S128x128 .f32) : FVec F S128x128 .f32 :=
  have d0 : IVec S128x128 32 := iota .tc S128x128 32 [0] (by decide)
  select (cmpi .sle
      (addi (broadcast S128x128 (Scalar.muli (Scalar.addi (Scalar.muli w 16#32) (BitVec.ofNat 32 j.val)) 128#32))
        (iota .tc S128x128 32 [1] (by decide)))
      (addi (broadcast S128x128 first)
        (select (andi
            (cmpi .ne (subi (extui 32 (cmpi .sgt d0 (broadcast S128x128 0#32)) (by decide))
                (extui 32 (cmpi .slt d0 (broadcast S128x128 0#32)) (by decide)))
              (broadcast S128x128 (Scalar.subi (Scalar.extui (Scalar.cmpi .sgt 8#32 0#32)) (Scalar.extui (Scalar.cmpi .slt 8#32 0#32)))))
            (cmpi .ne (remsi d0 (broadcast S128x128 8#32)) (broadcast S128x128 0#32)))
          (subi (divsi d0 (broadcast S128x128 8#32)) (broadcast S128x128 1#32))
          (divsi d0 (broadcast S128x128 8#32)))))
    t (broadcast S128x128 (Scalar.ofBits .f32 0xFF800000#32))

end Cert.Attn
-- ==== Proof.Body.lean ====
/-
  The kernel's whole body at a grid point, as a program of `Mp.lean`: the first point clears the scratch arrays; then each half
  of the point prepares its scales, runs over the unmasked and the masked blocks of keys, and writes its block of outputs.
-/
module

public import proofs.«01_k».proof.Proof.Block

@[expose] public section

noncomputable section

namespace Cert.Attn

open Idealize.ShloMosaic Idealize.ShloMosaic.TcCoe

variable {F : FTy → Type} [FloatOps F]

/-! ## Facts of shapes -/

theorem red_rows : S128x128.Reduces [1] S128 := by decide
theorem c_col : S128.ShapeCasts S128x1 := by decide
theorem c_col' : S128x1.ShapeCasts S128x1 := by decide
theorem b_col : S128x1.Broadcasts S128x128 := by decide
theorem pos_1x1x128 : 0 < S1x1x128.numel := by decide
theorem c_vs : S1x1x128.ShapeCasts S1x128 := by decide
theorem pos_1x1x8x1 : 0 < S1x1x8x1.numel := by decide
theorem pos_8x128 : 0 < S8x128.numel := by decide
theorem c_qs : S1x1x8x1.ShapeCasts S8x1 := by decide
theorem c_qs' : S8x1.ShapeCasts S8x1 := by decide
theorem b_qs : S8x1.Broadcasts S8x128 := by decide
theorem c_8x128 : S8x128.ShapeCasts S8x128 := by decide
theorem pos_16x128 : 0 < S16x128.numel := by decide
theorem pos_1x16x128 : 0 < S1x16x128.numel := by decide
theorem c_out : S16x128.ShapeCasts S1x16x128 := by decide

/-! ## The words the body computes -/

/-- The half's number. -/
abbrev halfW (s : Bool) : BitVec 32 := bif s then 1#32 else 0#32
/-- The block of queries whose scores the half computes: the last block minus twice the point minus the half. -/
abbrev rowW (s : Bool) (n : ℕ) : BitVec 32 := Scalar.subi (Scalar.subi 2047#32 (Scalar.muli 2#32 (BitVec.ofNat 32 n))) (halfW s)
/-- Its first token. -/
abbrev firstW (s : Bool) (n : ℕ) : BitVec 32 := Scalar.muli (Scalar.maxsi (rowW s n) 0#32) 16#32
/-- Division by the length of a block of keys, rounded down. -/
abbrev floorW (x : BitVec 32) : BitVec 32 :=
  Scalar.select (Scalar.andi
      (Scalar.cmpi .ne
        (Scalar.subi (Scalar.extui (Scalar.cmpi .sgt x 0#32) : BitVec 32) (Scalar.extui (Scalar.cmpi .slt x 0#32)))
        (Scalar.subi (Scalar.extui (Scalar.cmpi .sgt 2048#32 0#32)) (Scalar.extui (Scalar.cmpi .slt 2048#32 0#32))))
      (Scalar.cmpi .ne (Scalar.remsi x 2048#32) 0#32))
    (Scalar.subi (Scalar.divsi x 2048#32) 1#32) (Scalar.divsi x 2048#32)
/-- How many blocks of keys lie wholly before the block of queries, -/
abbrev fullW (s : Bool) (n : ℕ) : BitVec 32 := floorW (firstW s n)
/-- and how many hold any key the half's three blocks of queries may see. -/
abbrev allW (s : Bool) (n : ℕ) : BitVec 32 :=
  floorW (Scalar.subi (Scalar.addi (Scalar.muli (Scalar.minsi (Scalar.addi (rowW s n) 3#32) 2048#32) 16#32) 2048#32) 1#32)

/-- A loop of `x` trips, by the arithmetic it is compiled to: -/
abbrev spanW (x : BitVec 32) : BitVec 32 := Scalar.subi (Scalar.divsi (Scalar.addi x (Scalar.subi 1#32 1#32)) 1#32) 0#32
abbrev stopW (x : BitVec 32) : BitVec 32 := Scalar.addi 0#32 (Scalar.muli (Scalar.divsi (spanW x) 1#32) 1#32)
/-- its part in whole steps, -/
abbrev mainL (x : BitVec 32) : Scf.Loop 32 := ⟨0#32, stopW x, 1#32⟩
/-- and what remains: nothing. -/
abbrev restL (x : BitVec 32) : Scf.Loop 32 := ⟨stopW x, Scalar.addi 0#32 (spanW x), 1#32⟩

/-- Trips of the unmasked and of the masked loop. -/
abbrev tripsU (s : Bool) (n : ℕ) : BitVec 32 := Scalar.subi (fullW s n) 0#32
abbrev tripsM (s : Bool) (n : ℕ) : BitVec 32 := Scalar.subi (allW s n) (fullW s n)

/-- The block of keys at a trip. -/
abbrev kbW (base lb : BitVec 32) (k : ℕ) : BitVec 32 := Scalar.addi base (Scalar.muli (Scf.iv lb 1#32 k) 1#32)

/-- The loop that clears the buffers. -/
abbrev clearL : Scf.Loop 32 := ⟨0#32, Scalar.addi 0#32 256#32, 1#32⟩

/-! ## The row scales -/

/-- Two to a power. -/
def pow2 (e : IVec S128x1 32) : FVec F S128x1 .f32 :=
  bitcastToFloat .f32 (shli (addi e (broadcast S128x1 127#32)) (broadcast S128x1 23#32))

/-- One over the sum of a row's weights. -/
def invL (rs : FVec F S128x128 .f32) : FVec F S128x1 .f32 :=
  divf (broadcast S128x1 (Scalar.ofBits .f32 0x3F800000#32))
    (shapeCast S128x1 (multiReduction .add [1] S128 rs 0x00000000#32 red_rows (.inl rfl) rfl) c_col)

/-- The exponent, as first computed. -/
def expo0 (c : F .f32) (x : FVec F S128x1 .f32) : IVec S128x1 32 :=
  addi (fptosi 32 (floor (mulf (log x) (broadcast S128x1 c)))) (broadcast S128x1 1#32)

/-- Corrected upwards, -/
def expo1 (c : F .f32) (x : FVec F S128x1 .f32) : IVec S128x1 32 :=
  addi (expo0 c x) (select (cmpf .oge x (pow2 (expo0 c x))) (broadcast S128x1 1#32) (broadcast S128x1 0#32))

/-- downwards, and for a tiny number left at nought. -/
def expo (c : F .f32) (x : FVec F S128x1 .f32) : IVec S128x1 32 :=
  select (cmpf .olt x (broadcast S128x1 (Scalar.ofBits .f32 0x00800000#32))) (broadcast S128x1 0#32)
    (subi (expo1 c x) (select (cmpf .olt x (pow2 (subi (expo0 c x) (broadcast S128x1 1#32)))) (broadcast S128x1 1#32) (broadcast S128x1 0#32)))

/-- A row's factor into every column. -/
abbrev cols (x : FVec F S128x1 .f32) : FVec F S128x128 .f32 := broadcastTo S128x128 (shapeCast S128x1 x c_col') b_col

/-- One over a row's sum, over a power of two, at most the largest code. -/
def normOf (c : F .f32) (rs : FVec F S128x128 .f32) : FVec F S128x128 .f32 :=
  cols (minimumf (mulf (invL rs) (pow2 (subi (broadcast S128x1 0#32) (expo c (mulf (invL rs) (broadcast S128x1 (Scalar.ofBits .f32 0x3B124925#32)))))))
    (broadcast S128x1 (Scalar.ofBits .f32 0x43E00000#32)))

/-- That power of two times the values' scales. -/
def oscaleOf (c : F .f32) (rs : FVec F S128x128 .f32) (vs : FVec F S1x1x128 .f32) : FVec F S128x128 .f32 :=
  mulf (cols (pow2 (expo c (mulf (invL rs) (broadcast S128x1 (Scalar.ofBits .f32 0x3B124925#32))))))
    (broadcastTo S128x128 (shapeCast S1x128 vs c_vs) b_ks)

/-- A row's largest score times its query's scale. -/
def shiftOf (rm aq : FVec F S128x128 .f32) : FVec F S128x128 .f32 :=
  mulf (cols (shapeCast S128x1 (multiReduction .maximumf [1] S128 rm 0xFF800000#32 red_rows (.inl rfl) rfl) c_col)) aq

/-! ## The body -/

/-- A whole array of 128 rows and 128 columns overwritten: what a region of that shape is, -/
inductive V
  | aq (s : Bool) | rm | rs | oa | sh | no | os

@[reducible] def V.w : V → W
  | .aq s => .aq s | .rm => .rm | .rs => .rs | .oa => .oa | .sh => .sh | .no => .no | .os => .os

/-- read, -/
def ldV (v : V) (k : FVec F S128x128 .f32 → MP F) : MP F :=
  match v with
  | .aq s => .ld (.aq s) r0.toLoadRect pos_128x128 k
  | .rm => .ld .rm r0.toLoadRect pos_128x128 k
  | .rs => .ld .rs r0.toLoadRect pos_128x128 k
  | .oa => .ld .oa r0.toLoadRect pos_128x128 k
  | .sh => .ld .sh r0.toLoadRect pos_128x128 k
  | .no => .ld .no r0.toLoadRect pos_128x128 k
  | .os => .ld .os r0.toLoadRect pos_128x128 k

/-- and overwritten. -/
def stV (v : V) (x : FVec F S128x128 .f32) (k : MP F) : MP F :=
  match v with
  | .aq s => .ld (.aq s) r0.toLoadRect pos_128x128 fun _ => .st (.aq s) r0 (shapeCast S128x128 x c_whole) pos_128x128 (.inl rfl) k
  | .rm => .ld .rm r0.toLoadRect pos_128x128 fun _ => .st .rm r0 (shapeCast S128x128 x c_whole) pos_128x128 (.inl rfl) k
  | .rs => .ld .rs r0.toLoadRect pos_128x128 fun _ => .st .rs r0 (shapeCast S128x128 x c_whole) pos_128x128 (.inl rfl) k
  | .oa => .ld .oa r0.toLoadRect pos_128x128 fun _ => .st .oa r0 (shapeCast S128x128 x c_whole) pos_128x128 (.inl rfl) k
  | .sh => .ld .sh r0.toLoadRect pos_128x128 fun _ => .st .sh r0 (shapeCast S128x128 x c_whole) pos_128x128 (.inl rfl) k
  | .no => .ld .no r0.toLoadRect pos_128x128 fun _ => .st .no r0 (shapeCast S128x128 x c_whole) pos_128x128 (.inl rfl) k
  | .os => .ld .os r0.toLoadRect pos_128x128 fun _ => .st .os r0 (shapeCast S128x128 x c_whole) pos_128x128 (.inl rfl) k

/-- Zero everywhere. -/
abbrev zeroV : FVec F S128x128 .f32 := broadcast S128x128 (Scalar.ofBits .f32 0x00000000#32)
/-- Minus infinity everywhere. -/
abbrev negInfV : FVec F S128x128 .f32 := broadcast S128x128 (Scalar.ofBits .f32 0xFF800000#32)

/-- The scales of one token's eight queries, spread over its eight rows. -/
def aqTok (s : Bool) (c : F .f32) (t : Fin 16) (k : MP F) : MP F :=
  .ld .qs (Rect.unit (s := S1x1x8x32) ![0, 0, 0, (bif s then 0 else 16) + t.val] S1x1x8x1.size
    (by have := t.isLt; intro a; fin_cases a <;> cases s <;> simp <;> omega)).toLoadRect pos_1x1x8x1 fun x =>
  .ld (.aq s) (Rect.unit (s := S128x128) ![8 * t.val, 0] S8x128.size
    (by have := t.isLt; intro a; fin_cases a <;> simp <;> omega)).toLoadRect pos_8x128 fun _ =>
  .st (.aq s) (Rect.unit (s := S128x128) ![8 * t.val, 0] S8x128.size
    (by have := t.isLt; intro a; fin_cases a <;> simp <;> omega))
    (shapeCast S8x128 (mulf (broadcastTo S8x128 (shapeCast S8x1 (shapeCast S8x1 x c_qs) c_qs') b_qs) (broadcast S8x128 c)) c_8x128)
    pos_8x128 (.inl rfl) k

/-- Sixteen steps in order. -/
def do16 (f : Fin 16 → MP F → MP F) (k : MP F) : MP F :=
  f 0 <| f 1 <| f 2 <| f 3 <| f 4 <| f 5 <| f 6 <| f 7 <| f 8 <| f 9 <| f 10 <| f 11 <| f 12 <| f 13 <| f 14 <| f 15 k

/-- A half's preparation. -/
def pre (s : Bool) (cE cS : F .f32) (k : MP F) : MP F :=
  ldV .rs fun rs =>
  stV .no (normOf cE rs) <|
  .ld .vs (Rect.unit (s := S1x1x128) ![0, 0, 0] S1x1x128.size (by decide)).toLoadRect pos_1x1x128 fun vs =>
  stV .os (oscaleOf cE rs vs) <|
  ldV .rm fun rm =>
  ldV (.aq (!s)) fun aq =>
  stV .sh (shiftOf rm aq) <|
  do16 (aqTok s cS) <|
  stV .rm negInfV <|
  stV .rs zeroV <|
  stV .oa zeroV k

/-- A head's outputs fill whole words. -/
theorem packed (s : Bool) (h : Fin 8) : (Rect.unit (s := S1x32x1024) ![0, (bif s then 0 else 16), 128 * h.val] S1x16x128.size
    (by have := h.isLt; intro a; fin_cases a <;> cases s <;> simp <;> omega)).PackedRows 2 := by
  revert h; cases s <;> decide

/-- One head's outputs of the half's sixteen tokens. -/
def outHead (s : Bool) (h : Fin 8) (k : MP F) : MP F :=
  .ld .oa ⟨![h.val, 0], S16x128.size, ![8, 1],
    (by have := h.isLt; intro a; fin_cases a <;> simp <;> omega)⟩ pos_16x128 fun x =>
  .ld .out (Rect.unit (s := S1x32x1024) ![0, (bif s then 0 else 16), 128 * h.val] S1x16x128.size
    (by have := h.isLt; intro a; fin_cases a <;> cases s <;> simp <;> omega)).toLoadRect pos_1x16x128 fun _ =>
  .st .out (Rect.unit (s := S1x32x1024) ![0, (bif s then 0 else 16), 128 * h.val] S1x16x128.size
    (by have := h.isLt; intro a; fin_cases a <;> cases s <;> simp <;> omega))
    (shapeCast S1x16x128 (truncf .bf16 (x : FVec F S16x128 .f32) (by decide)) c_out) pos_1x16x128
    (.inr (packed s h)) k

/-- A half's end: the accumulator times the output's scale, written out. -/
def fin (s : Bool) (k : MP F) : MP F :=
  ldV .oa fun o =>
  ldV .os fun c =>
  stV .oa (mulf o c) <|
  do8 (outHead s) k

/-- What the loops need of their words: they run, and at every trip the block of keys exists. -/
structure Words (s : Bool) (n : ℕ) : Prop where
  okU : (mainL (tripsU s n)).OK
  okU' : (restL (tripsU s n)).OK
  okM : (mainL (tripsM s n)).OK
  okM' : (restL (tripsM s n)).OK
  kbU : ∀ k : Fin (mainL (tripsU s n)).trips, (kbW 0#32 0#32 k).toNat < 16
  kbU' : ∀ k : Fin (restL (tripsU s n)).trips, (kbW 0#32 (stopW (tripsU s n)) k).toNat < 16
  kbM : ∀ k : Fin (mainL (tripsM s n)).trips, (kbW (fullW s n) 0#32 k).toNat < 16
  kbM' : ∀ k : Fin (restL (tripsM s n)).trips, (kbW (fullW s n) (stopW (tripsM s n)) k).toNat < 16

/-- One half of a grid point. -/
def half (s : Bool) (n : ℕ) (H : Words s n) (cE cS : F .f32) (k : MP F) : MP F :=
  pre s cE cS <|
  .loop (mainL (tripsU s n)) H.okU (fun k => blk s (kbW 0#32 0#32 k) (H.kbU k) noMask .done) <|
  .loop (restL (tripsU s n)) H.okU' (fun k => blk s (kbW 0#32 (stopW (tripsU s n)) k) (H.kbU' k) noMask .done) <|
  .loop (mainL (tripsM s n)) H.okM (fun k => blk s (kbW (fullW s n) 0#32 k) (H.kbM k)
    (mask (firstW s n) (kbW (fullW s n) 0#32 k)) .done) <|
  .loop (restL (tripsM s n)) H.okM' (fun k => blk s (kbW (fullW s n) (stopW (tripsM s n)) k) (H.kbM' k)
    (mask (firstW s n) (kbW (fullW s n) (stopW (tripsM s n)) k)) .done) <|
  fin s k

/-- The clearing loop's operands are good, -/
theorem clear_ok : clearL.OK := by decide
/-- and each trip's tile exists. -/
theorem clear_lt (k : Fin clearL.trips) : (Scalar.indexCast (Scf.iv 0#32 1#32 k) : BitVec 32).toNat < 256 := by
  have : clearL.trips = 256 := by decide
  revert k; rw [this]; decide

abbrev rClear (k : Fin clearL.trips) : Rect S256x128x128 :=
  Rect.unit (s := S256x128x128) ![(Scalar.indexCast (Scf.iv 0#32 1#32 k) : BitVec 32).toNat, 0, 0] S1x128x128.size
    (by have := clear_lt k; intro a; fin_cases a <;> simp <;> omega)

/-- The clearing of the scratch arrays. -/
def clear (k : MP F) : MP F :=
  .loop clearL clear_ok (fun k =>
    .ld (.buf false) (rClear k).toLoadRect pos_1x128x128 fun _ =>
    .st (.buf false) (rClear k) (shapeCast S1x128x128 zeroV c_tile') pos_1x128x128 (.inl rfl) <|
    .ld (.buf true) (rClear k).toLoadRect pos_1x128x128 fun _ =>
    .st (.buf true) (rClear k) (shapeCast S1x128x128 zeroV c_tile') pos_1x128x128 (.inl rfl) .done) <|
  stV (.aq false) zeroV <| stV (.aq true) zeroV <| stV .rm zeroV <| stV .rs zeroV <| stV .oa zeroV k

/-- The body at the point whose second coordinate is `n`; it clears first if `p` holds. -/
def body (p : Prop) (dec : Decidable p) (n : ℕ) (H0 : Words false n) (H1 : Words true n) (cE cS : F .f32) : MP F :=
  .cond p dec (fun _ => clear <| half false n H0 cE cS <| half true n H1 cE cS .done) <|
    half false n H0 cE cS <| half true n H1 cE cS .done

end Cert.Attn
-- ==== Proof.KernelEq.lean ====
/-
  The printed body of the attention kernel is the program of `Body.lean`, over the memory it is given.
-/
module

public import proofs.«01_k».proof.Proof.Body
public import proofs.«01_k».proof.Kernel

@[expose] public section

set_option maxRecDepth 65536
set_option maxHeartbeats 0

noncomputable section

namespace Cert.Attn.K

open Cert.Kernel
open Idealize.ShloMosaic Idealize.ShloMosaic.TcCoe
open Idealize.SL.Sem
open Cert.Kernel.Facts₀ Cert.Kernel.Facts

variable {F : FTy → Type} [FloatOps F] [Cert.Kernel.Facts]

variable (arg2 : Memref sig .tc .vmem S1x256x128 .fp8e4m3) (harg2 : arg2.IsWhole)
  (arg3 : Memref sig .tc .vmem S1x1x8x32 .f32) (harg3 : arg3.IsWhole)
  (arg4 : Memref sig .tc .vmem S1x128x128x256 .fp8e4m3) (harg4 : arg4.IsWhole)
  (arg5 : Memref sig .tc .vmem S1x256x1x128 .f32) (harg5 : arg5.IsWhole)
  (arg6 : Memref sig .tc .vmem S1x32768x128 .fp8e4m3) (harg6 : arg6.IsWhole)
  (arg7 : Memref sig .tc .vmem S1x1x128 .f32) (harg7 : arg7.IsWhole)
  (arg8 : Memref sig .tc .vmem S1x32x1024 .bf16) (harg8 : arg8.IsWhole)
  (arg9 : Memref sig .tc .vmem S256x128x128 .f32) (harg9 : arg9.IsWhole)
  (arg10 : Memref sig .tc .vmem S256x128x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x128 .f32) (harg14 : arg14.IsWhole)
  (arg15 : Memref sig .tc .vmem S128x128 .f32) (harg15 : arg15.IsWhole)
  (arg16 : Memref sig .tc .vmem S128x128 .f32) (harg16 : arg16.IsWhole)
  (arg17 : Memref sig .tc .vmem S128x128 .f32) (harg17 : arg17.IsWhole)
  (arg18 : Memref sig .tc .vmem S128x128 .f32) (harg18 : arg18.IsWhole)

def argsOf : Args sig
  | .q => arg2 | .qs => arg3 | .kt => arg4 | .ks => arg5 | .v => arg6 | .vs => arg7 | .out => arg8
  | .buf false => arg9 | .buf true => arg10 | .aq false => arg11 | .aq true => arg12
  | .rm => arg13 | .rs => arg14 | .oa => arg15 | .sh => arg16 | .no => arg17 | .os => arg18

include harg2 harg3 harg4 harg5 harg6 harg7 harg8 harg9 harg10 harg11 harg12 harg13 harg14 harg15 harg16 harg17 harg18 in
theorem argsOf_whole : ∀ w : W, (argsOf arg2 arg3 arg4 arg5 arg6 arg7 arg8 arg9 arg10 arg11 arg12 arg13 arg14 arg15 arg16 arg17 arg18 w).IsWhole
  | .q => harg2 | .qs => harg3 | .kt => harg4 | .ks => harg5 | .v => harg6 | .vs => harg7 | .out => harg8
  | .buf false => harg9 | .buf true => harg10 | .aq false => harg11 | .aq true => harg12
  | .rm => harg13 | .rs => harg14 | .oa => harg15 | .sh => harg16 | .no => harg17 | .os => harg18

/-- Everything after the clearing, given the first half's rows' sums. -/
theorem halves_eq (i : grid0.Coords) (H0 : Words false (i 1).val) (H1 : Words true (i 1).val) :
    ((do
      let v10 : Vec F S128x128 .f32 ← Prog.lift (.load arg14 (Rect.unit (s := S128x128) ![0, 0] S128x128.size inb_S128x128_S128x128_0_0).toLoadRect (View.loadsAt_vmem h_S128x128))
      let x := mulf (invL v10) (broadcast S128x1 (Scalar.ofBits .f32 0x3B124925#32))
      pure ⟨BitVec.ofNat 32 (i 1).val, rowW false (i 1).val, firstW false (i 1).val, invL v10, x,
        expo1 (Scalar.ofBits .f32 0x3FB8AA3B#32) x, subi (expo0 (Scalar.ofBits .f32 0x3FB8AA3B#32) x) (broadcast S128x1 1#32), 127#32⟩ :
        Prog (TpuEff nD τ sig (Elt F) Λ₀ .tc) (Σ' (arg1 : BitVec 32) (v7 : BitVec 32) (v9 : BitVec 32) (v14 : FVec F S128x1 .f32) (v16 : FVec F S128x1 .f32) (v33 : IVec S128x1 32) (v35 : IVec S128x1 32), BitVec 32)) >>=
    fun ⟨arg1, v7, v9, v14, v16, v33, v35, c127_i32_11⟩ => do
        let ⟨v75, v76⟩ : Σ' (v75 : FVec F S128x128 .f32), Vec F S128x128 .f32 ← k0_part386 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v14 v16 v33 v35 c127_i32_11
        let v107 : Vec F S1x1x8x1 .f32 ← k0_part387 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v75 v76
        let ⟨v139, v140⟩ : Σ' (v139 : FVec F S8x128 .f32), Vec F S8x128 .f32 ← k0_part388 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v107
        let v171 : FVec F S8x1 .f32 ← k0_part389 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v139 v140
        let v202 : FVec F S8x128 .f32 ← k0_part390 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v171
        let v236 : FVec F S128x128 .f32 ← k0_part391 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v202
        let ⟨v261, v266, c2048_i32_139, v267, v272⟩ : Σ' (v261 : BitVec 32) (v266 : BitVec 32) (c2048_i32_139 : BitVec 32) (v267 : BitVec 32), BitVec 32 ← k0_part392 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v9 v236
        let v302 : Vec F S128x128 .f32 ← k0_part393 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v261 v266 c2048_i32_139 v267 v272
        let ⟨v329, v330⟩ : Σ' (v329 : FVec F S16x128 .bf16), Vec F S1x16x128 .bf16 ← k0_part394 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v302
        let ⟨v350, v352, v357, v359, v360, cst_206⟩ : Σ' (v350 : BitVec 32) (v352 : BitVec 32) (v357 : FVec F S128x1 .f32) (v359 : FVec F S128x1 .f32) (v360 : FVec F S128x1 .f32), F .f32 ← k0_part395 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v329 v330
        let ⟨v392, v404⟩ : Σ' (v392 : IVec S128x1 32), FVec F S128x128 .f32 ← k0_part396 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v357 v359 v360 cst_206
        let ⟨v437, v438⟩ : Σ' (v437 : FVec F S8x128 .f32), Vec F S8x128 .f32 ← k0_part397 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v392 v404
        let v469 : FVec F S8x1 .f32 ← k0_part398 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v437 v438
        let v500 : FVec F S8x128 .f32 ← k0_part399 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v469
        let v533 : FVec F S8x1 .f32 ← k0_part400 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v500
        let v566 : FVec F S8x128 .f32 ← k0_part401 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v533
        let ⟨v588, v599, v600⟩ : Σ' (v588 : BitVec 32) (v599 : BitVec 1), BitVec 32 ← k0_part402 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v352 v566
        let ⟨v604, v626, c1_i32_376, c0_i32_377, v635, c1_i32_381⟩ : Σ' (v604 : BitVec 32) (v626 : BitVec 32) (c1_i32_376 : BitVec 32) (c0_i32_377 : BitVec 32) (v635 : BitVec 32), BitVec 32 ← k0_part403 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v350 v588 v599 v600
        let v662 : FVec F S16x128 .bf16 ← k0_part404 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v352 v604 v626 c1_i32_376 c0_i32_377 v635 c1_i32_381
        let v690 : FVec F S1x16x128 .bf16 ← k0_part405 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v662
        Prog.lift (.store arg8 (Rect.unit (s := S1x32x1024) ![0, 0, 896] S1x16x128.size inb_S1x32x1024_S1x16x128_0_0_896) v690 Finset.univ (View.stores_vmem h_S1x16x128 (harg8.storeExact_slice rfl _ packedbf16_S1x32x1024_S1x16x128_0_0_896) (fun _ => rfl)) (.inl rfl))
        pure ⟨⟩) =
    denote (argsOf arg2 arg3 arg4 arg5 arg6 arg7 arg8 arg9 arg10 arg11 arg12 arg13 arg14 arg15 arg16 arg17 arg18)
      (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (half (F := F) false (i 1).val H0 (Scalar.ofBits .f32 0x3FB8AA3B#32) (Scalar.ofBits .f32 0x3E0293EE#32) <| half true (i 1).val H1 (Scalar.ofBits .f32 0x3FB8AA3B#32) (Scalar.ofBits .f32 0x3E0293EE#32) .done) := by
  have e1 : k0_part393 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW false (i 1).val) (fullW false (i 1).val) (Scalar.subi (Scalar.addi (Scalar.muli (Scalar.minsi (Scalar.addi (rowW false (i 1).val) 3#32) 2048#32) 16#32) 2048#32) 1#32) 2048#32 (Scalar.divsi (Scalar.subi (Scalar.addi (Scalar.muli (Scalar.minsi (Scalar.addi (rowW false (i 1).val) 3#32) 2048#32) 16#32) 2048#32) 1#32) 2048#32) (Scalar.subi (Scalar.extui (Scalar.cmpi .sgt (Scalar.subi (Scalar.addi (Scalar.muli (Scalar.minsi (Scalar.addi (rowW false (i 1).val) 3#32) 2048#32) 16#32) 2048#32) 1#32) 0#32)) (Scalar.extui (Scalar.cmpi .slt (Scalar.subi (Scalar.addi (Scalar.muli (Scalar.minsi (Scalar.addi (rowW false (i 1).val) 3#32) 2048#32) 16#32) 2048#32) 1#32) 0#32)))
      = denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU false (i 1).val)) H0.okU (fun k => blk false (kbW 0#32 0#32 k) (H0.kbU k) noMask .done) <|
      .loop (restL (tripsU false (i 1).val)) H0.okU' (fun k => blk false (kbW 0#32 (stopW (tripsU false (i 1).val)) k) (H0.kbU' k) noMask .done) <|
      .loop (mainL (tripsM false (i 1).val)) H0.okM (fun k => blk false (kbW (fullW false (i 1).val) 0#32 k) (H0.kbM k)
        (mask (firstW false (i 1).val) (kbW (fullW false (i 1).val) 0#32 k)) .done) <|
      .loop (restL (tripsM false (i 1).val)) H0.okM' (fun k => blk false (kbW (fullW false (i 1).val) (stopW (tripsM false (i 1).val)) k) (H0.kbM' k)
        (mask (firstW false (i 1).val) (kbW (fullW false (i 1).val) (stopW (tripsM false (i 1).val)) k)) .done) <| .done) _ := rfl
  have e2 : k0_part403 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowW true (i 1).val) (Scalar.divsi (firstW true (i 1).val) 2048#32)
      (Scalar.cmpi .ne (Scalar.subi (Scalar.extui (Scalar.cmpi .sgt (firstW true (i 1).val) 0#32)) (Scalar.extui (Scalar.cmpi .slt (firstW true (i 1).val) 0#32))) (Scalar.subi (Scalar.extui (Scalar.cmpi .sgt 2048#32 0#32)) (Scalar.extui (Scalar.cmpi .slt 2048#32 0#32))))
      (Scalar.remsi (firstW true (i 1).val) 2048#32)
      = denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU true (i 1).val)) H1.okU (fun k => blk true (kbW 0#32 0#32 k) (H1.kbU k) noMask .done) <|
      .done) _ := rfl
  have e3 : k0_part404 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW true (i 1).val) (fullW true (i 1).val) (allW true (i 1).val) 1#32 0#32 (stopW (tripsU true (i 1).val)) 1#32
      = denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (restL (tripsU true (i 1).val)) H1.okU' (fun k => blk true (kbW 0#32 (stopW (tripsU true (i 1).val)) k) (H1.kbU' k) noMask .done) <|
      .loop (mainL (tripsM true (i 1).val)) H1.okM (fun k => blk true (kbW (fullW true (i 1).val) 0#32 k) (H1.kbM k)
        (mask (firstW true (i 1).val) (kbW (fullW true (i 1).val) 0#32 k)) .done) <|
      .loop (restL (tripsM true (i 1).val)) H1.okM' (fun k => blk true (kbW (fullW true (i 1).val) (stopW (tripsM true (i 1).val)) k) (H1.kbM' k)
        (mask (firstW true (i 1).val) (kbW (fullW true (i 1).val) (stopW (tripsM true (i 1).val)) k)) .done) <| .done) _ := rfl
  refine Eq.trans (b := denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (pre false (Scalar.ofBits .f32 0x3FB8AA3B#32) (Scalar.ofBits .f32 0x3E0293EE#32) .done)
    (k0_part393 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW false (i 1).val) (fullW false (i 1).val) (Scalar.subi (Scalar.addi (Scalar.muli (Scalar.minsi (Scalar.addi (rowW false (i 1).val) 3#32) 2048#32) 16#32) 2048#32) 1#32) 2048#32 (Scalar.divsi (Scalar.subi (Scalar.addi (Scalar.muli (Scalar.minsi (Scalar.addi (rowW false (i 1).val) 3#32) 2048#32) 16#32) 2048#32) 1#32) 2048#32) (Scalar.subi (Scalar.extui (Scalar.cmpi .sgt (Scalar.subi (Scalar.addi (Scalar.muli (Scalar.minsi (Scalar.addi (rowW false (i 1).val) 3#32) 2048#32) 16#32) 2048#32) 1#32) 0#32)) (Scalar.extui (Scalar.cmpi .slt (Scalar.subi (Scalar.addi (Scalar.muli (Scalar.minsi (Scalar.addi (rowW false (i 1).val) 3#32) 2048#32) 16#32) 2048#32) 1#32) 0#32))) >>= _)) rfl ?_
  rw [e1, denoteK_bind]
  refine congrArg (fun K => denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (pre false (Scalar.ofBits .f32 0x3FB8AA3B#32) (Scalar.ofBits .f32 0x3E0293EE#32) .done) (denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU false (i 1).val)) H0.okU (fun k => blk false (kbW 0#32 0#32 k) (H0.kbU k) noMask .done) <|
      .loop (restL (tripsU false (i 1).val)) H0.okU' (fun k => blk false (kbW 0#32 (stopW (tripsU false (i 1).val)) k) (H0.kbU' k) noMask .done) <|
      .loop (mainL (tripsM false (i 1).val)) H0.okM (fun k => blk false (kbW (fullW false (i 1).val) 0#32 k) (H0.kbM k)
        (mask (firstW false (i 1).val) (kbW (fullW false (i 1).val) 0#32 k)) .done) <|
      .loop (restL (tripsM false (i 1).val)) H0.okM' (fun k => blk false (kbW (fullW false (i 1).val) (stopW (tripsM false (i 1).val)) k) (H0.kbM' k)
        (mask (firstW false (i 1).val) (kbW (fullW false (i 1).val) (stopW (tripsM false (i 1).val)) k)) .done) <| .done) K)) ?_
  refine Eq.trans (b := denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fin false <| pre true (Scalar.ofBits .f32 0x3FB8AA3B#32) (Scalar.ofBits .f32 0x3E0293EE#32) .done)
    (k0_part403 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowW true (i 1).val) (Scalar.divsi (firstW true (i 1).val) 2048#32)
      (Scalar.cmpi .ne (Scalar.subi (Scalar.extui (Scalar.cmpi .sgt (firstW true (i 1).val) 0#32)) (Scalar.extui (Scalar.cmpi .slt (firstW true (i 1).val) 0#32))) (Scalar.subi (Scalar.extui (Scalar.cmpi .sgt 2048#32 0#32)) (Scalar.extui (Scalar.cmpi .slt 2048#32 0#32))))
      (Scalar.remsi (firstW true (i 1).val) 2048#32) >>= _)) rfl ?_
  rw [e2, denoteK_bind]
  refine congrArg (fun K => denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fin false <| pre true (Scalar.ofBits .f32 0x3FB8AA3B#32) (Scalar.ofBits .f32 0x3E0293EE#32) .done) (denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU true (i 1).val)) H1.okU (fun k => blk true (kbW 0#32 0#32 k) (H1.kbU k) noMask .done) <|
      .done) K)) ?_
  refine Eq.trans (b := k0_part404 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW true (i 1).val) (fullW true (i 1).val) (allW true (i 1).val) 1#32 0#32 (stopW (tripsU true (i 1).val)) 1#32 >>= _) rfl ?_
  rw [e3, denoteK_bind]
  rfl

/-- The printed body is the program of `Body.lean`. -/
theorem body_eq (i : grid0.Coords) (H0 : Words false (i 1).val) (H1 : Words true (i 1).val) :
    cc0_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (argsOf arg2 arg3 arg4 arg5 arg6 arg7 arg8 arg9 arg10 arg11 arg12 arg13 arg14 arg15 arg16 arg17 arg18)
        (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (body (F := F) (k0_cond1 i = 1#1) inferInstance (i 1).val H0 H1 (Scalar.ofBits .f32 0x3FB8AA3B#32) (Scalar.ofBits .f32 0x3E0293EE#32)) := by
  have e : k0_part385 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = dite (k0_cond1 i = 1#1) (fun _ => denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (clear .done) _) (fun _ => _) := rfl
  refine Eq.trans (b := k0_part385 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= _) rfl ?_
  rw [e]
  refine Eq.trans ?_ (b := dite (k0_cond1 i = 1#1) (fun _ => denote (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (clear <| half (F := F) false (i 1).val H0 (Scalar.ofBits .f32 0x3FB8AA3B#32) (Scalar.ofBits .f32 0x3E0293EE#32) <| half true (i 1).val H1 (Scalar.ofBits .f32 0x3FB8AA3B#32) (Scalar.ofBits .f32 0x3E0293EE#32) .done))
    (fun _ => denote (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (half (F := F) false (i 1).val H0 (Scalar.ofBits .f32 0x3FB8AA3B#32) (Scalar.ofBits .f32 0x3E0293EE#32) <| half true (i 1).val H1 (Scalar.ofBits .f32 0x3FB8AA3B#32) (Scalar.ofBits .f32 0x3E0293EE#32) .done))) rfl
  by_cases hp : k0_cond1 i = 1#1
  · rw [dif_pos hp, dif_pos hp, denoteK_bind]
    exact congrArg (denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (clear .done)) (halves_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 i H0 H1)
  · rw [dif_neg hp, dif_neg hp]
    exact halves_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 i H0 H1

end Cert.Attn.K
-- ==== Proof.Words.lean ====
/-
  The words of the body in closed form: how many blocks of keys each loop runs over, and which block a trip takes.
-/
module

public import proofs.«01_k».proof.Proof.Body

@[expose] public section

set_option maxRecDepth 65536

namespace Cert.Attn

open Idealize.ShloMosaic Idealize.ShloMosaic.TcCoe

/-- The half's number. -/
abbrev halfN (s : Bool) : ℕ := bif s then 1 else 0
/-- The block of queries, nought past the first. -/
abbrev rowN (s : Bool) (n : ℕ) : ℕ := 2047 - 2 * n - halfN s
/-- Blocks of keys wholly before it. -/
abbrev fullN (s : Bool) (n : ℕ) : ℕ := rowN s n / 128
/-- Blocks of keys the half runs over. -/
abbrev allN (s : Bool) (n : ℕ) : ℕ := (min (2050 - 2 * n - halfN s) 2048 + 127) / 128

theorem words_eq : ∀ n : Fin 1025, ∀ s : Bool,
    firstW s n = BitVec.ofNat 32 (16 * rowN s n) ∧ fullW s n = BitVec.ofNat 32 (fullN s n) ∧
      tripsU s n = BitVec.ofNat 32 (fullN s n) ∧ tripsM s n = BitVec.ofNat 32 (allN s n - fullN s n) := by
  decide +kernel

theorem nums : ∀ n : Fin 1025, ∀ s : Bool, fullN s n ≤ allN s n ∧ allN s n ≤ 16 := by
  intro n s; have := n.isLt; cases s <;> simp [fullN, allN, rowN, halfN] <;> omega

theorem loops_eq : ∀ m : Fin 17,
    (mainL (BitVec.ofNat 32 m)).OK ∧ (mainL (BitVec.ofNat 32 m)).trips = m ∧
      (restL (BitVec.ofNat 32 m)).OK ∧ (restL (BitVec.ofNat 32 m)).trips = 0 := by
  decide +kernel

theorem kb_eq : ∀ a k : Fin 17, kbW (BitVec.ofNat 32 a) 0#32 k = BitVec.ofNat 32 (a + k) := by
  decide +kernel

section
variable {s : Bool} {n : ℕ} (hn : n < 1025)
include hn

theorem firstW_eq : firstW s n = BitVec.ofNat 32 (16 * rowN s n) := (words_eq ⟨n, hn⟩ s).1
theorem fullW_eq : fullW s n = BitVec.ofNat 32 (fullN s n) := (words_eq ⟨n, hn⟩ s).2.1
theorem tripsU_eq : tripsU s n = BitVec.ofNat 32 (fullN s n) := (words_eq ⟨n, hn⟩ s).2.2.1
theorem tripsM_eq : tripsM s n = BitVec.ofNat 32 (allN s n - fullN s n) := (words_eq ⟨n, hn⟩ s).2.2.2
theorem full_le : fullN s n ≤ allN s n := (nums ⟨n, hn⟩ s).1
theorem all_le : allN s n ≤ 16 := (nums ⟨n, hn⟩ s).2

theorem trips_mainU : (mainL (tripsU s n)).trips = fullN s n := by
  rw [tripsU_eq hn]; exact (loops_eq ⟨fullN s n, by have := full_le (s := s) hn; have := all_le (s := s) hn; omega⟩).2.1
theorem trips_restU : (restL (tripsU s n)).trips = 0 := by
  rw [tripsU_eq hn]; exact (loops_eq ⟨fullN s n, by have := full_le (s := s) hn; have := all_le (s := s) hn; omega⟩).2.2.2
theorem trips_mainM : (mainL (tripsM s n)).trips = allN s n - fullN s n := by
  rw [tripsM_eq hn]; exact (loops_eq ⟨allN s n - fullN s n, by have := all_le (s := s) hn; omega⟩).2.1
theorem trips_restM : (restL (tripsM s n)).trips = 0 := by
  rw [tripsM_eq hn]; exact (loops_eq ⟨allN s n - fullN s n, by have := all_le (s := s) hn; omega⟩).2.2.2

theorem kbU_eq (k : Fin (mainL (tripsU s n)).trips) : kbW 0#32 0#32 k = BitVec.ofNat 32 k := by
  have h := lt_of_lt_of_eq k.isLt (trips_mainU hn)
  have := full_le (s := s) hn; have := all_le (s := s) hn
  simpa using kb_eq 0 ⟨k, by omega⟩
theorem kbM_eq (k : Fin (mainL (tripsM s n)).trips) : kbW (fullW s n) 0#32 k = BitVec.ofNat 32 (fullN s n + k) := by
  have h := lt_of_lt_of_eq k.isLt (trips_mainM hn)
  have := full_le (s := s) hn; have := all_le (s := s) hn
  rw [fullW_eq hn]
  exact kb_eq ⟨fullN s n, by omega⟩ ⟨k, by omega⟩

/-- The loops run, and the block of keys of every trip exists. -/
theorem words : Words s n := by
  have hf := full_le (s := s) hn; have ha := all_le (s := s) hn
  refine ⟨?_, ?_, ?_, ?_, ?_, ?_, ?_, ?_⟩
  · rw [tripsU_eq hn]; exact (loops_eq ⟨fullN s n, by omega⟩).1
  · rw [tripsU_eq hn]; exact (loops_eq ⟨fullN s n, by omega⟩).2.2.1
  · rw [tripsM_eq hn]; exact (loops_eq ⟨allN s n - fullN s n, by omega⟩).1
  · rw [tripsM_eq hn]; exact (loops_eq ⟨allN s n - fullN s n, by omega⟩).2.2.1
  · intro k; have h := lt_of_lt_of_eq k.isLt (trips_mainU hn)
    rw [kbU_eq hn, BitVec.toNat_ofNat, Nat.mod_eq_of_lt] <;> omega
  · intro k; exact absurd (lt_of_lt_of_eq k.isLt (trips_restU hn)) (Nat.not_lt_zero _)
  · intro k; have h := lt_of_lt_of_eq k.isLt (trips_mainM hn)
    rw [kbM_eq hn, BitVec.toNat_ofNat, Nat.mod_eq_of_lt] <;> omega
  · intro k; exact absurd (lt_of_lt_of_eq k.isLt (trips_restM hn)) (Nat.not_lt_zero _)

end

/-! ## The rectangles lie in their arrays -/

theorem clear_inb (k : Fin clearL.trips) : ∀ a, (![(Scalar.indexCast (Scf.iv 0#32 1#32 k) : BitVec 32).toNat, 0, 0] : Fin 3 → ℕ) a +
    S1x128x128.size a ≤ S256x128x128.size a := by
  have := clear_lt k; intro a; fin_cases a <;> simp <;> omega
section
variable (w : BitVec 32) (hw : w.toNat < 16)
include hw
theorem tile_inb (j : Fin 16) : ∀ a, (![(tileW w j).toNat, 0, 0] : Fin 3 → ℕ) a + S1x128x128.size a ≤ S256x128x128.size a := by
  have h := tileW_toNat w hw j; intro a; fin_cases a <;> simp <;> omega
theorem tileG_inb (j : Fin 16) (g : Fin 4) :
    ∀ a, (![(tileW w j).toNat, 32 * g.val, 0] : Fin 3 → ℕ) a + S1x32x128.size a ≤ S256x128x128.size a := by
  have h := tileW_toNat w hw j; intro a; fin_cases a <;> simp <;> omega
theorem v_inb : ∀ a, (![0, (vW w).toNat, 0] : Fin 3 → ℕ) a + S1x2048x128.size a ≤ S1x32768x128.size a := by
  have h := vW_toNat w hw; intro a; fin_cases a <;> simp <;> omega
theorem kt_inb (j : Fin 8) : ∀ a, (![0, (ktW w j).toNat, 0, 0] : Fin 4 → ℕ) a + S1x1x128x256.size a ≤ S1x128x128x256.size a := by
  have h := ktW_toNat w hw j; intro a; fin_cases a <;> simp <;> omega
theorem ks_inb (j : Fin 16) : ∀ a, (![0, (tileW w j).toNat, 0, 0] : Fin 4 → ℕ) a + S1x1x1x128.size a ≤ S1x256x1x128.size a := by
  have h := tileW_toNat w hw j; intro a; fin_cases a <;> simp <;> omega
theorem mult_dvd : 2048 ∣ (Scalar.muli w 2048#32).toNat := by
  refine ⟨w.toNat, ?_⟩
  simp only [Scalar.muli, IntOp.muli, BitVec.toNat_mul, BitVec.toNat_ofNat]; omega
end

end Cert.Attn
-- ==== Proof.KernelFacts.lean ====
/-
  The side conditions the printed program `Kernel` states: shapes, bounds of every access, windows. The bounds in the
  loops follow from which block of keys a trip takes.
-/
module

public import proofs.«01_k».proof.Kernel
public import proofs.«01_k».proof.Proof.Words
public import Idealize.ShloMosaic.Lib.Affine
public import Idealize.ShloMosaic.Lib.Decide
public import Idealize.ShloMosaic.Lib.Exec

@[expose] public section

set_option synthInstance.maxSize 4096
set_option Elab.async false

namespace Cert.Kernel.Hand

open Idealize.ShloMosaic Idealize.SL.Sem
/-! ## The facts over the vocabulary (`Facts₀`) -/

theorem shapeCasts_S2x8x32768_S2x8x1024x32 : S2x8x32768.ShapeCasts S2x8x1024x32 := by decide
theorem transposes_S2x8x1024x32_S2x1024x8x32_0_2_1_3 : S2x8x1024x32.Transposes [0, 2, 1, 3] S2x1024x8x32 := by decide
theorem h_S1x128x128 : 0 < S1x128x128.numel := by decide
theorem shapeCasts_S1x128x128_S128x128 : S1x128x128.ShapeCasts S128x128 := by decide
theorem shapeCasts_S128x128_S1x128x128 : S128x128.ShapeCasts S1x128x128 := by decide
theorem inb_S128x128_S128x128_0_0 : ∀ a, (![0, 0] : Fin 2 → Nat) a + S128x128.size a ≤ S128x128.size a := by decide
theorem h_S128x128 : 0 < S128x128.numel := by decide
theorem shapeCasts_S128x128_S128x128 : S128x128.ShapeCasts S128x128 := by decide
theorem reduces_S128x128_S128 : S128x128.Reduces [1] S128 := by decide
theorem shapeCasts_S128_S128x1 : S128.ShapeCasts S128x1 := by decide
theorem shapeCasts_S128x1_S128x1 : S128x1.ShapeCasts S128x1 := by decide
theorem broadcasts_S128x1_S128x128 : S128x1.Broadcasts S128x128 := by decide
theorem inb_S1x1x128_S1x1x128_0_0_0 : ∀ a, (![0, 0, 0] : Fin 3 → Nat) a + S1x1x128.size a ≤ S1x1x128.size a := by decide
theorem h_S1x1x128 : 0 < S1x1x128.numel := by decide
theorem shapeCasts_S1x1x128_S1x128 : S1x1x128.ShapeCasts S1x128 := by decide
theorem broadcasts_S1x128_S128x128 : S1x128.Broadcasts S128x128 := by decide
theorem inb_S1x1x8x32_S1x1x8x1_0_0_0_16 : ∀ a, (![0, 0, 0, 16] : Fin 4 → Nat) a + S1x1x8x1.size a ≤ S1x1x8x32.size a := by decide
theorem h_S1x1x8x1 : 0 < S1x1x8x1.numel := by decide
theorem shapeCasts_S1x1x8x1_S8x1 : S1x1x8x1.ShapeCasts S8x1 := by decide
theorem shapeCasts_S8x1_S8x1 : S8x1.ShapeCasts S8x1 := by decide
theorem broadcasts_S8x1_S8x128 : S8x1.Broadcasts S8x128 := by decide
theorem inb_S128x128_S8x128_0_0 : ∀ a, (![0, 0] : Fin 2 → Nat) a + S8x128.size a ≤ S128x128.size a := by decide
theorem h_S8x128 : 0 < S8x128.numel := by decide
theorem shapeCasts_S8x128_S8x128 : S8x128.ShapeCasts S8x128 := by decide
theorem inb_S1x1x8x32_S1x1x8x1_0_0_0_17 : ∀ a, (![0, 0, 0, 17] : Fin 4 → Nat) a + S1x1x8x1.size a ≤ S1x1x8x32.size a := by decide
theorem inb_S128x128_S8x128_8_0 : ∀ a, (![8, 0] : Fin 2 → Nat) a + S8x128.size a ≤ S128x128.size a := by decide
theorem inb_S1x1x8x32_S1x1x8x1_0_0_0_18 : ∀ a, (![0, 0, 0, 18] : Fin 4 → Nat) a + S1x1x8x1.size a ≤ S1x1x8x32.size a := by decide
theorem inb_S128x128_S8x128_16_0 : ∀ a, (![16, 0] : Fin 2 → Nat) a + S8x128.size a ≤ S128x128.size a := by decide
theorem inb_S1x1x8x32_S1x1x8x1_0_0_0_19 : ∀ a, (![0, 0, 0, 19] : Fin 4 → Nat) a + S1x1x8x1.size a ≤ S1x1x8x32.size a := by decide
theorem inb_S128x128_S8x128_24_0 : ∀ a, (![24, 0] : Fin 2 → Nat) a + S8x128.size a ≤ S128x128.size a := by decide
theorem inb_S1x1x8x32_S1x1x8x1_0_0_0_20 : ∀ a, (![0, 0, 0, 20] : Fin 4 → Nat) a + S1x1x8x1.size a ≤ S1x1x8x32.size a := by decide
theorem inb_S128x128_S8x128_32_0 : ∀ a, (![32, 0] : Fin 2 → Nat) a + S8x128.size a ≤ S128x128.size a := by decide
theorem inb_S1x1x8x32_S1x1x8x1_0_0_0_21 : ∀ a, (![0, 0, 0, 21] : Fin 4 → Nat) a + S1x1x8x1.size a ≤ S1x1x8x32.size a := by decide
theorem inb_S128x128_S8x128_40_0 : ∀ a, (![40, 0] : Fin 2 → Nat) a + S8x128.size a ≤ S128x128.size a := by decide
theorem inb_S1x1x8x32_S1x1x8x1_0_0_0_22 : ∀ a, (![0, 0, 0, 22] : Fin 4 → Nat) a + S1x1x8x1.size a ≤ S1x1x8x32.size a := by decide
theorem inb_S128x128_S8x128_48_0 : ∀ a, (![48, 0] : Fin 2 → Nat) a + S8x128.size a ≤ S128x128.size a := by decide
theorem inb_S1x1x8x32_S1x1x8x1_0_0_0_23 : ∀ a, (![0, 0, 0, 23] : Fin 4 → Nat) a + S1x1x8x1.size a ≤ S1x1x8x32.size a := by decide
theorem inb_S128x128_S8x128_56_0 : ∀ a, (![56, 0] : Fin 2 → Nat) a + S8x128.size a ≤ S128x128.size a := by decide
theorem inb_S1x1x8x32_S1x1x8x1_0_0_0_24 : ∀ a, (![0, 0, 0, 24] : Fin 4 → Nat) a + S1x1x8x1.size a ≤ S1x1x8x32.size a := by decide
theorem inb_S128x128_S8x128_64_0 : ∀ a, (![64, 0] : Fin 2 → Nat) a + S8x128.size a ≤ S128x128.size a := by decide
theorem inb_S1x1x8x32_S1x1x8x1_0_0_0_25 : ∀ a, (![0, 0, 0, 25] : Fin 4 → Nat) a + S1x1x8x1.size a ≤ S1x1x8x32.size a := by decide
theorem inb_S128x128_S8x128_72_0 : ∀ a, (![72, 0] : Fin 2 → Nat) a + S8x128.size a ≤ S128x128.size a := by decide
theorem inb_S1x1x8x32_S1x1x8x1_0_0_0_26 : ∀ a, (![0, 0, 0, 26] : Fin 4 → Nat) a + S1x1x8x1.size a ≤ S1x1x8x32.size a := by decide
theorem inb_S128x128_S8x128_80_0 : ∀ a, (![80, 0] : Fin 2 → Nat) a + S8x128.size a ≤ S128x128.size a := by decide
theorem inb_S1x1x8x32_S1x1x8x1_0_0_0_27 : ∀ a, (![0, 0, 0, 27] : Fin 4 → Nat) a + S1x1x8x1.size a ≤ S1x1x8x32.size a := by decide
theorem inb_S128x128_S8x128_88_0 : ∀ a, (![88, 0] : Fin 2 → Nat) a + S8x128.size a ≤ S128x128.size a := by decide
theorem inb_S1x1x8x32_S1x1x8x1_0_0_0_28 : ∀ a, (![0, 0, 0, 28] : Fin 4 → Nat) a + S1x1x8x1.size a ≤ S1x1x8x32.size a := by decide
theorem inb_S128x128_S8x128_96_0 : ∀ a, (![96, 0] : Fin 2 → Nat) a + S8x128.size a ≤ S128x128.size a := by decide
theorem inb_S1x1x8x32_S1x1x8x1_0_0_0_29 : ∀ a, (![0, 0, 0, 29] : Fin 4 → Nat) a + S1x1x8x1.size a ≤ S1x1x8x32.size a := by decide
theorem inb_S128x128_S8x128_104_0 : ∀ a, (![104, 0] : Fin 2 → Nat) a + S8x128.size a ≤ S128x128.size a := by decide
theorem inb_S1x1x8x32_S1x1x8x1_0_0_0_30 : ∀ a, (![0, 0, 0, 30] : Fin 4 → Nat) a + S1x1x8x1.size a ≤ S1x1x8x32.size a := by decide
theorem inb_S128x128_S8x128_112_0 : ∀ a, (![112, 0] : Fin 2 → Nat) a + S8x128.size a ≤ S128x128.size a := by decide
theorem inb_S1x1x8x32_S1x1x8x1_0_0_0_31 : ∀ a, (![0, 0, 0, 31] : Fin 4 → Nat) a + S1x1x8x1.size a ≤ S1x1x8x32.size a := by decide
theorem inb_S128x128_S8x128_120_0 : ∀ a, (![120, 0] : Fin 2 → Nat) a + S8x128.size a ≤ S128x128.size a := by decide
theorem bitsLt_fp8e4m3_f32 : FTy.bits .fp8e4m3 < FTy.bits .f32 := by decide
theorem concatenates_S128x128_S128x128_S128x128_S128x128_S128x128_S128x128_S128x128_S128x128_S128x128_S128x128_S128x128_S128x128_S128x128_S128x128_S128x128_S128x128_S128x2048_d1 : Shape.Concatenates [S128x128, S128x128, S128x128, S128x128, S128x128, S128x128, S128x128, S128x128, S128x128, S128x128, S128x128, S128x128, S128x128, S128x128, S128x128, S128x128] S128x2048 1 := by decide
theorem h_S1x2048x128 : 0 < S1x2048x128.numel := by decide
theorem shapeCasts_S1x2048x128_S2048x128 : S1x2048x128.ShapeCasts S2048x128 := by decide
theorem inb_S128x128_S32x128_0_0 : ∀ a, (![0, 0] : Fin 2 → Nat) a + S32x128.size a ≤ S128x128.size a := by decide
theorem h_S32x128 : 0 < S32x128.numel := by decide
theorem h_S1x32x128 : 0 < S1x32x128.numel := by decide
theorem shapeCasts_S1x32x128_S32x128 : S1x32x128.ShapeCasts S32x128 := by decide
theorem shapeCasts_S32x128_S1x32x128 : S32x128.ShapeCasts S1x32x128 := by decide
theorem shapeCasts_S32x128_S32x128 : S32x128.ShapeCasts S32x128 := by decide
theorem inb_S128x128_S32x128_32_0 : ∀ a, (![32, 0] : Fin 2 → Nat) a + S32x128.size a ≤ S128x128.size a := by decide
theorem inb_S128x128_S32x128_64_0 : ∀ a, (![64, 0] : Fin 2 → Nat) a + S32x128.size a ≤ S128x128.size a := by decide
theorem inb_S128x128_S32x128_96_0 : ∀ a, (![96, 0] : Fin 2 → Nat) a + S32x128.size a ≤ S128x128.size a := by decide
theorem inb_S1x256x128_S1x128x128_0_128_0 : ∀ a, (![0, 128, 0] : Fin 3 → Nat) a + S1x128x128.size a ≤ S1x256x128.size a := by decide
theorem h_S1x1x128x256 : 0 < S1x1x128x256.numel := by decide
theorem shapeCasts_S1x1x128x256_S128x256 : S1x1x128x256.ShapeCasts S128x256 := by decide
theorem slices_S128x256_o0_0_S128x128 : S128x256.Slices ![0, 0] S128x128 := by decide
theorem h_S1x1x1x128 : 0 < S1x1x1x128.numel := by decide
theorem shapeCasts_S1x1x1x128_S1x128 : S1x1x1x128.ShapeCasts S1x128 := by decide
theorem slices_S128x256_o0_128_S128x128 : S128x256.Slices ![0, 128] S128x128 := by decide
theorem iota_S128x128_d1_w32 : S128x128.Iotas .tc 32 [1] := by decide
theorem iota_S128x128_d0_w32 : S128x128.Iotas .tc 32 [0] := by decide
theorem natLt_1_32 : 1 < 32 := by decide
theorem inb_S128x128_S16x128_0_0_s_8_1 : ∀ a, S16x128.size a = 0 ∨ (![0, 0] : Fin 2 → Nat) a + (![8, 1] : Fin 2 → Nat) a * (S16x128.size a - 1) < S128x128.size a := by decide
theorem h_S16x128 : 0 < S16x128.numel := by decide
theorem bitsLt_bf16_f32 : FTy.bits .bf16 < FTy.bits .f32 := by decide
theorem inb_S1x32x1024_S1x16x128_0_16_0 : ∀ a, (![0, 16, 0] : Fin 3 → Nat) a + S1x16x128.size a ≤ S1x32x1024.size a := by decide
theorem h_S1x16x128 : 0 < S1x16x128.numel := by decide
theorem shapeCasts_S1x16x128_S16x128 : S1x16x128.ShapeCasts S16x128 := by decide
theorem shapeCasts_S16x128_S1x16x128 : S16x128.ShapeCasts S1x16x128 := by decide
theorem packedbf16_S1x32x1024_S1x16x128_0_16_0 : (Rect.unit (s := S1x32x1024) ![0, 16, 0] S1x16x128.size inb_S1x32x1024_S1x16x128_0_16_0).PackedRows (EltTy.packing .bf16) := by decide
theorem inb_S128x128_S16x128_1_0_s_8_1 : ∀ a, S16x128.size a = 0 ∨ (![1, 0] : Fin 2 → Nat) a + (![8, 1] : Fin 2 → Nat) a * (S16x128.size a - 1) < S128x128.size a := by decide
theorem inb_S1x32x1024_S1x16x128_0_16_128 : ∀ a, (![0, 16, 128] : Fin 3 → Nat) a + S1x16x128.size a ≤ S1x32x1024.size a := by decide
theorem packedbf16_S1x32x1024_S1x16x128_0_16_128 : (Rect.unit (s := S1x32x1024) ![0, 16, 128] S1x16x128.size inb_S1x32x1024_S1x16x128_0_16_128).PackedRows (EltTy.packing .bf16) := by decide
theorem inb_S128x128_S16x128_2_0_s_8_1 : ∀ a, S16x128.size a = 0 ∨ (![2, 0] : Fin 2 → Nat) a + (![8, 1] : Fin 2 → Nat) a * (S16x128.size a - 1) < S128x128.size a := by decide
theorem inb_S1x32x1024_S1x16x128_0_16_256 : ∀ a, (![0, 16, 256] : Fin 3 → Nat) a + S1x16x128.size a ≤ S1x32x1024.size a := by decide
theorem packedbf16_S1x32x1024_S1x16x128_0_16_256 : (Rect.unit (s := S1x32x1024) ![0, 16, 256] S1x16x128.size inb_S1x32x1024_S1x16x128_0_16_256).PackedRows (EltTy.packing .bf16) := by decide
theorem inb_S128x128_S16x128_3_0_s_8_1 : ∀ a, S16x128.size a = 0 ∨ (![3, 0] : Fin 2 → Nat) a + (![8, 1] : Fin 2 → Nat) a * (S16x128.size a - 1) < S128x128.size a := by decide
theorem inb_S1x32x1024_S1x16x128_0_16_384 : ∀ a, (![0, 16, 384] : Fin 3 → Nat) a + S1x16x128.size a ≤ S1x32x1024.size a := by decide
theorem packedbf16_S1x32x1024_S1x16x128_0_16_384 : (Rect.unit (s := S1x32x1024) ![0, 16, 384] S1x16x128.size inb_S1x32x1024_S1x16x128_0_16_384).PackedRows (EltTy.packing .bf16) := by decide
theorem inb_S128x128_S16x128_4_0_s_8_1 : ∀ a, S16x128.size a = 0 ∨ (![4, 0] : Fin 2 → Nat) a + (![8, 1] : Fin 2 → Nat) a * (S16x128.size a - 1) < S128x128.size a := by decide
theorem inb_S1x32x1024_S1x16x128_0_16_512 : ∀ a, (![0, 16, 512] : Fin 3 → Nat) a + S1x16x128.size a ≤ S1x32x1024.size a := by decide
theorem packedbf16_S1x32x1024_S1x16x128_0_16_512 : (Rect.unit (s := S1x32x1024) ![0, 16, 512] S1x16x128.size inb_S1x32x1024_S1x16x128_0_16_512).PackedRows (EltTy.packing .bf16) := by decide
theorem inb_S128x128_S16x128_5_0_s_8_1 : ∀ a, S16x128.size a = 0 ∨ (![5, 0] : Fin 2 → Nat) a + (![8, 1] : Fin 2 → Nat) a * (S16x128.size a - 1) < S128x128.size a := by decide
theorem inb_S1x32x1024_S1x16x128_0_16_640 : ∀ a, (![0, 16, 640] : Fin 3 → Nat) a + S1x16x128.size a ≤ S1x32x1024.size a := by decide
theorem packedbf16_S1x32x1024_S1x16x128_0_16_640 : (Rect.unit (s := S1x32x1024) ![0, 16, 640] S1x16x128.size inb_S1x32x1024_S1x16x128_0_16_640).PackedRows (EltTy.packing .bf16) := by decide
theorem inb_S128x128_S16x128_6_0_s_8_1 : ∀ a, S16x128.size a = 0 ∨ (![6, 0] : Fin 2 → Nat) a + (![8, 1] : Fin 2 → Nat) a * (S16x128.size a - 1) < S128x128.size a := by decide
theorem inb_S1x32x1024_S1x16x128_0_16_768 : ∀ a, (![0, 16, 768] : Fin 3 → Nat) a + S1x16x128.size a ≤ S1x32x1024.size a := by decide
theorem packedbf16_S1x32x1024_S1x16x128_0_16_768 : (Rect.unit (s := S1x32x1024) ![0, 16, 768] S1x16x128.size inb_S1x32x1024_S1x16x128_0_16_768).PackedRows (EltTy.packing .bf16) := by decide
theorem inb_S128x128_S16x128_7_0_s_8_1 : ∀ a, S16x128.size a = 0 ∨ (![7, 0] : Fin 2 → Nat) a + (![8, 1] : Fin 2 → Nat) a * (S16x128.size a - 1) < S128x128.size a := by decide
theorem inb_S1x32x1024_S1x16x128_0_16_896 : ∀ a, (![0, 16, 896] : Fin 3 → Nat) a + S1x16x128.size a ≤ S1x32x1024.size a := by decide
theorem packedbf16_S1x32x1024_S1x16x128_0_16_896 : (Rect.unit (s := S1x32x1024) ![0, 16, 896] S1x16x128.size inb_S1x32x1024_S1x16x128_0_16_896).PackedRows (EltTy.packing .bf16) := by decide
theorem inb_S1x1x8x32_S1x1x8x1_0_0_0_0 : ∀ a, (![0, 0, 0, 0] : Fin 4 → Nat) a + S1x1x8x1.size a ≤ S1x1x8x32.size a := by decide
theorem inb_S1x1x8x32_S1x1x8x1_0_0_0_1 : ∀ a, (![0, 0, 0, 1] : Fin 4 → Nat) a + S1x1x8x1.size a ≤ S1x1x8x32.size a := by decide
theorem inb_S1x1x8x32_S1x1x8x1_0_0_0_2 : ∀ a, (![0, 0, 0, 2] : Fin 4 → Nat) a + S1x1x8x1.size a ≤ S1x1x8x32.size a := by decide
theorem inb_S1x1x8x32_S1x1x8x1_0_0_0_3 : ∀ a, (![0, 0, 0, 3] : Fin 4 → Nat) a + S1x1x8x1.size a ≤ S1x1x8x32.size a := by decide
theorem inb_S1x1x8x32_S1x1x8x1_0_0_0_4 : ∀ a, (![0, 0, 0, 4] : Fin 4 → Nat) a + S1x1x8x1.size a ≤ S1x1x8x32.size a := by decide
theorem inb_S1x1x8x32_S1x1x8x1_0_0_0_5 : ∀ a, (![0, 0, 0, 5] : Fin 4 → Nat) a + S1x1x8x1.size a ≤ S1x1x8x32.size a := by decide
theorem inb_S1x1x8x32_S1x1x8x1_0_0_0_6 : ∀ a, (![0, 0, 0, 6] : Fin 4 → Nat) a + S1x1x8x1.size a ≤ S1x1x8x32.size a := by decide
theorem inb_S1x1x8x32_S1x1x8x1_0_0_0_7 : ∀ a, (![0, 0, 0, 7] : Fin 4 → Nat) a + S1x1x8x1.size a ≤ S1x1x8x32.size a := by decide
theorem inb_S1x1x8x32_S1x1x8x1_0_0_0_8 : ∀ a, (![0, 0, 0, 8] : Fin 4 → Nat) a + S1x1x8x1.size a ≤ S1x1x8x32.size a := by decide
theorem inb_S1x1x8x32_S1x1x8x1_0_0_0_9 : ∀ a, (![0, 0, 0, 9] : Fin 4 → Nat) a + S1x1x8x1.size a ≤ S1x1x8x32.size a := by decide
theorem inb_S1x1x8x32_S1x1x8x1_0_0_0_10 : ∀ a, (![0, 0, 0, 10] : Fin 4 → Nat) a + S1x1x8x1.size a ≤ S1x1x8x32.size a := by decide
theorem inb_S1x1x8x32_S1x1x8x1_0_0_0_11 : ∀ a, (![0, 0, 0, 11] : Fin 4 → Nat) a + S1x1x8x1.size a ≤ S1x1x8x32.size a := by decide
theorem inb_S1x1x8x32_S1x1x8x1_0_0_0_12 : ∀ a, (![0, 0, 0, 12] : Fin 4 → Nat) a + S1x1x8x1.size a ≤ S1x1x8x32.size a := by decide
theorem inb_S1x1x8x32_S1x1x8x1_0_0_0_13 : ∀ a, (![0, 0, 0, 13] : Fin 4 → Nat) a + S1x1x8x1.size a ≤ S1x1x8x32.size a := by decide
theorem inb_S1x1x8x32_S1x1x8x1_0_0_0_14 : ∀ a, (![0, 0, 0, 14] : Fin 4 → Nat) a + S1x1x8x1.size a ≤ S1x1x8x32.size a := by decide
theorem inb_S1x1x8x32_S1x1x8x1_0_0_0_15 : ∀ a, (![0, 0, 0, 15] : Fin 4 → Nat) a + S1x1x8x1.size a ≤ S1x1x8x32.size a := by decide
theorem inb_S1x256x128_S1x128x128_0_0_0 : ∀ a, (![0, 0, 0] : Fin 3 → Nat) a + S1x128x128.size a ≤ S1x256x128.size a := by decide
theorem inb_S1x32x1024_S1x16x128_0_0_0 : ∀ a, (![0, 0, 0] : Fin 3 → Nat) a + S1x16x128.size a ≤ S1x32x1024.size a := by decide
theorem packedbf16_S1x32x1024_S1x16x128_0_0_0 : (Rect.unit (s := S1x32x1024) ![0, 0, 0] S1x16x128.size inb_S1x32x1024_S1x16x128_0_0_0).PackedRows (EltTy.packing .bf16) := by decide
theorem inb_S1x32x1024_S1x16x128_0_0_128 : ∀ a, (![0, 0, 128] : Fin 3 → Nat) a + S1x16x128.size a ≤ S1x32x1024.size a := by decide
theorem packedbf16_S1x32x1024_S1x16x128_0_0_128 : (Rect.unit (s := S1x32x1024) ![0, 0, 128] S1x16x128.size inb_S1x32x1024_S1x16x128_0_0_128).PackedRows (EltTy.packing .bf16) := by decide
theorem inb_S1x32x1024_S1x16x128_0_0_256 : ∀ a, (![0, 0, 256] : Fin 3 → Nat) a + S1x16x128.size a ≤ S1x32x1024.size a := by decide
theorem packedbf16_S1x32x1024_S1x16x128_0_0_256 : (Rect.unit (s := S1x32x1024) ![0, 0, 256] S1x16x128.size inb_S1x32x1024_S1x16x128_0_0_256).PackedRows (EltTy.packing .bf16) := by decide
theorem inb_S1x32x1024_S1x16x128_0_0_384 : ∀ a, (![0, 0, 384] : Fin 3 → Nat) a + S1x16x128.size a ≤ S1x32x1024.size a := by decide
theorem packedbf16_S1x32x1024_S1x16x128_0_0_384 : (Rect.unit (s := S1x32x1024) ![0, 0, 384] S1x16x128.size inb_S1x32x1024_S1x16x128_0_0_384).PackedRows (EltTy.packing .bf16) := by decide
theorem inb_S1x32x1024_S1x16x128_0_0_512 : ∀ a, (![0, 0, 512] : Fin 3 → Nat) a + S1x16x128.size a ≤ S1x32x1024.size a := by decide
theorem packedbf16_S1x32x1024_S1x16x128_0_0_512 : (Rect.unit (s := S1x32x1024) ![0, 0, 512] S1x16x128.size inb_S1x32x1024_S1x16x128_0_0_512).PackedRows (EltTy.packing .bf16) := by decide
theorem inb_S1x32x1024_S1x16x128_0_0_640 : ∀ a, (![0, 0, 640] : Fin 3 → Nat) a + S1x16x128.size a ≤ S1x32x1024.size a := by decide
theorem packedbf16_S1x32x1024_S1x16x128_0_0_640 : (Rect.unit (s := S1x32x1024) ![0, 0, 640] S1x16x128.size inb_S1x32x1024_S1x16x128_0_0_640).PackedRows (EltTy.packing .bf16) := by decide
theorem inb_S1x32x1024_S1x16x128_0_0_768 : ∀ a, (![0, 0, 768] : Fin 3 → Nat) a + S1x16x128.size a ≤ S1x32x1024.size a := by decide
theorem packedbf16_S1x32x1024_S1x16x128_0_0_768 : (Rect.unit (s := S1x32x1024) ![0, 0, 768] S1x16x128.size inb_S1x32x1024_S1x16x128_0_0_768).PackedRows (EltTy.packing .bf16) := by decide
theorem inb_S1x32x1024_S1x16x128_0_0_896 : ∀ a, (![0, 0, 896] : Fin 3 → Nat) a + S1x16x128.size a ≤ S1x32x1024.size a := by decide
theorem packedbf16_S1x32x1024_S1x16x128_0_0_896 : (Rect.unit (s := S1x32x1024) ![0, 0, 896] S1x16x128.size inb_S1x32x1024_S1x16x128_0_0_896).PackedRows (EltTy.packing .bf16) := by decide
theorem dot_S128x2048_S2048x128_S128x128_1_0_0_1_n_n_wf : DotDims.WF S128x2048 S2048x128 S128x128 [1] [0] [0] [1] [] [] := by decide
theorem dot_S128x128_S128x256_S128x256_1_0_0_1_n_n_wf : DotDims.WF S128x128 S128x256 S128x256 [1] [0] [0] [1] [] [] := by decide
theorem hrank0 : 0 < grid0.rank := by decide
theorem k0_t1_ok : ∀ i : grid0.Coords, ∀ (k0_h1 : k0_cond1 i = 1#1), k0_t1_loop.OK := fun i k0_h1 => Cert.Attn.clear_ok
theorem k0_off1_inb : ∀ (i : grid0.Coords) (k0_t1 : Fin k0_t1_loop.trips), ∀ (k0_h1 : k0_cond1 i = 1#1), ∀ a, (k0_off1 k0_t1) a + S1x128x128.size a ≤ S256x128x128.size a := fun i t h => Cert.Attn.clear_inb t
theorem k0_t2_ok : ∀ i : grid0.Coords, (k0_t2_loop i).OK := fun i => (Cert.Attn.words (s := false) (n := (i 1).val) (i 1).isLt).okU
theorem k0_off2_inb : ∀ (i : grid0.Coords) (k0_t2 : Fin (k0_t2_loop i).trips), ∀ (r : Fin 16), ∀ a, (k0_off2 i k0_t2 (BitVec.ofNat 32 r.val)) a + S1x128x128.size a ≤ S256x128x128.size a := fun i t r => Cert.Attn.tile_inb (Cert.Attn.kbW 0#32 0#32 t) ((Cert.Attn.words (s := false) (n := (i 1).val) (i 1).isLt).kbU t) r
theorem k0_mult1_dvd : ∀ (i : grid0.Coords) (k0_t2 : Fin (k0_t2_loop i).trips), 2048 ∣ (k0_mult1 i k0_t2).toNat := fun i t => Cert.Attn.mult_dvd (Cert.Attn.kbW 0#32 0#32 t) ((Cert.Attn.words (s := false) (n := (i 1).val) (i 1).isLt).kbU t)
theorem k0_off3_inb : ∀ (i : grid0.Coords) (k0_t2 : Fin (k0_t2_loop i).trips), ∀ a, (k0_off3 i k0_t2) a + S1x2048x128.size a ≤ S1x32768x128.size a := fun i t => Cert.Attn.v_inb (Cert.Attn.kbW 0#32 0#32 t) ((Cert.Attn.words (s := false) (n := (i 1).val) (i 1).isLt).kbU t)
theorem k0_off4_inb : ∀ (i : grid0.Coords) (k0_t2 : Fin (k0_t2_loop i).trips), ∀ (r : Fin 16), ∀ a, (k0_off4 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 0
theorem k0_off5_inb : ∀ (i : grid0.Coords) (k0_t2 : Fin (k0_t2_loop i).trips), ∀ (r : Fin 16), ∀ a, (k0_off5 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 1
theorem k0_off6_inb : ∀ (i : grid0.Coords) (k0_t2 : Fin (k0_t2_loop i).trips), ∀ (r : Fin 16), ∀ a, (k0_off6 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 2
theorem k0_off7_inb : ∀ (i : grid0.Coords) (k0_t2 : Fin (k0_t2_loop i).trips), ∀ (r : Fin 16), ∀ a, (k0_off7 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 3
theorem k0_off8_inb : ∀ (i : grid0.Coords) (k0_t2 : Fin (k0_t2_loop i).trips), ∀ (r : Fin 8), ∀ a, (k0_off8 i k0_t2 (BitVec.ofNat 32 r.val)) a + S1x1x128x256.size a ≤ S1x128x128x256.size a := fun i t r => Cert.Attn.kt_inb (Cert.Attn.kbW 0#32 0#32 t) ((Cert.Attn.words (s := false) (n := (i 1).val) (i 1).isLt).kbU t) r
theorem k0_off9_inb : ∀ (i : grid0.Coords) (k0_t2 : Fin (k0_t2_loop i).trips), ∀ (r : Fin 16), ∀ a, (k0_off9 i k0_t2 (BitVec.ofNat 32 r.val)) a + S1x1x1x128.size a ≤ S1x256x1x128.size a := fun i t r => Cert.Attn.ks_inb (Cert.Attn.kbW 0#32 0#32 t) ((Cert.Attn.words (s := false) (n := (i 1).val) (i 1).isLt).kbU t) r
theorem k0_t3_ok : ∀ i : grid0.Coords, (k0_t3_loop i).OK := fun i => (Cert.Attn.words (s := false) (n := (i 1).val) (i 1).isLt).okU'
theorem k0_off10_inb : ∀ (i : grid0.Coords) (k0_t3 : Fin (k0_t3_loop i).trips), ∀ (r : Fin 16), ∀ a, (k0_off10 i k0_t3 (BitVec.ofNat 32 r.val)) a + S1x128x128.size a ≤ S256x128x128.size a := fun i t r => Cert.Attn.tile_inb (Cert.Attn.kbW 0#32 (Cert.Attn.stopW (Cert.Attn.tripsU false (i 1).val)) t) ((Cert.Attn.words (s := false) (n := (i 1).val) (i 1).isLt).kbU' t) r
theorem k0_mult2_dvd : ∀ (i : grid0.Coords) (k0_t3 : Fin (k0_t3_loop i).trips), 2048 ∣ (k0_mult2 i k0_t3).toNat := fun i t => Cert.Attn.mult_dvd (Cert.Attn.kbW 0#32 (Cert.Attn.stopW (Cert.Attn.tripsU false (i 1).val)) t) ((Cert.Attn.words (s := false) (n := (i 1).val) (i 1).isLt).kbU' t)
theorem k0_off11_inb : ∀ (i : grid0.Coords) (k0_t3 : Fin (k0_t3_loop i).trips), ∀ a, (k0_off11 i k0_t3) a + S1x2048x128.size a ≤ S1x32768x128.size a := fun i t => Cert.Attn.v_inb (Cert.Attn.kbW 0#32 (Cert.Attn.stopW (Cert.Attn.tripsU false (i 1).val)) t) ((Cert.Attn.words (s := false) (n := (i 1).val) (i 1).isLt).kbU' t)
theorem k0_off12_inb : ∀ (i : grid0.Coords) (k0_t3 : Fin (k0_t3_loop i).trips), ∀ (r : Fin 16), ∀ a, (k0_off12 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 0
theorem k0_off13_inb : ∀ (i : grid0.Coords) (k0_t3 : Fin (k0_t3_loop i).trips), ∀ (r : Fin 16), ∀ a, (k0_off13 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 1
theorem k0_off14_inb : ∀ (i : grid0.Coords) (k0_t3 : Fin (k0_t3_loop i).trips), ∀ (r : Fin 16), ∀ a, (k0_off14 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 2
theorem k0_off15_inb : ∀ (i : grid0.Coords) (k0_t3 : Fin (k0_t3_loop i).trips), ∀ (r : Fin 16), ∀ a, (k0_off15 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 3
theorem k0_off16_inb : ∀ (i : grid0.Coords) (k0_t3 : Fin (k0_t3_loop i).trips), ∀ (r : Fin 8), ∀ a, (k0_off16 i k0_t3 (BitVec.ofNat 32 r.val)) a + S1x1x128x256.size a ≤ S1x128x128x256.size a := fun i t r => Cert.Attn.kt_inb (Cert.Attn.kbW 0#32 (Cert.Attn.stopW (Cert.Attn.tripsU false (i 1).val)) t) ((Cert.Attn.words (s := false) (n := (i 1).val) (i 1).isLt).kbU' t) r
theorem k0_off17_inb : ∀ (i : grid0.Coords) (k0_t3 : Fin (k0_t3_loop i).trips), ∀ (r : Fin 16), ∀ a, (k0_off17 i k0_t3 (BitVec.ofNat 32 r.val)) a + S1x1x1x128.size a ≤ S1x256x1x128.size a := fun i t r => Cert.Attn.ks_inb (Cert.Attn.kbW 0#32 (Cert.Attn.stopW (Cert.Attn.tripsU false (i 1).val)) t) ((Cert.Attn.words (s := false) (n := (i 1).val) (i 1).isLt).kbU' t) r
theorem k0_t4_ok : ∀ i : grid0.Coords, (k0_t4_loop i).OK := fun i => (Cert.Attn.words (s := false) (n := (i 1).val) (i 1).isLt).okM
theorem k0_off18_inb : ∀ (i : grid0.Coords) (k0_t4 : Fin (k0_t4_loop i).trips), ∀ (r : Fin 16), ∀ a, (k0_off18 i k0_t4 (BitVec.ofNat 32 r.val)) a + S1x128x128.size a ≤ S256x128x128.size a := fun i t r => Cert.Attn.tile_inb (Cert.Attn.kbW (Cert.Attn.fullW false (i 1).val) 0#32 t) ((Cert.Attn.words (s := false) (n := (i 1).val) (i 1).isLt).kbM t) r
theorem k0_mult3_dvd : ∀ (i : grid0.Coords) (k0_t4 : Fin (k0_t4_loop i).trips), 2048 ∣ (k0_mult3 i k0_t4).toNat := fun i t => Cert.Attn.mult_dvd (Cert.Attn.kbW (Cert.Attn.fullW false (i 1).val) 0#32 t) ((Cert.Attn.words (s := false) (n := (i 1).val) (i 1).isLt).kbM t)
theorem k0_off19_inb : ∀ (i : grid0.Coords) (k0_t4 : Fin (k0_t4_loop i).trips), ∀ a, (k0_off19 i k0_t4) a + S1x2048x128.size a ≤ S1x32768x128.size a := fun i t => Cert.Attn.v_inb (Cert.Attn.kbW (Cert.Attn.fullW false (i 1).val) 0#32 t) ((Cert.Attn.words (s := false) (n := (i 1).val) (i 1).isLt).kbM t)
theorem k0_off20_inb : ∀ (i : grid0.Coords) (k0_t4 : Fin (k0_t4_loop i).trips), ∀ (r : Fin 16), ∀ a, (k0_off20 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 0
theorem k0_off21_inb : ∀ (i : grid0.Coords) (k0_t4 : Fin (k0_t4_loop i).trips), ∀ (r : Fin 16), ∀ a, (k0_off21 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 1
theorem k0_off22_inb : ∀ (i : grid0.Coords) (k0_t4 : Fin (k0_t4_loop i).trips), ∀ (r : Fin 16), ∀ a, (k0_off22 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 2
theorem k0_off23_inb : ∀ (i : grid0.Coords) (k0_t4 : Fin (k0_t4_loop i).trips), ∀ (r : Fin 16), ∀ a, (k0_off23 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 3
theorem k0_off24_inb : ∀ (i : grid0.Coords) (k0_t4 : Fin (k0_t4_loop i).trips), ∀ (r : Fin 8), ∀ a, (k0_off24 i k0_t4 (BitVec.ofNat 32 r.val)) a + S1x1x128x256.size a ≤ S1x128x128x256.size a := fun i t r => Cert.Attn.kt_inb (Cert.Attn.kbW (Cert.Attn.fullW false (i 1).val) 0#32 t) ((Cert.Attn.words (s := false) (n := (i 1).val) (i 1).isLt).kbM t) r
theorem k0_off25_inb : ∀ (i : grid0.Coords) (k0_t4 : Fin (k0_t4_loop i).trips), ∀ (r : Fin 16), ∀ a, (k0_off25 i k0_t4 (BitVec.ofNat 32 r.val)) a + S1x1x1x128.size a ≤ S1x256x1x128.size a := fun i t r => Cert.Attn.ks_inb (Cert.Attn.kbW (Cert.Attn.fullW false (i 1).val) 0#32 t) ((Cert.Attn.words (s := false) (n := (i 1).val) (i 1).isLt).kbM t) r
theorem k0_t5_ok : ∀ i : grid0.Coords, (k0_t5_loop i).OK := fun i => (Cert.Attn.words (s := false) (n := (i 1).val) (i 1).isLt).okM'
theorem k0_off26_inb : ∀ (i : grid0.Coords) (k0_t5 : Fin (k0_t5_loop i).trips), ∀ (r : Fin 16), ∀ a, (k0_off26 i k0_t5 (BitVec.ofNat 32 r.val)) a + S1x128x128.size a ≤ S256x128x128.size a := fun i t r => Cert.Attn.tile_inb (Cert.Attn.kbW (Cert.Attn.fullW false (i 1).val) (Cert.Attn.stopW (Cert.Attn.tripsM false (i 1).val)) t) ((Cert.Attn.words (s := false) (n := (i 1).val) (i 1).isLt).kbM' t) r
theorem k0_mult4_dvd : ∀ (i : grid0.Coords) (k0_t5 : Fin (k0_t5_loop i).trips), 2048 ∣ (k0_mult4 i k0_t5).toNat := fun i t => Cert.Attn.mult_dvd (Cert.Attn.kbW (Cert.Attn.fullW false (i 1).val) (Cert.Attn.stopW (Cert.Attn.tripsM false (i 1).val)) t) ((Cert.Attn.words (s := false) (n := (i 1).val) (i 1).isLt).kbM' t)
theorem k0_off27_inb : ∀ (i : grid0.Coords) (k0_t5 : Fin (k0_t5_loop i).trips), ∀ a, (k0_off27 i k0_t5) a + S1x2048x128.size a ≤ S1x32768x128.size a := fun i t => Cert.Attn.v_inb (Cert.Attn.kbW (Cert.Attn.fullW false (i 1).val) (Cert.Attn.stopW (Cert.Attn.tripsM false (i 1).val)) t) ((Cert.Attn.words (s := false) (n := (i 1).val) (i 1).isLt).kbM' t)
theorem k0_off28_inb : ∀ (i : grid0.Coords) (k0_t5 : Fin (k0_t5_loop i).trips), ∀ (r : Fin 16), ∀ a, (k0_off28 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 0
theorem k0_off29_inb : ∀ (i : grid0.Coords) (k0_t5 : Fin (k0_t5_loop i).trips), ∀ (r : Fin 16), ∀ a, (k0_off29 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 1
theorem k0_off30_inb : ∀ (i : grid0.Coords) (k0_t5 : Fin (k0_t5_loop i).trips), ∀ (r : Fin 16), ∀ a, (k0_off30 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 2
theorem k0_off31_inb : ∀ (i : grid0.Coords) (k0_t5 : Fin (k0_t5_loop i).trips), ∀ (r : Fin 16), ∀ a, (k0_off31 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 3
theorem k0_off32_inb : ∀ (i : grid0.Coords) (k0_t5 : Fin (k0_t5_loop i).trips), ∀ (r : Fin 8), ∀ a, (k0_off32 i k0_t5 (BitVec.ofNat 32 r.val)) a + S1x1x128x256.size a ≤ S1x128x128x256.size a := fun i t r => Cert.Attn.kt_inb (Cert.Attn.kbW (Cert.Attn.fullW false (i 1).val) (Cert.Attn.stopW (Cert.Attn.tripsM false (i 1).val)) t) ((Cert.Attn.words (s := false) (n := (i 1).val) (i 1).isLt).kbM' t) r
theorem k0_off33_inb : ∀ (i : grid0.Coords) (k0_t5 : Fin (k0_t5_loop i).trips), ∀ (r : Fin 16), ∀ a, (k0_off33 i k0_t5 (BitVec.ofNat 32 r.val)) a + S1x1x1x128.size a ≤ S1x256x1x128.size a := fun i t r => Cert.Attn.ks_inb (Cert.Attn.kbW (Cert.Attn.fullW false (i 1).val) (Cert.Attn.stopW (Cert.Attn.tripsM false (i 1).val)) t) ((Cert.Attn.words (s := false) (n := (i 1).val) (i 1).isLt).kbM' t) r
theorem k0_t6_ok : ∀ i : grid0.Coords, (k0_t6_loop i).OK := fun i => (Cert.Attn.words (s := true) (n := (i 1).val) (i 1).isLt).okU
theorem k0_off34_inb : ∀ (i : grid0.Coords) (k0_t6 : Fin (k0_t6_loop i).trips), ∀ (r : Fin 16), ∀ a, (k0_off34 i k0_t6 (BitVec.ofNat 32 r.val)) a + S1x128x128.size a ≤ S256x128x128.size a := fun i t r => Cert.Attn.tile_inb (Cert.Attn.kbW 0#32 0#32 t) ((Cert.Attn.words (s := true) (n := (i 1).val) (i 1).isLt).kbU t) r
theorem k0_mult5_dvd : ∀ (i : grid0.Coords) (k0_t6 : Fin (k0_t6_loop i).trips), 2048 ∣ (k0_mult5 i k0_t6).toNat := fun i t => Cert.Attn.mult_dvd (Cert.Attn.kbW 0#32 0#32 t) ((Cert.Attn.words (s := true) (n := (i 1).val) (i 1).isLt).kbU t)
theorem k0_off35_inb : ∀ (i : grid0.Coords) (k0_t6 : Fin (k0_t6_loop i).trips), ∀ a, (k0_off35 i k0_t6) a + S1x2048x128.size a ≤ S1x32768x128.size a := fun i t => Cert.Attn.v_inb (Cert.Attn.kbW 0#32 0#32 t) ((Cert.Attn.words (s := true) (n := (i 1).val) (i 1).isLt).kbU t)
theorem k0_off36_inb : ∀ (i : grid0.Coords) (k0_t6 : Fin (k0_t6_loop i).trips), ∀ (r : Fin 16), ∀ a, (k0_off36 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 0
theorem k0_off37_inb : ∀ (i : grid0.Coords) (k0_t6 : Fin (k0_t6_loop i).trips), ∀ (r : Fin 16), ∀ a, (k0_off37 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 1
theorem k0_off38_inb : ∀ (i : grid0.Coords) (k0_t6 : Fin (k0_t6_loop i).trips), ∀ (r : Fin 16), ∀ a, (k0_off38 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 2
theorem k0_off39_inb : ∀ (i : grid0.Coords) (k0_t6 : Fin (k0_t6_loop i).trips), ∀ (r : Fin 16), ∀ a, (k0_off39 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 3
theorem k0_off40_inb : ∀ (i : grid0.Coords) (k0_t6 : Fin (k0_t6_loop i).trips), ∀ (r : Fin 8), ∀ a, (k0_off40 i k0_t6 (BitVec.ofNat 32 r.val)) a + S1x1x128x256.size a ≤ S1x128x128x256.size a := fun i t r => Cert.Attn.kt_inb (Cert.Attn.kbW 0#32 0#32 t) ((Cert.Attn.words (s := true) (n := (i 1).val) (i 1).isLt).kbU t) r
theorem k0_off41_inb : ∀ (i : grid0.Coords) (k0_t6 : Fin (k0_t6_loop i).trips), ∀ (r : Fin 16), ∀ a, (k0_off41 i k0_t6 (BitVec.ofNat 32 r.val)) a + S1x1x1x128.size a ≤ S1x256x1x128.size a := fun i t r => Cert.Attn.ks_inb (Cert.Attn.kbW 0#32 0#32 t) ((Cert.Attn.words (s := true) (n := (i 1).val) (i 1).isLt).kbU t) r
theorem k0_t7_ok : ∀ i : grid0.Coords, (k0_t7_loop i).OK := fun i => (Cert.Attn.words (s := true) (n := (i 1).val) (i 1).isLt).okU'
theorem k0_off42_inb : ∀ (i : grid0.Coords) (k0_t7 : Fin (k0_t7_loop i).trips), ∀ (r : Fin 16), ∀ a, (k0_off42 i k0_t7 (BitVec.ofNat 32 r.val)) a + S1x128x128.size a ≤ S256x128x128.size a := fun i t r => Cert.Attn.tile_inb (Cert.Attn.kbW 0#32 (Cert.Attn.stopW (Cert.Attn.tripsU true (i 1).val)) t) ((Cert.Attn.words (s := true) (n := (i 1).val) (i 1).isLt).kbU' t) r
theorem k0_mult6_dvd : ∀ (i : grid0.Coords) (k0_t7 : Fin (k0_t7_loop i).trips), 2048 ∣ (k0_mult6 i k0_t7).toNat := fun i t => Cert.Attn.mult_dvd (Cert.Attn.kbW 0#32 (Cert.Attn.stopW (Cert.Attn.tripsU true (i 1).val)) t) ((Cert.Attn.words (s := true) (n := (i 1).val) (i 1).isLt).kbU' t)
theorem k0_off43_inb : ∀ (i : grid0.Coords) (k0_t7 : Fin (k0_t7_loop i).trips), ∀ a, (k0_off43 i k0_t7) a + S1x2048x128.size a ≤ S1x32768x128.size a := fun i t => Cert.Attn.v_inb (Cert.Attn.kbW 0#32 (Cert.Attn.stopW (Cert.Attn.tripsU true (i 1).val)) t) ((Cert.Attn.words (s := true) (n := (i 1).val) (i 1).isLt).kbU' t)
theorem k0_off44_inb : ∀ (i : grid0.Coords) (k0_t7 : Fin (k0_t7_loop i).trips), ∀ (r : Fin 16), ∀ a, (k0_off44 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 0
theorem k0_off45_inb : ∀ (i : grid0.Coords) (k0_t7 : Fin (k0_t7_loop i).trips), ∀ (r : Fin 16), ∀ a, (k0_off45 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 1
theorem k0_off46_inb : ∀ (i : grid0.Coords) (k0_t7 : Fin (k0_t7_loop i).trips), ∀ (r : Fin 16), ∀ a, (k0_off46 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 2
theorem k0_off47_inb : ∀ (i : grid0.Coords) (k0_t7 : Fin (k0_t7_loop i).trips), ∀ (r : Fin 16), ∀ a, (k0_off47 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 3
theorem k0_off48_inb : ∀ (i : grid0.Coords) (k0_t7 : Fin (k0_t7_loop i).trips), ∀ (r : Fin 8), ∀ a, (k0_off48 i k0_t7 (BitVec.ofNat 32 r.val)) a + S1x1x128x256.size a ≤ S1x128x128x256.size a := fun i t r => Cert.Attn.kt_inb (Cert.Attn.kbW 0#32 (Cert.Attn.stopW (Cert.Attn.tripsU true (i 1).val)) t) ((Cert.Attn.words (s := true) (n := (i 1).val) (i 1).isLt).kbU' t) r
theorem k0_off49_inb : ∀ (i : grid0.Coords) (k0_t7 : Fin (k0_t7_loop i).trips), ∀ (r : Fin 16), ∀ a, (k0_off49 i k0_t7 (BitVec.ofNat 32 r.val)) a + S1x1x1x128.size a ≤ S1x256x1x128.size a := fun i t r => Cert.Attn.ks_inb (Cert.Attn.kbW 0#32 (Cert.Attn.stopW (Cert.Attn.tripsU true (i 1).val)) t) ((Cert.Attn.words (s := true) (n := (i 1).val) (i 1).isLt).kbU' t) r
theorem k0_t8_ok : ∀ i : grid0.Coords, (k0_t8_loop i).OK := fun i => (Cert.Attn.words (s := true) (n := (i 1).val) (i 1).isLt).okM
theorem k0_off50_inb : ∀ (i : grid0.Coords) (k0_t8 : Fin (k0_t8_loop i).trips), ∀ (r : Fin 16), ∀ a, (k0_off50 i k0_t8 (BitVec.ofNat 32 r.val)) a + S1x128x128.size a ≤ S256x128x128.size a := fun i t r => Cert.Attn.tile_inb (Cert.Attn.kbW (Cert.Attn.fullW true (i 1).val) 0#32 t) ((Cert.Attn.words (s := true) (n := (i 1).val) (i 1).isLt).kbM t) r
theorem k0_mult7_dvd : ∀ (i : grid0.Coords) (k0_t8 : Fin (k0_t8_loop i).trips), 2048 ∣ (k0_mult7 i k0_t8).toNat := fun i t => Cert.Attn.mult_dvd (Cert.Attn.kbW (Cert.Attn.fullW true (i 1).val) 0#32 t) ((Cert.Attn.words (s := true) (n := (i 1).val) (i 1).isLt).kbM t)
theorem k0_off51_inb : ∀ (i : grid0.Coords) (k0_t8 : Fin (k0_t8_loop i).trips), ∀ a, (k0_off51 i k0_t8) a + S1x2048x128.size a ≤ S1x32768x128.size a := fun i t => Cert.Attn.v_inb (Cert.Attn.kbW (Cert.Attn.fullW true (i 1).val) 0#32 t) ((Cert.Attn.words (s := true) (n := (i 1).val) (i 1).isLt).kbM t)
theorem k0_off52_inb : ∀ (i : grid0.Coords) (k0_t8 : Fin (k0_t8_loop i).trips), ∀ (r : Fin 16), ∀ a, (k0_off52 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 0
theorem k0_off53_inb : ∀ (i : grid0.Coords) (k0_t8 : Fin (k0_t8_loop i).trips), ∀ (r : Fin 16), ∀ a, (k0_off53 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 1
theorem k0_off54_inb : ∀ (i : grid0.Coords) (k0_t8 : Fin (k0_t8_loop i).trips), ∀ (r : Fin 16), ∀ a, (k0_off54 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 2
theorem k0_off55_inb : ∀ (i : grid0.Coords) (k0_t8 : Fin (k0_t8_loop i).trips), ∀ (r : Fin 16), ∀ a, (k0_off55 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 3
theorem k0_off56_inb : ∀ (i : grid0.Coords) (k0_t8 : Fin (k0_t8_loop i).trips), ∀ (r : Fin 8), ∀ a, (k0_off56 i k0_t8 (BitVec.ofNat 32 r.val)) a + S1x1x128x256.size a ≤ S1x128x128x256.size a := fun i t r => Cert.Attn.kt_inb (Cert.Attn.kbW (Cert.Attn.fullW true (i 1).val) 0#32 t) ((Cert.Attn.words (s := true) (n := (i 1).val) (i 1).isLt).kbM t) r
theorem k0_off57_inb : ∀ (i : grid0.Coords) (k0_t8 : Fin (k0_t8_loop i).trips), ∀ (r : Fin 16), ∀ a, (k0_off57 i k0_t8 (BitVec.ofNat 32 r.val)) a + S1x1x1x128.size a ≤ S1x256x1x128.size a := fun i t r => Cert.Attn.ks_inb (Cert.Attn.kbW (Cert.Attn.fullW true (i 1).val) 0#32 t) ((Cert.Attn.words (s := true) (n := (i 1).val) (i 1).isLt).kbM t) r
theorem k0_t9_ok : ∀ i : grid0.Coords, (k0_t9_loop i).OK := fun i => (Cert.Attn.words (s := true) (n := (i 1).val) (i 1).isLt).okM'
theorem k0_off58_inb : ∀ (i : grid0.Coords) (k0_t9 : Fin (k0_t9_loop i).trips), ∀ (r : Fin 16), ∀ a, (k0_off58 i k0_t9 (BitVec.ofNat 32 r.val)) a + S1x128x128.size a ≤ S256x128x128.size a := fun i t r => Cert.Attn.tile_inb (Cert.Attn.kbW (Cert.Attn.fullW true (i 1).val) (Cert.Attn.stopW (Cert.Attn.tripsM true (i 1).val)) t) ((Cert.Attn.words (s := true) (n := (i 1).val) (i 1).isLt).kbM' t) r
theorem k0_mult8_dvd : ∀ (i : grid0.Coords) (k0_t9 : Fin (k0_t9_loop i).trips), 2048 ∣ (k0_mult8 i k0_t9).toNat := fun i t => Cert.Attn.mult_dvd (Cert.Attn.kbW (Cert.Attn.fullW true (i 1).val) (Cert.Attn.stopW (Cert.Attn.tripsM true (i 1).val)) t) ((Cert.Attn.words (s := true) (n := (i 1).val) (i 1).isLt).kbM' t)
theorem k0_off59_inb : ∀ (i : grid0.Coords) (k0_t9 : Fin (k0_t9_loop i).trips), ∀ a, (k0_off59 i k0_t9) a + S1x2048x128.size a ≤ S1x32768x128.size a := fun i t => Cert.Attn.v_inb (Cert.Attn.kbW (Cert.Attn.fullW true (i 1).val) (Cert.Attn.stopW (Cert.Attn.tripsM true (i 1).val)) t) ((Cert.Attn.words (s := true) (n := (i 1).val) (i 1).isLt).kbM' t)
theorem k0_off60_inb : ∀ (i : grid0.Coords) (k0_t9 : Fin (k0_t9_loop i).trips), ∀ (r : Fin 16), ∀ a, (k0_off60 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 0
theorem k0_off61_inb : ∀ (i : grid0.Coords) (k0_t9 : Fin (k0_t9_loop i).trips), ∀ (r : Fin 16), ∀ a, (k0_off61 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 1
theorem k0_off62_inb : ∀ (i : grid0.Coords) (k0_t9 : Fin (k0_t9_loop i).trips), ∀ (r : Fin 16), ∀ a, (k0_off62 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 2
theorem k0_off63_inb : ∀ (i : grid0.Coords) (k0_t9 : Fin (k0_t9_loop i).trips), ∀ (r : Fin 16), ∀ a, (k0_off63 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 3
theorem k0_off64_inb : ∀ (i : grid0.Coords) (k0_t9 : Fin (k0_t9_loop i).trips), ∀ (r : Fin 8), ∀ a, (k0_off64 i k0_t9 (BitVec.ofNat 32 r.val)) a + S1x1x128x256.size a ≤ S1x128x128x256.size a := fun i t r => Cert.Attn.kt_inb (Cert.Attn.kbW (Cert.Attn.fullW true (i 1).val) (Cert.Attn.stopW (Cert.Attn.tripsM true (i 1).val)) t) ((Cert.Attn.words (s := true) (n := (i 1).val) (i 1).isLt).kbM' t) r
theorem k0_off65_inb : ∀ (i : grid0.Coords) (k0_t9 : Fin (k0_t9_loop i).trips), ∀ (r : Fin 16), ∀ a, (k0_off65 i k0_t9 (BitVec.ofNat 32 r.val)) a + S1x1x1x128.size a ≤ S1x256x1x128.size a := fun i t r => Cert.Attn.ks_inb (Cert.Attn.kbW (Cert.Attn.fullW true (i 1).val) (Cert.Attn.stopW (Cert.Attn.tripsM true (i 1).val)) t) ((Cert.Attn.words (s := true) (n := (i 1).val) (i 1).isLt).kbM' t) r
theorem hstage0_0 : ∀ j, (stage0_0 j).IsWhole := fun | 0 => Memref.isWhole_whole _ | 1 => Memref.isWhole_whole _ | ⟨_ + 2, h⟩ => absurd h (Nat.not_lt.2 (Nat.le_add_left _ _))
theorem nbuf0_0 : grid0.bufCount reads0_0 false = 2 := by decide
theorem hreads0_0 : ∀ i i' : grid0.Coords, (∀ a, reads0_0 a = true → i a = i' a) → cc0_transform_0 i = cc0_transform_0 i' := fun i i' h => by unfold cc0_transform_0; rw [h 0 rfl, h 1 rfl]
theorem hinb0_0 : ∀ (i : grid0.Coords) a, (cc0_transform_0 i a + 1) * S1x256x128.size a ≤ S2x262144x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c1023_i32 : Affine.IsInt 1023#32 (1023) := Affine.ofNat _ (by omega)
  have h_v0 : Affine.IsInt _ (-((i 1).val : Int) + 1023) := Affine.subi h_c1023_i32 h_arg1 (by omega)
  have h_c0_i32 : Affine.IsInt 0#32 (0) := Affine.ofNat _ (by omega)
  have h_v1 : Affine.IsInt _ ((max (-((i 1).val : Int) + 1023) 0)) := Affine.maxsi h_v0 h_c0_i32 (by omega)
  have h_c0_i32_0 : Affine.IsInt 0#32 (0) := Affine.ofNat _ (by omega)
  have h_c0_i32_1 : Affine.IsInt 0#32 (0) := Affine.ofNat _ (by omega)
  exact Affine.blk_cons h_arg0 (by omega) <| Affine.blk_cons h_v1 (by omega) <| Affine.blk_cons h_c0_i32_0 (by omega) <| Affine.blk_nil
theorem hwx0_0 : ∀ i : grid0.Coords, EltTy.bits .fp8e4m3 = 32 ∨ (Rect.block (s := S2x262144x128) S1x256x128.size (cc0_transform_0 i) (hinb0_0 i)).WholeWords (EltTy.packing .fp8e4m3) := fun _ => .inr (Affine.block_words_dvd (of_decide_eq_true rfl) (by decide))
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl, h 1 rfl]
theorem hinb0_1 : ∀ (i : grid0.Coords) a, (cc0_transform_1 i a + 1) * S1x1x8x32.size a ≤ S2x1024x8x32.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c1023_i32 : Affine.IsInt 1023#32 (1023) := Affine.ofNat _ (by omega)
  have h_v0 : Affine.IsInt _ (-((i 1).val : Int) + 1023) := Affine.subi h_c1023_i32 h_arg1 (by omega)
  have h_c0_i32 : Affine.IsInt 0#32 (0) := Affine.ofNat _ (by omega)
  have h_v1 : Affine.IsInt _ ((max (-((i 1).val : Int) + 1023) 0)) := Affine.maxsi h_v0 h_c0_i32 (by omega)
  have h_c0_i32_0 : Affine.IsInt 0#32 (0) := Affine.ofNat _ (by omega)
  have h_c0_i32_1 : Affine.IsInt 0#32 (0) := Affine.ofNat _ (by omega)
  have h_c0_i32_2 : Affine.IsInt 0#32 (0) := Affine.ofNat _ (by omega)
  exact Affine.blk_cons h_arg0 (by omega) <| Affine.blk_cons h_v1 (by omega) <| Affine.blk_cons h_c0_i32_0 (by omega) <| Affine.blk_cons h_c0_i32_1 (by omega) <| Affine.blk_nil
theorem hwx0_1 : ∀ i : grid0.Coords, EltTy.bits .f32 = 32 ∨ (Rect.block (s := S2x1024x8x32) S1x1x8x32.size (cc0_transform_1 i) (hinb0_1 i)).WholeWords (EltTy.packing .f32) := fun _ => .inl rfl
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ i i' : grid0.Coords, (∀ a, reads0_2 a = true → i a = i' a) → cc0_transform_2 i = cc0_transform_2 i' := fun i i' h => by unfold cc0_transform_2; rw [h 0 rfl]
theorem hinb0_2 : ∀ (i : grid0.Coords) a, (cc0_transform_2 i a + 1) * S1x128x128x256.size a ≤ S2x128x128x256.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  have h_c0_i32_2 : Affine.IsInt 0#32 (0) := Affine.ofNat _ (by omega)
  exact Affine.blk_cons h_arg0 (by omega) <| Affine.blk_cons h_c0_i32 (by omega) <| Affine.blk_cons h_c0_i32_0 (by omega) <| Affine.blk_cons h_c0_i32_1 (by omega) <| Affine.blk_nil
theorem hwx0_2 : ∀ i : grid0.Coords, EltTy.bits .fp8e4m3 = 32 ∨ (Rect.block (s := S2x128x128x256) S1x128x128x256.size (cc0_transform_2 i) (hinb0_2 i)).WholeWords (EltTy.packing .fp8e4m3) := fun _ => .inr (Affine.block_words_dvd (of_decide_eq_true rfl) (by decide))
theorem hstage0_3 : ∀ j, (stage0_3 j).IsWhole := fun | 0 => Memref.isWhole_whole _ | 1 => Memref.isWhole_whole _ | ⟨_ + 2, h⟩ => absurd h (Nat.not_lt.2 (Nat.le_add_left _ _))
theorem nbuf0_3 : grid0.bufCount reads0_3 false = 2 := by decide
theorem hreads0_3 : ∀ i i' : grid0.Coords, (∀ a, reads0_3 a = true → i a = i' a) → cc0_transform_3 i = cc0_transform_3 i' := fun i i' h => by unfold cc0_transform_3; rw [h 0 rfl]
theorem hinb0_3 : ∀ (i : grid0.Coords) a, (cc0_transform_3 i a + 1) * S1x256x1x128.size a ≤ S2x256x1x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  have h_c0_i32_2 : Affine.IsInt 0#32 (0) := Affine.ofNat _ (by omega)
  exact Affine.blk_cons h_arg0 (by omega) <| Affine.blk_cons h_c0_i32 (by omega) <| Affine.blk_cons h_c0_i32_0 (by omega) <| Affine.blk_cons h_c0_i32_1 (by omega) <| Affine.blk_nil
theorem hwx0_3 : ∀ i : grid0.Coords, EltTy.bits .f32 = 32 ∨ (Rect.block (s := S2x256x1x128) S1x256x1x128.size (cc0_transform_3 i) (hinb0_3 i)).WholeWords (EltTy.packing .f32) := fun _ => .inl rfl
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ i i' : grid0.Coords, (∀ a, reads0_4 a = true → i a = i' a) → cc0_transform_4 i = cc0_transform_4 i' := fun i i' h => by unfold cc0_transform_4; rw [h 0 rfl]
theorem hinb0_4 : ∀ (i : grid0.Coords) a, (cc0_transform_4 i a + 1) * S1x32768x128.size a ≤ S2x32768x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  exact Affine.blk_cons h_arg0 (by omega) <| Affine.blk_cons h_c0_i32 (by omega) <| Affine.blk_cons h_c0_i32_0 (by omega) <| Affine.blk_nil
theorem hwx0_4 : ∀ i : grid0.Coords, EltTy.bits .fp8e4m3 = 32 ∨ (Rect.block (s := S2x32768x128) S1x32768x128.size (cc0_transform_4 i) (hinb0_4 i)).WholeWords (EltTy.packing .fp8e4m3) := fun _ => .inr (Affine.block_words_dvd (of_decide_eq_true rfl) (by decide))
theorem hstage0_5 : ∀ j, (stage0_5 j).IsWhole := fun | 0 => Memref.isWhole_whole _ | 1 => Memref.isWhole_whole _ | ⟨_ + 2, h⟩ => absurd h (Nat.not_lt.2 (Nat.le_add_left _ _))
theorem nbuf0_5 : grid0.bufCount reads0_5 false = 2 := by decide
theorem hreads0_5 : ∀ i i' : grid0.Coords, (∀ a, reads0_5 a = true → i a = i' a) → cc0_transform_5 i = cc0_transform_5 i' := fun i i' h => by unfold cc0_transform_5; rw [h 0 rfl]
theorem hinb0_5 : ∀ (i : grid0.Coords) a, (cc0_transform_5 i a + 1) * S1x1x128.size a ≤ S2x1x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  exact Affine.blk_cons h_arg0 (by omega) <| Affine.blk_cons h_c0_i32 (by omega) <| Affine.blk_cons h_c0_i32_0 (by omega) <| Affine.blk_nil
theorem hwx0_5 : ∀ i : grid0.Coords, EltTy.bits .f32 = 32 ∨ (Rect.block (s := S2x1x128) S1x1x128.size (cc0_transform_5 i) (hinb0_5 i)).WholeWords (EltTy.packing .f32) := fun _ => .inl rfl
theorem hstage0_6 : ∀ j, (stage0_6 j).IsWhole := fun | 0 => Memref.isWhole_whole _ | 1 => Memref.isWhole_whole _ | ⟨_ + 2, h⟩ => absurd h (Nat.not_lt.2 (Nat.le_add_left _ _))
theorem nbuf0_6 : grid0.bufCount reads0_6 false = 2 := by decide
theorem hreads0_6 : ∀ i i' : grid0.Coords, (∀ a, reads0_6 a = true → i a = i' a) → cc0_transform_6 i = cc0_transform_6 i' := fun i i' h => by unfold cc0_transform_6; rw [h 0 rfl, h 1 rfl]
theorem hinb0_6 : ∀ (i : grid0.Coords) a, (cc0_transform_6 i a + 1) * S1x32x1024.size a ≤ S2x32768x1024.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c1024_i32 : Affine.IsInt 1024#32 (1024) := Affine.ofNat _ (by omega)
  have h_v0 : Affine.IsInt _ (-((i 1).val : Int) + 1024) := Affine.subi h_c1024_i32 h_arg1 (by omega)
  have h_c1023_i32 : Affine.IsInt 1023#32 (1023) := Affine.ofNat _ (by omega)
  have h_v1 : Affine.IsInt _ ((min (-((i 1).val : Int) + 1024) 1023)) := Affine.minsi h_v0 h_c1023_i32 (by omega)
  have h_c0_i32 : Affine.IsInt 0#32 (0) := Affine.ofNat _ (by omega)
  have h_c0_i32_0 : Affine.IsInt 0#32 (0) := Affine.ofNat _ (by omega)
  exact Affine.blk_cons h_arg0 (by omega) <| Affine.blk_cons h_v1 (by omega) <| Affine.blk_cons h_c0_i32 (by omega) <| Affine.blk_nil
theorem hwx0_6 : ∀ i : grid0.Coords, EltTy.bits .bf16 = 32 ∨ (Rect.block (s := S2x32768x1024) S1x32x1024.size (cc0_transform_6 i) (hinb0_6 i)).WholeWords (EltTy.packing .bf16) := fun _ => .inr (Affine.block_words_dvd (of_decide_eq_true rfl) (by decide))

/-- The program's facts over its vocabulary, proved: the instance its windows take. -/
instance facts₀ : Cert.Kernel.Facts₀ where
  shapeCasts_S2x8x32768_S2x8x1024x32 := @shapeCasts_S2x8x32768_S2x8x1024x32
  transposes_S2x8x1024x32_S2x1024x8x32_0_2_1_3 := @transposes_S2x8x1024x32_S2x1024x8x32_0_2_1_3
  h_S1x128x128 := @h_S1x128x128
  shapeCasts_S1x128x128_S128x128 := @shapeCasts_S1x128x128_S128x128
  shapeCasts_S128x128_S1x128x128 := @shapeCasts_S128x128_S1x128x128
  inb_S128x128_S128x128_0_0 := @inb_S128x128_S128x128_0_0
  h_S128x128 := @h_S128x128
  shapeCasts_S128x128_S128x128 := @shapeCasts_S128x128_S128x128
  reduces_S128x128_S128 := @reduces_S128x128_S128
  shapeCasts_S128_S128x1 := @shapeCasts_S128_S128x1
  shapeCasts_S128x1_S128x1 := @shapeCasts_S128x1_S128x1
  broadcasts_S128x1_S128x128 := @broadcasts_S128x1_S128x128
  inb_S1x1x128_S1x1x128_0_0_0 := @inb_S1x1x128_S1x1x128_0_0_0
  h_S1x1x128 := @h_S1x1x128
  shapeCasts_S1x1x128_S1x128 := @shapeCasts_S1x1x128_S1x128
  broadcasts_S1x128_S128x128 := @broadcasts_S1x128_S128x128
  inb_S1x1x8x32_S1x1x8x1_0_0_0_16 := @inb_S1x1x8x32_S1x1x8x1_0_0_0_16
  h_S1x1x8x1 := @h_S1x1x8x1
  shapeCasts_S1x1x8x1_S8x1 := @shapeCasts_S1x1x8x1_S8x1
  shapeCasts_S8x1_S8x1 := @shapeCasts_S8x1_S8x1
  broadcasts_S8x1_S8x128 := @broadcasts_S8x1_S8x128
  inb_S128x128_S8x128_0_0 := @inb_S128x128_S8x128_0_0
  h_S8x128 := @h_S8x128
  shapeCasts_S8x128_S8x128 := @shapeCasts_S8x128_S8x128
  inb_S1x1x8x32_S1x1x8x1_0_0_0_17 := @inb_S1x1x8x32_S1x1x8x1_0_0_0_17
  inb_S128x128_S8x128_8_0 := @inb_S128x128_S8x128_8_0
  inb_S1x1x8x32_S1x1x8x1_0_0_0_18 := @inb_S1x1x8x32_S1x1x8x1_0_0_0_18
  inb_S128x128_S8x128_16_0 := @inb_S128x128_S8x128_16_0
  inb_S1x1x8x32_S1x1x8x1_0_0_0_19 := @inb_S1x1x8x32_S1x1x8x1_0_0_0_19
  inb_S128x128_S8x128_24_0 := @inb_S128x128_S8x128_24_0
  inb_S1x1x8x32_S1x1x8x1_0_0_0_20 := @inb_S1x1x8x32_S1x1x8x1_0_0_0_20
  inb_S128x128_S8x128_32_0 := @inb_S128x128_S8x128_32_0
  inb_S1x1x8x32_S1x1x8x1_0_0_0_21 := @inb_S1x1x8x32_S1x1x8x1_0_0_0_21
  inb_S128x128_S8x128_40_0 := @inb_S128x128_S8x128_40_0
  inb_S1x1x8x32_S1x1x8x1_0_0_0_22 := @inb_S1x1x8x32_S1x1x8x1_0_0_0_22
  inb_S128x128_S8x128_48_0 := @inb_S128x128_S8x128_48_0
  inb_S1x1x8x32_S1x1x8x1_0_0_0_23 := @inb_S1x1x8x32_S1x1x8x1_0_0_0_23
  inb_S128x128_S8x128_56_0 := @inb_S128x128_S8x128_56_0
  inb_S1x1x8x32_S1x1x8x1_0_0_0_24 := @inb_S1x1x8x32_S1x1x8x1_0_0_0_24
  inb_S128x128_S8x128_64_0 := @inb_S128x128_S8x128_64_0
  inb_S1x1x8x32_S1x1x8x1_0_0_0_25 := @inb_S1x1x8x32_S1x1x8x1_0_0_0_25
  inb_S128x128_S8x128_72_0 := @inb_S128x128_S8x128_72_0
  inb_S1x1x8x32_S1x1x8x1_0_0_0_26 := @inb_S1x1x8x32_S1x1x8x1_0_0_0_26
  inb_S128x128_S8x128_80_0 := @inb_S128x128_S8x128_80_0
  inb_S1x1x8x32_S1x1x8x1_0_0_0_27 := @inb_S1x1x8x32_S1x1x8x1_0_0_0_27
  inb_S128x128_S8x128_88_0 := @inb_S128x128_S8x128_88_0
  inb_S1x1x8x32_S1x1x8x1_0_0_0_28 := @inb_S1x1x8x32_S1x1x8x1_0_0_0_28
  inb_S128x128_S8x128_96_0 := @inb_S128x128_S8x128_96_0
  inb_S1x1x8x32_S1x1x8x1_0_0_0_29 := @inb_S1x1x8x32_S1x1x8x1_0_0_0_29
  inb_S128x128_S8x128_104_0 := @inb_S128x128_S8x128_104_0
  inb_S1x1x8x32_S1x1x8x1_0_0_0_30 := @inb_S1x1x8x32_S1x1x8x1_0_0_0_30
  inb_S128x128_S8x128_112_0 := @inb_S128x128_S8x128_112_0
  inb_S1x1x8x32_S1x1x8x1_0_0_0_31 := @inb_S1x1x8x32_S1x1x8x1_0_0_0_31
  inb_S128x128_S8x128_120_0 := @inb_S128x128_S8x128_120_0
  bitsLt_fp8e4m3_f32 := @bitsLt_fp8e4m3_f32
  concatenates_S128x128_S128x128_S128x128_S128x128_S128x128_S128x128_S128x128_S128x128_S128x128_S128x128_S128x128_S128x128_S128x128_S128x128_S128x128_S128x128_S128x2048_d1 := @concatenates_S128x128_S128x128_S128x128_S128x128_S128x128_S128x128_S128x128_S128x128_S128x128_S128x128_S128x128_S128x128_S128x128_S128x128_S128x128_S128x128_S128x2048_d1
  h_S1x2048x128 := @h_S1x2048x128
  shapeCasts_S1x2048x128_S2048x128 := @shapeCasts_S1x2048x128_S2048x128
  inb_S128x128_S32x128_0_0 := @inb_S128x128_S32x128_0_0
  h_S32x128 := @h_S32x128
  h_S1x32x128 := @h_S1x32x128
  shapeCasts_S1x32x128_S32x128 := @shapeCasts_S1x32x128_S32x128
  shapeCasts_S32x128_S1x32x128 := @shapeCasts_S32x128_S1x32x128
  shapeCasts_S32x128_S32x128 := @shapeCasts_S32x128_S32x128
  inb_S128x128_S32x128_32_0 := @inb_S128x128_S32x128_32_0
  inb_S128x128_S32x128_64_0 := @inb_S128x128_S32x128_64_0
  inb_S128x128_S32x128_96_0 := @inb_S128x128_S32x128_96_0
  inb_S1x256x128_S1x128x128_0_128_0 := @inb_S1x256x128_S1x128x128_0_128_0
  h_S1x1x128x256 := @h_S1x1x128x256
  shapeCasts_S1x1x128x256_S128x256 := @shapeCasts_S1x1x128x256_S128x256
  slices_S128x256_o0_0_S128x128 := @slices_S128x256_o0_0_S128x128
  h_S1x1x1x128 := @h_S1x1x1x128
  shapeCasts_S1x1x1x128_S1x128 := @shapeCasts_S1x1x1x128_S1x128
  slices_S128x256_o0_128_S128x128 := @slices_S128x256_o0_128_S128x128
  iota_S128x128_d1_w32 := @iota_S128x128_d1_w32
  iota_S128x128_d0_w32 := @iota_S128x128_d0_w32
  natLt_1_32 := @natLt_1_32
  inb_S128x128_S16x128_0_0_s_8_1 := @inb_S128x128_S16x128_0_0_s_8_1
  h_S16x128 := @h_S16x128
  bitsLt_bf16_f32 := @bitsLt_bf16_f32
  inb_S1x32x1024_S1x16x128_0_16_0 := @inb_S1x32x1024_S1x16x128_0_16_0
  h_S1x16x128 := @h_S1x16x128
  shapeCasts_S1x16x128_S16x128 := @shapeCasts_S1x16x128_S16x128
  shapeCasts_S16x128_S1x16x128 := @shapeCasts_S16x128_S1x16x128
  packedbf16_S1x32x1024_S1x16x128_0_16_0 := @packedbf16_S1x32x1024_S1x16x128_0_16_0
  inb_S128x128_S16x128_1_0_s_8_1 := @inb_S128x128_S16x128_1_0_s_8_1
  inb_S1x32x1024_S1x16x128_0_16_128 := @inb_S1x32x1024_S1x16x128_0_16_128
  packedbf16_S1x32x1024_S1x16x128_0_16_128 := @packedbf16_S1x32x1024_S1x16x128_0_16_128
  inb_S128x128_S16x128_2_0_s_8_1 := @inb_S128x128_S16x128_2_0_s_8_1
  inb_S1x32x1024_S1x16x128_0_16_256 := @inb_S1x32x1024_S1x16x128_0_16_256
  packedbf16_S1x32x1024_S1x16x128_0_16_256 := @packedbf16_S1x32x1024_S1x16x128_0_16_256
  inb_S128x128_S16x128_3_0_s_8_1 := @inb_S128x128_S16x128_3_0_s_8_1
  inb_S1x32x1024_S1x16x128_0_16_384 := @inb_S1x32x1024_S1x16x128_0_16_384
  packedbf16_S1x32x1024_S1x16x128_0_16_384 := @packedbf16_S1x32x1024_S1x16x128_0_16_384
  inb_S128x128_S16x128_4_0_s_8_1 := @inb_S128x128_S16x128_4_0_s_8_1
  inb_S1x32x1024_S1x16x128_0_16_512 := @inb_S1x32x1024_S1x16x128_0_16_512
  packedbf16_S1x32x1024_S1x16x128_0_16_512 := @packedbf16_S1x32x1024_S1x16x128_0_16_512
  inb_S128x128_S16x128_5_0_s_8_1 := @inb_S128x128_S16x128_5_0_s_8_1
  inb_S1x32x1024_S1x16x128_0_16_640 := @inb_S1x32x1024_S1x16x128_0_16_640
  packedbf16_S1x32x1024_S1x16x128_0_16_640 := @packedbf16_S1x32x1024_S1x16x128_0_16_640
  inb_S128x128_S16x128_6_0_s_8_1 := @inb_S128x128_S16x128_6_0_s_8_1
  inb_S1x32x1024_S1x16x128_0_16_768 := @inb_S1x32x1024_S1x16x128_0_16_768
  packedbf16_S1x32x1024_S1x16x128_0_16_768 := @packedbf16_S1x32x1024_S1x16x128_0_16_768
  inb_S128x128_S16x128_7_0_s_8_1 := @inb_S128x128_S16x128_7_0_s_8_1
  inb_S1x32x1024_S1x16x128_0_16_896 := @inb_S1x32x1024_S1x16x128_0_16_896
  packedbf16_S1x32x1024_S1x16x128_0_16_896 := @packedbf16_S1x32x1024_S1x16x128_0_16_896
  inb_S1x1x8x32_S1x1x8x1_0_0_0_0 := @inb_S1x1x8x32_S1x1x8x1_0_0_0_0
  inb_S1x1x8x32_S1x1x8x1_0_0_0_1 := @inb_S1x1x8x32_S1x1x8x1_0_0_0_1
  inb_S1x1x8x32_S1x1x8x1_0_0_0_2 := @inb_S1x1x8x32_S1x1x8x1_0_0_0_2
  inb_S1x1x8x32_S1x1x8x1_0_0_0_3 := @inb_S1x1x8x32_S1x1x8x1_0_0_0_3
  inb_S1x1x8x32_S1x1x8x1_0_0_0_4 := @inb_S1x1x8x32_S1x1x8x1_0_0_0_4
  inb_S1x1x8x32_S1x1x8x1_0_0_0_5 := @inb_S1x1x8x32_S1x1x8x1_0_0_0_5
  inb_S1x1x8x32_S1x1x8x1_0_0_0_6 := @inb_S1x1x8x32_S1x1x8x1_0_0_0_6
  inb_S1x1x8x32_S1x1x8x1_0_0_0_7 := @inb_S1x1x8x32_S1x1x8x1_0_0_0_7
  inb_S1x1x8x32_S1x1x8x1_0_0_0_8 := @inb_S1x1x8x32_S1x1x8x1_0_0_0_8
  inb_S1x1x8x32_S1x1x8x1_0_0_0_9 := @inb_S1x1x8x32_S1x1x8x1_0_0_0_9
  inb_S1x1x8x32_S1x1x8x1_0_0_0_10 := @inb_S1x1x8x32_S1x1x8x1_0_0_0_10
  inb_S1x1x8x32_S1x1x8x1_0_0_0_11 := @inb_S1x1x8x32_S1x1x8x1_0_0_0_11
  inb_S1x1x8x32_S1x1x8x1_0_0_0_12 := @inb_S1x1x8x32_S1x1x8x1_0_0_0_12
  inb_S1x1x8x32_S1x1x8x1_0_0_0_13 := @inb_S1x1x8x32_S1x1x8x1_0_0_0_13
  inb_S1x1x8x32_S1x1x8x1_0_0_0_14 := @inb_S1x1x8x32_S1x1x8x1_0_0_0_14
  inb_S1x1x8x32_S1x1x8x1_0_0_0_15 := @inb_S1x1x8x32_S1x1x8x1_0_0_0_15
  inb_S1x256x128_S1x128x128_0_0_0 := @inb_S1x256x128_S1x128x128_0_0_0
  inb_S1x32x1024_S1x16x128_0_0_0 := @inb_S1x32x1024_S1x16x128_0_0_0
  packedbf16_S1x32x1024_S1x16x128_0_0_0 := @packedbf16_S1x32x1024_S1x16x128_0_0_0
  inb_S1x32x1024_S1x16x128_0_0_128 := @inb_S1x32x1024_S1x16x128_0_0_128
  packedbf16_S1x32x1024_S1x16x128_0_0_128 := @packedbf16_S1x32x1024_S1x16x128_0_0_128
  inb_S1x32x1024_S1x16x128_0_0_256 := @inb_S1x32x1024_S1x16x128_0_0_256
  packedbf16_S1x32x1024_S1x16x128_0_0_256 := @packedbf16_S1x32x1024_S1x16x128_0_0_256
  inb_S1x32x1024_S1x16x128_0_0_384 := @inb_S1x32x1024_S1x16x128_0_0_384
  packedbf16_S1x32x1024_S1x16x128_0_0_384 := @packedbf16_S1x32x1024_S1x16x128_0_0_384
  inb_S1x32x1024_S1x16x128_0_0_512 := @inb_S1x32x1024_S1x16x128_0_0_512
  packedbf16_S1x32x1024_S1x16x128_0_0_512 := @packedbf16_S1x32x1024_S1x16x128_0_0_512
  inb_S1x32x1024_S1x16x128_0_0_640 := @inb_S1x32x1024_S1x16x128_0_0_640
  packedbf16_S1x32x1024_S1x16x128_0_0_640 := @packedbf16_S1x32x1024_S1x16x128_0_0_640
  inb_S1x32x1024_S1x16x128_0_0_768 := @inb_S1x32x1024_S1x16x128_0_0_768
  packedbf16_S1x32x1024_S1x16x128_0_0_768 := @packedbf16_S1x32x1024_S1x16x128_0_0_768
  inb_S1x32x1024_S1x16x128_0_0_896 := @inb_S1x32x1024_S1x16x128_0_0_896
  packedbf16_S1x32x1024_S1x16x128_0_0_896 := @packedbf16_S1x32x1024_S1x16x128_0_0_896
  dot_S128x2048_S2048x128_S128x128_1_0_0_1_n_n_wf := @dot_S128x2048_S2048x128_S128x128_1_0_0_1_n_n_wf
  dot_S128x128_S128x256_S128x256_1_0_0_1_n_n_wf := @dot_S128x128_S128x256_S128x256_1_0_0_1_n_n_wf
  hrank0 := @hrank0
  k0_t1_ok := @k0_t1_ok
  k0_off1_inb := @k0_off1_inb
  k0_t2_ok := @k0_t2_ok
  k0_off2_inb := @k0_off2_inb
  k0_mult1_dvd := @k0_mult1_dvd
  k0_off3_inb := @k0_off3_inb
  k0_off4_inb := @k0_off4_inb
  k0_off5_inb := @k0_off5_inb
  k0_off6_inb := @k0_off6_inb
  k0_off7_inb := @k0_off7_inb
  k0_off8_inb := @k0_off8_inb
  k0_off9_inb := @k0_off9_inb
  k0_t3_ok := @k0_t3_ok
  k0_off10_inb := @k0_off10_inb
  k0_mult2_dvd := @k0_mult2_dvd
  k0_off11_inb := @k0_off11_inb
  k0_off12_inb := @k0_off12_inb
  k0_off13_inb := @k0_off13_inb
  k0_off14_inb := @k0_off14_inb
  k0_off15_inb := @k0_off15_inb
  k0_off16_inb := @k0_off16_inb
  k0_off17_inb := @k0_off17_inb
  k0_t4_ok := @k0_t4_ok
  k0_off18_inb := @k0_off18_inb
  k0_mult3_dvd := @k0_mult3_dvd
  k0_off19_inb := @k0_off19_inb
  k0_off20_inb := @k0_off20_inb
  k0_off21_inb := @k0_off21_inb
  k0_off22_inb := @k0_off22_inb
  k0_off23_inb := @k0_off23_inb
  k0_off24_inb := @k0_off24_inb
  k0_off25_inb := @k0_off25_inb
  k0_t5_ok := @k0_t5_ok
  k0_off26_inb := @k0_off26_inb
  k0_mult4_dvd := @k0_mult4_dvd
  k0_off27_inb := @k0_off27_inb
  k0_off28_inb := @k0_off28_inb
  k0_off29_inb := @k0_off29_inb
  k0_off30_inb := @k0_off30_inb
  k0_off31_inb := @k0_off31_inb
  k0_off32_inb := @k0_off32_inb
  k0_off33_inb := @k0_off33_inb
  k0_t6_ok := @k0_t6_ok
  k0_off34_inb := @k0_off34_inb
  k0_mult5_dvd := @k0_mult5_dvd
  k0_off35_inb := @k0_off35_inb
  k0_off36_inb := @k0_off36_inb
  k0_off37_inb := @k0_off37_inb
  k0_off38_inb := @k0_off38_inb
  k0_off39_inb := @k0_off39_inb
  k0_off40_inb := @k0_off40_inb
  k0_off41_inb := @k0_off41_inb
  k0_t7_ok := @k0_t7_ok
  k0_off42_inb := @k0_off42_inb
  k0_mult6_dvd := @k0_mult6_dvd
  k0_off43_inb := @k0_off43_inb
  k0_off44_inb := @k0_off44_inb
  k0_off45_inb := @k0_off45_inb
  k0_off46_inb := @k0_off46_inb
  k0_off47_inb := @k0_off47_inb
  k0_off48_inb := @k0_off48_inb
  k0_off49_inb := @k0_off49_inb
  k0_t8_ok := @k0_t8_ok
  k0_off50_inb := @k0_off50_inb
  k0_mult7_dvd := @k0_mult7_dvd
  k0_off51_inb := @k0_off51_inb
  k0_off52_inb := @k0_off52_inb
  k0_off53_inb := @k0_off53_inb
  k0_off54_inb := @k0_off54_inb
  k0_off55_inb := @k0_off55_inb
  k0_off56_inb := @k0_off56_inb
  k0_off57_inb := @k0_off57_inb
  k0_t9_ok := @k0_t9_ok
  k0_off58_inb := @k0_off58_inb
  k0_mult8_dvd := @k0_mult8_dvd
  k0_off59_inb := @k0_off59_inb
  k0_off60_inb := @k0_off60_inb
  k0_off61_inb := @k0_off61_inb
  k0_off62_inb := @k0_off62_inb
  k0_off63_inb := @k0_off63_inb
  k0_off64_inb := @k0_off64_inb
  k0_off65_inb := @k0_off65_inb
  hstage0_0 := @hstage0_0
  nbuf0_0 := @nbuf0_0
  hreads0_0 := @hreads0_0
  hinb0_0 := @hinb0_0
  hwx0_0 := @hwx0_0
  hstage0_1 := @hstage0_1
  nbuf0_1 := @nbuf0_1
  hreads0_1 := @hreads0_1
  hinb0_1 := @hinb0_1
  hwx0_1 := @hwx0_1
  hstage0_2 := @hstage0_2
  nbuf0_2 := @nbuf0_2
  hreads0_2 := @hreads0_2
  hinb0_2 := @hinb0_2
  hwx0_2 := @hwx0_2
  hstage0_3 := @hstage0_3
  nbuf0_3 := @nbuf0_3
  hreads0_3 := @hreads0_3
  hinb0_3 := @hinb0_3
  hwx0_3 := @hwx0_3
  hstage0_4 := @hstage0_4
  nbuf0_4 := @nbuf0_4
  hreads0_4 := @hreads0_4
  hinb0_4 := @hinb0_4
  hwx0_4 := @hwx0_4
  hstage0_5 := @hstage0_5
  nbuf0_5 := @nbuf0_5
  hreads0_5 := @hreads0_5
  hinb0_5 := @hinb0_5
  hwx0_5 := @hwx0_5
  hstage0_6 := @hstage0_6
  nbuf0_6 := @nbuf0_6
  hreads0_6 := @hreads0_6
  hinb0_6 := @hinb0_6
  hwx0_6 := @hwx0_6

/-! ## The facts over the windows (`Facts`) -/

/-- Every fact the program states, proved: the instance its functions and a certificate's claims take. -/
instance facts : Cert.Kernel.Facts where

end Cert.Kernel.Hand
-- ==== Proof.KernelLaunch.lean ====
/-
  The launch of the one kernel call of `Kernel`: its operands, its scratch, and the host operations before it.
-/
module

public import proofs.«01_k».proof.Proof.KernelFacts
public import Idealize.ShloMosaic.Lib.Pipeline.Kit
public import Idealize.ShloMosaic.Lib.Pipeline.Regions

@[expose] public section

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 7, 0 < (spec0 w).block.numel := by decide
/-- The windows' arrays and the staging memrefs are whole buffers. -/
theorem arr_whole0 : ∀ w : Fin 7, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole0 : ∀ (w : Fin 7) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | ⟨_ + 7, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 2050 points. -/
theorem N_0 : grid0.N = 2050 := by decide

/-- The windows conjoined one by one. -/
theorem bigSep_W0 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ
/-- The core's scoped buffers that are no staging buffer of custom_call 0, each whole at some contents:
    `cc0_scratch0`, `cc0_scratch1`, `cc0_scratch2`, `cc0_scratch3`, `cc0_scratch4`, `cc0_scratch5`, `cc0_scratch6`, `cc0_scratch7`, `cc0_scratch8`, `cc0_scratch9`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f) ∗ (∃ f : Buf Val ((c : Thread nD τ).loc cc0_scratch5), ((c : Thread nD τ).loc cc0_scratch5) ↦{fullShare} f) ∗ (∃ f : Buf Val ((c : Thread nD τ).loc cc0_scratch6), ((c : Thread nD τ).loc cc0_scratch6) ↦{fullShare} f) ∗ (∃ f : Buf Val ((c : Thread nD τ).loc cc0_scratch7), ((c : Thread nD τ).loc cc0_scratch7) ↦{fullShare} f) ∗ (∃ f : Buf Val ((c : Thread nD τ).loc cc0_scratch8), ((c : Thread nD τ).loc cc0_scratch8) ↦{fullShare} f) ∗ (∃ f : Buf Val ((c : Thread nD τ).loc cc0_scratch9), ((c : Thread nD τ).loc cc0_scratch9) ↦{fullShare} f)) :=
  Pipeline.scopedRest_eq_of_list spec0 c [cc0_scratch0, cc0_scratch1, cc0_scratch2, cc0_scratch3, cc0_scratch4, cc0_scratch5, cc0_scratch6, cc0_scratch7, cc0_scratch8, cc0_scratch9] (by decide) (by decide)
/-- Its unscoped buffers that are no window's array, each whole at contents `V`:
    `main_arg0`, `main_arg1`, `main_arg2`, `main_v2`. -/
theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec0 c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_v2) ↦{fullShare} V main_v2)) :=
  Pipeline.unscopedRest_eq_of_list spec0 c V [main_arg0, main_arg1, main_arg2, main_v2] (by decide) (by decide)

/-! ## @main as segments and as a chain of items (Lib/Pipeline/Regions.lean `θ_run_regions_kit`, `Pipeline.chain`) -/

/-- 4 host operations of @main, in order. -/
abbrev hostOps0 : List (HloOp τ sig (Elt F)) :=
  [ StableHlo.unary main_arg0 main_v0 (Host.convertf .fp8e4m3 : (⟨S2x262144x128, .f32⟩ : BufTy).Contents (Elt F) → (⟨S2x262144x128, .fp8e4m3⟩ : BufTy).Contents (Elt F)),
    StableHlo.unary main_arg2 main_v1 (Host.convertf .fp8e4m3 : (⟨S2x128x128x256, .f32⟩ : BufTy).Contents (Elt F) → (⟨S2x128x128x256, .fp8e4m3⟩ : BufTy).Contents (Elt F)),
    StableHlo.reshape main_arg1 main_v2 (rfl : (.f32 : EltTy) = .f32) shapeCasts_S2x8x32768_S2x8x1024x32,
    StableHlo.unary main_v2 main_v3 ((transpose S2x1024x8x32 [0, 2, 1, 3] · transposes_S2x8x1024x32_S2x1024x8x32_0_2_1_3) : (⟨S2x8x1024x32, .f32⟩ : BufTy).Contents (Elt F) → (⟨S2x1024x8x32, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- @main is the run of the certificate's segments: its host segments over the `hostOpsJ` and its regions at
    pipelines 0, in @main's order (`Pipeline.Seg.run`; `θ_run_regions_kit`'s `hmain` by
    `fun c Q => by rw [main_segs …]`). -/
theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0)
    (h0 : H0.prog = StableHlo.seq hostOps0)
    (c : Dev nD) :
    main c = Pipeline.Seg.run [.host H0, .region R0] := by
  simp only [Pipeline.Seg.run]
  rw [h0]
  rfl

end Cert.Kernel.Hand

end
-- ==== Proof.KernelPoints.lean ====
/-
  The points of the grid: which windows are fetched where, the staging buffers, the body as called there.
-/
module

public import proofs.«01_k».proof.Proof.KernelFacts
public import Idealize.ShloMosaic.Lib.Pipeline.Kit

@[expose] public section

noncomputable section

namespace Cert.Kernel.Hand

open Idealize.ShloMosaic Idealize.ShloMosaic.TcCoe
open Idealize.SL Idealize.SL.Sem

variable {F : FTy → Type} [FloatOps F]
/-! ## custom_call 0 -/

-- window 0 is fetched at points [0, 1, 2, 3, 4, 5, 6, 7, 8, 9, 10, 11]…: no closed form stated
-- window 1 is fetched at points [0, 1, 2, 3, 4, 5, 6, 7, 8, 9, 10, 11]…: no closed form stated
/-- Window 2 (operand 2 (%1)) is fetched at the points ≡ 0 (mod 1025). -/
theorem fetch0_2 : ∀ t : Fin cfg0.N, (cfg0.win 2).fetch t = true ↔ t.val % 1025 = 0 :=
  (fun t => Pipeline.Window.fetch_reads win0_2 rfl 0 (by decide) (by decide) (Pipeline.Window.sep_of_coord cc0_transform_2 0 0 (fun _ => rfl) (by decide)) (P := 1025) (by decide) t : ∀ t : Fin grid0.N, win0_2.fetch t = true ↔ t.val % 1025 = 0)
/-- Window 3 (operand 3 (%arg3)) is fetched at the points ≡ 0 (mod 1025). -/
theorem fetch0_3 : ∀ t : Fin cfg0.N, (cfg0.win 3).fetch t = true ↔ t.val % 1025 = 0 :=
  (fun t => Pipeline.Window.fetch_reads win0_3 rfl 0 (by decide) (by decide) (Pipeline.Window.sep_of_coord cc0_transform_3 0 0 (fun _ => rfl) (by decide)) (P := 1025) (by decide) t : ∀ t : Fin grid0.N, win0_3.fetch t = true ↔ t.val % 1025 = 0)
/-- Window 4 (operand 4 (%arg4)) is fetched at the points ≡ 0 (mod 1025). -/
theorem fetch0_4 : ∀ t : Fin cfg0.N, (cfg0.win 4).fetch t = true ↔ t.val % 1025 = 0 :=
  (fun t => Pipeline.Window.fetch_reads win0_4 rfl 0 (by decide) (by decide) (Pipeline.Window.sep_of_coord cc0_transform_4 0 0 (fun _ => rfl) (by decide)) (P := 1025) (by decide) t : ∀ t : Fin grid0.N, win0_4.fetch t = true ↔ t.val % 1025 = 0)
/-- Window 5 (operand 5 (%arg5)) is fetched at the points ≡ 0 (mod 1025). -/
theorem fetch0_5 : ∀ t : Fin cfg0.N, (cfg0.win 5).fetch t = true ↔ t.val % 1025 = 0 :=
  (fun t => Pipeline.Window.fetch_reads win0_5 rfl 0 (by decide) (by decide) (Pipeline.Window.sep_of_coord cc0_transform_5 0 0 (fun _ => rfl) (by decide)) (P := 1025) (by decide) t : ∀ t : Fin grid0.N, win0_5.fetch t = true ↔ t.val % 1025 = 0)
-- window 6 is written back at points [1, 2, 3, 4, 5, 6, 7, 8, 9, 10, 11, 12]…: no closed form stated

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)

/-- The kernel body at point `t`, on what the pipeline calls it with (`defs₀`'s row at the slots). -/
abbrev bodyAt0 (t : Fin cfg0.N) : Prog (TpuEff nD τ sig (Elt F) Λ₀ .tc) PUnit :=
  cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

end Cert.Kernel.Hand

end
-- ==== Proof.KernelFrame.lean ====
/-
  The host operations before the call and what the arrays hold there; the frame claim from a run of the call.
-/
module

public import proofs.«01_k».proof.Proof.KernelLaunch
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c)))⟩) h

end Cert.Kernel.Hand

end
-- ==== Proof.Safe.lean ====
/-
  The kernel's body writes nothing but its output block and its scratch arrays.
-/
module

public import proofs.«01_k».proof.Proof.Body

@[expose] public section

namespace Cert.Attn

open Idealize.ShloMosaic Idealize.ShloMosaic.TcCoe

/-- The blocks the body reads. -/
def W.isIn : W → Bool
  | .q | .qs | .kt | .ks | .v | .vs => true
  | _ => false

variable {F : FTy → Type}

/-- A program that stores into no input. -/
inductive Safe : MP F → Prop
  | done : Safe .done
  | ld {w : W} {r : LoadRect w.shape} {h} {k : (r.shape.Idx → Elt F w.elt) → MP F} : (∀ x, Safe (k x)) → Safe (.ld w r h k)
  | st {w : W} {r : Rect w.shape} {x : r.shape.Idx → Elt F w.elt} {h hx} {k : MP F} : w.isIn = false → Safe k → Safe (.st w r x h hx k)
  | cond {p : Prop} {dec : Decidable p} {a : p → MP F} {b : MP F} : (∀ h, Safe (a h)) → Safe b → Safe (.cond p dec a b)
  | loop {L : Scf.Loop 32} {ok : L.OK} {body : Fin L.trips → MP F} {k : MP F} : (∀ i, Safe (body i)) → Safe k →
      Safe (.loop L ok body k)

theorem run_in {w : W} (hw : w.isIn = true) (p : MP F) (hp : Safe p) : ∀ s : St F, run p s w = s w := by
  induction hp with
  | done => intro s; rfl
  | ld _ ih => intro s; exact ih _ s
  | st hv _ ih =>
    intro s
    rw [run_st, ih, Function.update_of_ne]
    rintro rfl
    exact absurd (hw.symm.trans hv) (by decide)
  | cond _ _ iha ihb =>
    intro s
    rw [run_cond]
    split
    · exact iha _ s
    · exact ihb s
  | @loop L ok body k _ _ ihb ih =>
    intro s
    rw [run_loop, ih]
    have : ∀ (l : List (Fin L.trips)) (s : St F), (l.foldl (fun s k => run (body k) s) s) w = s w := by
      intro l
      induction l with
      | nil => intro s; rfl
      | cons a l ihl => intro s; exact (ihl _).trans (ihb a s)
    exact this _ s

variable [FloatOps F]

theorem safe_seq16 {X : Type} (f : Fin 16 → (X → MP F) → MP F) (hf : ∀ j k, (∀ x, Safe (k x)) → Safe (f j k))
    (k : (Fin 16 → X) → MP F) (hk : ∀ x, Safe (k x)) : Safe (seq16 f k) := by
  unfold seq16
  repeat' (first | exact hk _ | (refine hf _ _ fun _ => ?_))

theorem safe_fold16 {X : Type} (f : Fin 16 → X → (X → MP F) → MP F) (hf : ∀ j x k, (∀ y, Safe (k y)) → Safe (f j x k))
    (x : X) (k : X → MP F) (hk : ∀ x, Safe (k x)) : Safe (fold16 f x k) := by
  unfold fold16
  repeat' (first | exact hk _ | exact hf _ _ _ hk | (refine hf _ _ _ fun _ => ?_))

theorem safe_do16 (f : Fin 16 → MP F → MP F) (hf : ∀ j k, Safe k → Safe (f j k)) (k : MP F) (hk : Safe k) : Safe (do16 f k) := by
  unfold do16
  repeat' (first | exact hk | (refine hf _ _ ?_))

theorem safe_do8 (f : Fin 8 → MP F → MP F) (hf : ∀ j k, Safe k → Safe (f j k)) (k : MP F) (hk : Safe k) : Safe (do8 f k) := by
  unfold do8
  repeat' (first | exact hk | (refine hf _ _ ?_))

theorem safe_do4 (f : Fin 4 → MP F → MP F) (hf : ∀ j k, Safe k → Safe (f j k)) (k : MP F) (hk : Safe k) : Safe (do4 f k) := by
  unfold do4
  repeat' (first | exact hk | (refine hf _ _ ?_))

theorem safe_ldV (v : V) (k : FVec F S128x128 .f32 → MP F) (hk : ∀ x, Safe (k x)) : Safe (ldV v k) := by
  cases v <;> exact .ld hk

theorem safe_stV (v : V) (x : FVec F S128x128 .f32) (k : MP F) (hk : Safe k) : Safe (stV v x k) := by
  cases v <;> exact .ld fun _ => .st rfl hk

theorem safe_stageB (s : Bool) (w : BitVec 32) (hw : w.toNat < 16) (g : Fin 4) (k : MP F) (hk : Safe k) : Safe (stageB s w hw g k) := by
  refine .ld fun x => safe_fold16 (uTile s w hw g) ?_ _ _ fun _ => .ld fun _ => .st rfl hk
  exact fun j x k h => .ld fun _ => .ld fun _ => .ld fun _ => .ld fun _ => .st rfl (h _)

theorem safe_tTile (s : Bool) (w : BitVec 32) (hw : w.toNat < 16) (mk) (d : FVec F S128x256 .f32) (h : Fin 2)
    (hd : S128x256.Slices (offS h) S128x128) (j : Fin 16) (k : MP F) (hk : Safe k) : Safe (tTile s w hw mk d h hd j k) :=
  .ld fun _ => .ld fun _ => .st rfl (.ld fun _ => .ld fun _ => .st rfl hk)

theorem safe_stageA (s : Bool) (w : BitVec 32) (hw : w.toNat < 16) (mk) (q : FVec F S128x128 .fp8e4m3) (jt : Fin 8) (k : MP F)
    (hk : Safe k) : Safe (stageA s w hw mk q jt k) :=
  .ld fun _ => safe_tTile _ _ _ _ _ _ _ _ _ (safe_tTile _ _ _ _ _ _ _ _ _ hk)

theorem safe_stageC (s : Bool) (w : BitVec 32) (hw : w.toNat < 16) (k : MP F) (hk : Safe k) : Safe (stageC s w hw k) :=
  safe_seq16 (pTile s w hw) (fun _ _ h => .ld fun _ => .ld fun _ => h _) _
    fun _ => .ld fun _ => .ld fun _ => .ld fun _ => .st rfl hk

theorem safe_blk (s : Bool) (w : BitVec 32) (hw : w.toNat < 16) (mk : Fin 16 → FVec F S128x128 .f32 → FVec F S128x128 .f32) (k : MP F)
    (hk : Safe k) : Safe (blk s w hw mk k) :=
  safe_stageC s w hw _ (safe_do4 (stageB s w hw) (safe_stageB s w hw) _
    (.ld fun _ => safe_do8 (stageA s w hw mk _) (safe_stageA s w hw mk _) k hk))

theorem safe_aqTok (s : Bool) (c : F .f32) (t : Fin 16) (k : MP F) (hk : Safe k) : Safe (aqTok s c t k) :=
  .ld fun _ => .ld fun _ => .st rfl hk

theorem safe_outHead (s : Bool) (h : Fin 8) (k : MP F) (hk : Safe k) : Safe (outHead s h k) :=
  .ld fun _ => .ld fun _ => .st rfl hk

theorem safe_pre (s : Bool) (cE cS : F .f32) (k : MP F) (hk : Safe k) : Safe (pre s cE cS k) :=
  safe_ldV _ _ fun _ => safe_stV _ _ _ <| .ld fun _ => safe_stV _ _ _ <| safe_ldV _ _ fun _ => safe_ldV _ _ fun _ =>
    safe_stV _ _ _ <| safe_do16 (aqTok s cS) (safe_aqTok s cS) _ <| safe_stV _ _ _ <| safe_stV _ _ _ <| safe_stV _ _ _ hk

theorem safe_fin (s : Bool) (k : MP F) (hk : Safe k) : Safe (fin s k) :=
  safe_ldV _ _ fun _ => safe_ldV _ _ fun _ => safe_stV _ _ _ (safe_do8 (outHead s) (safe_outHead s) k hk)

theorem safe_half (s : Bool) (n : ℕ) (H : Words s n) (cE cS : F .f32) (k : MP F) (hk : Safe k) : Safe (half s n H cE cS k) :=
  safe_pre _ _ _ _ <| .loop (fun _ => safe_blk _ _ _ _ _ .done) <| .loop (fun _ => safe_blk _ _ _ _ _ .done) <|
    .loop (fun _ => safe_blk _ _ _ _ _ .done) <| .loop (fun _ => safe_blk _ _ _ _ _ .done) <| safe_fin _ _ hk

theorem safe_clear (k : MP F) (hk : Safe k) : Safe (clear k) :=
  .loop (fun _ => .ld fun _ => .st rfl <| .ld fun _ => .st rfl .done) <|
    safe_stV _ _ _ <| safe_stV _ _ _ <| safe_stV _ _ _ <| safe_stV _ _ _ <| safe_stV _ _ _ hk

theorem safe_body (p : Prop) (dec : Decidable p) (n : ℕ) (H0 : Words false n) (H1 : Words true n) (cE cS : F .f32) :
    Safe (body p dec n H0 H1 cE cS) := by
  have h : Safe (half false n H0 cE cS <| half true n H1 cE cS .done) := safe_half _ _ _ _ _ _ (safe_half _ _ _ _ _ _ .done)
  exact .cond (fun _ => safe_clear _ h) h

end Cert.Attn
-- ==== Proof.KernelRun.lean ====
/-
  The run of the kernel call: the body, at every point of the grid, does to its blocks and scratch arrays what `run` says. Any
  statement about the scratch arrays that one body carries to the next holds throughout, and any statement about the output
  block that it implies holds of what is written back.
-/
module

public import proofs.«01_k».proof.Proof.KernelEq
public import proofs.«01_k».proof.Proof.KernelFrame
public import proofs.«01_k».proof.Proof.Safe
public import Idealize.ShloMosaic.Lib.Claim

@[expose] public section

noncomputable section

namespace Cert.Attn.K

open Cert.Kernel Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body as a function -/

/-- What the body does at point `t`. -/
def step (t : Fin cfg0.N) : St F → St F :=
  run (body (F := F) (k0_cond1 (grid0.coords t) = 1#1) inferInstance (grid0.coords t 1).val (words (grid0.coords t 1).isLt)
    (words (grid0.coords t 1).isLt) (Scalar.ofBits .f32 0x3FB8AA3B#32) (Scalar.ofBits .f32 0x3E0293EE#32))

theorem step_in {w : W} (hw : w.isIn = true) (t : Fin cfg0.N) (s : St F) : step t s w = s w :=
  run_in hw _ (safe_body _ _ _ _ _ _ _) s

/-- The six blocks read at point `t`. -/
structure Ins (c : Dev nD) (t : Fin cfg0.N) (s : St F) : Prop where
  q : s .q = iblk m c 0 t
  qs : s .qs = iblk m c 1 t
  kt : s .kt = iblk m c 2 t
  ks : s .ks = iblk m c 3 t
  v : s .v = iblk m c 4 t
  vs : s .vs = iblk m c 5 t

/-- A statement about the scratch arrays before each point, and one about the output block after it, that the body keeps. -/
structure Good (J : Dev nD → ℕ → St F → Prop) (O : Dev nD → Fin cfg0.N → RegOf F .out → Prop) : Prop where
  start : ∀ c s, J c 0 s
  scratch : ∀ c n (s s' : St F), (∀ w, w.isIn = false → w ≠ .out → s w = s' w) → J c n s → J c n s'
  next : ∀ c (t : Fin cfg0.N) s, Ins m c t s → J c t.val s → J c (t.val + 1) (step t s) ∧ O c t (step t s .out)

variable (J : Dev nD → ℕ → St F → Prop) (O : Dev nD → Fin cfg0.N → RegOf F .out → Prop)

/-- Some contents of the scratch arrays of which `J` holds, and the generator's register. -/
def Inv (c : Dev nD) (n : ℕ) : sProp 𝕄 :=
  iprop((∃ s : St F, ⌜J c n s⌝
    ∗ owns (c : Thread nD τ) (Memref.whole cc0_scratch0) fullShare (s (.buf false)) ∗ owns (c : Thread nD τ) (Memref.whole cc0_scratch1) fullShare (s (.buf true))
    ∗ owns (c : Thread nD τ) (Memref.whole cc0_scratch2) fullShare (s (.aq false)) ∗ owns (c : Thread nD τ) (Memref.whole cc0_scratch3) fullShare (s (.aq true))
    ∗ owns (c : Thread nD τ) (Memref.whole cc0_scratch4) fullShare (s .rm) ∗ owns (c : Thread nD τ) (Memref.whole cc0_scratch5) fullShare (s .rs)
    ∗ owns (c : Thread nD τ) (Memref.whole cc0_scratch6) fullShare (s .oa) ∗ owns (c : Thread nD τ) (Memref.whole cc0_scratch7) fullShare (s .sh)
    ∗ owns (c : Thread nD τ) (Memref.whole cc0_scratch8) fullShare (s .no) ∗ owns (c : Thread nD τ) (Memref.whole cc0_scratch9) fullShare (s .os))
    ∗ ∃ r, prngReg c r)

theorem inv_in (h : ∀ c s, J c 0 s) (c : Dev nD) : (Pipeline.ΦA spec0 c : sProp 𝕄) ⊢ Inv J c 0 := by
  unfold Pipeline.ΦA Inv
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, HP⟩
  isplitr [HP]
  swap; · iexact HP
  iexists (fun w => match w with
    | .buf false => f0 | .buf true => f1 | .aq false => f2 | .aq true => f3
    | .rm => f4 | .rs => f5 | .oa => f6 | .sh => f7 | .no => f8 | .os => f9
    | _ => fun _ => Classical.arbitrary _)
  isplitr; · ipureintro; exact h _ _
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem inv_out (c : Dev nD) (n : ℕ) : Inv J c n ⊢ (Pipeline.ΦA spec0 c : sProp 𝕄) := by
  unfold Pipeline.ΦA Inv
  rw [scopedRest0_eq]
  simp only [owns_whole]
  iintro ⟨⟨%s, -, H0, H1, H2, H3, H4, H5, H6, H7, H8, H9⟩, HP⟩
  isplitr [HP]
  swap; · iexact HP
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The pipeline's data: an input block is left as found, an output block as `O` says. -/
def rdat (c : Dev nD) : RDat τ (Elt F) Unit ℕ (UR sig nD τ) ℕ cfg0 c where
  A w := Hand.V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => O c t X
  Φ t := Inv J c t.val
  q _ := fullShare
  owed _ := 0

theorem A_eq (c : Dev nD) (w : Fin cfg0.W) : (rdat m J O c).A w = Hand.V m c (Pipeline.arrRef spec0 w) := by
  dsimp only [rdat]

/-- Whatever the body finds in an input's staging buffer is that input's block. -/
theorem finds_in (c : Dev nD) (w : Fin cfg0.W) (hw : (cfg0.win w).isOut = false)
    (hclip : ∀ t t' : Fin cfg0.N, (cfg0.win w).clip (cfg0.grid.coords t) = (cfg0.win w).clip (cfg0.grid.coords t'))
    (hkeep : ∀ t Y X, (rdat m J O c).after w t Y X → X = Y) (t : Fin cfg0.N) (Y) (h : (rdat m J O c).Finds w t Y) :
    ∃ d, Y = (rdat m J O c).fetched w t d :=
  (rdat m J O c).finds_in_eq_fetched w hw (fun t t' _ => hclip t t') hkeep t Y h

theorem finds0 (c : Dev nD) (t : Fin cfg0.N) (Y) (h : (rdat m J O c).Finds 0 t Y) : Y = iblk m c 0 t := by
  obtain ⟨d, rfl⟩ := finds_in m J O c 0 rfl (fun _ _ => rfl) (fun _ _ _ h => h) t Y h
  unfold RDat.fetched RDat.blockOf iblk; rw [A_eq]; rfl
theorem finds1 (c : Dev nD) (t : Fin cfg0.N) (Y) (h : (rdat m J O c).Finds 1 t Y) : Y = iblk m c 1 t := by
  obtain ⟨d, rfl⟩ := finds_in m J O c 1 rfl (fun _ _ => rfl) (fun _ _ _ h => h) t Y h
  unfold RDat.fetched RDat.blockOf iblk; rw [A_eq]; rfl
theorem finds2 (c : Dev nD) (t : Fin cfg0.N) (Y) (h : (rdat m J O c).Finds 2 t Y) : Y = iblk m c 2 t := by
  obtain ⟨d, rfl⟩ := finds_in m J O c 2 rfl (fun _ _ => rfl) (fun _ _ _ h => h) t Y h
  unfold RDat.fetched RDat.blockOf iblk; rw [A_eq]; rfl
theorem finds3 (c : Dev nD) (t : Fin cfg0.N) (Y) (h : (rdat m J O c).Finds 3 t Y) : Y = iblk m c 3 t := by
  obtain ⟨d, rfl⟩ := finds_in m J O c 3 rfl (fun _ _ => rfl) (fun _ _ _ h => h) t Y h
  unfold RDat.fetched RDat.blockOf iblk; rw [A_eq]; rfl
theorem finds4 (c : Dev nD) (t : Fin cfg0.N) (Y) (h : (rdat m J O c).Finds 4 t Y) : Y = iblk m c 4 t := by
  obtain ⟨d, rfl⟩ := finds_in m J O c 4 rfl (fun _ _ => rfl) (fun _ _ _ h => h) t Y h
  unfold RDat.fetched RDat.blockOf iblk; rw [A_eq]; rfl
theorem finds5 (c : Dev nD) (t : Fin cfg0.N) (Y) (h : (rdat m J O c).Finds 5 t Y) : Y = iblk m c 5 t := by
  obtain ⟨d, rfl⟩ := finds_in m J O c 5 rfl (fun _ _ => rfl) (fun _ _ _ h => h) t Y h
  unfold RDat.fetched RDat.blockOf iblk; rw [A_eq]; rfl

/-! ## The body's triple -/

/-- The memory the body is called with at point `t`. -/
def argsAt (t : Fin cfg0.N) : Args sig :=
  argsOf (st0_0 t) (st0_1 t) (st0_2 t) (st0_3 t) (st0_4 t) (st0_5 t) (st0_6 t)
    (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9)

/-- Owning every region, one by one. -/
theorem own_eq (c : Dev nD) (t : Fin cfg0.N) (s : St F) : (Own c (argsAt t) s : sProp 𝕄) = iprop(
    owns (c : Thread nD τ) (st0_0 t) fullShare (s .q) ∗ owns (c : Thread nD τ) (st0_1 t) fullShare (s .qs)
    ∗ owns (c : Thread nD τ) (st0_2 t) fullShare (s .kt) ∗ owns (c : Thread nD τ) (st0_3 t) fullShare (s .ks)
    ∗ owns (c : Thread nD τ) (st0_4 t) fullShare (s .v) ∗ owns (c : Thread nD τ) (st0_5 t) fullShare (s .vs)
    ∗ owns (c : Thread nD τ) (st0_6 t) fullShare (s .out)
    ∗ owns (c : Thread nD τ) (Memref.whole cc0_scratch0) fullShare (s (.buf false)) ∗ owns (c : Thread nD τ) (Memref.whole cc0_scratch1) fullShare (s (.buf true))
    ∗ owns (c : Thread nD τ) (Memref.whole cc0_scratch2) fullShare (s (.aq false)) ∗ owns (c : Thread nD τ) (Memref.whole cc0_scratch3) fullShare (s (.aq true))
    ∗ owns (c : Thread nD τ) (Memref.whole cc0_scratch4) fullShare (s .rm) ∗ owns (c : Thread nD τ) (Memref.whole cc0_scratch5) fullShare (s .rs)
    ∗ owns (c : Thread nD τ) (Memref.whole cc0_scratch6) fullShare (s .oa) ∗ owns (c : Thread nD τ) (Memref.whole cc0_scratch7) fullShare (s .sh)
    ∗ owns (c : Thread nD τ) (Memref.whole cc0_scratch8) fullShare (s .no) ∗ owns (c : Thread nD τ) (Memref.whole cc0_scratch9) fullShare (s .os)) :=
  bigSep_univ_eq_bigSepL W.all (by ext w; simp [W.mem_all]) W.nodup_all _

/-- The blocks found and the scratch arrays, together. -/
def join (c : Dev nD) (t : Fin cfg0.N) (Y6 : RegOf F .out) (s : St F) : St F := fun w => match w with
  | .q => iblk m c 0 t | .qs => iblk m c 1 t | .kt => iblk m c 2 t | .ks => iblk m c 3 t | .v => iblk m c 4 t | .vs => iblk m c 5 t
  | .out => Y6
  | w => s w

theorem join_ins (c : Dev nD) (t : Fin cfg0.N) (Y6 : RegOf F .out) (s : St F) : Ins m c t (join m c t Y6 s) :=
  ⟨rfl, rfl, rfl, rfl, rfl, rfl⟩

theorem join_scratch (c : Dev nD) (t : Fin cfg0.N) (Y6 : RegOf F .out) (s : St F) (w : W) (hw : w.isIn = false) (hw' : w ≠ .out) :
    join m c t Y6 s w = s w := by
  cases w <;> first | rfl | exact absurd hw (by decide) | exact absurd rfl hw'

/-- What the body is called with at point `t`, and what it leaves. -/
def bodyPre (c : Dev nD) (t : Fin cfg0.N) (Y6 : RegOf F .out) : sProp 𝕄 :=
  iprop((rdat m J O c).Φ t.castSucc ∗ (rdat m J O c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ owns (c : Thread nD τ) (st0_6 t) fullShare Y6)

def bodyPost (c : Dev nD) (t : Fin cfg0.N) : sProp 𝕄 :=
  iprop((rdat m J O c).Φ t.succ ∗ (rdat m J O c).owesAt () t.succ
    ∗ (∃ X, ⌜X = iblk m c 0 t⌝ ∗ owns (c : Thread nD τ) (st0_0 t) fullShare X)
    ∗ (∃ X, ⌜X = iblk m c 1 t⌝ ∗ owns (c : Thread nD τ) (st0_1 t) fullShare X)
    ∗ (∃ X, ⌜X = iblk m c 2 t⌝ ∗ owns (c : Thread nD τ) (st0_2 t) fullShare X)
    ∗ (∃ X, ⌜X = iblk m c 3 t⌝ ∗ owns (c : Thread nD τ) (st0_3 t) fullShare X)
    ∗ (∃ X, ⌜X = iblk m c 4 t⌝ ∗ owns (c : Thread nD τ) (st0_4 t) fullShare X)
    ∗ (∃ X, ⌜X = iblk m c 5 t⌝ ∗ owns (c : Thread nD τ) (st0_5 t) fullShare X)
    ∗ (∃ X, ⌜O c t X⌝ ∗ owns (c : Thread nD τ) (st0_6 t) fullShare X))

theorem sound_body (h : Good m J O) (c : Dev nD) (t : Fin cfg0.N) (Y6 : RegOf F .out) :
    bodyPre m J O c t Y6 ⊢ wp frame (wpE (defs₀ (F := F)) Variants.none c none) Set.univ (bodyAt0 t) (fun _ => bodyPost m J O c t) := by
  unfold bodyAt0
  rw [body_eq _ _ _ _ _ _ _ _ _ _ _ _ _ _ _ _ _ _ _ _ _ _ _ _ _ _ _ _ _ _ _ _ _ _ (grid0.coords t)
    (words (grid0.coords t 1).isLt) (words (grid0.coords t 1).isLt)]
  unfold bodyPre bodyPost
  rw [show (rdat m J O c).Φ t.castSucc = Inv J c t.val from rfl, show (rdat m J O c).Φ t.succ = Inv J c (t.val + 1) from rfl,
    show (rdat m J O c).owesAt () t.succ = (rdat m J O c).owesAt () t.castSucc from rfl]
  unfold Inv
  iintro ⟨⟨⟨%s, %hJ, S0, S1, S2, S3, S4, S5, S6, S7, S8, S9⟩, HP⟩, Ho, H0, H1, H2, H3, H4, H5, H6⟩
  have hn := h.next c t (join m c t Y6 s) (join_ins m c t Y6 s)
    (h.scratch c t.val s _ (fun w hw hw' => (join_scratch m c t Y6 s w hw hw').symm) hJ)
  iapply (wp_run Variants.none c none Set.univ (argsAt t) _ _ (join m c t Y6 s))
  isplitl [S0 S1 S2 S3 S4 S5 S6 S7 S8 S9 H0 H1 H2 H3 H4 H5 H6]
  · rw [own_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  · rw [own_eq]
    iintro ⟨H0, H1, H2, H3, H4, H5, H6, S0, S1, S2, S3, S4, S5, S6, S7, S8, S9⟩
    isplitl [S0 S1 S2 S3 S4 S5 S6 S7 S8 S9 HP]
    · isplitr [HP]
      swap; · iexact HP
      iexists (step t (join m c t Y6 s))
      isplitr; · ipureintro; exact hn.1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    isplitl [Ho]; · iexact Ho
    isplitl [H0]
    · iexists _; isplitr; swap; · iexact H0
      ipureintro; exact step_in (w := .q) rfl t _
    isplitl [H1]
    · iexists _; isplitr; swap; · iexact H1
      ipureintro; exact step_in (w := .qs) rfl t _
    isplitl [H2]
    · iexists _; isplitr; swap; · iexact H2
      ipureintro; exact step_in (w := .kt) rfl t _
    isplitl [H3]
    · iexists _; isplitr; swap; · iexact H3
      ipureintro; exact step_in (w := .ks) rfl t _
    isplitl [H4]
    · iexists _; isplitr; swap; · iexact H4
      ipureintro; exact step_in (w := .v) rfl t _
    isplitl [H5]
    · iexists _; isplitr; swap; · iexact H5
      ipureintro; exact step_in (w := .vs) rfl t _
    iexists _; isplitr; swap; · iexact H6
    ipureintro; exact hn.2

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem body_obligation (h : Good m J O) (c : Dev nD) :
    (rdat m J O c).BodyObligation (defs₀ (F := F)) Variants.none () Set.univ := fun t Y hY => by
  rw [bigSep_W0, bigSep_W0, defs₀_row]
  have h0 := finds0 m J O c t _ (hY 0)
  have h1 := finds1 m J O c t _ (hY 1)
  have h2 := finds2 m J O c t _ (hY 2)
  have h3 := finds3 m J O c t _ (hY 3)
  have h4 := finds4 m J O c t _ (hY 4)
  have h5 := finds5 m J O c t _ (hY 5)
  rw [h0, h1, h2, h3, h4, h5]
  exact triple_restated (sound_body m J O h c t (Y 6)) rfl .rfl fun _ => .rfl

/-! ## The run -/

set_option backward.isDefEq.respectTransparency.types false in
theorem run_main (h : Good m J O) : θ_run defs (onTc (τ := τ) (main (F := F))) (s₀ m ρ)
    (fun r => RDat.FramePost cfg0 (rdat m J O) (Hand.V m) r ∧ r.2.sem = fun _ => 0) :=
  Pipeline.RDat.θ_run_frame_track (Q' := _) cfgs (0 : Fin 1) launch0 defs₀ Variants.none (rdat m J O) m ρ main
    (hbody := body_obligation m J O h) (hshare := fun c w => by unfold RDat.share; split <;> rfl)
    (howed := fun _ _ => rfl) (V := Hand.V m) (hmain := hmain m Variants.none) (hA := A_eq m J O)
    (hin := fun c => inv_in J h.start c) (hout := fun c => inv_out J c _)

/-- Nothing said of the contents. -/
theorem good_true : Good m (F := F) (fun _ _ _ => True) (fun _ _ _ => True) :=
  ⟨fun _ _ => trivial, fun _ _ _ _ _ _ => trivial, fun _ _ _ _ _ => ⟨trivial, trivial⟩⟩

/-- The arguments end as they began. -/
theorem unchanged (c : Dev nD) {r : PUnit × MemSt nD τ sig (Elt F)} (h : RDat.FramePost cfg0 (rdat m J O) (Hand.V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (RDat.FramePost.arr_in h c 3 rfl).trans ((A_eq m J O c 3).trans (V_main_arg3 m c)),
    (RDat.FramePost.arr_in h c 4 rfl).trans ((A_eq m J O c 4).trans (V_main_arg4 m c)),
    (RDat.FramePost.arr_in h c 5 rfl).trans ((A_eq m J O c 5).trans (V_main_arg5 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => unchanged m _ _ c h.1, h.2⟩) (run_main m ρ _ _ (good_true m))

end Cert.Attn.K

end
-- ==== Proof.KernelIdealEq.lean ====
/-
  The printed body of the attention kernel is the program of `Body.lean`, over the memory it is given.
-/
module

public import proofs.«01_k».proof.Proof.Body
public import proofs.«01_k».proof.KernelIdeal

@[expose] public section

set_option maxRecDepth 65536
set_option maxHeartbeats 0

noncomputable section

namespace Cert.Attn.KI

open Cert.KernelIdeal
open Idealize.ShloMosaic Idealize.ShloMosaic.TcCoe
open Idealize.SL.Sem
open Cert.KernelIdeal.Facts₀ Cert.KernelIdeal.Facts

variable {F : FTy → Type} [FloatOps F] [Named F] [Cert.KernelIdeal.Facts]

variable (arg2 : Memref sig .tc .vmem S1x256x128 .fp8e4m3) (harg2 : arg2.IsWhole)
  (arg3 : Memref sig .tc .vmem S1x1x8x32 .f32) (harg3 : arg3.IsWhole)
  (arg4 : Memref sig .tc .vmem S1x128x128x256 .fp8e4m3) (harg4 : arg4.IsWhole)
  (arg5 : Memref sig .tc .vmem S1x256x1x128 .f32) (harg5 : arg5.IsWhole)
  (arg6 : Memref sig .tc .vmem S1x32768x128 .fp8e4m3) (harg6 : arg6.IsWhole)
  (arg7 : Memref sig .tc .vmem S1x1x128 .f32) (harg7 : arg7.IsWhole)
  (arg8 : Memref sig .tc .vmem S1x32x1024 .bf16) (harg8 : arg8.IsWhole)
  (arg9 : Memref sig .tc .vmem S256x128x128 .f32) (harg9 : arg9.IsWhole)
  (arg10 : Memref sig .tc .vmem S256x128x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x128 .f32) (harg14 : arg14.IsWhole)
  (arg15 : Memref sig .tc .vmem S128x128 .f32) (harg15 : arg15.IsWhole)
  (arg16 : Memref sig .tc .vmem S128x128 .f32) (harg16 : arg16.IsWhole)
  (arg17 : Memref sig .tc .vmem S128x128 .f32) (harg17 : arg17.IsWhole)
  (arg18 : Memref sig .tc .vmem S128x128 .f32) (harg18 : arg18.IsWhole)

def argsOf : Args sig
  | .q => arg2 | .qs => arg3 | .kt => arg4 | .ks => arg5 | .v => arg6 | .vs => arg7 | .out => arg8
  | .buf false => arg9 | .buf true => arg10 | .aq false => arg11 | .aq true => arg12
  | .rm => arg13 | .rs => arg14 | .oa => arg15 | .sh => arg16 | .no => arg17 | .os => arg18

include harg2 harg3 harg4 harg5 harg6 harg7 harg8 harg9 harg10 harg11 harg12 harg13 harg14 harg15 harg16 harg17 harg18 in
theorem argsOf_whole : ∀ w : W, (argsOf arg2 arg3 arg4 arg5 arg6 arg7 arg8 arg9 arg10 arg11 arg12 arg13 arg14 arg15 arg16 arg17 arg18 w).IsWhole
  | .q => harg2 | .qs => harg3 | .kt => harg4 | .ks => harg5 | .v => harg6 | .vs => harg7 | .out => harg8
  | .buf false => harg9 | .buf true => harg10 | .aq false => harg11 | .aq true => harg12
  | .rm => harg13 | .rs => harg14 | .oa => harg15 | .sh => harg16 | .no => harg17 | .os => harg18

/-- Everything after the clearing, given the first half's rows' sums. -/
theorem halves_eq (i : grid0.Coords) (H0 : Words false (i 1).val) (H1 : Words true (i 1).val) :
    ((do
      let v10 : Vec F S128x128 .f32 ← Prog.lift (.load arg14 (Rect.unit (s := S128x128) ![0, 0] S128x128.size inb_S128x128_S128x128_0_0).toLoadRect (View.loadsAt_vmem h_S128x128))
      let x := mulf (invL v10) (broadcast S128x1 (Scalar.ofBits .f32 0x3B124925#32))
      pure ⟨BitVec.ofNat 32 (i 1).val, rowW false (i 1).val, firstW false (i 1).val, invL v10, x,
        expo1 (Named.named κ "log2_e" 0x3FB8AA3B#32) x, subi (expo0 (Named.named κ "log2_e" 0x3FB8AA3B#32) x) (broadcast S128x1 1#32), 127#32⟩ :
        Prog (TpuEff nD τ sig (Elt F) Λ₀ .tc) (Σ' (arg1 : BitVec 32) (v7 : BitVec 32) (v9 : BitVec 32) (v14 : FVec F S128x1 .f32) (v16 : FVec F S128x1 .f32) (v33 : IVec S128x1 32) (v35 : IVec S128x1 32), BitVec 32)) >>=
    fun ⟨arg1, v7, v9, v14, v16, v33, v35, c127_i32_11⟩ => do
        let ⟨v75, v76⟩ : Σ' (v75 : FVec F S128x128 .f32), Vec F S128x128 .f32 ← k0_part386 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v14 v16 v33 v35 c127_i32_11
        let v107 : Vec F S1x1x8x1 .f32 ← k0_part387 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v75 v76
        let ⟨v139, v140⟩ : Σ' (v139 : FVec F S8x128 .f32), Vec F S8x128 .f32 ← k0_part388 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v107
        let v171 : FVec F S8x1 .f32 ← k0_part389 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v139 v140
        let v202 : FVec F S8x128 .f32 ← k0_part390 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v171
        let v236 : FVec F S128x128 .f32 ← k0_part391 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v202
        let ⟨v261, v266, c2048_i32_139, v267, v272⟩ : Σ' (v261 : BitVec 32) (v266 : BitVec 32) (c2048_i32_139 : BitVec 32) (v267 : BitVec 32), BitVec 32 ← k0_part392 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v9 v236
        let v302 : Vec F S128x128 .f32 ← k0_part393 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v9 v261 v266 c2048_i32_139 v267 v272
        let ⟨v329, v330⟩ : Σ' (v329 : FVec F S16x128 .bf16), Vec F S1x16x128 .bf16 ← k0_part394 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v302
        let ⟨v350, v352, v357, v359, v360, cst_206⟩ : Σ' (v350 : BitVec 32) (v352 : BitVec 32) (v357 : FVec F S128x1 .f32) (v359 : FVec F S128x1 .f32) (v360 : FVec F S128x1 .f32), F .f32 ← k0_part395 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v329 v330
        let ⟨v392, v404⟩ : Σ' (v392 : IVec S128x1 32), FVec F S128x128 .f32 ← k0_part396 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v357 v359 v360 cst_206
        let ⟨v437, v438⟩ : Σ' (v437 : FVec F S8x128 .f32), Vec F S8x128 .f32 ← k0_part397 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v392 v404
        let v469 : FVec F S8x1 .f32 ← k0_part398 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v437 v438
        let v500 : FVec F S8x128 .f32 ← k0_part399 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v469
        let v533 : FVec F S8x1 .f32 ← k0_part400 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v500
        let v566 : FVec F S8x128 .f32 ← k0_part401 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v533
        let ⟨v588, v599, v600⟩ : Σ' (v588 : BitVec 32) (v599 : BitVec 1), BitVec 32 ← k0_part402 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v352 v566
        let ⟨v604, v626, c1_i32_376, c0_i32_377, v635, c1_i32_381⟩ : Σ' (v604 : BitVec 32) (v626 : BitVec 32) (c1_i32_376 : BitVec 32) (c0_i32_377 : BitVec 32) (v635 : BitVec 32), BitVec 32 ← k0_part403 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v350 v588 v599 v600
        let v662 : FVec F S16x128 .bf16 ← k0_part404 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v352 v604 v626 c1_i32_376 c0_i32_377 v635 c1_i32_381
        let v690 : FVec F S1x16x128 .bf16 ← k0_part405 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v662
        Prog.lift (.store arg8 (Rect.unit (s := S1x32x1024) ![0, 0, 896] S1x16x128.size inb_S1x32x1024_S1x16x128_0_0_896) v690 Finset.univ (View.stores_vmem h_S1x16x128 (harg8.storeExact_slice rfl _ packedbf16_S1x32x1024_S1x16x128_0_0_896) (fun _ => rfl)) (.inl rfl))
        pure ⟨⟩) =
    denote (argsOf arg2 arg3 arg4 arg5 arg6 arg7 arg8 arg9 arg10 arg11 arg12 arg13 arg14 arg15 arg16 arg17 arg18)
      (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (half (F := F) false (i 1).val H0 (Named.named κ "log2_e" 0x3FB8AA3B#32) (Named.named κ "log2_scale" 0x3E0293EE#32) <| half true (i 1).val H1 (Named.named κ "log2_e" 0x3FB8AA3B#32) (Named.named κ "log2_scale" 0x3E0293EE#32) .done) := by
  have e1 : k0_part393 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW false (i 1).val) (fullW false (i 1).val) (Scalar.subi (Scalar.addi (Scalar.muli (Scalar.minsi (Scalar.addi (rowW false (i 1).val) 3#32) 2048#32) 16#32) 2048#32) 1#32) 2048#32 (Scalar.divsi (Scalar.subi (Scalar.addi (Scalar.muli (Scalar.minsi (Scalar.addi (rowW false (i 1).val) 3#32) 2048#32) 16#32) 2048#32) 1#32) 2048#32) (Scalar.subi (Scalar.extui (Scalar.cmpi .sgt (Scalar.subi (Scalar.addi (Scalar.muli (Scalar.minsi (Scalar.addi (rowW false (i 1).val) 3#32) 2048#32) 16#32) 2048#32) 1#32) 0#32)) (Scalar.extui (Scalar.cmpi .slt (Scalar.subi (Scalar.addi (Scalar.muli (Scalar.minsi (Scalar.addi (rowW false (i 1).val) 3#32) 2048#32) 16#32) 2048#32) 1#32) 0#32)))
      = denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU false (i 1).val)) H0.okU (fun k => blk false (kbW 0#32 0#32 k) (H0.kbU k) noMask .done) <|
      .loop (restL (tripsU false (i 1).val)) H0.okU' (fun k => blk false (kbW 0#32 (stopW (tripsU false (i 1).val)) k) (H0.kbU' k) noMask .done) <|
      .loop (mainL (tripsM false (i 1).val)) H0.okM (fun k => blk false (kbW (fullW false (i 1).val) 0#32 k) (H0.kbM k)
        (mask (firstW false (i 1).val) (kbW (fullW false (i 1).val) 0#32 k)) .done) <|
      .loop (restL (tripsM false (i 1).val)) H0.okM' (fun k => blk false (kbW (fullW false (i 1).val) (stopW (tripsM false (i 1).val)) k) (H0.kbM' k)
        (mask (firstW false (i 1).val) (kbW (fullW false (i 1).val) (stopW (tripsM false (i 1).val)) k)) .done) <| .done) _ := rfl
  have e2 : k0_part403 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowW true (i 1).val) (Scalar.divsi (firstW true (i 1).val) 2048#32)
      (Scalar.cmpi .ne (Scalar.subi (Scalar.extui (Scalar.cmpi .sgt (firstW true (i 1).val) 0#32)) (Scalar.extui (Scalar.cmpi .slt (firstW true (i 1).val) 0#32))) (Scalar.subi (Scalar.extui (Scalar.cmpi .sgt 2048#32 0#32)) (Scalar.extui (Scalar.cmpi .slt 2048#32 0#32))))
      (Scalar.remsi (firstW true (i 1).val) 2048#32)
      = denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU true (i 1).val)) H1.okU (fun k => blk true (kbW 0#32 0#32 k) (H1.kbU k) noMask .done) <|
      .done) _ := rfl
  have e3 : k0_part404 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW true (i 1).val) (fullW true (i 1).val) (allW true (i 1).val) 1#32 0#32 (stopW (tripsU true (i 1).val)) 1#32
      = denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (restL (tripsU true (i 1).val)) H1.okU' (fun k => blk true (kbW 0#32 (stopW (tripsU true (i 1).val)) k) (H1.kbU' k) noMask .done) <|
      .loop (mainL (tripsM true (i 1).val)) H1.okM (fun k => blk true (kbW (fullW true (i 1).val) 0#32 k) (H1.kbM k)
        (mask (firstW true (i 1).val) (kbW (fullW true (i 1).val) 0#32 k)) .done) <|
      .loop (restL (tripsM true (i 1).val)) H1.okM' (fun k => blk true (kbW (fullW true (i 1).val) (stopW (tripsM true (i 1).val)) k) (H1.kbM' k)
        (mask (firstW true (i 1).val) (kbW (fullW true (i 1).val) (stopW (tripsM true (i 1).val)) k)) .done) <| .done) _ := rfl
  refine Eq.trans (b := denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (pre false (Named.named κ "log2_e" 0x3FB8AA3B#32) (Named.named κ "log2_scale" 0x3E0293EE#32) .done)
    (k0_part393 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW false (i 1).val) (fullW false (i 1).val) (Scalar.subi (Scalar.addi (Scalar.muli (Scalar.minsi (Scalar.addi (rowW false (i 1).val) 3#32) 2048#32) 16#32) 2048#32) 1#32) 2048#32 (Scalar.divsi (Scalar.subi (Scalar.addi (Scalar.muli (Scalar.minsi (Scalar.addi (rowW false (i 1).val) 3#32) 2048#32) 16#32) 2048#32) 1#32) 2048#32) (Scalar.subi (Scalar.extui (Scalar.cmpi .sgt (Scalar.subi (Scalar.addi (Scalar.muli (Scalar.minsi (Scalar.addi (rowW false (i 1).val) 3#32) 2048#32) 16#32) 2048#32) 1#32) 0#32)) (Scalar.extui (Scalar.cmpi .slt (Scalar.subi (Scalar.addi (Scalar.muli (Scalar.minsi (Scalar.addi (rowW false (i 1).val) 3#32) 2048#32) 16#32) 2048#32) 1#32) 0#32))) >>= _)) rfl ?_
  rw [e1, denoteK_bind]
  refine congrArg (fun K => denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (pre false (Named.named κ "log2_e" 0x3FB8AA3B#32) (Named.named κ "log2_scale" 0x3E0293EE#32) .done) (denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU false (i 1).val)) H0.okU (fun k => blk false (kbW 0#32 0#32 k) (H0.kbU k) noMask .done) <|
      .loop (restL (tripsU false (i 1).val)) H0.okU' (fun k => blk false (kbW 0#32 (stopW (tripsU false (i 1).val)) k) (H0.kbU' k) noMask .done) <|
      .loop (mainL (tripsM false (i 1).val)) H0.okM (fun k => blk false (kbW (fullW false (i 1).val) 0#32 k) (H0.kbM k)
        (mask (firstW false (i 1).val) (kbW (fullW false (i 1).val) 0#32 k)) .done) <|
      .loop (restL (tripsM false (i 1).val)) H0.okM' (fun k => blk false (kbW (fullW false (i 1).val) (stopW (tripsM false (i 1).val)) k) (H0.kbM' k)
        (mask (firstW false (i 1).val) (kbW (fullW false (i 1).val) (stopW (tripsM false (i 1).val)) k)) .done) <| .done) K)) ?_
  refine Eq.trans (b := denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fin false <| pre true (Named.named κ "log2_e" 0x3FB8AA3B#32) (Named.named κ "log2_scale" 0x3E0293EE#32) .done)
    (k0_part403 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowW true (i 1).val) (Scalar.divsi (firstW true (i 1).val) 2048#32)
      (Scalar.cmpi .ne (Scalar.subi (Scalar.extui (Scalar.cmpi .sgt (firstW true (i 1).val) 0#32)) (Scalar.extui (Scalar.cmpi .slt (firstW true (i 1).val) 0#32))) (Scalar.subi (Scalar.extui (Scalar.cmpi .sgt 2048#32 0#32)) (Scalar.extui (Scalar.cmpi .slt 2048#32 0#32))))
      (Scalar.remsi (firstW true (i 1).val) 2048#32) >>= _)) rfl ?_
  rw [e2, denoteK_bind]
  refine congrArg (fun K => denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fin false <| pre true (Named.named κ "log2_e" 0x3FB8AA3B#32) (Named.named κ "log2_scale" 0x3E0293EE#32) .done) (denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (.loop (mainL (tripsU true (i 1).val)) H1.okU (fun k => blk true (kbW 0#32 0#32 k) (H1.kbU k) noMask .done) <|
      .done) K)) ?_
  refine Eq.trans (b := k0_part404 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (firstW true (i 1).val) (fullW true (i 1).val) (allW true (i 1).val) 1#32 0#32 (stopW (tripsU true (i 1).val)) 1#32 >>= _) rfl ?_
  rw [e3, denoteK_bind]
  rfl

/-- The printed body is the program of `Body.lean`. -/
theorem body_eq (i : grid0.Coords) (H0 : Words false (i 1).val) (H1 : Words true (i 1).val) :
    cc0_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
      denote (argsOf arg2 arg3 arg4 arg5 arg6 arg7 arg8 arg9 arg10 arg11 arg12 arg13 arg14 arg15 arg16 arg17 arg18)
        (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (body (F := F) (k0_cond1 i = 1#1) inferInstance (i 1).val H0 H1 (Named.named κ "log2_e" 0x3FB8AA3B#32) (Named.named κ "log2_scale" 0x3E0293EE#32)) := by
  have e : k0_part385 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = dite (k0_cond1 i = 1#1) (fun _ => denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (clear .done) _) (fun _ => _) := rfl
  refine Eq.trans (b := k0_part385 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= _) rfl ?_
  rw [e]
  refine Eq.trans ?_ (b := dite (k0_cond1 i = 1#1) (fun _ => denote (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (clear <| half (F := F) false (i 1).val H0 (Named.named κ "log2_e" 0x3FB8AA3B#32) (Named.named κ "log2_scale" 0x3E0293EE#32) <| half true (i 1).val H1 (Named.named κ "log2_e" 0x3FB8AA3B#32) (Named.named κ "log2_scale" 0x3E0293EE#32) .done))
    (fun _ => denote (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (half (F := F) false (i 1).val H0 (Named.named κ "log2_e" 0x3FB8AA3B#32) (Named.named κ "log2_scale" 0x3E0293EE#32) <| half true (i 1).val H1 (Named.named κ "log2_e" 0x3FB8AA3B#32) (Named.named κ "log2_scale" 0x3E0293EE#32) .done))) rfl
  by_cases hp : k0_cond1 i = 1#1
  · rw [dif_pos hp, dif_pos hp, denoteK_bind]
    exact congrArg (denoteK (argsOf arg2 arg3 arg4 arg5 arg6 arg7 arg8 arg9 arg10 arg11 arg12 arg13 arg14 arg15 arg16 arg17 arg18) (argsOf_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (clear .done)) (halves_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 i H0 H1)
  · rw [dif_neg hp, dif_neg hp]
    exact halves_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 i H0 H1

end Cert.Attn.KI
-- ==== Proof.KernelIdealFacts.lean ====
/-
  The side conditions the printed program `KernelIdeal` states: shapes, bounds of every access, windows. The bounds in the
  loops follow from which block of keys a trip takes.
-/
module

public import proofs.«01_k».proof.KernelIdeal
public import proofs.«01_k».proof.Proof.Words
public import Idealize.ShloMosaic.Lib.Affine
public import Idealize.ShloMosaic.Lib.Decide
public import Idealize.ShloMosaic.Lib.Exec

@[expose] public section

set_option synthInstance.maxSize 4096
set_option Elab.async false

namespace Cert.KernelIdeal.Hand

open Idealize.ShloMosaic Idealize.SL.Sem
/-! ## The facts over the vocabulary (`Facts₀`) -/

theorem shapeCasts_S2x8x32768_S2x8x1024x32 : S2x8x32768.ShapeCasts S2x8x1024x32 := by decide
theorem transposes_S2x8x1024x32_S2x1024x8x32_0_2_1_3 : S2x8x1024x32.Transposes [0, 2, 1, 3] S2x1024x8x32 := by decide
theorem h_S1x128x128 : 0 < S1x128x128.numel := by decide
theorem shapeCasts_S1x128x128_S128x128 : S1x128x128.ShapeCasts S128x128 := by decide
theorem shapeCasts_S128x128_S1x128x128 : S128x128.ShapeCasts S1x128x128 := by decide
theorem inb_S128x128_S128x128_0_0 : ∀ a, (![0, 0] : Fin 2 → Nat) a + S128x128.size a ≤ S128x128.size a := by decide
theorem h_S128x128 : 0 < S128x128.numel := by decide
theorem shapeCasts_S128x128_S128x128 : S128x128.ShapeCasts S128x128 := by decide
theorem reduces_S128x128_S128 : S128x128.Reduces [1] S128 := by decide
theorem shapeCasts_S128_S128x1 : S128.ShapeCasts S128x1 := by decide
theorem shapeCasts_S128x1_S128x1 : S128x1.ShapeCasts S128x1 := by decide
theorem broadcasts_S128x1_S128x128 : S128x1.Broadcasts S128x128 := by decide
theorem inb_S1x1x128_S1x1x128_0_0_0 : ∀ a, (![0, 0, 0] : Fin 3 → Nat) a + S1x1x128.size a ≤ S1x1x128.size a := by decide
theorem h_S1x1x128 : 0 < S1x1x128.numel := by decide
theorem shapeCasts_S1x1x128_S1x128 : S1x1x128.ShapeCasts S1x128 := by decide
theorem broadcasts_S1x128_S128x128 : S1x128.Broadcasts S128x128 := by decide
theorem inb_S1x1x8x32_S1x1x8x1_0_0_0_16 : ∀ a, (![0, 0, 0, 16] : Fin 4 → Nat) a + S1x1x8x1.size a ≤ S1x1x8x32.size a := by decide
theorem h_S1x1x8x1 : 0 < S1x1x8x1.numel := by decide
theorem shapeCasts_S1x1x8x1_S8x1 : S1x1x8x1.ShapeCasts S8x1 := by decide
theorem shapeCasts_S8x1_S8x1 : S8x1.ShapeCasts S8x1 := by decide
theorem broadcasts_S8x1_S8x128 : S8x1.Broadcasts S8x128 := by decide
theorem inb_S128x128_S8x128_0_0 : ∀ a, (![0, 0] : Fin 2 → Nat) a + S8x128.size a ≤ S128x128.size a := by decide
theorem h_S8x128 : 0 < S8x128.numel := by decide
theorem shapeCasts_S8x128_S8x128 : S8x128.ShapeCasts S8x128 := by decide
theorem inb_S1x1x8x32_S1x1x8x1_0_0_0_17 : ∀ a, (![0, 0, 0, 17] : Fin 4 → Nat) a + S1x1x8x1.size a ≤ S1x1x8x32.size a := by decide
theorem inb_S128x128_S8x128_8_0 : ∀ a, (![8, 0] : Fin 2 → Nat) a + S8x128.size a ≤ S128x128.size a := by decide
theorem inb_S1x1x8x32_S1x1x8x1_0_0_0_18 : ∀ a, (![0, 0, 0, 18] : Fin 4 → Nat) a + S1x1x8x1.size a ≤ S1x1x8x32.size a := by decide
theorem inb_S128x128_S8x128_16_0 : ∀ a, (![16, 0] : Fin 2 → Nat) a + S8x128.size a ≤ S128x128.size a := by decide
theorem inb_S1x1x8x32_S1x1x8x1_0_0_0_19 : ∀ a, (![0, 0, 0, 19] : Fin 4 → Nat) a + S1x1x8x1.size a ≤ S1x1x8x32.size a := by decide
theorem inb_S128x128_S8x128_24_0 : ∀ a, (![24, 0] : Fin 2 → Nat) a + S8x128.size a ≤ S128x128.size a := by decide
theorem inb_S1x1x8x32_S1x1x8x1_0_0_0_20 : ∀ a, (![0, 0, 0, 20] : Fin 4 → Nat) a + S1x1x8x1.size a ≤ S1x1x8x32.size a := by decide
theorem inb_S128x128_S8x128_32_0 : ∀ a, (![32, 0] : Fin 2 → Nat) a + S8x128.size a ≤ S128x128.size a := by decide
theorem inb_S1x1x8x32_S1x1x8x1_0_0_0_21 : ∀ a, (![0, 0, 0, 21] : Fin 4 → Nat) a + S1x1x8x1.size a ≤ S1x1x8x32.size a := by decide
theorem inb_S128x128_S8x128_40_0 : ∀ a, (![40, 0] : Fin 2 → Nat) a + S8x128.size a ≤ S128x128.size a := by decide
theorem inb_S1x1x8x32_S1x1x8x1_0_0_0_22 : ∀ a, (![0, 0, 0, 22] : Fin 4 → Nat) a + S1x1x8x1.size a ≤ S1x1x8x32.size a := by decide
theorem inb_S128x128_S8x128_48_0 : ∀ a, (![48, 0] : Fin 2 → Nat) a + S8x128.size a ≤ S128x128.size a := by decide
theorem inb_S1x1x8x32_S1x1x8x1_0_0_0_23 : ∀ a, (![0, 0, 0, 23] : Fin 4 → Nat) a + S1x1x8x1.size a ≤ S1x1x8x32.size a := by decide
theorem inb_S128x128_S8x128_56_0 : ∀ a, (![56, 0] : Fin 2 → Nat) a + S8x128.size a ≤ S128x128.size a := by decide
theorem inb_S1x1x8x32_S1x1x8x1_0_0_0_24 : ∀ a, (![0, 0, 0, 24] : Fin 4 → Nat) a + S1x1x8x1.size a ≤ S1x1x8x32.size a := by decide
theorem inb_S128x128_S8x128_64_0 : ∀ a, (![64, 0] : Fin 2 → Nat) a + S8x128.size a ≤ S128x128.size a := by decide
theorem inb_S1x1x8x32_S1x1x8x1_0_0_0_25 : ∀ a, (![0, 0, 0, 25] : Fin 4 → Nat) a + S1x1x8x1.size a ≤ S1x1x8x32.size a := by decide
theorem inb_S128x128_S8x128_72_0 : ∀ a, (![72, 0] : Fin 2 → Nat) a + S8x128.size a ≤ S128x128.size a := by decide
theorem inb_S1x1x8x32_S1x1x8x1_0_0_0_26 : ∀ a, (![0, 0, 0, 26] : Fin 4 → Nat) a + S1x1x8x1.size a ≤ S1x1x8x32.size a := by decide
theorem inb_S128x128_S8x128_80_0 : ∀ a, (![80, 0] : Fin 2 → Nat) a + S8x128.size a ≤ S128x128.size a := by decide
theorem inb_S1x1x8x32_S1x1x8x1_0_0_0_27 : ∀ a, (![0, 0, 0, 27] : Fin 4 → Nat) a + S1x1x8x1.size a ≤ S1x1x8x32.size a := by decide
theorem inb_S128x128_S8x128_88_0 : ∀ a, (![88, 0] : Fin 2 → Nat) a + S8x128.size a ≤ S128x128.size a := by decide
theorem inb_S1x1x8x32_S1x1x8x1_0_0_0_28 : ∀ a, (![0, 0, 0, 28] : Fin 4 → Nat) a + S1x1x8x1.size a ≤ S1x1x8x32.size a := by decide
theorem inb_S128x128_S8x128_96_0 : ∀ a, (![96, 0] : Fin 2 → Nat) a + S8x128.size a ≤ S128x128.size a := by decide
theorem inb_S1x1x8x32_S1x1x8x1_0_0_0_29 : ∀ a, (![0, 0, 0, 29] : Fin 4 → Nat) a + S1x1x8x1.size a ≤ S1x1x8x32.size a := by decide
theorem inb_S128x128_S8x128_104_0 : ∀ a, (![104, 0] : Fin 2 → Nat) a + S8x128.size a ≤ S128x128.size a := by decide
theorem inb_S1x1x8x32_S1x1x8x1_0_0_0_30 : ∀ a, (![0, 0, 0, 30] : Fin 4 → Nat) a + S1x1x8x1.size a ≤ S1x1x8x32.size a := by decide
theorem inb_S128x128_S8x128_112_0 : ∀ a, (![112, 0] : Fin 2 → Nat) a + S8x128.size a ≤ S128x128.size a := by decide
theorem inb_S1x1x8x32_S1x1x8x1_0_0_0_31 : ∀ a, (![0, 0, 0, 31] : Fin 4 → Nat) a + S1x1x8x1.size a ≤ S1x1x8x32.size a := by decide
theorem inb_S128x128_S8x128_120_0 : ∀ a, (![120, 0] : Fin 2 → Nat) a + S8x128.size a ≤ S128x128.size a := by decide
theorem bitsLt_fp8e4m3_f32 : FTy.bits .fp8e4m3 < FTy.bits .f32 := by decide
theorem concatenates_S128x128_S128x128_S128x128_S128x128_S128x128_S128x128_S128x128_S128x128_S128x128_S128x128_S128x128_S128x128_S128x128_S128x128_S128x128_S128x128_S128x2048_d1 : Shape.Concatenates [S128x128, S128x128, S128x128, S128x128, S128x128, S128x128, S128x128, S128x128, S128x128, S128x128, S128x128, S128x128, S128x128, S128x128, S128x128, S128x128] S128x2048 1 := by decide
theorem h_S1x2048x128 : 0 < S1x2048x128.numel := by decide
theorem shapeCasts_S1x2048x128_S2048x128 : S1x2048x128.ShapeCasts S2048x128 := by decide
theorem inb_S128x128_S32x128_0_0 : ∀ a, (![0, 0] : Fin 2 → Nat) a + S32x128.size a ≤ S128x128.size a := by decide
theorem h_S32x128 : 0 < S32x128.numel := by decide
theorem h_S1x32x128 : 0 < S1x32x128.numel := by decide
theorem shapeCasts_S1x32x128_S32x128 : S1x32x128.ShapeCasts S32x128 := by decide
theorem shapeCasts_S32x128_S1x32x128 : S32x128.ShapeCasts S1x32x128 := by decide
theorem shapeCasts_S32x128_S32x128 : S32x128.ShapeCasts S32x128 := by decide
theorem inb_S128x128_S32x128_32_0 : ∀ a, (![32, 0] : Fin 2 → Nat) a + S32x128.size a ≤ S128x128.size a := by decide
theorem inb_S128x128_S32x128_64_0 : ∀ a, (![64, 0] : Fin 2 → Nat) a + S32x128.size a ≤ S128x128.size a := by decide
theorem inb_S128x128_S32x128_96_0 : ∀ a, (![96, 0] : Fin 2 → Nat) a + S32x128.size a ≤ S128x128.size a := by decide
theorem inb_S1x256x128_S1x128x128_0_128_0 : ∀ a, (![0, 128, 0] : Fin 3 → Nat) a + S1x128x128.size a ≤ S1x256x128.size a := by decide
theorem h_S1x1x128x256 : 0 < S1x1x128x256.numel := by decide
theorem shapeCasts_S1x1x128x256_S128x256 : S1x1x128x256.ShapeCasts S128x256 := by decide
theorem slices_S128x256_o0_0_S128x128 : S128x256.Slices ![0, 0] S128x128 := by decide
theorem h_S1x1x1x128 : 0 < S1x1x1x128.numel := by decide
theorem shapeCasts_S1x1x1x128_S1x128 : S1x1x1x128.ShapeCasts S1x128 := by decide
theorem slices_S128x256_o0_128_S128x128 : S128x256.Slices ![0, 128] S128x128 := by decide
theorem iota_S128x128_d1_w32 : S128x128.Iotas .tc 32 [1] := by decide
theorem iota_S128x128_d0_w32 : S128x128.Iotas .tc 32 [0] := by decide
theorem natLt_1_32 : 1 < 32 := by decide
theorem inb_S128x128_S16x128_0_0_s_8_1 : ∀ a, S16x128.size a = 0 ∨ (![0, 0] : Fin 2 → Nat) a + (![8, 1] : Fin 2 → Nat) a * (S16x128.size a - 1) < S128x128.size a := by decide
theorem h_S16x128 : 0 < S16x128.numel := by decide
theorem bitsLt_bf16_f32 : FTy.bits .bf16 < FTy.bits .f32 := by decide
theorem inb_S1x32x1024_S1x16x128_0_16_0 : ∀ a, (![0, 16, 0] : Fin 3 → Nat) a + S1x16x128.size a ≤ S1x32x1024.size a := by decide
theorem h_S1x16x128 : 0 < S1x16x128.numel := by decide
theorem shapeCasts_S1x16x128_S16x128 : S1x16x128.ShapeCasts S16x128 := by decide
theorem shapeCasts_S16x128_S1x16x128 : S16x128.ShapeCasts S1x16x128 := by decide
theorem packedbf16_S1x32x1024_S1x16x128_0_16_0 : (Rect.unit (s := S1x32x1024) ![0, 16, 0] S1x16x128.size inb_S1x32x1024_S1x16x128_0_16_0).PackedRows (EltTy.packing .bf16) := by decide
theorem inb_S128x128_S16x128_1_0_s_8_1 : ∀ a, S16x128.size a = 0 ∨ (![1, 0] : Fin 2 → Nat) a + (![8, 1] : Fin 2 → Nat) a * (S16x128.size a - 1) < S128x128.size a := by decide
theorem inb_S1x32x1024_S1x16x128_0_16_128 : ∀ a, (![0, 16, 128] : Fin 3 → Nat) a + S1x16x128.size a ≤ S1x32x1024.size a := by decide
theorem packedbf16_S1x32x1024_S1x16x128_0_16_128 : (Rect.unit (s := S1x32x1024) ![0, 16, 128] S1x16x128.size inb_S1x32x1024_S1x16x128_0_16_128).PackedRows (EltTy.packing .bf16) := by decide
theorem inb_S128x128_S16x128_2_0_s_8_1 : ∀ a, S16x128.size a = 0 ∨ (![2, 0] : Fin 2 → Nat) a + (![8, 1] : Fin 2 → Nat) a * (S16x128.size a - 1) < S128x128.size a := by decide
theorem inb_S1x32x1024_S1x16x128_0_16_256 : ∀ a, (![0, 16, 256] : Fin 3 → Nat) a + S1x16x128.size a ≤ S1x32x1024.size a := by decide
theorem packedbf16_S1x32x1024_S1x16x128_0_16_256 : (Rect.unit (s := S1x32x1024) ![0, 16, 256] S1x16x128.size inb_S1x32x1024_S1x16x128_0_16_256).PackedRows (EltTy.packing .bf16) := by decide
theorem inb_S128x128_S16x128_3_0_s_8_1 : ∀ a, S16x128.size a = 0 ∨ (![3, 0] : Fin 2 → Nat) a + (![8, 1] : Fin 2 → Nat) a * (S16x128.size a - 1) < S128x128.size a := by decide
theorem inb_S1x32x1024_S1x16x128_0_16_384 : ∀ a, (![0, 16, 384] : Fin 3 → Nat) a + S1x16x128.size a ≤ S1x32x1024.size a := by decide
theorem packedbf16_S1x32x1024_S1x16x128_0_16_384 : (Rect.unit (s := S1x32x1024) ![0, 16, 384] S1x16x128.size inb_S1x32x1024_S1x16x128_0_16_384).PackedRows (EltTy.packing .bf16) := by decide
theorem inb_S128x128_S16x128_4_0_s_8_1 : ∀ a, S16x128.size a = 0 ∨ (![4, 0] : Fin 2 → Nat) a + (![8, 1] : Fin 2 → Nat) a * (S16x128.size a - 1) < S128x128.size a := by decide
theorem inb_S1x32x1024_S1x16x128_0_16_512 : ∀ a, (![0, 16, 512] : Fin 3 → Nat) a + S1x16x128.size a ≤ S1x32x1024.size a := by decide
theorem packedbf16_S1x32x1024_S1x16x128_0_16_512 : (Rect.unit (s := S1x32x1024) ![0, 16, 512] S1x16x128.size inb_S1x32x1024_S1x16x128_0_16_512).PackedRows (EltTy.packing .bf16) := by decide
theorem inb_S128x128_S16x128_5_0_s_8_1 : ∀ a, S16x128.size a = 0 ∨ (![5, 0] : Fin 2 → Nat) a + (![8, 1] : Fin 2 → Nat) a * (S16x128.size a - 1) < S128x128.size a := by decide
theorem inb_S1x32x1024_S1x16x128_0_16_640 : ∀ a, (![0, 16, 640] : Fin 3 → Nat) a + S1x16x128.size a ≤ S1x32x1024.size a := by decide
theorem packedbf16_S1x32x1024_S1x16x128_0_16_640 : (Rect.unit (s := S1x32x1024) ![0, 16, 640] S1x16x128.size inb_S1x32x1024_S1x16x128_0_16_640).PackedRows (EltTy.packing .bf16) := by decide
theorem inb_S128x128_S16x128_6_0_s_8_1 : ∀ a, S16x128.size a = 0 ∨ (![6, 0] : Fin 2 → Nat) a + (![8, 1] : Fin 2 → Nat) a * (S16x128.size a - 1) < S128x128.size a := by decide
theorem inb_S1x32x1024_S1x16x128_0_16_768 : ∀ a, (![0, 16, 768] : Fin 3 → Nat) a + S1x16x128.size a ≤ S1x32x1024.size a := by decide
theorem packedbf16_S1x32x1024_S1x16x128_0_16_768 : (Rect.unit (s := S1x32x1024) ![0, 16, 768] S1x16x128.size inb_S1x32x1024_S1x16x128_0_16_768).PackedRows (EltTy.packing .bf16) := by decide
theorem inb_S128x128_S16x128_7_0_s_8_1 : ∀ a, S16x128.size a = 0 ∨ (![7, 0] : Fin 2 → Nat) a + (![8, 1] : Fin 2 → Nat) a * (S16x128.size a - 1) < S128x128.size a := by decide
theorem inb_S1x32x1024_S1x16x128_0_16_896 : ∀ a, (![0, 16, 896] : Fin 3 → Nat) a + S1x16x128.size a ≤ S1x32x1024.size a := by decide
theorem packedbf16_S1x32x1024_S1x16x128_0_16_896 : (Rect.unit (s := S1x32x1024) ![0, 16, 896] S1x16x128.size inb_S1x32x1024_S1x16x128_0_16_896).PackedRows (EltTy.packing .bf16) := by decide
theorem inb_S1x1x8x32_S1x1x8x1_0_0_0_0 : ∀ a, (![0, 0, 0, 0] : Fin 4 → Nat) a + S1x1x8x1.size a ≤ S1x1x8x32.size a := by decide
theorem inb_S1x1x8x32_S1x1x8x1_0_0_0_1 : ∀ a, (![0, 0, 0, 1] : Fin 4 → Nat) a + S1x1x8x1.size a ≤ S1x1x8x32.size a := by decide
theorem inb_S1x1x8x32_S1x1x8x1_0_0_0_2 : ∀ a, (![0, 0, 0, 2] : Fin 4 → Nat) a + S1x1x8x1.size a ≤ S1x1x8x32.size a := by decide
theorem inb_S1x1x8x32_S1x1x8x1_0_0_0_3 : ∀ a, (![0, 0, 0, 3] : Fin 4 → Nat) a + S1x1x8x1.size a ≤ S1x1x8x32.size a := by decide
theorem inb_S1x1x8x32_S1x1x8x1_0_0_0_4 : ∀ a, (![0, 0, 0, 4] : Fin 4 → Nat) a + S1x1x8x1.size a ≤ S1x1x8x32.size a := by decide
theorem inb_S1x1x8x32_S1x1x8x1_0_0_0_5 : ∀ a, (![0, 0, 0, 5] : Fin 4 → Nat) a + S1x1x8x1.size a ≤ S1x1x8x32.size a := by decide
theorem inb_S1x1x8x32_S1x1x8x1_0_0_0_6 : ∀ a, (![0, 0, 0, 6] : Fin 4 → Nat) a + S1x1x8x1.size a ≤ S1x1x8x32.size a := by decide
theorem inb_S1x1x8x32_S1x1x8x1_0_0_0_7 : ∀ a, (![0, 0, 0, 7] : Fin 4 → Nat) a + S1x1x8x1.size a ≤ S1x1x8x32.size a := by decide
theorem inb_S1x1x8x32_S1x1x8x1_0_0_0_8 : ∀ a, (![0, 0, 0, 8] : Fin 4 → Nat) a + S1x1x8x1.size a ≤ S1x1x8x32.size a := by decide
theorem inb_S1x1x8x32_S1x1x8x1_0_0_0_9 : ∀ a, (![0, 0, 0, 9] : Fin 4 → Nat) a + S1x1x8x1.size a ≤ S1x1x8x32.size a := by decide
theorem inb_S1x1x8x32_S1x1x8x1_0_0_0_10 : ∀ a, (![0, 0, 0, 10] : Fin 4 → Nat) a + S1x1x8x1.size a ≤ S1x1x8x32.size a := by decide
theorem inb_S1x1x8x32_S1x1x8x1_0_0_0_11 : ∀ a, (![0, 0, 0, 11] : Fin 4 → Nat) a + S1x1x8x1.size a ≤ S1x1x8x32.size a := by decide
theorem inb_S1x1x8x32_S1x1x8x1_0_0_0_12 : ∀ a, (![0, 0, 0, 12] : Fin 4 → Nat) a + S1x1x8x1.size a ≤ S1x1x8x32.size a := by decide
theorem inb_S1x1x8x32_S1x1x8x1_0_0_0_13 : ∀ a, (![0, 0, 0, 13] : Fin 4 → Nat) a + S1x1x8x1.size a ≤ S1x1x8x32.size a := by decide
theorem inb_S1x1x8x32_S1x1x8x1_0_0_0_14 : ∀ a, (![0, 0, 0, 14] : Fin 4 → Nat) a + S1x1x8x1.size a ≤ S1x1x8x32.size a := by decide
theorem inb_S1x1x8x32_S1x1x8x1_0_0_0_15 : ∀ a, (![0, 0, 0, 15] : Fin 4 → Nat) a + S1x1x8x1.size a ≤ S1x1x8x32.size a := by decide
theorem inb_S1x256x128_S1x128x128_0_0_0 : ∀ a, (![0, 0, 0] : Fin 3 → Nat) a + S1x128x128.size a ≤ S1x256x128.size a := by decide
theorem inb_S1x32x1024_S1x16x128_0_0_0 : ∀ a, (![0, 0, 0] : Fin 3 → Nat) a + S1x16x128.size a ≤ S1x32x1024.size a := by decide
theorem packedbf16_S1x32x1024_S1x16x128_0_0_0 : (Rect.unit (s := S1x32x1024) ![0, 0, 0] S1x16x128.size inb_S1x32x1024_S1x16x128_0_0_0).PackedRows (EltTy.packing .bf16) := by decide
theorem inb_S1x32x1024_S1x16x128_0_0_128 : ∀ a, (![0, 0, 128] : Fin 3 → Nat) a + S1x16x128.size a ≤ S1x32x1024.size a := by decide
theorem packedbf16_S1x32x1024_S1x16x128_0_0_128 : (Rect.unit (s := S1x32x1024) ![0, 0, 128] S1x16x128.size inb_S1x32x1024_S1x16x128_0_0_128).PackedRows (EltTy.packing .bf16) := by decide
theorem inb_S1x32x1024_S1x16x128_0_0_256 : ∀ a, (![0, 0, 256] : Fin 3 → Nat) a + S1x16x128.size a ≤ S1x32x1024.size a := by decide
theorem packedbf16_S1x32x1024_S1x16x128_0_0_256 : (Rect.unit (s := S1x32x1024) ![0, 0, 256] S1x16x128.size inb_S1x32x1024_S1x16x128_0_0_256).PackedRows (EltTy.packing .bf16) := by decide
theorem inb_S1x32x1024_S1x16x128_0_0_384 : ∀ a, (![0, 0, 384] : Fin 3 → Nat) a + S1x16x128.size a ≤ S1x32x1024.size a := by decide
theorem packedbf16_S1x32x1024_S1x16x128_0_0_384 : (Rect.unit (s := S1x32x1024) ![0, 0, 384] S1x16x128.size inb_S1x32x1024_S1x16x128_0_0_384).PackedRows (EltTy.packing .bf16) := by decide
theorem inb_S1x32x1024_S1x16x128_0_0_512 : ∀ a, (![0, 0, 512] : Fin 3 → Nat) a + S1x16x128.size a ≤ S1x32x1024.size a := by decide
theorem packedbf16_S1x32x1024_S1x16x128_0_0_512 : (Rect.unit (s := S1x32x1024) ![0, 0, 512] S1x16x128.size inb_S1x32x1024_S1x16x128_0_0_512).PackedRows (EltTy.packing .bf16) := by decide
theorem inb_S1x32x1024_S1x16x128_0_0_640 : ∀ a, (![0, 0, 640] : Fin 3 → Nat) a + S1x16x128.size a ≤ S1x32x1024.size a := by decide
theorem packedbf16_S1x32x1024_S1x16x128_0_0_640 : (Rect.unit (s := S1x32x1024) ![0, 0, 640] S1x16x128.size inb_S1x32x1024_S1x16x128_0_0_640).PackedRows (EltTy.packing .bf16) := by decide
theorem inb_S1x32x1024_S1x16x128_0_0_768 : ∀ a, (![0, 0, 768] : Fin 3 → Nat) a + S1x16x128.size a ≤ S1x32x1024.size a := by decide
theorem packedbf16_S1x32x1024_S1x16x128_0_0_768 : (Rect.unit (s := S1x32x1024) ![0, 0, 768] S1x16x128.size inb_S1x32x1024_S1x16x128_0_0_768).PackedRows (EltTy.packing .bf16) := by decide
theorem inb_S1x32x1024_S1x16x128_0_0_896 : ∀ a, (![0, 0, 896] : Fin 3 → Nat) a + S1x16x128.size a ≤ S1x32x1024.size a := by decide
theorem packedbf16_S1x32x1024_S1x16x128_0_0_896 : (Rect.unit (s := S1x32x1024) ![0, 0, 896] S1x16x128.size inb_S1x32x1024_S1x16x128_0_0_896).PackedRows (EltTy.packing .bf16) := by decide
theorem dot_S128x2048_S2048x128_S128x128_1_0_0_1_n_n_wf : DotDims.WF S128x2048 S2048x128 S128x128 [1] [0] [0] [1] [] [] := by decide
theorem dot_S128x128_S128x256_S128x256_1_0_0_1_n_n_wf : DotDims.WF S128x128 S128x256 S128x256 [1] [0] [0] [1] [] [] := by decide
theorem hrank0 : 0 < grid0.rank := by decide
theorem k0_t1_ok : ∀ i : grid0.Coords, ∀ (k0_h1 : k0_cond1 i = 1#1), k0_t1_loop.OK := fun i k0_h1 => Cert.Attn.clear_ok
theorem k0_off1_inb : ∀ (i : grid0.Coords) (k0_t1 : Fin k0_t1_loop.trips), ∀ (k0_h1 : k0_cond1 i = 1#1), ∀ a, (k0_off1 k0_t1) a + S1x128x128.size a ≤ S256x128x128.size a := fun i t h => Cert.Attn.clear_inb t
theorem k0_t2_ok : ∀ i : grid0.Coords, (k0_t2_loop i).OK := fun i => (Cert.Attn.words (s := false) (n := (i 1).val) (i 1).isLt).okU
theorem k0_off2_inb : ∀ (i : grid0.Coords) (k0_t2 : Fin (k0_t2_loop i).trips), ∀ (r : Fin 16), ∀ a, (k0_off2 i k0_t2 (BitVec.ofNat 32 r.val)) a + S1x128x128.size a ≤ S256x128x128.size a := fun i t r => Cert.Attn.tile_inb (Cert.Attn.kbW 0#32 0#32 t) ((Cert.Attn.words (s := false) (n := (i 1).val) (i 1).isLt).kbU t) r
theorem k0_mult1_dvd : ∀ (i : grid0.Coords) (k0_t2 : Fin (k0_t2_loop i).trips), 2048 ∣ (k0_mult1 i k0_t2).toNat := fun i t => Cert.Attn.mult_dvd (Cert.Attn.kbW 0#32 0#32 t) ((Cert.Attn.words (s := false) (n := (i 1).val) (i 1).isLt).kbU t)
theorem k0_off3_inb : ∀ (i : grid0.Coords) (k0_t2 : Fin (k0_t2_loop i).trips), ∀ a, (k0_off3 i k0_t2) a + S1x2048x128.size a ≤ S1x32768x128.size a := fun i t => Cert.Attn.v_inb (Cert.Attn.kbW 0#32 0#32 t) ((Cert.Attn.words (s := false) (n := (i 1).val) (i 1).isLt).kbU t)
theorem k0_off4_inb : ∀ (i : grid0.Coords) (k0_t2 : Fin (k0_t2_loop i).trips), ∀ (r : Fin 16), ∀ a, (k0_off4 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 0
theorem k0_off5_inb : ∀ (i : grid0.Coords) (k0_t2 : Fin (k0_t2_loop i).trips), ∀ (r : Fin 16), ∀ a, (k0_off5 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 1
theorem k0_off6_inb : ∀ (i : grid0.Coords) (k0_t2 : Fin (k0_t2_loop i).trips), ∀ (r : Fin 16), ∀ a, (k0_off6 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 2
theorem k0_off7_inb : ∀ (i : grid0.Coords) (k0_t2 : Fin (k0_t2_loop i).trips), ∀ (r : Fin 16), ∀ a, (k0_off7 i k0_t2 (BitVec.ofNat 32 r.val)) a + S1x32x128.size a ≤ S256x128x128.size a := fun i t r => Cert.Attn.tileG_inb (Cert.Attn.kbW 0#32 0#32 t) ((Cert.Attn.words (s := false) (n := (i 1).val) (i 1).isLt).kbU t) r 3
theorem k0_off8_inb : ∀ (i : grid0.Coords) (k0_t2 : Fin (k0_t2_loop i).trips), ∀ (r : Fin 8), ∀ a, (k0_off8 i k0_t2 (BitVec.ofNat 32 r.val)) a + S1x1x128x256.size a ≤ S1x128x128x256.size a := fun i t r => Cert.Attn.kt_inb (Cert.Attn.kbW 0#32 0#32 t) ((Cert.Attn.words (s := false) (n := (i 1).val) (i 1).isLt).kbU t) r
theorem k0_off9_inb : ∀ (i : grid0.Coords) (k0_t2 : Fin (k0_t2_loop i).trips), ∀ (r : Fin 16), ∀ a, (k0_off9 i k0_t2 (BitVec.ofNat 32 r.val)) a + S1x1x1x128.size a ≤ S1x256x1x128.size a := fun i t r => Cert.Attn.ks_inb (Cert.Attn.kbW 0#32 0#32 t) ((Cert.Attn.words (s := false) (n := (i 1).val) (i 1).isLt).kbU t) r
theorem k0_t3_ok : ∀ i : grid0.Coords, (k0_t3_loop i).OK := fun i => (Cert.Attn.words (s := false) (n := (i 1).val) (i 1).isLt).okU'
theorem k0_off10_inb : ∀ (i : grid0.Coords) (k0_t3 : Fin (k0_t3_loop i).trips), ∀ (r : Fin 16), ∀ a, (k0_off10 i k0_t3 (BitVec.ofNat 32 r.val)) a + S1x128x128.size a ≤ S256x128x128.size a := fun i t r => Cert.Attn.tile_inb (Cert.Attn.kbW 0#32 (Cert.Attn.stopW (Cert.Attn.tripsU false (i 1).val)) t) ((Cert.Attn.words (s := false) (n := (i 1).val) (i 1).isLt).kbU' t) r
theorem k0_mult2_dvd : ∀ (i : grid0.Coords) (k0_t3 : Fin (k0_t3_loop i).trips), 2048 ∣ (k0_mult2 i k0_t3).toNat := fun i t => Cert.Attn.mult_dvd (Cert.Attn.kbW 0#32 (Cert.Attn.stopW (Cert.Attn.tripsU false (i 1).val)) t) ((Cert.Attn.words (s := false) (n := (i 1).val) (i 1).isLt).kbU' t)
theorem k0_off11_inb : ∀ (i : grid0.Coords) (k0_t3 : Fin (k0_t3_loop i).trips), ∀ a, (k0_off11 i k0_t3) a + S1x2048x128.size a ≤ S1x32768x128.size a := fun i t => Cert.Attn.v_inb (Cert.Attn.kbW 0#32 (Cert.Attn.stopW (Cert.Attn.tripsU false (i 1).val)) t) ((Cert.Attn.words (s := false) (n := (i 1).val) (i 1).isLt).kbU' t)
theorem k0_off12_inb : ∀ (i : grid0.Coords) (k0_t3 : Fin (k0_t3_loop i).trips), ∀ (r : Fin 16), ∀ a, (k0_off12 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 0
theorem k0_off13_inb : ∀ (i : grid0.Coords) (k0_t3 : Fin (k0_t3_loop i).trips), ∀ (r : Fin 16), ∀ a, (k0_off13 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 1
theorem k0_off14_inb : ∀ (i : grid0.Coords) (k0_t3 : Fin (k0_t3_loop i).trips), ∀ (r : Fin 16), ∀ a, (k0_off14 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 2
theorem k0_off15_inb : ∀ (i : grid0.Coords) (k0_t3 : Fin (k0_t3_loop i).trips), ∀ (r : Fin 16), ∀ a, (k0_off15 i k0_t3 (BitVec.ofNat 32 r.val)) a + S1x32x128.size a ≤ S256x128x128.size a := fun i t r => Cert.Attn.tileG_inb (Cert.Attn.kbW 0#32 (Cert.Attn.stopW (Cert.Attn.tripsU false (i 1).val)) t) ((Cert.Attn.words (s := false) (n := (i 1).val) (i 1).isLt).kbU' t) r 3
theorem k0_off16_inb : ∀ (i : grid0.Coords) (k0_t3 : Fin (k0_t3_loop i).trips), ∀ (r : Fin 8), ∀ a, (k0_off16 i k0_t3 (BitVec.ofNat 32 r.val)) a + S1x1x128x256.size a ≤ S1x128x128x256.size a := fun i t r => Cert.Attn.kt_inb (Cert.Attn.kbW 0#32 (Cert.Attn.stopW (Cert.Attn.tripsU false (i 1).val)) t) ((Cert.Attn.words (s := false) (n := (i 1).val) (i 1).isLt).kbU' t) r
theorem k0_off17_inb : ∀ (i : grid0.Coords) (k0_t3 : Fin (k0_t3_loop i).trips), ∀ (r : Fin 16), ∀ a, (k0_off17 i k0_t3 (BitVec.ofNat 32 r.val)) a + S1x1x1x128.size a ≤ S1x256x1x128.size a := fun i t r => Cert.Attn.ks_inb (Cert.Attn.kbW 0#32 (Cert.Attn.stopW (Cert.Attn.tripsU false (i 1).val)) t) ((Cert.Attn.words (s := false) (n := (i 1).val) (i 1).isLt).kbU' t) r
theorem k0_t4_ok : ∀ i : grid0.Coords, (k0_t4_loop i).OK := fun i => (Cert.Attn.words (s := false) (n := (i 1).val) (i 1).isLt).okM
theorem k0_off18_inb : ∀ (i : grid0.Coords) (k0_t4 : Fin (k0_t4_loop i).trips), ∀ (r : Fin 16), ∀ a, (k0_off18 i k0_t4 (BitVec.ofNat 32 r.val)) a + S1x128x128.size a ≤ S256x128x128.size a := fun i t r => Cert.Attn.tile_inb (Cert.Attn.kbW (Cert.Attn.fullW false (i 1).val) 0#32 t) ((Cert.Attn.words (s := false) (n := (i 1).val) (i 1).isLt).kbM t) r
theorem k0_mult3_dvd : ∀ (i : grid0.Coords) (k0_t4 : Fin (k0_t4_loop i).trips), 2048 ∣ (k0_mult3 i k0_t4).toNat := fun i t => Cert.Attn.mult_dvd (Cert.Attn.kbW (Cert.Attn.fullW false (i 1).val) 0#32 t) ((Cert.Attn.words (s := false) (n := (i 1).val) (i 1).isLt).kbM t)
theorem k0_off19_inb : ∀ (i : grid0.Coords) (k0_t4 : Fin (k0_t4_loop i).trips), ∀ a, (k0_off19 i k0_t4) a + S1x2048x128.size a ≤ S1x32768x128.size a := fun i t => Cert.Attn.v_inb (Cert.Attn.kbW (Cert.Attn.fullW false (i 1).val) 0#32 t) ((Cert.Attn.words (s := false) (n := (i 1).val) (i 1).isLt).kbM t)
theorem k0_off20_inb : ∀ (i : grid0.Coords) (k0_t4 : Fin (k0_t4_loop i).trips), ∀ (r : Fin 16), ∀ a, (k0_off20 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 0
theorem k0_off21_inb : ∀ (i : grid0.Coords) (k0_t4 : Fin (k0_t4_loop i).trips), ∀ (r : Fin 16), ∀ a, (k0_off21 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 1
theorem k0_off22_inb : ∀ (i : grid0.Coords) (k0_t4 : Fin (k0_t4_loop i).trips), ∀ (r : Fin 16), ∀ a, (k0_off22 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 2
theorem k0_off23_inb : ∀ (i : grid0.Coords) (k0_t4 : Fin (k0_t4_loop i).trips), ∀ (r : Fin 16), ∀ a, (k0_off23 i k0_t4 (BitVec.ofNat 32 r.val)) a + S1x32x128.size a ≤ S256x128x128.size a := fun i t r => Cert.Attn.tileG_inb (Cert.Attn.kbW (Cert.Attn.fullW false (i 1).val) 0#32 t) ((Cert.Attn.words (s := false) (n := (i 1).val) (i 1).isLt).kbM t) r 3
theorem k0_off24_inb : ∀ (i : grid0.Coords) (k0_t4 : Fin (k0_t4_loop i).trips), ∀ (r : Fin 8), ∀ a, (k0_off24 i k0_t4 (BitVec.ofNat 32 r.val)) a + S1x1x128x256.size a ≤ S1x128x128x256.size a := fun i t r => Cert.Attn.kt_inb (Cert.Attn.kbW (Cert.Attn.fullW false (i 1).val) 0#32 t) ((Cert.Attn.words (s := false) (n := (i 1).val) (i 1).isLt).kbM t) r
theorem k0_off25_inb : ∀ (i : grid0.Coords) (k0_t4 : Fin (k0_t4_loop i).trips), ∀ (r : Fin 16), ∀ a, (k0_off25 i k0_t4 (BitVec.ofNat 32 r.val)) a + S1x1x1x128.size a ≤ S1x256x1x128.size a := fun i t r => Cert.Attn.ks_inb (Cert.Attn.kbW (Cert.Attn.fullW false (i 1).val) 0#32 t) ((Cert.Attn.words (s := false) (n := (i 1).val) (i 1).isLt).kbM t) r
theorem k0_t5_ok : ∀ i : grid0.Coords, (k0_t5_loop i).OK := fun i => (Cert.Attn.words (s := false) (n := (i 1).val) (i 1).isLt).okM'
theorem k0_off26_inb : ∀ (i : grid0.Coords) (k0_t5 : Fin (k0_t5_loop i).trips), ∀ (r : Fin 16), ∀ a, (k0_off26 i k0_t5 (BitVec.ofNat 32 r.val)) a + S1x128x128.size a ≤ S256x128x128.size a := fun i t r => Cert.Attn.tile_inb (Cert.Attn.kbW (Cert.Attn.fullW false (i 1).val) (Cert.Attn.stopW (Cert.Attn.tripsM false (i 1).val)) t) ((Cert.Attn.words (s := false) (n := (i 1).val) (i 1).isLt).kbM' t) r
theorem k0_mult4_dvd : ∀ (i : grid0.Coords) (k0_t5 : Fin (k0_t5_loop i).trips), 2048 ∣ (k0_mult4 i k0_t5).toNat := fun i t => Cert.Attn.mult_dvd (Cert.Attn.kbW (Cert.Attn.fullW false (i 1).val) (Cert.Attn.stopW (Cert.Attn.tripsM false (i 1).val)) t) ((Cert.Attn.words (s := false) (n := (i 1).val) (i 1).isLt).kbM' t)
theorem k0_off27_inb : ∀ (i : grid0.Coords) (k0_t5 : Fin (k0_t5_loop i).trips), ∀ a, (k0_off27 i k0_t5) a + S1x2048x128.size a ≤ S1x32768x128.size a := fun i t => Cert.Attn.v_inb (Cert.Attn.kbW (Cert.Attn.fullW false (i 1).val) (Cert.Attn.stopW (Cert.Attn.tripsM false (i 1).val)) t) ((Cert.Attn.words (s := false) (n := (i 1).val) (i 1).isLt).kbM' t)
theorem k0_off28_inb : ∀ (i : grid0.Coords) (k0_t5 : Fin (k0_t5_loop i).trips), ∀ (r : Fin 16), ∀ a, (k0_off28 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 0
theorem k0_off29_inb : ∀ (i : grid0.Coords) (k0_t5 : Fin (k0_t5_loop i).trips), ∀ (r : Fin 16), ∀ a, (k0_off29 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 1
theorem k0_off30_inb : ∀ (i : grid0.Coords) (k0_t5 : Fin (k0_t5_loop i).trips), ∀ (r : Fin 16), ∀ a, (k0_off30 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 2
theorem k0_off31_inb : ∀ (i : grid0.Coords) (k0_t5 : Fin (k0_t5_loop i).trips), ∀ (r : Fin 16), ∀ a, (k0_off31 i k0_t5 (BitVec.ofNat 32 r.val)) a + S1x32x128.size a ≤ S256x128x128.size a := fun i t r => Cert.Attn.tileG_inb (Cert.Attn.kbW (Cert.Attn.fullW false (i 1).val) (Cert.Attn.stopW (Cert.Attn.tripsM false (i 1).val)) t) ((Cert.Attn.words (s := false) (n := (i 1).val) (i 1).isLt).kbM' t) r 3
theorem k0_off32_inb : ∀ (i : grid0.Coords) (k0_t5 : Fin (k0_t5_loop i).trips), ∀ (r : Fin 8), ∀ a, (k0_off32 i k0_t5 (BitVec.ofNat 32 r.val)) a + S1x1x128x256.size a ≤ S1x128x128x256.size a := fun i t r => Cert.Attn.kt_inb (Cert.Attn.kbW (Cert.Attn.fullW false (i 1).val) (Cert.Attn.stopW (Cert.Attn.tripsM false (i 1).val)) t) ((Cert.Attn.words (s := false) (n := (i 1).val) (i 1).isLt).kbM' t) r
theorem k0_off33_inb : ∀ (i : grid0.Coords) (k0_t5 : Fin (k0_t5_loop i).trips), ∀ (r : Fin 16), ∀ a, (k0_off33 i k0_t5 (BitVec.ofNat 32 r.val)) a + S1x1x1x128.size a ≤ S1x256x1x128.size a := fun i t r => Cert.Attn.ks_inb (Cert.Attn.kbW (Cert.Attn.fullW false (i 1).val) (Cert.Attn.stopW (Cert.Attn.tripsM false (i 1).val)) t) ((Cert.Attn.words (s := false) (n := (i 1).val) (i 1).isLt).kbM' t) r
theorem k0_t6_ok : ∀ i : grid0.Coords, (k0_t6_loop i).OK := fun i => (Cert.Attn.words (s := true) (n := (i 1).val) (i 1).isLt).okU
theorem k0_off34_inb : ∀ (i : grid0.Coords) (k0_t6 : Fin (k0_t6_loop i).trips), ∀ (r : Fin 16), ∀ a, (k0_off34 i k0_t6 (BitVec.ofNat 32 r.val)) a + S1x128x128.size a ≤ S256x128x128.size a := fun i t r => Cert.Attn.tile_inb (Cert.Attn.kbW 0#32 0#32 t) ((Cert.Attn.words (s := true) (n := (i 1).val) (i 1).isLt).kbU t) r
theorem k0_mult5_dvd : ∀ (i : grid0.Coords) (k0_t6 : Fin (k0_t6_loop i).trips), 2048 ∣ (k0_mult5 i k0_t6).toNat := fun i t => Cert.Attn.mult_dvd (Cert.Attn.kbW 0#32 0#32 t) ((Cert.Attn.words (s := true) (n := (i 1).val) (i 1).isLt).kbU t)
theorem k0_off35_inb : ∀ (i : grid0.Coords) (k0_t6 : Fin (k0_t6_loop i).trips), ∀ a, (k0_off35 i k0_t6) a + S1x2048x128.size a ≤ S1x32768x128.size a := fun i t => Cert.Attn.v_inb (Cert.Attn.kbW 0#32 0#32 t) ((Cert.Attn.words (s := true) (n := (i 1).val) (i 1).isLt).kbU t)
theorem k0_off36_inb : ∀ (i : grid0.Coords) (k0_t6 : Fin (k0_t6_loop i).trips), ∀ (r : Fin 16), ∀ a, (k0_off36 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 0
theorem k0_off37_inb : ∀ (i : grid0.Coords) (k0_t6 : Fin (k0_t6_loop i).trips), ∀ (r : Fin 16), ∀ a, (k0_off37 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 1
theorem k0_off38_inb : ∀ (i : grid0.Coords) (k0_t6 : Fin (k0_t6_loop i).trips), ∀ (r : Fin 16), ∀ a, (k0_off38 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 2
theorem k0_off39_inb : ∀ (i : grid0.Coords) (k0_t6 : Fin (k0_t6_loop i).trips), ∀ (r : Fin 16), ∀ a, (k0_off39 i k0_t6 (BitVec.ofNat 32 r.val)) a + S1x32x128.size a ≤ S256x128x128.size a := fun i t r => Cert.Attn.tileG_inb (Cert.Attn.kbW 0#32 0#32 t) ((Cert.Attn.words (s := true) (n := (i 1).val) (i 1).isLt).kbU t) r 3
theorem k0_off40_inb : ∀ (i : grid0.Coords) (k0_t6 : Fin (k0_t6_loop i).trips), ∀ (r : Fin 8), ∀ a, (k0_off40 i k0_t6 (BitVec.ofNat 32 r.val)) a + S1x1x128x256.size a ≤ S1x128x128x256.size a := fun i t r => Cert.Attn.kt_inb (Cert.Attn.kbW 0#32 0#32 t) ((Cert.Attn.words (s := true) (n := (i 1).val) (i 1).isLt).kbU t) r
theorem k0_off41_inb : ∀ (i : grid0.Coords) (k0_t6 : Fin (k0_t6_loop i).trips), ∀ (r : Fin 16), ∀ a, (k0_off41 i k0_t6 (BitVec.ofNat 32 r.val)) a + S1x1x1x128.size a ≤ S1x256x1x128.size a := fun i t r => Cert.Attn.ks_inb (Cert.Attn.kbW 0#32 0#32 t) ((Cert.Attn.words (s := true) (n := (i 1).val) (i 1).isLt).kbU t) r
theorem k0_t7_ok : ∀ i : grid0.Coords, (k0_t7_loop i).OK := fun i => (Cert.Attn.words (s := true) (n := (i 1).val) (i 1).isLt).okU'
theorem k0_off42_inb : ∀ (i : grid0.Coords) (k0_t7 : Fin (k0_t7_loop i).trips), ∀ (r : Fin 16), ∀ a, (k0_off42 i k0_t7 (BitVec.ofNat 32 r.val)) a + S1x128x128.size a ≤ S256x128x128.size a := fun i t r => Cert.Attn.tile_inb (Cert.Attn.kbW 0#32 (Cert.Attn.stopW (Cert.Attn.tripsU true (i 1).val)) t) ((Cert.Attn.words (s := true) (n := (i 1).val) (i 1).isLt).kbU' t) r
theorem k0_mult6_dvd : ∀ (i : grid0.Coords) (k0_t7 : Fin (k0_t7_loop i).trips), 2048 ∣ (k0_mult6 i k0_t7).toNat := fun i t => Cert.Attn.mult_dvd (Cert.Attn.kbW 0#32 (Cert.Attn.stopW (Cert.Attn.tripsU true (i 1).val)) t) ((Cert.Attn.words (s := true) (n := (i 1).val) (i 1).isLt).kbU' t)
theorem k0_off43_inb : ∀ (i : grid0.Coords) (k0_t7 : Fin (k0_t7_loop i).trips), ∀ a, (k0_off43 i k0_t7) a + S1x2048x128.size a ≤ S1x32768x128.size a := fun i t => Cert.Attn.v_inb (Cert.Attn.kbW 0#32 (Cert.Attn.stopW (Cert.Attn.tripsU true (i 1).val)) t) ((Cert.Attn.words (s := true) (n := (i 1).val) (i 1).isLt).kbU' t)
theorem k0_off44_inb : ∀ (i : grid0.Coords) (k0_t7 : Fin (k0_t7_loop i).trips), ∀ (r : Fin 16), ∀ a, (k0_off44 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 0
theorem k0_off45_inb : ∀ (i : grid0.Coords) (k0_t7 : Fin (k0_t7_loop i).trips), ∀ (r : Fin 16), ∀ a, (k0_off45 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 1
theorem k0_off46_inb : ∀ (i : grid0.Coords) (k0_t7 : Fin (k0_t7_loop i).trips), ∀ (r : Fin 16), ∀ a, (k0_off46 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 2
theorem k0_off47_inb : ∀ (i : grid0.Coords) (k0_t7 : Fin (k0_t7_loop i).trips), ∀ (r : Fin 16), ∀ a, (k0_off47 i k0_t7 (BitVec.ofNat 32 r.val)) a + S1x32x128.size a ≤ S256x128x128.size a := fun i t r => Cert.Attn.tileG_inb (Cert.Attn.kbW 0#32 (Cert.Attn.stopW (Cert.Attn.tripsU true (i 1).val)) t) ((Cert.Attn.words (s := true) (n := (i 1).val) (i 1).isLt).kbU' t) r 3
theorem k0_off48_inb : ∀ (i : grid0.Coords) (k0_t7 : Fin (k0_t7_loop i).trips), ∀ (r : Fin 8), ∀ a, (k0_off48 i k0_t7 (BitVec.ofNat 32 r.val)) a + S1x1x128x256.size a ≤ S1x128x128x256.size a := fun i t r => Cert.Attn.kt_inb (Cert.Attn.kbW 0#32 (Cert.Attn.stopW (Cert.Attn.tripsU true (i 1).val)) t) ((Cert.Attn.words (s := true) (n := (i 1).val) (i 1).isLt).kbU' t) r
theorem k0_off49_inb : ∀ (i : grid0.Coords) (k0_t7 : Fin (k0_t7_loop i).trips), ∀ (r : Fin 16), ∀ a, (k0_off49 i k0_t7 (BitVec.ofNat 32 r.val)) a + S1x1x1x128.size a ≤ S1x256x1x128.size a := fun i t r => Cert.Attn.ks_inb (Cert.Attn.kbW 0#32 (Cert.Attn.stopW (Cert.Attn.tripsU true (i 1).val)) t) ((Cert.Attn.words (s := true) (n := (i 1).val) (i 1).isLt).kbU' t) r
theorem k0_t8_ok : ∀ i : grid0.Coords, (k0_t8_loop i).OK := fun i => (Cert.Attn.words (s := true) (n := (i 1).val) (i 1).isLt).okM
theorem k0_off50_inb : ∀ (i : grid0.Coords) (k0_t8 : Fin (k0_t8_loop i).trips), ∀ (r : Fin 16), ∀ a, (k0_off50 i k0_t8 (BitVec.ofNat 32 r.val)) a + S1x128x128.size a ≤ S256x128x128.size a := fun i t r => Cert.Attn.tile_inb (Cert.Attn.kbW (Cert.Attn.fullW true (i 1).val) 0#32 t) ((Cert.Attn.words (s := true) (n := (i 1).val) (i 1).isLt).kbM t) r
theorem k0_mult7_dvd : ∀ (i : grid0.Coords) (k0_t8 : Fin (k0_t8_loop i).trips), 2048 ∣ (k0_mult7 i k0_t8).toNat := fun i t => Cert.Attn.mult_dvd (Cert.Attn.kbW (Cert.Attn.fullW true (i 1).val) 0#32 t) ((Cert.Attn.words (s := true) (n := (i 1).val) (i 1).isLt).kbM t)
theorem k0_off51_inb : ∀ (i : grid0.Coords) (k0_t8 : Fin (k0_t8_loop i).trips), ∀ a, (k0_off51 i k0_t8) a + S1x2048x128.size a ≤ S1x32768x128.size a := fun i t => Cert.Attn.v_inb (Cert.Attn.kbW (Cert.Attn.fullW true (i 1).val) 0#32 t) ((Cert.Attn.words (s := true) (n := (i 1).val) (i 1).isLt).kbM t)
theorem k0_off52_inb : ∀ (i : grid0.Coords) (k0_t8 : Fin (k0_t8_loop i).trips), ∀ (r : Fin 16), ∀ a, (k0_off52 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 0
theorem k0_off53_inb : ∀ (i : grid0.Coords) (k0_t8 : Fin (k0_t8_loop i).trips), ∀ (r : Fin 16), ∀ a, (k0_off53 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 1
theorem k0_off54_inb : ∀ (i : grid0.Coords) (k0_t8 : Fin (k0_t8_loop i).trips), ∀ (r : Fin 16), ∀ a, (k0_off54 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 2
theorem k0_off55_inb : ∀ (i : grid0.Coords) (k0_t8 : Fin (k0_t8_loop i).trips), ∀ (r : Fin 16), ∀ a, (k0_off55 i k0_t8 (BitVec.ofNat 32 r.val)) a + S1x32x128.size a ≤ S256x128x128.size a := fun i t r => Cert.Attn.tileG_inb (Cert.Attn.kbW (Cert.Attn.fullW true (i 1).val) 0#32 t) ((Cert.Attn.words (s := true) (n := (i 1).val) (i 1).isLt).kbM t) r 3
theorem k0_off56_inb : ∀ (i : grid0.Coords) (k0_t8 : Fin (k0_t8_loop i).trips), ∀ (r : Fin 8), ∀ a, (k0_off56 i k0_t8 (BitVec.ofNat 32 r.val)) a + S1x1x128x256.size a ≤ S1x128x128x256.size a := fun i t r => Cert.Attn.kt_inb (Cert.Attn.kbW (Cert.Attn.fullW true (i 1).val) 0#32 t) ((Cert.Attn.words (s := true) (n := (i 1).val) (i 1).isLt).kbM t) r
theorem k0_off57_inb : ∀ (i : grid0.Coords) (k0_t8 : Fin (k0_t8_loop i).trips), ∀ (r : Fin 16), ∀ a, (k0_off57 i k0_t8 (BitVec.ofNat 32 r.val)) a + S1x1x1x128.size a ≤ S1x256x1x128.size a := fun i t r => Cert.Attn.ks_inb (Cert.Attn.kbW (Cert.Attn.fullW true (i 1).val) 0#32 t) ((Cert.Attn.words (s := true) (n := (i 1).val) (i 1).isLt).kbM t) r
theorem k0_t9_ok : ∀ i : grid0.Coords, (k0_t9_loop i).OK := fun i => (Cert.Attn.words (s := true) (n := (i 1).val) (i 1).isLt).okM'
theorem k0_off58_inb : ∀ (i : grid0.Coords) (k0_t9 : Fin (k0_t9_loop i).trips), ∀ (r : Fin 16), ∀ a, (k0_off58 i k0_t9 (BitVec.ofNat 32 r.val)) a + S1x128x128.size a ≤ S256x128x128.size a := fun i t r => Cert.Attn.tile_inb (Cert.Attn.kbW (Cert.Attn.fullW true (i 1).val) (Cert.Attn.stopW (Cert.Attn.tripsM true (i 1).val)) t) ((Cert.Attn.words (s := true) (n := (i 1).val) (i 1).isLt).kbM' t) r
theorem k0_mult8_dvd : ∀ (i : grid0.Coords) (k0_t9 : Fin (k0_t9_loop i).trips), 2048 ∣ (k0_mult8 i k0_t9).toNat := fun i t => Cert.Attn.mult_dvd (Cert.Attn.kbW (Cert.Attn.fullW true (i 1).val) (Cert.Attn.stopW (Cert.Attn.tripsM true (i 1).val)) t) ((Cert.Attn.words (s := true) (n := (i 1).val) (i 1).isLt).kbM' t)
theorem k0_off59_inb : ∀ (i : grid0.Coords) (k0_t9 : Fin (k0_t9_loop i).trips), ∀ a, (k0_off59 i k0_t9) a + S1x2048x128.size a ≤ S1x32768x128.size a := fun i t => Cert.Attn.v_inb (Cert.Attn.kbW (Cert.Attn.fullW true (i 1).val) (Cert.Attn.stopW (Cert.Attn.tripsM true (i 1).val)) t) ((Cert.Attn.words (s := true) (n := (i 1).val) (i 1).isLt).kbM' t)
theorem k0_off60_inb : ∀ (i : grid0.Coords) (k0_t9 : Fin (k0_t9_loop i).trips), ∀ (r : Fin 16), ∀ a, (k0_off60 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 0
theorem k0_off61_inb : ∀ (i : grid0.Coords) (k0_t9 : Fin (k0_t9_loop i).trips), ∀ (r : Fin 16), ∀ a, (k0_off61 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 1
theorem k0_off62_inb : ∀ (i : grid0.Coords) (k0_t9 : Fin (k0_t9_loop i).trips), ∀ (r : Fin 16), ∀ a, (k0_off62 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 2
theorem k0_off63_inb : ∀ (i : grid0.Coords) (k0_t9 : Fin (k0_t9_loop i).trips), ∀ (r : Fin 16), ∀ a, (k0_off63 i k0_t9 (BitVec.ofNat 32 r.val)) a + S1x32x128.size a ≤ S256x128x128.size a := fun i t r => Cert.Attn.tileG_inb (Cert.Attn.kbW (Cert.Attn.fullW true (i 1).val) (Cert.Attn.stopW (Cert.Attn.tripsM true (i 1).val)) t) ((Cert.Attn.words (s := true) (n := (i 1).val) (i 1).isLt).kbM' t) r 3
theorem k0_off64_inb : ∀ (i : grid0.Coords) (k0_t9 : Fin (k0_t9_loop i).trips), ∀ (r : Fin 8), ∀ a, (k0_off64 i k0_t9 (BitVec.ofNat 32 r.val)) a + S1x1x128x256.size a ≤ S1x128x128x256.size a := fun i t r => Cert.Attn.kt_inb (Cert.Attn.kbW (Cert.Attn.fullW true (i 1).val) (Cert.Attn.stopW (Cert.Attn.tripsM true (i 1).val)) t) ((Cert.Attn.words (s := true) (n := (i 1).val) (i 1).isLt).kbM' t) r
theorem k0_off65_inb : ∀ (i : grid0.Coords) (k0_t9 : Fin (k0_t9_loop i).trips), ∀ (r : Fin 16), ∀ a, (k0_off65 i k0_t9 (BitVec.ofNat 32 r.val)) a + S1x1x1x128.size a ≤ S1x256x1x128.size a := fun i t r => Cert.Attn.ks_inb (Cert.Attn.kbW (Cert.Attn.fullW true (i 1).val) (Cert.Attn.stopW (Cert.Attn.tripsM true (i 1).val)) t) ((Cert.Attn.words (s := true) (n := (i 1).val) (i 1).isLt).kbM' t) r
theorem hstage0_0 : ∀ j, (stage0_0 j).IsWhole := fun | 0 => Memref.isWhole_whole _ | 1 => Memref.isWhole_whole _ | ⟨_ + 2, h⟩ => absurd h (Nat.not_lt.2 (Nat.le_add_left _ _))
theorem nbuf0_0 : grid0.bufCount reads0_0 false = 2 := by decide
theorem hreads0_0 : ∀ i i' : grid0.Coords, (∀ a, reads0_0 a = true → i a = i' a) → cc0_transform_0 i = cc0_transform_0 i' := fun i i' h => by unfold cc0_transform_0; rw [h 0 rfl, h 1 rfl]
theorem hinb0_0 : ∀ (i : grid0.Coords) a, (cc0_transform_0 i a + 1) * S1x256x128.size a ≤ S2x262144x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c1023_i32 : Affine.IsInt 1023#32 (1023) := Affine.ofNat _ (by omega)
  have h_v0 : Affine.IsInt _ (-((i 1).val : Int) + 1023) := Affine.subi h_c1023_i32 h_arg1 (by omega)
  have h_c0_i32 : Affine.IsInt 0#32 (0) := Affine.ofNat _ (by omega)
  have h_v1 : Affine.IsInt _ ((max (-((i 1).val : Int) + 1023) 0)) := Affine.maxsi h_v0 h_c0_i32 (by omega)
  have h_c0_i32_0 : Affine.IsInt 0#32 (0) := Affine.ofNat _ (by omega)
  have h_c0_i32_1 : Affine.IsInt 0#32 (0) := Affine.ofNat _ (by omega)
  exact Affine.blk_cons h_arg0 (by omega) <| Affine.blk_cons h_v1 (by omega) <| Affine.blk_cons h_c0_i32_0 (by omega) <| Affine.blk_nil
theorem hwx0_0 : ∀ i : grid0.Coords, EltTy.bits .fp8e4m3 = 32 ∨ (Rect.block (s := S2x262144x128) S1x256x128.size (cc0_transform_0 i) (hinb0_0 i)).WholeWords (EltTy.packing .fp8e4m3) := fun _ => .inr (Affine.block_words_dvd (of_decide_eq_true rfl) (by decide))
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl, h 1 rfl]
theorem hinb0_1 : ∀ (i : grid0.Coords) a, (cc0_transform_1 i a + 1) * S1x1x8x32.size a ≤ S2x1024x8x32.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c1023_i32 : Affine.IsInt 1023#32 (1023) := Affine.ofNat _ (by omega)
  have h_v0 : Affine.IsInt _ (-((i 1).val : Int) + 1023) := Affine.subi h_c1023_i32 h_arg1 (by omega)
  have h_c0_i32 : Affine.IsInt 0#32 (0) := Affine.ofNat _ (by omega)
  have h_v1 : Affine.IsInt _ ((max (-((i 1).val : Int) + 1023) 0)) := Affine.maxsi h_v0 h_c0_i32 (by omega)
  have h_c0_i32_0 : Affine.IsInt 0#32 (0) := Affine.ofNat _ (by omega)
  have h_c0_i32_1 : Affine.IsInt 0#32 (0) := Affine.ofNat _ (by omega)
  have h_c0_i32_2 : Affine.IsInt 0#32 (0) := Affine.ofNat _ (by omega)
  exact Affine.blk_cons h_arg0 (by omega) <| Affine.blk_cons h_v1 (by omega) <| Affine.blk_cons h_c0_i32_0 (by omega) <| Affine.blk_cons h_c0_i32_1 (by omega) <| Affine.blk_nil
theorem hwx0_1 : ∀ i : grid0.Coords, EltTy.bits .f32 = 32 ∨ (Rect.block (s := S2x1024x8x32) S1x1x8x32.size (cc0_transform_1 i) (hinb0_1 i)).WholeWords (EltTy.packing .f32) := fun _ => .inl rfl
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ i i' : grid0.Coords, (∀ a, reads0_2 a = true → i a = i' a) → cc0_transform_2 i = cc0_transform_2 i' := fun i i' h => by unfold cc0_transform_2; rw [h 0 rfl]
theorem hinb0_2 : ∀ (i : grid0.Coords) a, (cc0_transform_2 i a + 1) * S1x128x128x256.size a ≤ S2x128x128x256.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  have h_c0_i32_2 : Affine.IsInt 0#32 (0) := Affine.ofNat _ (by omega)
  exact Affine.blk_cons h_arg0 (by omega) <| Affine.blk_cons h_c0_i32 (by omega) <| Affine.blk_cons h_c0_i32_0 (by omega) <| Affine.blk_cons h_c0_i32_1 (by omega) <| Affine.blk_nil
theorem hwx0_2 : ∀ i : grid0.Coords, EltTy.bits .fp8e4m3 = 32 ∨ (Rect.block (s := S2x128x128x256) S1x128x128x256.size (cc0_transform_2 i) (hinb0_2 i)).WholeWords (EltTy.packing .fp8e4m3) := fun _ => .inr (Affine.block_words_dvd (of_decide_eq_true rfl) (by decide))
theorem hstage0_3 : ∀ j, (stage0_3 j).IsWhole := fun | 0 => Memref.isWhole_whole _ | 1 => Memref.isWhole_whole _ | ⟨_ + 2, h⟩ => absurd h (Nat.not_lt.2 (Nat.le_add_left _ _))
theorem nbuf0_3 : grid0.bufCount reads0_3 false = 2 := by decide
theorem hreads0_3 : ∀ i i' : grid0.Coords, (∀ a, reads0_3 a = true → i a = i' a) → cc0_transform_3 i = cc0_transform_3 i' := fun i i' h => by unfold cc0_transform_3; rw [h 0 rfl]
theorem hinb0_3 : ∀ (i : grid0.Coords) a, (cc0_transform_3 i a + 1) * S1x256x1x128.size a ≤ S2x256x1x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  have h_c0_i32_2 : Affine.IsInt 0#32 (0) := Affine.ofNat _ (by omega)
  exact Affine.blk_cons h_arg0 (by omega) <| Affine.blk_cons h_c0_i32 (by omega) <| Affine.blk_cons h_c0_i32_0 (by omega) <| Affine.blk_cons h_c0_i32_1 (by omega) <| Affine.blk_nil
theorem hwx0_3 : ∀ i : grid0.Coords, EltTy.bits .f32 = 32 ∨ (Rect.block (s := S2x256x1x128) S1x256x1x128.size (cc0_transform_3 i) (hinb0_3 i)).WholeWords (EltTy.packing .f32) := fun _ => .inl rfl
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ i i' : grid0.Coords, (∀ a, reads0_4 a = true → i a = i' a) → cc0_transform_4 i = cc0_transform_4 i' := fun i i' h => by unfold cc0_transform_4; rw [h 0 rfl]
theorem hinb0_4 : ∀ (i : grid0.Coords) a, (cc0_transform_4 i a + 1) * S1x32768x128.size a ≤ S2x32768x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  exact Affine.blk_cons h_arg0 (by omega) <| Affine.blk_cons h_c0_i32 (by omega) <| Affine.blk_cons h_c0_i32_0 (by omega) <| Affine.blk_nil
theorem hwx0_4 : ∀ i : grid0.Coords, EltTy.bits .fp8e4m3 = 32 ∨ (Rect.block (s := S2x32768x128) S1x32768x128.size (cc0_transform_4 i) (hinb0_4 i)).WholeWords (EltTy.packing .fp8e4m3) := fun _ => .inr (Affine.block_words_dvd (of_decide_eq_true rfl) (by decide))
theorem hstage0_5 : ∀ j, (stage0_5 j).IsWhole := fun | 0 => Memref.isWhole_whole _ | 1 => Memref.isWhole_whole _ | ⟨_ + 2, h⟩ => absurd h (Nat.not_lt.2 (Nat.le_add_left _ _))
theorem nbuf0_5 : grid0.bufCount reads0_5 false = 2 := by decide
theorem hreads0_5 : ∀ i i' : grid0.Coords, (∀ a, reads0_5 a = true → i a = i' a) → cc0_transform_5 i = cc0_transform_5 i' := fun i i' h => by unfold cc0_transform_5; rw [h 0 rfl]
theorem hinb0_5 : ∀ (i : grid0.Coords) a, (cc0_transform_5 i a + 1) * S1x1x128.size a ≤ S2x1x128.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c0_i32 : Affine.IsInt 0#32 (0) := Affine.ofNat _ (by omega)
  have h_c0_i32_0 : Affine.IsInt 0#32 (0) := Affine.ofNat _ (by omega)
  have h_c0_i32_1 : Affine.IsInt 0#32 (0) := Affine.ofNat _ (by omega)
  exact Affine.blk_cons h_arg0 (by omega) <| Affine.blk_cons h_c0_i32 (by omega) <| Affine.blk_cons h_c0_i32_0 (by omega) <| Affine.blk_nil
theorem hwx0_5 : ∀ i : grid0.Coords, EltTy.bits .f32 = 32 ∨ (Rect.block (s := S2x1x128) S1x1x128.size (cc0_transform_5 i) (hinb0_5 i)).WholeWords (EltTy.packing .f32) := fun _ => .inl rfl
theorem hstage0_6 : ∀ j, (stage0_6 j).IsWhole := fun | 0 => Memref.isWhole_whole _ | 1 => Memref.isWhole_whole _ | ⟨_ + 2, h⟩ => absurd h (Nat.not_lt.2 (Nat.le_add_left _ _))
theorem nbuf0_6 : grid0.bufCount reads0_6 false = 2 := by decide
theorem hreads0_6 : ∀ i i' : grid0.Coords, (∀ a, reads0_6 a = true → i a = i' a) → cc0_transform_6 i = cc0_transform_6 i' := fun i i' h => by unfold cc0_transform_6; rw [h 0 rfl, h 1 rfl]
theorem hinb0_6 : ∀ (i : grid0.Coords) a, (cc0_transform_6 i a + 1) * S1x32x1024.size a ≤ S2x32768x1024.size a := by
  intro i
  have r_i0 : (i 0).val < 2 := (i 0).isLt
  have h_arg0 : Affine.IsInt (BitVec.ofNat 32 (i 0).val) (((i 0).val : Int)) := Affine.ofNat _ (by omega)
  have r_i1 : (i 1).val < 1025 := (i 1).isLt
  have h_arg1 : Affine.IsInt (BitVec.ofNat 32 (i 1).val) (((i 1).val : Int)) := Affine.ofNat _ (by omega)
  have h_c1024_i32 : Affine.IsInt 1024#32 (1024) := Affine.ofNat _ (by omega)
  have h_v0 : Affine.IsInt _ (-((i 1).val : Int) + 1024) := Affine.subi h_c1024_i32 h_arg1 (by omega)
  have h_c1023_i32 : Affine.IsInt 1023#32 (1023) := Affine.ofNat _ (by omega)
  have h_v1 : Affine.IsInt _ ((min (-((i 1).val : Int) + 1024) 1023)) := Affine.minsi h_v0 h_c1023_i32 (by omega)
  have h_c0_i32 : Affine.IsInt 0#32 (0) := Affine.ofNat _ (by omega)
  have h_c0_i32_0 : Affine.IsInt 0#32 (0) := Affine.ofNat _ (by omega)
  exact Affine.blk_cons h_arg0 (by omega) <| Affine.blk_cons h_v1 (by omega) <| Affine.blk_cons h_c0_i32 (by omega) <| Affine.blk_nil
theorem hwx0_6 : ∀ i : grid0.Coords, EltTy.bits .bf16 = 32 ∨ (Rect.block (s := S2x32768x1024) S1x32x1024.size (cc0_transform_6 i) (hinb0_6 i)).WholeWords (EltTy.packing .bf16) := fun _ => .inr (Affine.block_words_dvd (of_decide_eq_true rfl) (by decide))

/-- The program's facts over its vocabulary, proved: the instance its windows take. -/
instance facts₀ : Cert.KernelIdeal.Facts₀ where
  shapeCasts_S2x8x32768_S2x8x1024x32 := @shapeCasts_S2x8x32768_S2x8x1024x32
  transposes_S2x8x1024x32_S2x1024x8x32_0_2_1_3 := @transposes_S2x8x1024x32_S2x1024x8x32_0_2_1_3
  h_S1x128x128 := @h_S1x128x128
  shapeCasts_S1x128x128_S128x128 := @shapeCasts_S1x128x128_S128x128
  shapeCasts_S128x128_S1x128x128 := @shapeCasts_S128x128_S1x128x128
  inb_S128x128_S128x128_0_0 := @inb_S128x128_S128x128_0_0
  h_S128x128 := @h_S128x128
  shapeCasts_S128x128_S128x128 := @shapeCasts_S128x128_S128x128
  reduces_S128x128_S128 := @reduces_S128x128_S128
  shapeCasts_S128_S128x1 := @shapeCasts_S128_S128x1
  shapeCasts_S128x1_S128x1 := @shapeCasts_S128x1_S128x1
  broadcasts_S128x1_S128x128 := @broadcasts_S128x1_S128x128
  inb_S1x1x128_S1x1x128_0_0_0 := @inb_S1x1x128_S1x1x128_0_0_0
  h_S1x1x128 := @h_S1x1x128
  shapeCasts_S1x1x128_S1x128 := @shapeCasts_S1x1x128_S1x128
  broadcasts_S1x128_S128x128 := @broadcasts_S1x128_S128x128
  inb_S1x1x8x32_S1x1x8x1_0_0_0_16 := @inb_S1x1x8x32_S1x1x8x1_0_0_0_16
  h_S1x1x8x1 := @h_S1x1x8x1
  shapeCasts_S1x1x8x1_S8x1 := @shapeCasts_S1x1x8x1_S8x1
  shapeCasts_S8x1_S8x1 := @shapeCasts_S8x1_S8x1
  broadcasts_S8x1_S8x128 := @broadcasts_S8x1_S8x128
  inb_S128x128_S8x128_0_0 := @inb_S128x128_S8x128_0_0
  h_S8x128 := @h_S8x128
  shapeCasts_S8x128_S8x128 := @shapeCasts_S8x128_S8x128
  inb_S1x1x8x32_S1x1x8x1_0_0_0_17 := @inb_S1x1x8x32_S1x1x8x1_0_0_0_17
  inb_S128x128_S8x128_8_0 := @inb_S128x128_S8x128_8_0
  inb_S1x1x8x32_S1x1x8x1_0_0_0_18 := @inb_S1x1x8x32_S1x1x8x1_0_0_0_18
  inb_S128x128_S8x128_16_0 := @inb_S128x128_S8x128_16_0
  inb_S1x1x8x32_S1x1x8x1_0_0_0_19 := @inb_S1x1x8x32_S1x1x8x1_0_0_0_19
  inb_S128x128_S8x128_24_0 := @inb_S128x128_S8x128_24_0
  inb_S1x1x8x32_S1x1x8x1_0_0_0_20 := @inb_S1x1x8x32_S1x1x8x1_0_0_0_20
  inb_S128x128_S8x128_32_0 := @inb_S128x128_S8x128_32_0
  inb_S1x1x8x32_S1x1x8x1_0_0_0_21 := @inb_S1x1x8x32_S1x1x8x1_0_0_0_21
  inb_S128x128_S8x128_40_0 := @inb_S128x128_S8x128_40_0
  inb_S1x1x8x32_S1x1x8x1_0_0_0_22 := @inb_S1x1x8x32_S1x1x8x1_0_0_0_22
  inb_S128x128_S8x128_48_0 := @inb_S128x128_S8x128_48_0
  inb_S1x1x8x32_S1x1x8x1_0_0_0_23 := @inb_S1x1x8x32_S1x1x8x1_0_0_0_23
  inb_S128x128_S8x128_56_0 := @inb_S128x128_S8x128_56_0
  inb_S1x1x8x32_S1x1x8x1_0_0_0_24 := @inb_S1x1x8x32_S1x1x8x1_0_0_0_24
  inb_S128x128_S8x128_64_0 := @inb_S128x128_S8x128_64_0
  inb_S1x1x8x32_S1x1x8x1_0_0_0_25 := @inb_S1x1x8x32_S1x1x8x1_0_0_0_25
  inb_S128x128_S8x128_72_0 := @inb_S128x128_S8x128_72_0
  inb_S1x1x8x32_S1x1x8x1_0_0_0_26 := @inb_S1x1x8x32_S1x1x8x1_0_0_0_26
  inb_S128x128_S8x128_80_0 := @inb_S128x128_S8x128_80_0
  inb_S1x1x8x32_S1x1x8x1_0_0_0_27 := @inb_S1x1x8x32_S1x1x8x1_0_0_0_27
  inb_S128x128_S8x128_88_0 := @inb_S128x128_S8x128_88_0
  inb_S1x1x8x32_S1x1x8x1_0_0_0_28 := @inb_S1x1x8x32_S1x1x8x1_0_0_0_28
  inb_S128x128_S8x128_96_0 := @inb_S128x128_S8x128_96_0
  inb_S1x1x8x32_S1x1x8x1_0_0_0_29 := @inb_S1x1x8x32_S1x1x8x1_0_0_0_29
  inb_S128x128_S8x128_104_0 := @inb_S128x128_S8x128_104_0
  inb_S1x1x8x32_S1x1x8x1_0_0_0_30 := @inb_S1x1x8x32_S1x1x8x1_0_0_0_30
  inb_S128x128_S8x128_112_0 := @inb_S128x128_S8x128_112_0
  inb_S1x1x8x32_S1x1x8x1_0_0_0_31 := @inb_S1x1x8x32_S1x1x8x1_0_0_0_31
  inb_S128x128_S8x128_120_0 := @inb_S128x128_S8x128_120_0
  bitsLt_fp8e4m3_f32 := @bitsLt_fp8e4m3_f32
  concatenates_S128x128_S128x128_S128x128_S128x128_S128x128_S128x128_S128x128_S128x128_S128x128_S128x128_S128x128_S128x128_S128x128_S128x128_S128x128_S128x128_S128x2048_d1 := @concatenates_S128x128_S128x128_S128x128_S128x128_S128x128_S128x128_S128x128_S128x128_S128x128_S128x128_S128x128_S128x128_S128x128_S128x128_S128x128_S128x128_S128x2048_d1
  h_S1x2048x128 := @h_S1x2048x128
  shapeCasts_S1x2048x128_S2048x128 := @shapeCasts_S1x2048x128_S2048x128
  inb_S128x128_S32x128_0_0 := @inb_S128x128_S32x128_0_0
  h_S32x128 := @h_S32x128
  h_S1x32x128 := @h_S1x32x128
  shapeCasts_S1x32x128_S32x128 := @shapeCasts_S1x32x128_S32x128
  shapeCasts_S32x128_S1x32x128 := @shapeCasts_S32x128_S1x32x128
  shapeCasts_S32x128_S32x128 := @shapeCasts_S32x128_S32x128
  inb_S128x128_S32x128_32_0 := @inb_S128x128_S32x128_32_0
  inb_S128x128_S32x128_64_0 := @inb_S128x128_S32x128_64_0
  inb_S128x128_S32x128_96_0 := @inb_S128x128_S32x128_96_0
  inb_S1x256x128_S1x128x128_0_128_0 := @inb_S1x256x128_S1x128x128_0_128_0
  h_S1x1x128x256 := @h_S1x1x128x256
  shapeCasts_S1x1x128x256_S128x256 := @shapeCasts_S1x1x128x256_S128x256
  slices_S128x256_o0_0_S128x128 := @slices_S128x256_o0_0_S128x128
  h_S1x1x1x128 := @h_S1x1x1x128
  shapeCasts_S1x1x1x128_S1x128 := @shapeCasts_S1x1x1x128_S1x128
  slices_S128x256_o0_128_S128x128 := @slices_S128x256_o0_128_S128x128
  iota_S128x128_d1_w32 := @iota_S128x128_d1_w32
  iota_S128x128_d0_w32 := @iota_S128x128_d0_w32
  natLt_1_32 := @natLt_1_32
  inb_S128x128_S16x128_0_0_s_8_1 := @inb_S128x128_S16x128_0_0_s_8_1
  h_S16x128 := @h_S16x128
  bitsLt_bf16_f32 := @bitsLt_bf16_f32
  inb_S1x32x1024_S1x16x128_0_16_0 := @inb_S1x32x1024_S1x16x128_0_16_0
  h_S1x16x128 := @h_S1x16x128
  shapeCasts_S1x16x128_S16x128 := @shapeCasts_S1x16x128_S16x128
  shapeCasts_S16x128_S1x16x128 := @shapeCasts_S16x128_S1x16x128
  packedbf16_S1x32x1024_S1x16x128_0_16_0 := @packedbf16_S1x32x1024_S1x16x128_0_16_0
  inb_S128x128_S16x128_1_0_s_8_1 := @inb_S128x128_S16x128_1_0_s_8_1
  inb_S1x32x1024_S1x16x128_0_16_128 := @inb_S1x32x1024_S1x16x128_0_16_128
  packedbf16_S1x32x1024_S1x16x128_0_16_128 := @packedbf16_S1x32x1024_S1x16x128_0_16_128
  inb_S128x128_S16x128_2_0_s_8_1 := @inb_S128x128_S16x128_2_0_s_8_1
  inb_S1x32x1024_S1x16x128_0_16_256 := @inb_S1x32x1024_S1x16x128_0_16_256
  packedbf16_S1x32x1024_S1x16x128_0_16_256 := @packedbf16_S1x32x1024_S1x16x128_0_16_256
  inb_S128x128_S16x128_3_0_s_8_1 := @inb_S128x128_S16x128_3_0_s_8_1
  inb_S1x32x1024_S1x16x128_0_16_384 := @inb_S1x32x1024_S1x16x128_0_16_384
  packedbf16_S1x32x1024_S1x16x128_0_16_384 := @packedbf16_S1x32x1024_S1x16x128_0_16_384
  inb_S128x128_S16x128_4_0_s_8_1 := @inb_S128x128_S16x128_4_0_s_8_1
  inb_S1x32x1024_S1x16x128_0_16_512 := @inb_S1x32x1024_S1x16x128_0_16_512
  packedbf16_S1x32x1024_S1x16x128_0_16_512 := @packedbf16_S1x32x1024_S1x16x128_0_16_512
  inb_S128x128_S16x128_5_0_s_8_1 := @inb_S128x128_S16x128_5_0_s_8_1
  inb_S1x32x1024_S1x16x128_0_16_640 := @inb_S1x32x1024_S1x16x128_0_16_640
  packedbf16_S1x32x1024_S1x16x128_0_16_640 := @packedbf16_S1x32x1024_S1x16x128_0_16_640
  inb_S128x128_S16x128_6_0_s_8_1 := @inb_S128x128_S16x128_6_0_s_8_1
  inb_S1x32x1024_S1x16x128_0_16_768 := @inb_S1x32x1024_S1x16x128_0_16_768
  packedbf16_S1x32x1024_S1x16x128_0_16_768 := @packedbf16_S1x32x1024_S1x16x128_0_16_768
  inb_S128x128_S16x128_7_0_s_8_1 := @inb_S128x128_S16x128_7_0_s_8_1
  inb_S1x32x1024_S1x16x128_0_16_896 := @inb_S1x32x1024_S1x16x128_0_16_896
  packedbf16_S1x32x1024_S1x16x128_0_16_896 := @packedbf16_S1x32x1024_S1x16x128_0_16_896
  inb_S1x1x8x32_S1x1x8x1_0_0_0_0 := @inb_S1x1x8x32_S1x1x8x1_0_0_0_0
  inb_S1x1x8x32_S1x1x8x1_0_0_0_1 := @inb_S1x1x8x32_S1x1x8x1_0_0_0_1
  inb_S1x1x8x32_S1x1x8x1_0_0_0_2 := @inb_S1x1x8x32_S1x1x8x1_0_0_0_2
  inb_S1x1x8x32_S1x1x8x1_0_0_0_3 := @inb_S1x1x8x32_S1x1x8x1_0_0_0_3
  inb_S1x1x8x32_S1x1x8x1_0_0_0_4 := @inb_S1x1x8x32_S1x1x8x1_0_0_0_4
  inb_S1x1x8x32_S1x1x8x1_0_0_0_5 := @inb_S1x1x8x32_S1x1x8x1_0_0_0_5
  inb_S1x1x8x32_S1x1x8x1_0_0_0_6 := @inb_S1x1x8x32_S1x1x8x1_0_0_0_6
  inb_S1x1x8x32_S1x1x8x1_0_0_0_7 := @inb_S1x1x8x32_S1x1x8x1_0_0_0_7
  inb_S1x1x8x32_S1x1x8x1_0_0_0_8 := @inb_S1x1x8x32_S1x1x8x1_0_0_0_8
  inb_S1x1x8x32_S1x1x8x1_0_0_0_9 := @inb_S1x1x8x32_S1x1x8x1_0_0_0_9
  inb_S1x1x8x32_S1x1x8x1_0_0_0_10 := @inb_S1x1x8x32_S1x1x8x1_0_0_0_10
  inb_S1x1x8x32_S1x1x8x1_0_0_0_11 := @inb_S1x1x8x32_S1x1x8x1_0_0_0_11
  inb_S1x1x8x32_S1x1x8x1_0_0_0_12 := @inb_S1x1x8x32_S1x1x8x1_0_0_0_12
  inb_S1x1x8x32_S1x1x8x1_0_0_0_13 := @inb_S1x1x8x32_S1x1x8x1_0_0_0_13
  inb_S1x1x8x32_S1x1x8x1_0_0_0_14 := @inb_S1x1x8x32_S1x1x8x1_0_0_0_14
  inb_S1x1x8x32_S1x1x8x1_0_0_0_15 := @inb_S1x1x8x32_S1x1x8x1_0_0_0_15
  inb_S1x256x128_S1x128x128_0_0_0 := @inb_S1x256x128_S1x128x128_0_0_0
  inb_S1x32x1024_S1x16x128_0_0_0 := @inb_S1x32x1024_S1x16x128_0_0_0
  packedbf16_S1x32x1024_S1x16x128_0_0_0 := @packedbf16_S1x32x1024_S1x16x128_0_0_0
  inb_S1x32x1024_S1x16x128_0_0_128 := @inb_S1x32x1024_S1x16x128_0_0_128
  packedbf16_S1x32x1024_S1x16x128_0_0_128 := @packedbf16_S1x32x1024_S1x16x128_0_0_128
  inb_S1x32x1024_S1x16x128_0_0_256 := @inb_S1x32x1024_S1x16x128_0_0_256
  packedbf16_S1x32x1024_S1x16x128_0_0_256 := @packedbf16_S1x32x1024_S1x16x128_0_0_256
  inb_S1x32x1024_S1x16x128_0_0_384 := @inb_S1x32x1024_S1x16x128_0_0_384
  packedbf16_S1x32x1024_S1x16x128_0_0_384 := @packedbf16_S1x32x1024_S1x16x128_0_0_384
  inb_S1x32x1024_S1x16x128_0_0_512 := @inb_S1x32x1024_S1x16x128_0_0_512
  packedbf16_S1x32x1024_S1x16x128_0_0_512 := @packedbf16_S1x32x1024_S1x16x128_0_0_512
  inb_S1x32x1024_S1x16x128_0_0_640 := @inb_S1x32x1024_S1x16x128_0_0_640
  packedbf16_S1x32x1024_S1x16x128_0_0_640 := @packedbf16_S1x32x1024_S1x16x128_0_0_640
  inb_S1x32x1024_S1x16x128_0_0_768 := @inb_S1x32x1024_S1x16x128_0_0_768
  packedbf16_S1x32x1024_S1x16x128_0_0_768 := @packedbf16_S1x32x1024_S1x16x128_0_0_768
  inb_S1x32x1024_S1x16x128_0_0_896 := @inb_S1x32x1024_S1x16x128_0_0_896
  packedbf16_S1x32x1024_S1x16x128_0_0_896 := @packedbf16_S1x32x1024_S1x16x128_0_0_896
  dot_S128x2048_S2048x128_S128x128_1_0_0_1_n_n_wf := @dot_S128x2048_S2048x128_S128x128_1_0_0_1_n_n_wf
  dot_S128x128_S128x256_S128x256_1_0_0_1_n_n_wf := @dot_S128x128_S128x256_S128x256_1_0_0_1_n_n_wf
  hrank0 := @hrank0
  k0_t1_ok := @k0_t1_ok
  k0_off1_inb := @k0_off1_inb
  k0_t2_ok := @k0_t2_ok
  k0_off2_inb := @k0_off2_inb
  k0_mult1_dvd := @k0_mult1_dvd
  k0_off3_inb := @k0_off3_inb
  k0_off4_inb := @k0_off4_inb
  k0_off5_inb := @k0_off5_inb
  k0_off6_inb := @k0_off6_inb
  k0_off7_inb := @k0_off7_inb
  k0_off8_inb := @k0_off8_inb
  k0_off9_inb := @k0_off9_inb
  k0_t3_ok := @k0_t3_ok
  k0_off10_inb := @k0_off10_inb
  k0_mult2_dvd := @k0_mult2_dvd
  k0_off11_inb := @k0_off11_inb
  k0_off12_inb := @k0_off12_inb
  k0_off13_inb := @k0_off13_inb
  k0_off14_inb := @k0_off14_inb
  k0_off15_inb := @k0_off15_inb
  k0_off16_inb := @k0_off16_inb
  k0_off17_inb := @k0_off17_inb
  k0_t4_ok := @k0_t4_ok
  k0_off18_inb := @k0_off18_inb
  k0_mult3_dvd := @k0_mult3_dvd
  k0_off19_inb := @k0_off19_inb
  k0_off20_inb := @k0_off20_inb
  k0_off21_inb := @k0_off21_inb
  k0_off22_inb := @k0_off22_inb
  k0_off23_inb := @k0_off23_inb
  k0_off24_inb := @k0_off24_inb
  k0_off25_inb := @k0_off25_inb
  k0_t5_ok := @k0_t5_ok
  k0_off26_inb := @k0_off26_inb
  k0_mult4_dvd := @k0_mult4_dvd
  k0_off27_inb := @k0_off27_inb
  k0_off28_inb := @k0_off28_inb
  k0_off29_inb := @k0_off29_inb
  k0_off30_inb := @k0_off30_inb
  k0_off31_inb := @k0_off31_inb
  k0_off32_inb := @k0_off32_inb
  k0_off33_inb := @k0_off33_inb
  k0_t6_ok := @k0_t6_ok
  k0_off34_inb := @k0_off34_inb
  k0_mult5_dvd := @k0_mult5_dvd
  k0_off35_inb := @k0_off35_inb
  k0_off36_inb := @k0_off36_inb
  k0_off37_inb := @k0_off37_inb
  k0_off38_inb := @k0_off38_inb
  k0_off39_inb := @k0_off39_inb
  k0_off40_inb := @k0_off40_inb
  k0_off41_inb := @k0_off41_inb
  k0_t7_ok := @k0_t7_ok
  k0_off42_inb := @k0_off42_inb
  k0_mult6_dvd := @k0_mult6_dvd
  k0_off43_inb := @k0_off43_inb
  k0_off44_inb := @k0_off44_inb
  k0_off45_inb := @k0_off45_inb
  k0_off46_inb := @k0_off46_inb
  k0_off47_inb := @k0_off47_inb
  k0_off48_inb := @k0_off48_inb
  k0_off49_inb := @k0_off49_inb
  k0_t8_ok := @k0_t8_ok
  k0_off50_inb := @k0_off50_inb
  k0_mult7_dvd := @k0_mult7_dvd
  k0_off51_inb := @k0_off51_inb
  k0_off52_inb := @k0_off52_inb
  k0_off53_inb := @k0_off53_inb
  k0_off54_inb := @k0_off54_inb
  k0_off55_inb := @k0_off55_inb
  k0_off56_inb := @k0_off56_inb
  k0_off57_inb := @k0_off57_inb
  k0_t9_ok := @k0_t9_ok
  k0_off58_inb := @k0_off58_inb
  k0_mult8_dvd := @k0_mult8_dvd
  k0_off59_inb := @k0_off59_inb
  k0_off60_inb := @k0_off60_inb
  k0_off61_inb := @k0_off61_inb
  k0_off62_inb := @k0_off62_inb
  k0_off63_inb := @k0_off63_inb
  k0_off64_inb := @k0_off64_inb
  k0_off65_inb := @k0_off65_inb
  hstage0_0 := @hstage0_0
  nbuf0_0 := @nbuf0_0
  hreads0_0 := @hreads0_0
  hinb0_0 := @hinb0_0
  hwx0_0 := @hwx0_0
  hstage0_1 := @hstage0_1
  nbuf0_1 := @nbuf0_1
  hreads0_1 := @hreads0_1
  hinb0_1 := @hinb0_1
  hwx0_1 := @hwx0_1
  hstage0_2 := @hstage0_2
  nbuf0_2 := @nbuf0_2
  hreads0_2 := @hreads0_2
  hinb0_2 := @hinb0_2
  hwx0_2 := @hwx0_2
  hstage0_3 := @hstage0_3
  nbuf0_3 := @nbuf0_3
  hreads0_3 := @hreads0_3
  hinb0_3 := @hinb0_3
  hwx0_3 := @hwx0_3
  hstage0_4 := @hstage0_4
  nbuf0_4 := @nbuf0_4
  hreads0_4 := @hreads0_4
  hinb0_4 := @hinb0_4
  hwx0_4 := @hwx0_4
  hstage0_5 := @hstage0_5
  nbuf0_5 := @nbuf0_5
  hreads0_5 := @hreads0_5
  hinb0_5 := @hinb0_5
  hwx0_5 := @hwx0_5
  hstage0_6 := @hstage0_6
  nbuf0_6 := @nbuf0_6
  hreads0_6 := @hreads0_6
  hinb0_6 := @hinb0_6
  hwx0_6 := @hwx0_6

/-! ## The facts over the windows (`Facts`) -/

/-- Every fact the program states, proved: the instance its functions and a certificate's claims take. -/
instance facts : Cert.KernelIdeal.Facts where

end Cert.KernelIdeal.Hand
-- ==== Proof.KernelIdealLaunch.lean ====
/-
  The launch of the one kernel call of `KernelIdeal`: its operands, its scratch, and the host operations before it.
-/
module

public import proofs.«01_k».proof.Proof.KernelIdealFacts
public import Idealize.ShloMosaic.Lib.Pipeline.Kit
public import Idealize.ShloMosaic.Lib.Pipeline.Regions

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 7, 0 < (spec0 w).block.numel := by decide
/-- The windows' arrays and the staging memrefs are whole buffers. -/
theorem arr_whole0 : ∀ w : Fin 7, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole0 : ∀ (w : Fin 7) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | ⟨_ + 7, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 2050 points. -/
theorem N_0 : grid0.N = 2050 := by decide

/-- The windows conjoined one by one. -/
theorem bigSep_W0 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ
/-- The core's scoped buffers that are no staging buffer of custom_call 0, each whole at some contents:
    `cc0_scratch0`, `cc0_scratch1`, `cc0_scratch2`, `cc0_scratch3`, `cc0_scratch4`, `cc0_scratch5`, `cc0_scratch6`, `cc0_scratch7`, `cc0_scratch8`, `cc0_scratch9`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f) ∗ (∃ f : Buf Val ((c : Thread nD τ).loc cc0_scratch5), ((c : Thread nD τ).loc cc0_scratch5) ↦{fullShare} f) ∗ (∃ f : Buf Val ((c : Thread nD τ).loc cc0_scratch6), ((c : Thread nD τ).loc cc0_scratch6) ↦{fullShare} f) ∗ (∃ f : Buf Val ((c : Thread nD τ).loc cc0_scratch7), ((c : Thread nD τ).loc cc0_scratch7) ↦{fullShare} f) ∗ (∃ f : Buf Val ((c : Thread nD τ).loc cc0_scratch8), ((c : Thread nD τ).loc cc0_scratch8) ↦{fullShare} f) ∗ (∃ f : Buf Val ((c : Thread nD τ).loc cc0_scratch9), ((c : Thread nD τ).loc cc0_scratch9) ↦{fullShare} f)) :=
  Pipeline.scopedRest_eq_of_list spec0 c [cc0_scratch0, cc0_scratch1, cc0_scratch2, cc0_scratch3, cc0_scratch4, cc0_scratch5, cc0_scratch6, cc0_scratch7, cc0_scratch8, cc0_scratch9] (by decide) (by decide)
/-- Its unscoped buffers that are no window's array, each whole at contents `V`:
    `main_arg0`, `main_arg1`, `main_arg2`, `main_v2`. -/
theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec0 c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_v2) ↦{fullShare} V main_v2)) :=
  Pipeline.unscopedRest_eq_of_list spec0 c V [main_arg0, main_arg1, main_arg2, main_v2] (by decide) (by decide)

/-! ## @main as segments and as a chain of items (Lib/Pipeline/Regions.lean `θ_run_regions_kit`, `Pipeline.chain`) -/

/-- 4 host operations of @main, in order. -/
abbrev hostOps0 : List (HloOp τ sig (Elt F)) :=
  [ StableHlo.unary main_arg0 main_v0 (Host.convertf .fp8e4m3 : (⟨S2x262144x128, .f32⟩ : BufTy).Contents (Elt F) → (⟨S2x262144x128, .fp8e4m3⟩ : BufTy).Contents (Elt F)),
    StableHlo.unary main_arg2 main_v1 (Host.convertf .fp8e4m3 : (⟨S2x128x128x256, .f32⟩ : BufTy).Contents (Elt F) → (⟨S2x128x128x256, .fp8e4m3⟩ : BufTy).Contents (Elt F)),
    StableHlo.reshape main_arg1 main_v2 (rfl : (.f32 : EltTy) = .f32) shapeCasts_S2x8x32768_S2x8x1024x32,
    StableHlo.unary main_v2 main_v3 ((transpose S2x1024x8x32 [0, 2, 1, 3] · transposes_S2x8x1024x32_S2x1024x8x32_0_2_1_3) : (⟨S2x8x1024x32, .f32⟩ : BufTy).Contents (Elt F) → (⟨S2x1024x8x32, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- @main is the run of the certificate's segments: its host segments over the `hostOpsJ` and its regions at
    pipelines 0, in @main's order (`Pipeline.Seg.run`; `θ_run_regions_kit`'s `hmain` by
    `fun c Q => by rw [main_segs …]`). -/
theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0)
    (h0 : H0.prog = StableHlo.seq hostOps0)
    (c : Dev nD) :
    main c = Pipeline.Seg.run [.host H0, .region R0] := by
  simp only [Pipeline.Seg.run]
  rw [h0]
  rfl

end Cert.KernelIdeal.Hand

end
-- ==== Proof.KernelIdealPoints.lean ====
/-
  The points of the grid: which windows are fetched where, the staging buffers, the body as called there.
-/
module

public import proofs.«01_k».proof.Proof.KernelIdealFacts
public import Idealize.ShloMosaic.Lib.Pipeline.Kit

@[expose] public section

noncomputable section

namespace Cert.KernelIdeal.Hand

open Idealize.ShloMosaic Idealize.ShloMosaic.TcCoe
open Idealize.SL Idealize.SL.Sem

variable {F : FTy → Type} [FloatOps F] [Named F]
/-! ## custom_call 0 -/

-- window 0 is fetched at points [0, 1, 2, 3, 4, 5, 6, 7, 8, 9, 10, 11]…: no closed form stated
-- window 1 is fetched at points [0, 1, 2, 3, 4, 5, 6, 7, 8, 9, 10, 11]…: no closed form stated
/-- Window 2 (operand 2 (%1)) is fetched at the points ≡ 0 (mod 1025). -/
theorem fetch0_2 : ∀ t : Fin cfg0.N, (cfg0.win 2).fetch t = true ↔ t.val % 1025 = 0 :=
  (fun t => Pipeline.Window.fetch_reads win0_2 rfl 0 (by decide) (by decide) (Pipeline.Window.sep_of_coord cc0_transform_2 0 0 (fun _ => rfl) (by decide)) (P := 1025) (by decide) t : ∀ t : Fin grid0.N, win0_2.fetch t = true ↔ t.val % 1025 = 0)
/-- Window 3 (operand 3 (%arg3)) is fetched at the points ≡ 0 (mod 1025). -/
theorem fetch0_3 : ∀ t : Fin cfg0.N, (cfg0.win 3).fetch t = true ↔ t.val % 1025 = 0 :=
  (fun t => Pipeline.Window.fetch_reads win0_3 rfl 0 (by decide) (by decide) (Pipeline.Window.sep_of_coord cc0_transform_3 0 0 (fun _ => rfl) (by decide)) (P := 1025) (by decide) t : ∀ t : Fin grid0.N, win0_3.fetch t = true ↔ t.val % 1025 = 0)
/-- Window 4 (operand 4 (%arg4)) is fetched at the points ≡ 0 (mod 1025). -/
theorem fetch0_4 : ∀ t : Fin cfg0.N, (cfg0.win 4).fetch t = true ↔ t.val % 1025 = 0 :=
  (fun t => Pipeline.Window.fetch_reads win0_4 rfl 0 (by decide) (by decide) (Pipeline.Window.sep_of_coord cc0_transform_4 0 0 (fun _ => rfl) (by decide)) (P := 1025) (by decide) t : ∀ t : Fin grid0.N, win0_4.fetch t = true ↔ t.val % 1025 = 0)
/-- Window 5 (operand 5 (%arg5)) is fetched at the points ≡ 0 (mod 1025). -/
theorem fetch0_5 : ∀ t : Fin cfg0.N, (cfg0.win 5).fetch t = true ↔ t.val % 1025 = 0 :=
  (fun t => Pipeline.Window.fetch_reads win0_5 rfl 0 (by decide) (by decide) (Pipeline.Window.sep_of_coord cc0_transform_5 0 0 (fun _ => rfl) (by decide)) (P := 1025) (by decide) t : ∀ t : Fin grid0.N, win0_5.fetch t = true ↔ t.val % 1025 = 0)
-- window 6 is written back at points [1, 2, 3, 4, 5, 6, 7, 8, 9, 10, 11, 12]…: no closed form stated

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)

/-- The kernel body at point `t`, on what the pipeline calls it with (`defs₀`'s row at the slots). -/
abbrev bodyAt0 (t : Fin cfg0.N) : Prog (TpuEff nD τ sig (Elt F) Λ₀ .tc) PUnit :=
  cc0_attention (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

end Cert.KernelIdeal.Hand

end
-- ==== Proof.KernelIdealFrame.lean ====
/-
  The host operations before the call and what the arrays hold there; the frame claim from a run of the call.
-/
module

public import proofs.«01_k».proof.Proof.KernelIdealLaunch
public import proofs.«01_k».proof.Proof.KernelIdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c)))⟩) h

end Cert.KernelIdeal.Hand

end
-- ==== Proof.KernelIdealRun.lean ====
/-
  The run of the kernel call: the body, at every point of the grid, does to its blocks and scratch arrays what `run` says. Any
  statement about the scratch arrays that one body carries to the next holds throughout, and any statement about the output
  block that it implies holds of what is written back.
-/
module

public import proofs.«01_k».proof.Proof.KernelIdealEq
public import proofs.«01_k».proof.Proof.KernelIdealFrame
public import proofs.«01_k».proof.Proof.Safe
public import Idealize.ShloMosaic.Lib.Claim

@[expose] public section

noncomputable section

namespace Cert.Attn.KI

open Cert.KernelIdeal Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body as a function -/

/-- What the body does at point `t`. -/
def step (t : Fin cfg0.N) : St F → St F :=
  run (body (F := F) (k0_cond1 (grid0.coords t) = 1#1) inferInstance (grid0.coords t 1).val (words (grid0.coords t 1).isLt)
    (words (grid0.coords t 1).isLt) (Named.named κ "log2_e" 0x3FB8AA3B#32) (Named.named κ "log2_scale" 0x3E0293EE#32))

theorem step_in {w : W} (hw : w.isIn = true) (t : Fin cfg0.N) (s : St F) : step t s w = s w :=
  run_in hw _ (safe_body _ _ _ _ _ _ _) s

/-- The six blocks read at point `t`. -/
structure Ins (c : Dev nD) (t : Fin cfg0.N) (s : St F) : Prop where
  q : s .q = iblk m c 0 t
  qs : s .qs = iblk m c 1 t
  kt : s .kt = iblk m c 2 t
  ks : s .ks = iblk m c 3 t
  v : s .v = iblk m c 4 t
  vs : s .vs = iblk m c 5 t

/-- A statement about the scratch arrays before each point, and one about the output block after it, that the body keeps. -/
structure Good (J : Dev nD → ℕ → St F → Prop) (O : Dev nD → Fin cfg0.N → RegOf F .out → Prop) : Prop where
  start : ∀ c s, J c 0 s
  scratch : ∀ c n (s s' : St F), (∀ w, w.isIn = false → w ≠ .out → s w = s' w) → J c n s → J c n s'
  next : ∀ c (t : Fin cfg0.N) s, Ins m c t s → J c t.val s → J c (t.val + 1) (step t s) ∧ O c t (step t s .out)

variable (J : Dev nD → ℕ → St F → Prop) (O : Dev nD → Fin cfg0.N → RegOf F .out → Prop)

/-- Some contents of the scratch arrays of which `J` holds, and the generator's register. -/
def Inv (c : Dev nD) (n : ℕ) : sProp 𝕄 :=
  iprop((∃ s : St F, ⌜J c n s⌝
    ∗ owns (c : Thread nD τ) (Memref.whole cc0_scratch0) fullShare (s (.buf false)) ∗ owns (c : Thread nD τ) (Memref.whole cc0_scratch1) fullShare (s (.buf true))
    ∗ owns (c : Thread nD τ) (Memref.whole cc0_scratch2) fullShare (s (.aq false)) ∗ owns (c : Thread nD τ) (Memref.whole cc0_scratch3) fullShare (s (.aq true))
    ∗ owns (c : Thread nD τ) (Memref.whole cc0_scratch4) fullShare (s .rm) ∗ owns (c : Thread nD τ) (Memref.whole cc0_scratch5) fullShare (s .rs)
    ∗ owns (c : Thread nD τ) (Memref.whole cc0_scratch6) fullShare (s .oa) ∗ owns (c : Thread nD τ) (Memref.whole cc0_scratch7) fullShare (s .sh)
    ∗ owns (c : Thread nD τ) (Memref.whole cc0_scratch8) fullShare (s .no) ∗ owns (c : Thread nD τ) (Memref.whole cc0_scratch9) fullShare (s .os))
    ∗ ∃ r, prngReg c r)

theorem inv_in (h : ∀ c s, J c 0 s) (c : Dev nD) : (Pipeline.ΦA spec0 c : sProp 𝕄) ⊢ Inv J c 0 := by
  unfold Pipeline.ΦA Inv
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, HP⟩
  isplitr [HP]
  swap; · iexact HP
  iexists (fun w => match w with
    | .buf false => f0 | .buf true => f1 | .aq false => f2 | .aq true => f3
    | .rm => f4 | .rs => f5 | .oa => f6 | .sh => f7 | .no => f8 | .os => f9
    | _ => fun _ => Classical.arbitrary _)
  isplitr; · ipureintro; exact h _ _
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem inv_out (c : Dev nD) (n : ℕ) : Inv J c n ⊢ (Pipeline.ΦA spec0 c : sProp 𝕄) := by
  unfold Pipeline.ΦA Inv
  rw [scopedRest0_eq]
  simp only [owns_whole]
  iintro ⟨⟨%s, -, H0, H1, H2, H3, H4, H5, H6, H7, H8, H9⟩, HP⟩
  isplitr [HP]
  swap; · iexact HP
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The pipeline's data: an input block is left as found, an output block as `O` says. -/
def rdat (c : Dev nD) : RDat τ (Elt F) Unit ℕ (UR sig nD τ) ℕ cfg0 c where
  A w := Hand.V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => O c t X
  Φ t := Inv J c t.val
  q _ := fullShare
  owed _ := 0

theorem A_eq (c : Dev nD) (w : Fin cfg0.W) : (rdat m J O c).A w = Hand.V m c (Pipeline.arrRef spec0 w) := by
  dsimp only [rdat]

/-- Whatever the body finds in an input's staging buffer is that input's block. -/
theorem finds_in (c : Dev nD) (w : Fin cfg0.W) (hw : (cfg0.win w).isOut = false)
    (hclip : ∀ t t' : Fin cfg0.N, (cfg0.win w).clip (cfg0.grid.coords t) = (cfg0.win w).clip (cfg0.grid.coords t'))
    (hkeep : ∀ t Y X, (rdat m J O c).after w t Y X → X = Y) (t : Fin cfg0.N) (Y) (h : (rdat m J O c).Finds w t Y) :
    ∃ d, Y = (rdat m J O c).fetched w t d :=
  (rdat m J O c).finds_in_eq_fetched w hw (fun t t' _ => hclip t t') hkeep t Y h

theorem finds0 (c : Dev nD) (t : Fin cfg0.N) (Y) (h : (rdat m J O c).Finds 0 t Y) : Y = iblk m c 0 t := by
  obtain ⟨d, rfl⟩ := finds_in m J O c 0 rfl (fun _ _ => rfl) (fun _ _ _ h => h) t Y h
  unfold RDat.fetched RDat.blockOf iblk; rw [A_eq]; rfl
theorem finds1 (c : Dev nD) (t : Fin cfg0.N) (Y) (h : (rdat m J O c).Finds 1 t Y) : Y = iblk m c 1 t := by
  obtain ⟨d, rfl⟩ := finds_in m J O c 1 rfl (fun _ _ => rfl) (fun _ _ _ h => h) t Y h
  unfold RDat.fetched RDat.blockOf iblk; rw [A_eq]; rfl
theorem finds2 (c : Dev nD) (t : Fin cfg0.N) (Y) (h : (rdat m J O c).Finds 2 t Y) : Y = iblk m c 2 t := by
  obtain ⟨d, rfl⟩ := finds_in m J O c 2 rfl (fun _ _ => rfl) (fun _ _ _ h => h) t Y h
  unfold RDat.fetched RDat.blockOf iblk; rw [A_eq]; rfl
theorem finds3 (c : Dev nD) (t : Fin cfg0.N) (Y) (h : (rdat m J O c).Finds 3 t Y) : Y = iblk m c 3 t := by
  obtain ⟨d, rfl⟩ := finds_in m J O c 3 rfl (fun _ _ => rfl) (fun _ _ _ h => h) t Y h
  unfold RDat.fetched RDat.blockOf iblk; rw [A_eq]; rfl
theorem finds4 (c : Dev nD) (t : Fin cfg0.N) (Y) (h : (rdat m J O c).Finds 4 t Y) : Y = iblk m c 4 t := by
  obtain ⟨d, rfl⟩ := finds_in m J O c 4 rfl (fun _ _ => rfl) (fun _ _ _ h => h) t Y h
  unfold RDat.fetched RDat.blockOf iblk; rw [A_eq]; rfl
theorem finds5 (c : Dev nD) (t : Fin cfg0.N) (Y) (h : (rdat m J O c).Finds 5 t Y) : Y = iblk m c 5 t := by
  obtain ⟨d, rfl⟩ := finds_in m J O c 5 rfl (fun _ _ => rfl) (fun _ _ _ h => h) t Y h
  unfold RDat.fetched RDat.blockOf iblk; rw [A_eq]; rfl

/-! ## The body's triple -/

/-- The memory the body is called with at point `t`. -/
def argsAt (t : Fin cfg0.N) : Args sig :=
  argsOf (st0_0 t) (st0_1 t) (st0_2 t) (st0_3 t) (st0_4 t) (st0_5 t) (st0_6 t)
    (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9)

/-- Owning every region, one by one. -/
theorem own_eq (c : Dev nD) (t : Fin cfg0.N) (s : St F) : (Own c (argsAt t) s : sProp 𝕄) = iprop(
    owns (c : Thread nD τ) (st0_0 t) fullShare (s .q) ∗ owns (c : Thread nD τ) (st0_1 t) fullShare (s .qs)
    ∗ owns (c : Thread nD τ) (st0_2 t) fullShare (s .kt) ∗ owns (c : Thread nD τ) (st0_3 t) fullShare (s .ks)
    ∗ owns (c : Thread nD τ) (st0_4 t) fullShare (s .v) ∗ owns (c : Thread nD τ) (st0_5 t) fullShare (s .vs)
    ∗ owns (c : Thread nD τ) (st0_6 t) fullShare (s .out)
    ∗ owns (c : Thread nD τ) (Memref.whole cc0_scratch0) fullShare (s (.buf false)) ∗ owns (c : Thread nD τ) (Memref.whole cc0_scratch1) fullShare (s (.buf true))
    ∗ owns (c : Thread nD τ) (Memref.whole cc0_scratch2) fullShare (s (.aq false)) ∗ owns (c : Thread nD τ) (Memref.whole cc0_scratch3) fullShare (s (.aq true))
    ∗ owns (c : Thread nD τ) (Memref.whole cc0_scratch4) fullShare (s .rm) ∗ owns (c : Thread nD τ) (Memref.whole cc0_scratch5) fullShare (s .rs)
    ∗ owns (c : Thread nD τ) (Memref.whole cc0_scratch6) fullShare (s .oa) ∗ owns (c : Thread nD τ) (Memref.whole cc0_scratch7) fullShare (s .sh)
    ∗ owns (c : Thread nD τ) (Memref.whole cc0_scratch8) fullShare (s .no) ∗ owns (c : Thread nD τ) (Memref.whole cc0_scratch9) fullShare (s .os)) :=
  bigSep_univ_eq_bigSepL W.all (by ext w; simp [W.mem_all]) W.nodup_all _

/-- The blocks found and the scratch arrays, together. -/
def join (c : Dev nD) (t : Fin cfg0.N) (Y6 : RegOf F .out) (s : St F) : St F := fun w => match w with
  | .q => iblk m c 0 t | .qs => iblk m c 1 t | .kt => iblk m c 2 t | .ks => iblk m c 3 t | .v => iblk m c 4 t | .vs => iblk m c 5 t
  | .out => Y6
  | w => s w

theorem join_ins (c : Dev nD) (t : Fin cfg0.N) (Y6 : RegOf F .out) (s : St F) : Ins m c t (join m c t Y6 s) :=
  ⟨rfl, rfl, rfl, rfl, rfl, rfl⟩

theorem join_scratch (c : Dev nD) (t : Fin cfg0.N) (Y6 : RegOf F .out) (s : St F) (w : W) (hw : w.isIn = false) (hw' : w ≠ .out) :
    join m c t Y6 s w = s w := by
  cases w <;> first | rfl | exact absurd hw (by decide) | exact absurd rfl hw'

/-- What the body is called with at point `t`, and what it leaves. -/
def bodyPre (c : Dev nD) (t : Fin cfg0.N) (Y6 : RegOf F .out) : sProp 𝕄 :=
  iprop((rdat m J O c).Φ t.castSucc ∗ (rdat m J O c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ owns (c : Thread nD τ) (st0_6 t) fullShare Y6)

def bodyPost (c : Dev nD) (t : Fin cfg0.N) : sProp 𝕄 :=
  iprop((rdat m J O c).Φ t.succ ∗ (rdat m J O c).owesAt () t.succ
    ∗ (∃ X, ⌜X = iblk m c 0 t⌝ ∗ owns (c : Thread nD τ) (st0_0 t) fullShare X)
    ∗ (∃ X, ⌜X = iblk m c 1 t⌝ ∗ owns (c : Thread nD τ) (st0_1 t) fullShare X)
    ∗ (∃ X, ⌜X = iblk m c 2 t⌝ ∗ owns (c : Thread nD τ) (st0_2 t) fullShare X)
    ∗ (∃ X, ⌜X = iblk m c 3 t⌝ ∗ owns (c : Thread nD τ) (st0_3 t) fullShare X)
    ∗ (∃ X, ⌜X = iblk m c 4 t⌝ ∗ owns (c : Thread nD τ) (st0_4 t) fullShare X)
    ∗ (∃ X, ⌜X = iblk m c 5 t⌝ ∗ owns (c : Thread nD τ) (st0_5 t) fullShare X)
    ∗ (∃ X, ⌜O c t X⌝ ∗ owns (c : Thread nD τ) (st0_6 t) fullShare X))

theorem sound_body (h : Good m J O) (c : Dev nD) (t : Fin cfg0.N) (Y6 : RegOf F .out) :
    bodyPre m J O c t Y6 ⊢ wp frame (wpE (defs₀ (F := F)) Variants.none c none) Set.univ (bodyAt0 t) (fun _ => bodyPost m J O c t) := by
  unfold bodyAt0
  rw [body_eq _ _ _ _ _ _ _ _ _ _ _ _ _ _ _ _ _ _ _ _ _ _ _ _ _ _ _ _ _ _ _ _ _ _ (grid0.coords t)
    (words (grid0.coords t 1).isLt) (words (grid0.coords t 1).isLt)]
  unfold bodyPre bodyPost
  rw [show (rdat m J O c).Φ t.castSucc = Inv J c t.val from rfl, show (rdat m J O c).Φ t.succ = Inv J c (t.val + 1) from rfl,
    show (rdat m J O c).owesAt () t.succ = (rdat m J O c).owesAt () t.castSucc from rfl]
  unfold Inv
  iintro ⟨⟨⟨%s, %hJ, S0, S1, S2, S3, S4, S5, S6, S7, S8, S9⟩, HP⟩, Ho, H0, H1, H2, H3, H4, H5, H6⟩
  have hn := h.next c t (join m c t Y6 s) (join_ins m c t Y6 s)
    (h.scratch c t.val s _ (fun w hw hw' => (join_scratch m c t Y6 s w hw hw').symm) hJ)
  iapply (wp_run Variants.none c none Set.univ (argsAt t) _ _ (join m c t Y6 s))
  isplitl [S0 S1 S2 S3 S4 S5 S6 S7 S8 S9 H0 H1 H2 H3 H4 H5 H6]
  · rw [own_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  · rw [own_eq]
    iintro ⟨H0, H1, H2, H3, H4, H5, H6, S0, S1, S2, S3, S4, S5, S6, S7, S8, S9⟩
    isplitl [S0 S1 S2 S3 S4 S5 S6 S7 S8 S9 HP]
    · isplitr [HP]
      swap; · iexact HP
      iexists (step t (join m c t Y6 s))
      isplitr; · ipureintro; exact hn.1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    isplitl [Ho]; · iexact Ho
    isplitl [H0]
    · iexists _; isplitr; swap; · iexact H0
      ipureintro; exact step_in (w := .q) rfl t _
    isplitl [H1]
    · iexists _; isplitr; swap; · iexact H1
      ipureintro; exact step_in (w := .qs) rfl t _
    isplitl [H2]
    · iexists _; isplitr; swap; · iexact H2
      ipureintro; exact step_in (w := .kt) rfl t _
    isplitl [H3]
    · iexists _; isplitr; swap; · iexact H3
      ipureintro; exact step_in (w := .ks) rfl t _
    isplitl [H4]
    · iexists _; isplitr; swap; · iexact H4
      ipureintro; exact step_in (w := .v) rfl t _
    isplitl [H5]
    · iexists _; isplitr; swap; · iexact H5
      ipureintro; exact step_in (w := .vs) rfl t _
    iexists _; isplitr; swap; · iexact H6
    ipureintro; exact hn.2

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem body_obligation (h : Good m J O) (c : Dev nD) :
    (rdat m J O c).BodyObligation (defs₀ (F := F)) Variants.none () Set.univ := fun t Y hY => by
  rw [bigSep_W0, bigSep_W0, defs₀_row]
  have h0 := finds0 m J O c t _ (hY 0)
  have h1 := finds1 m J O c t _ (hY 1)
  have h2 := finds2 m J O c t _ (hY 2)
  have h3 := finds3 m J O c t _ (hY 3)
  have h4 := finds4 m J O c t _ (hY 4)
  have h5 := finds5 m J O c t _ (hY 5)
  rw [h0, h1, h2, h3, h4, h5]
  exact triple_restated (sound_body m J O h c t (Y 6)) rfl .rfl fun _ => .rfl

/-! ## The run -/

set_option backward.isDefEq.respectTransparency.types false in
theorem run_main (h : Good m J O) : θ_run defs (onTc (τ := τ) (main (F := F))) (s₀ m ρ)
    (fun r => RDat.FramePost cfg0 (rdat m J O) (Hand.V m) r ∧ r.2.sem = fun _ => 0) :=
  Pipeline.RDat.θ_run_frame_track (Q' := _) cfgs (0 : Fin 1) launch0 defs₀ Variants.none (rdat m J O) m ρ main
    (hbody := body_obligation m J O h) (hshare := fun c w => by unfold RDat.share; split <;> rfl)
    (howed := fun _ _ => rfl) (V := Hand.V m) (hmain := hmain m Variants.none) (hA := A_eq m J O)
    (hin := fun c => inv_in J h.start c) (hout := fun c => inv_out J c _)

/-- Nothing said of the contents. -/
theorem good_true : Good m (F := F) (fun _ _ _ => True) (fun _ _ _ => True) :=
  ⟨fun _ _ => trivial, fun _ _ _ _ _ _ => trivial, fun _ _ _ _ _ => ⟨trivial, trivial⟩⟩

/-- The arguments end as they began. -/
theorem unchanged (c : Dev nD) {r : PUnit × MemSt nD τ sig (Elt F)} (h : RDat.FramePost cfg0 (rdat m J O) (Hand.V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (RDat.FramePost.arr_in h c 3 rfl).trans ((A_eq m J O c 3).trans (V_main_arg3 m c)),
    (RDat.FramePost.arr_in h c 4 rfl).trans ((A_eq m J O c 4).trans (V_main_arg4 m c)),
    (RDat.FramePost.arr_in h c 5 rfl).trans ((A_eq m J O c 5).trans (V_main_arg5 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => unchanged m _ _ c h.1, h.2⟩) (run_main m ρ _ _ (good_true m))

end Cert.Attn.KI

end
-- ==== Proof.Exponent.lean ====
/-
  The power of two a row is divided by: for a row whose weights sum to a real number from 1 to 32768 the kernel's exponent is the
  one plain arithmetic gives, and its two corrections change nothing.
-/
module

public import proofs.«01_k».proof.Proof.Body
public import Idealize.ShloMosaic.Lib.Pointwise

@[expose] public section

set_option maxRecDepth 16384

noncomputable section

namespace Cert.Attn

open Idealize.ShloMosaic Idealize.ShloMosaic.TcCoe

/-- The float whose exponent field holds a word. -/
def w2 (e : BitVec 32) : EReal := Ideal.ofBits FTy.f32 (IntOp.shli ArithUnit.vector (IntOp.addi e 127#32) 23#32)
/-- The kernel's exponent of a number, with its corrections. -/
def ew (c x : EReal) : BitVec 32 :=
  if x < Ideal.ofBits FTy.f32 8388608#32 then 0#32
  else
    IntOp.subi (IntOp.addi (IntOp.addi (Ideal.fptosi 32 (Ideal.liftRound Int.floor (Ideal.log x * c))) 1#32)
        (if w2 (IntOp.addi (Ideal.fptosi 32 (Ideal.liftRound Int.floor (Ideal.log x * c))) 1#32) ≤ x then 1#32 else 0#32))
      (if x < w2 (IntOp.subi (IntOp.addi (Ideal.fptosi 32 (Ideal.liftRound Int.floor (Ideal.log x * c))) 1#32) 1#32) then 1#32 else 0#32)

theorem norm_at (c : Ideal .f32) (rs : FVec Ideal S128x128 .f32) (i l : Fin 128) : normOf c rs (ix2 i l)
    = min (Ideal.div 1 (∑ x, rs (ix2 i x)) * w2 (IntOp.subi 0#32 (ew c (Ideal.div 1 (∑ x, rs (ix2 i x)) * Ideal.ofBits FTy.f32 991054117#32))))
        (Ideal.ofBits FTy.f32 1138753536#32) := by
  pointwise [normOf, invL, expo, expo0, expo1, pow2]
  rfl

theorem oscale_at (c : Ideal .f32) (rs : FVec Ideal S128x128 .f32) (xs : FVec Ideal S1x1x128 .f32) (i l : Fin 128) : oscaleOf c rs xs (ix2 i l)
    = w2 (ew c (Ideal.div 1 (∑ x, rs (ix2 i x)) * Ideal.ofBits FTy.f32 991054117#32)) * xs (ix3 0 0 l) := by
  pointwise [oscaleOf]
  pointwise [invL, expo, expo0, expo1, pow2]
  rfl

theorem shift_at (rm aq : FVec Ideal S128x128 .f32) (i l : Fin 128) :
    shiftOf rm aq (ix2 i l) = Finset.fold max (⊥ : EReal) (fun x => rm (ix2 i x)) Finset.univ * aq (ix2 i l) := by
  have h : Ideal.ofBits FTy.f32 4286578688#32 = ⊥ := by simp [Ideal.ofBits, Ideal.ieee]
  pointwise [shiftOf]
  rw [h]

/-- A float from its fields. -/
theorem fields (b : BitVec 32) (ex fr : ℕ) (hs : b.extractLsb' 31 1 = 0#1) (he : (b.extractLsb' 23 8).toNat = ex) (hf : (b.extractLsb' 0 23).toNat = fr)
    (h0 : ex ≠ 0) (h1 : ex ≠ 255) :
    Ideal.ofBits FTy.f32 b = (((8388608 + (fr : ℝ)) * (2 : ℝ) ^ ((ex : ℤ) - 150) : ℝ) : EReal) := by
  have e : (ex : ℤ) - 127 - 23 = (ex : ℤ) - 150 := by ring
  simp [Ideal.ofBits, Ideal.ieee, hs, he, hf, h0, h1, e, -EReal.coe_mul]

theorem fields_w2 : ∀ k : Fin 253,
    (IntOp.shli ArithUnit.vector (IntOp.addi (BitVec.ofInt 32 ((k : ℤ) - 126)) 127#32) 23#32).extractLsb' 31 1 = 0#1
    ∧ ((IntOp.shli ArithUnit.vector (IntOp.addi (BitVec.ofInt 32 ((k : ℤ) - 126)) 127#32) 23#32).extractLsb' 23 8).toNat = 1 + k
    ∧ ((IntOp.shli ArithUnit.vector (IntOp.addi (BitVec.ofInt 32 ((k : ℤ) - 126)) 127#32) 23#32).extractLsb' 0 23).toNat = 0 := by decide +kernel

theorem w2_eq (n : ℤ) (h1 : -126 ≤ n) (h2 : n ≤ 126) : w2 (BitVec.ofInt 32 n) = (((2 : ℝ) ^ n : ℝ) : EReal) := by
  obtain ⟨k, hk⟩ : ∃ k : Fin 253, n = (k : ℤ) - 126 := ⟨⟨(n + 126).toNat, by omega⟩, by simp; omega⟩
  obtain ⟨a, b, c⟩ := fields_w2 k
  rw [← hk] at a b c
  have hl := k.isLt
  unfold w2
  generalize IntOp.shli ArithUnit.vector (IntOp.addi (BitVec.ofInt 32 n) 127#32) 23#32 = w at a b c ⊢
  rw [fields w (1 + k) 0 a b c (by omega) (by omega)]
  have e : (((1 + (k : ℕ) : ℕ) : ℤ)) - 150 = n - 23 := by rw [hk]; push_cast; ring
  rw [e, show (8388608 + ((0 : ℕ) : ℝ)) = (2 : ℝ) ^ (23 : ℤ) by norm_num, ← zpow_add₀ (by norm_num), show 23 + (n - 23) = n by ring]

theorem word_succ : ∀ k : Fin 253, IntOp.addi (BitVec.ofInt 32 ((k : ℤ) - 126 - 1)) 1#32 = BitVec.ofInt 32 ((k : ℤ) - 126)
    ∧ IntOp.subi (BitVec.ofInt 32 ((k : ℤ) - 126)) 1#32 = BitVec.ofInt 32 ((k : ℤ) - 126 - 1)
    ∧ IntOp.subi 0#32 (BitVec.ofInt 32 ((k : ℤ) - 126)) = BitVec.ofInt 32 (-((k : ℤ) - 126)) := by decide +kernel

theorem word_step (n : ℤ) (h1 : -126 ≤ n) (h2 : n ≤ 126) : IntOp.addi (BitVec.ofInt 32 (n - 1)) 1#32 = BitVec.ofInt 32 n
    ∧ IntOp.subi (BitVec.ofInt 32 n) 1#32 = BitVec.ofInt 32 (n - 1) ∧ IntOp.subi 0#32 (BitVec.ofInt 32 n) = BitVec.ofInt 32 (-n) := by
  obtain ⟨k, hk⟩ : ∃ k : Fin 253, n = (k : ℤ) - 126 := ⟨⟨(n + 126).toNat, by omega⟩, by simp; omega⟩
  subst hk
  exact word_succ k

theorem fptosi_int (n : ℤ) (h1 : -126 ≤ n) (h2 : n ≤ 126) : Ideal.fptosi 32 ((n : ℝ) : EReal) = BitVec.ofInt 32 n := by
  unfold Ideal.fptosi
  rw [Ideal.toIntClamped_coe]
  congr 1
  simp only [Int.floor_intCast, Int.ceil_intCast, ite_self]
  norm_num
  omega

theorem K_eq : Ideal.ofBits FTy.f32 991054117#32 = ((9586981 * (2 : ℝ) ^ (-32 : ℤ) : ℝ) : EReal) := by
  refine (fields _ 118 1198373 (by decide) (by decide) (by decide) (by decide) (by decide)).trans ?_
  norm_num
theorem top_eq : Ideal.ofBits FTy.f32 1138753536#32 = ((448 : ℝ) : EReal) := by
  refine (fields _ 135 6291456 (by decide) (by decide) (by decide) (by decide) (by decide)).trans ?_
  norm_num
theorem bot_eq : Ideal.ofBits FTy.f32 3286237184#32 = ((-448 : ℝ) : EReal) := by
  have a : (3286237184#32).extractLsb' 31 1 = 1#1 := by decide
  have b : ((3286237184#32).extractLsb' 23 8).toNat = 135 := by decide
  have c : ((3286237184#32).extractLsb' 0 23).toNat = 6291456 := by decide
  simp only [Ideal.ofBits, Ideal.ieee, Nat.reduceAdd]
  rw [a, b, c]
  norm_num
theorem tiny_eq : Ideal.ofBits FTy.f32 8388608#32 = (((2 : ℝ) ^ (-126 : ℤ) : ℝ) : EReal) := by
  refine (fields _ 1 0 (by decide) (by decide) (by decide) (by decide) (by decide)).trans ?_
  congr 1
  rw [show (8388608 + ((0 : ℕ) : ℝ)) = (2 : ℝ) ^ (23 : ℤ) by norm_num, ← zpow_add₀ (by norm_num)]
  norm_num

/-- The largest code's reciprocal, as rounded. -/
def kR : ℝ := 9586981 * (2 : ℝ) ^ (-32 : ℤ)
/-- The exponent, in plain arithmetic. -/
def expR (x : ℝ) : ℤ := ⌊Real.log x * (Real.log 2)⁻¹⌋ + 1

theorem lt_expR {x : ℝ} (hx : 0 < x) : x < (2 : ℝ) ^ expR x := by
  have h2 : 0 < Real.log 2 := Real.log_pos (by norm_num)
  have h := Int.lt_floor_add_one (Real.log x * (Real.log 2)⁻¹)
  rw [← div_eq_mul_inv, div_lt_iff₀ h2] at h
  rw [← Real.log_lt_log_iff hx (by positivity), Real.log_zpow]
  unfold expR
  rw [← div_eq_mul_inv]
  push_cast
  exact h
theorem expR_le {x : ℝ} (hx : 0 < x) : (2 : ℝ) ^ (expR x - 1) ≤ x := by
  have h2 : 0 < Real.log 2 := Real.log_pos (by norm_num)
  have h := Int.floor_le (Real.log x * (Real.log 2)⁻¹)
  rw [← div_eq_mul_inv, le_div_iff₀ h2] at h
  rw [← Real.log_le_log_iff (by positivity) hx, Real.log_zpow]
  unfold expR
  rw [← div_eq_mul_inv]
  push_cast
  simpa using h

theorem expR_range {x : ℝ} (h1 : (2 : ℝ) ^ (-24 : ℤ) ≤ x) (h2 : x < (2 : ℝ) ^ (-8 : ℤ)) : -24 ≤ expR x - 1 ∧ expR x ≤ -8 := by
  have hx : 0 < x := lt_of_lt_of_le (by positivity) h1
  have a := lt_expR hx
  have b := expR_le hx
  have c : (-24 : ℤ) < expR x := (zpow_lt_zpow_iff_right₀ (by norm_num : (1 : ℝ) < 2)).mp (lt_of_le_of_lt h1 a)
  have d : expR x - 1 < (-8 : ℤ) := (zpow_lt_zpow_iff_right₀ (by norm_num : (1 : ℝ) < 2)).mp (lt_of_le_of_lt b h2)
  omega

theorem ew_of {x : ℝ} (h1 : (2 : ℝ) ^ (-126 : ℤ) ≤ x) (r1 : -125 ≤ expR x) (r2 : expR x ≤ 126) :
    ew (((Real.log 2)⁻¹ : ℝ) : EReal) (x : EReal) = BitVec.ofInt 32 (expR x) := by
  have hx : 0 < x := lt_of_lt_of_le (by positivity) h1
  have hf : Ideal.liftRound Int.floor (Ideal.log (x : EReal) * (((Real.log 2)⁻¹ : ℝ) : EReal)) = (((expR x - 1 : ℤ) : ℝ) : EReal) := by
    rw [Ideal.log_coe, if_neg (not_le.mpr hx), ← EReal.coe_mul, Ideal.liftRound_coe]
    unfold expR
    simp
  obtain ⟨s1, s2, -⟩ := word_step (expR x) (by omega) (by omega)
  unfold ew
  rw [hf, fptosi_int _ (by omega) (by omega), s1, s2, w2_eq _ (by omega) (by omega), w2_eq _ (by omega) (by omega), tiny_eq,
    if_neg, if_neg, if_neg]
  · simp [IntOp.addi, IntOp.subi]
  · exact not_lt.mpr (EReal.coe_le_coe_iff.mpr (expR_le hx))
  · exact not_le.mpr (EReal.coe_lt_coe_iff.mpr (lt_expR hx))
  · exact not_lt.mpr (EReal.coe_le_coe_iff.mpr h1)

theorem ew_eq {x : ℝ} (h1 : (2 : ℝ) ^ (-24 : ℤ) ≤ x) (h2 : x < (2 : ℝ) ^ (-8 : ℤ)) :
    ew (((Real.log 2)⁻¹ : ℝ) : EReal) (x : EReal) = BitVec.ofInt 32 (expR x) := by
  obtain ⟨r1, r2⟩ := expR_range h1 h2
  exact ew_of (le_trans (zpow_le_zpow_right₀ (by norm_num) (by norm_num)) h1) (by omega) (by omega)

/-- A row's sum, the largest code's reciprocal over it. -/
theorem x_range {R : ℝ} (h1 : 1 ≤ R) (h2 : R ≤ 32768) : (2 : ℝ) ^ (-24 : ℤ) ≤ 1 / R * kR ∧ 1 / R * kR < (2 : ℝ) ^ (-8 : ℤ) := by
  have hR : 0 < R := by linarith
  have hk : kR = 9586981 / 4294967296 := by unfold kR; norm_num
  rw [hk]
  constructor
  · rw [div_mul_eq_mul_div, le_div_iff₀ hR]
    norm_num
    linarith
  · rw [div_mul_eq_mul_div, div_lt_iff₀ hR]
    norm_num
    linarith

/-- The reciprocal of a row's sum over the power of two is below the largest code. -/
theorem inv_lt {R : ℝ} (h1 : 1 ≤ R) : 1 / R * (2 : ℝ) ^ (-expR (1 / R * kR)) ≤ 448 := by
  have hR : 0 < R := by linarith
  have hk : kR = 9586981 / 4294967296 := by unfold kR; norm_num
  have hk0 : 0 < kR := by rw [hk]; norm_num
  have a := lt_expR (x := 1 / R * kR) (by positivity)
  rw [zpow_neg]
  have p : (0 : ℝ) < 2 ^ expR (1 / R * kR) := by positivity
  rw [← div_eq_mul_inv, div_le_iff₀ p]
  have b : 1 / R * kR ≤ 2 ^ expR (1 / R * kR) := le_of_lt a
  have q : 1 / R ≤ 448 * (1 / R * kR) := by
    have : 1 / R * 1 ≤ 1 / R * (448 * kR) := by
      apply mul_le_mul_of_nonneg_left _ (by positivity)
      rw [hk]; norm_num
    linarith
  linarith

theorem norm_real (rs : FVec Ideal S128x128 .f32) (i l : Fin 128) {R : ℝ} (h1 : 1 ≤ R) (h2 : R ≤ 32768)
    (h : ∑ x, rs (ix2 i x) = (R : EReal)) :
    normOf (((Real.log 2)⁻¹ : ℝ) : EReal) rs (ix2 i l) = ((1 / R * (2 : ℝ) ^ (-expR (1 / R * kR)) : ℝ) : EReal) := by
  obtain ⟨a, b⟩ := x_range h1 h2
  obtain ⟨r1, r2⟩ := expR_range a b
  obtain ⟨-, -, s⟩ := word_step (expR (1 / R * kR)) (by omega) (by omega)
  rw [norm_at, h, Ideal.div_coe (by linarith), one_mul, K_eq, ← EReal.coe_mul]
  change min (_ * w2 (IntOp.subi 0#32 (ew _ ((1 / R * kR : ℝ) : EReal)))) _ = _
  rw [ew_eq a b, s, w2_eq _ (by omega) (by omega), ← EReal.coe_mul, top_eq]
  exact min_eq_left (EReal.coe_le_coe_iff.mpr (inv_lt h1))

theorem oscale_real (rs : FVec Ideal S128x128 .f32) (xs : FVec Ideal S1x1x128 .f32) (i l : Fin 128) {R : ℝ} (h1 : 1 ≤ R) (h2 : R ≤ 32768)
    (h : ∑ x, rs (ix2 i x) = (R : EReal)) :
    oscaleOf (((Real.log 2)⁻¹ : ℝ) : EReal) rs xs (ix2 i l) = (((2 : ℝ) ^ (expR (1 / R * kR)) : ℝ) : EReal) * xs (ix3 0 0 l) := by
  obtain ⟨a, b⟩ := x_range h1 h2
  obtain ⟨r1, r2⟩ := expR_range a b
  rw [oscale_at, h, Ideal.div_coe (by linarith), one_mul, K_eq, ← EReal.coe_mul]
  change w2 (ew _ ((1 / R * kR : ℝ) : EReal)) * _ = _
  rw [ew_eq a b, w2_eq _ (by omega) (by omega)]

end Cert.Attn
-- ==== Proof.Stages.lean ====
/-
  What the stages of the kernel's body leave in the regions, over the extended reals, entry by entry.
-/
module

public import proofs.«01_k».proof.Proof.Body
public import Idealize.ShloMosaic.Lib.Pointwise
public import Idealize.ShloMosaic.Lib.Pipeline.Value
public import Idealize.ShloMosaic.PureOps.Ideal

@[expose] public section

set_option maxRecDepth 16384

noncomputable section

namespace Cert.Attn

open Idealize.ShloMosaic Idealize.ShloMosaic.TcCoe

/-! ## Writing a rectangle -/

/-- A rectangle of consecutive coordinates written over an array, entry by entry. -/
theorem overlay_unit {s : Shape} {α : Type} (off size : Fin s.rank → ℕ) (inb : ∀ a, off a + size a ≤ s.size a)
    (f : s.Idx → α) (x : (Rect.unit off size inb).shape.Idx → α) (j : s.Idx) :
    (Rect.unit off size inb).overlay f x j
      = if h : ∀ a, off a ≤ (j a : ℕ) ∧ (j a : ℕ) < off a + size a then x (fun a => ⟨(j a : ℕ) - off a, by have := h a; show _ < size a; omega⟩)
        else f j := by
  split
  next h =>
    have e : j = (Rect.unit off size inb).emb (fun a => ⟨(j a : ℕ) - off a, by have := h a; show _ < size a; omega⟩) := by
      funext a
      apply Fin.ext
      show (j a : ℕ) = off a + 1 * ((j a : ℕ) - off a)
      have := h a
      omega
    conv_lhs => rw [e]
    exact Rect.overlay_emb _ _ _ _
  next h =>
    apply Rect.overlay_of_not_mem
    rintro hm
    apply h
    rw [← Rect.map_emb_univ] at hm
    obtain ⟨z, -, rfl⟩ := Finset.mem_map.mp hm
    intro a
    have := (z a).isLt
    have e : (((Rect.unit off size inb).emb z a : ℕ)) = off a + 1 * (z a : ℕ) := rfl
    rw [e]
    constructor
    · omega
    · have : (z a : ℕ) < size a := (z a).isLt
      omega

/-- A whole array overwritten. -/
theorem overlay_whole {α : Type} (f : S128x128.Idx → α) (x : S128x128.Idx → α) : r0.overlay f x = x := by
  funext j
  rw [overlay_unit, dif_pos]
  · congr 1
    funext a
    apply Fin.ext
    fin_cases a <;> simp
  · intro a
    have := (j a).isLt
    fin_cases a <;> simp at this ⊢ <;> exact this

/-- A tile's rows `b` to `b + n` overwritten. -/
theorem overlay_tile {α : Type} (n a b : ℕ) (inb) (f : S256x128x128.Idx → α) (x : (⟨3, ![1, n, 128]⟩ : Shape).Idx → α)
    (T : Fin 256) (i l : Fin 128) :
    (Rect.unit (s := S256x128x128) ![a, b, 0] ![1, n, 128] inb).overlay f x (ix3 T i l)
      = if h : (T : ℕ) = a ∧ b ≤ (i : ℕ) ∧ (i : ℕ) < b + n then x (ix3 0 ⟨i - b, by omega⟩ l) else f (ix3 T i l) := by
  rw [overlay_unit]
  by_cases h : (T : ℕ) = a ∧ b ≤ (i : ℕ) ∧ (i : ℕ) < b + n
  · rw [dif_pos, dif_pos h]
    · congr 1
      funext c
      apply Fin.ext
      fin_cases c <;> simp [h.1]
    · intro c
      have := l.isLt
      fin_cases c <;> simp <;> omega
  · rw [dif_neg, dif_neg h]
    intro h'
    have h0 := h' 0
    have h1 := h' 1
    simp at h0 h1
    omega

/-- Rows `b` to `b + n` of an array overwritten. -/
theorem overlay_rows {α : Type} (n b : ℕ) (inb) (f : S128x128.Idx → α) (x : (⟨2, ![n, 128]⟩ : Shape).Idx → α)
    (i l : Fin 128) :
    (Rect.unit (s := S128x128) ![b, 0] ![n, 128] inb).overlay f x (ix2 i l)
      = if h : b ≤ (i : ℕ) ∧ (i : ℕ) < b + n then x (ix2 ⟨i - b, by omega⟩ l) else f (ix2 i l) := by
  rw [overlay_unit]
  by_cases h : b ≤ (i : ℕ) ∧ (i : ℕ) < b + n
  · rw [dif_pos, dif_pos h]
    · congr 1
      funext c
      apply Fin.ext
      fin_cases c <;> simp
    · intro c
      have := l.isLt
      fin_cases c <;> simp <;> omega
  · rw [dif_neg, dif_neg h]
    intro h'
    have h0 := h' 0
    simp at h0
    omega

/-! ## Repetition -/

variable {F : FTy → Type} [FloatOps F]

theorem run_seq16 {X : Type} (f : Fin 16 → (X → MP F) → MP F) (x : Fin 16 → X) (st : St F)
    (h : ∀ j k, run (f j k) st = run (k (x j)) st) (k : (Fin 16 → X) → MP F) : run (seq16 f k) st = run (k x) st := by
  unfold seq16
  simp only [h]
  congr 2
  funext j
  fin_cases j <;> rfl

theorem run_fold16 {X : Type} (f : Fin 16 → X → (X → MP F) → MP F) (x : ℕ → X) (S : ℕ → St F)
    (h : ∀ (j : Fin 16) k, run (f j (x j) k) (S j) = run (k (x (j + 1))) (S (j + 1))) (k : X → MP F) :
    run (fold16 f (x 0) k) (S 0) = run (k (x 16)) (S 16) := by
  unfold fold16
  have h0 := h 0; have h1 := h 1; have h2 := h 2; have h3 := h 3; have h4 := h 4; have h5 := h 5; have h6 := h 6; have h7 := h 7
  have h8 := h 8; have h9 := h 9; have h10 := h 10; have h11 := h 11; have h12 := h 12; have h13 := h 13; have h14 := h 14; have h15 := h 15
  simp at h0 h1 h2 h3 h4 h5 h6 h7 h8 h9 h10 h11 h12 h13 h14 h15
  rw [h0, h1, h2, h3, h4, h5, h6, h7, h8, h9, h10, h11, h12, h13, h14, h15]

theorem run_do8 (f : Fin 8 → MP F → MP F) (S : ℕ → St F)
    (h : ∀ (j : Fin 8) k, run (f j k) (S j) = run k (S (j + 1))) (k : MP F) : run (do8 f k) (S 0) = run k (S 8) := by
  unfold do8
  have h0 := h 0; have h1 := h 1; have h2 := h 2; have h3 := h 3; have h4 := h 4; have h5 := h 5; have h6 := h 6; have h7 := h 7
  simp at h0 h1 h2 h3 h4 h5 h6 h7
  rw [h0, h1, h2, h3, h4, h5, h6, h7]

theorem run_do4 (f : Fin 4 → MP F → MP F) (S : ℕ → St F)
    (h : ∀ (j : Fin 4) k, run (f j k) (S j) = run k (S (j + 1))) (k : MP F) : run (do4 f k) (S 0) = run k (S 4) := by
  unfold do4
  have h0 := h 0; have h1 := h 1; have h2 := h 2; have h3 := h 3
  simp at h0 h1 h2 h3
  rw [h0, h1, h2, h3]

theorem run_do16 (f : Fin 16 → MP F → MP F) (S : ℕ → St F)
    (h : ∀ (j : Fin 16) k, run (f j k) (S j) = run k (S (j + 1))) (k : MP F) : run (do16 f k) (S 0) = run k (S 16) := by
  unfold do16
  have h0 := h 0; have h1 := h 1; have h2 := h 2; have h3 := h 3; have h4 := h 4; have h5 := h 5; have h6 := h 6; have h7 := h 7
  have h8 := h 8; have h9 := h 9; have h10 := h 10; have h11 := h 11; have h12 := h 12; have h13 := h 13; have h14 := h 14; have h15 := h 15
  simp at h0 h1 h2 h3 h4 h5 h6 h7 h8 h9 h10 h11 h12 h13 h14 h15
  rw [h0, h1, h2, h3, h4, h5, h6, h7, h8, h9, h10, h11, h12, h13, h14, h15]

/-! ## The weights times the values -/

/-- Tile number `T`. -/
def tl (T : ℕ) : Fin 256 := ⟨T % 256, Nat.mod_lt _ (by decide)⟩

/-- The value row of lane `l` of tile `T`. -/
def vrow (T : ℕ) (l : Fin 128) : Fin 32768 := ⟨(128 * T + l) % 32768, Nat.mod_lt _ (by decide)⟩

/-- What tile `T` adds to the output's accumulator at row `i`, column `c`. -/
def pv (s : Bool) (st : St Ideal) (T : ℕ) (i c : Fin 128) : EReal :=
  ∑ l : Fin 128, (st (.buf s) (ix3 (tl T) i l) * st .no (ix2 i l)) * st .v (ix3 0 (vrow T l) c)

/-- Entries of the rectangles the stages read. -/
theorem idx_tile (w : BitVec 32) (hw : w.toNat < 16) (j : Fin 16) (u : Fin 1) (i l : Fin 128) :
    (rTile w hw j).toLoadRect.idx (ix3 u i l) = ix3 (tl (16 * w.toNat + j)) i l := by
  have ht := tileW_toNat w hw j
  funext a
  apply Fin.ext
  fin_cases a
  · show (tileW w j).toNat + 1 * (u : ℕ) = _ % 256; omega
  · show 0 + 1 * (i : ℕ) = (i : ℕ); omega
  · show 0 + 1 * (l : ℕ) = (l : ℕ); omega

theorem idx_tileG (w : BitVec 32) (hw : w.toNat < 16) (j : Fin 16) (g : Fin 4) (u : Fin 1) (i : Fin 32) (l : Fin 128) :
    (rTileG w hw j g).toLoadRect.idx (ix3 u i l) = ix3 (tl (16 * w.toNat + j)) ⟨32 * g + i, by omega⟩ l := by
  have ht := tileW_toNat w hw j
  funext a
  apply Fin.ext
  fin_cases a
  · show (tileW w j).toNat + 1 * (u : ℕ) = _ % 256; omega
  · show 32 * (g : ℕ) + 1 * (i : ℕ) = 32 * (g : ℕ) + (i : ℕ); omega
  · show 0 + 1 * (l : ℕ) = (l : ℕ); omega

theorem idx_whole (i l : Fin 128) : r0.toLoadRect.idx (ix2 i l) = ix2 i l := by
  funext a
  apply Fin.ext
  fin_cases a
  · show 0 + 1 * (i : ℕ) = (i : ℕ); omega
  · show 0 + 1 * (l : ℕ) = (l : ℕ); omega

theorem idx_rows (g : Fin 4) (i : Fin 32) (l : Fin 128) : (rg g).toLoadRect.idx (ix2 i l) = ix2 ⟨32 * g + i, by omega⟩ l := by
  funext a
  apply Fin.ext
  fin_cases a
  · show 32 * (g : ℕ) + 1 * (i : ℕ) = 32 * (g : ℕ) + (i : ℕ); omega
  · show 0 + 1 * (l : ℕ) = (l : ℕ); omega

theorem idx_v (w : BitVec 32) (hw : w.toNat < 16) (u : Fin 1) (i : Fin 2048) (c : Fin 128) :
    (rV w hw).toLoadRect.idx (ix3 u i c) = ix3 0 ⟨2048 * w.toNat + i, by omega⟩ c := by
  have ht := vW_toNat w hw
  funext a
  apply Fin.ext
  fin_cases a
  · show 0 + 1 * (u : ℕ) = 0; omega
  · show (vW w).toNat + 1 * (i : ℕ) = 2048 * w.toNat + (i : ℕ); omega
  · show 0 + 1 * (c : ℕ) = (c : ℕ); omega

theorem idx_q (s : Bool) (u : Fin 1) (i c : Fin 128) :
    (rQ s).toLoadRect.idx (ix3 u i c) = ix3 0 ⟨(bif s then 0 else 128) + i, by cases s <;> simp <;> omega⟩ c := by
  funext a
  apply Fin.ext
  fin_cases a
  · show 0 + 1 * (u : ℕ) = 0; omega
  · show (bif s then 0 else 128) + 1 * (i : ℕ) = (bif s then 0 else 128) + (i : ℕ); omega
  · show 0 + 1 * (c : ℕ) = (c : ℕ); omega

theorem idx_kt (w : BitVec 32) (hw : w.toNat < 16) (j : Fin 8) (u u' : Fin 1) (i : Fin 128) (l : Fin 256) :
    (rKt w hw j).toLoadRect.idx (ix4 u u' i l) = ix4 0 ⟨8 * w.toNat + j, by omega⟩ i l := by
  have ht := ktW_toNat w hw j
  funext a
  apply Fin.ext
  fin_cases a
  · show 0 + 1 * (u : ℕ) = 0; omega
  · show (ktW w j).toNat + 1 * (u' : ℕ) = 8 * w.toNat + (j : ℕ); omega
  · show 0 + 1 * (i : ℕ) = (i : ℕ); omega
  · show 0 + 1 * (l : ℕ) = (l : ℕ); omega

theorem idx_ks (w : BitVec 32) (hw : w.toNat < 16) (j : Fin 16) (u u' u'' : Fin 1) (l : Fin 128) :
    (rKs w hw j).toLoadRect.idx (ix4 u u' u'' l) = ix4 0 (tl (16 * w.toNat + j)) 0 l := by
  have ht := tileW_toNat w hw j
  funext a
  apply Fin.ext
  fin_cases a
  · show 0 + 1 * (u : ℕ) = 0; omega
  · show (tileW w j).toNat + 1 * (u' : ℕ) = _ % 256; omega
  · show 0 + 1 * (u'' : ℕ) = 0; omega
  · show 0 + 1 * (l : ℕ) = (l : ℕ); omega

/-- A tile's rows times a factor. -/
theorem pTile_apply (a : FVec Ideal S1x128x128 .f32) (n : FVec Ideal S128x128 .f32) (h) (x0 x1 : Fin 128) :
    (truncf .fp8e4m3 (mulf (shapeCast S128x128 a c_tile) n) h : FVec Ideal S128x128 .fp8e4m3) (ix2 x0 x1) = a (ix3 0 x0 x1) * n (ix2 x0 x1) := by
  pointwise

theorem run_congr {X : Type} (k : X → MP F) (st : St F) {a b : X} (h : a = b) : run (k a) st = run (k b) st := by rw [h]

/-- The rounded weights of tile `T`. -/
def pOf (s : Bool) (st : St Ideal) (T : ℕ) : FVec Ideal S128x128 .fp8e4m3 :=
  fun x => (st (.buf s) (ix3 (tl T) (x 0) (x 1)) * st .no (ix2 (x 0) (x 1)) : EReal)

theorem run_pTile (s : Bool) (w : BitVec 32) (hw : w.toNat < 16) (j : Fin 16) (k : FVec Ideal S128x128 .fp8e4m3 → MP Ideal) (st : St Ideal) :
    run (pTile s w hw j k) st = run (k (pOf s st (16 * w.toNat + j))) st := by
  unfold pTile
  rw [run_ld, run_ld]
  apply run_congr
  funext x
  obtain ⟨x0, x1, rfl⟩ : ∃ a b : Fin 128, x = ix2 a b := ⟨x 0, x 1, eq_ix2 x⟩
  refine (pTile_apply _ _ _ x0 x1).trans ?_
  rw [idx_tile, idx_whole]
  rfl

theorem sum_tiles (m : ℕ) (N : ℕ) (hN : N = m * 128) (f : Fin N → EReal) :
    ∑ k, f k = ∑ T : Fin m, ∑ l : Fin 128, f ⟨128 * T + l, by have := T.isLt; have := l.isLt; subst hN; omega⟩ := by
  subst hN
  rw [← Equiv.sum_comp finProdFinEquiv, Fintype.sum_prod_type]
  refine Finset.sum_congr rfl fun T _ => Finset.sum_congr rfl fun l _ => congrArg f (Fin.ext ?_)
  show (l : ℕ) + 128 * T = 128 * T + l
  omega

theorem pv_apply0 (P : FVec Ideal S128x2048 .fp8e4m3) (v : FVec Ideal S1x2048x128 .fp8e4m3) (o : FVec Ideal S128x128 .f32) (i c : Fin 128) :
    (shapeCast S128x128 (addf o (matmul dotPV none P
      (shapeCast S2048x128 v c_v) (constant S128x128 .f32 0x00000000#32))) c_whole : FVec Ideal S128x128 .f32) (ix2 i c)
      = o (ix2 i c) + ∑ k : Fin 2048, P (ix2 i k) * v (ix3 0 k c) := by
  pointwise

/-- Sixteen tiles against as many groups of value rows. -/
theorem pv_apply (p : Fin 16 → FVec Ideal S128x128 .fp8e4m3) (v : FVec Ideal S1x2048x128 .fp8e4m3) (o : FVec Ideal S128x128 .f32) (i c : Fin 128) :
    (shapeCast S128x128 (addf o (matmul dotPV none
      (concatenate S128x2048 1 [⟨S128x128, p 0⟩, ⟨S128x128, p 1⟩, ⟨S128x128, p 2⟩, ⟨S128x128, p 3⟩, ⟨S128x128, p 4⟩, ⟨S128x128, p 5⟩,
        ⟨S128x128, p 6⟩, ⟨S128x128, p 7⟩, ⟨S128x128, p 8⟩, ⟨S128x128, p 9⟩, ⟨S128x128, p 10⟩, ⟨S128x128, p 11⟩, ⟨S128x128, p 12⟩,
        ⟨S128x128, p 13⟩, ⟨S128x128, p 14⟩, ⟨S128x128, p 15⟩] concat_16)
      (shapeCast S2048x128 v c_v) (constant S128x128 .f32 0x00000000#32))) c_whole : FVec Ideal S128x128 .f32) (ix2 i c)
      = o (ix2 i c) + ∑ T : Fin 16, ∑ l : Fin 128, p T (ix2 i l) * v (ix3 0 ⟨128 * T + l, by omega⟩ c) := by
  have hc := concatenate_ofFn_apply (t := S128x2048) (s₁ := S128x128) 1 p concat_16 rfl 128 rfl
  have hc' : ∀ (j : S128x2048.Idx), concatenate S128x2048 1 [⟨S128x128, p 0⟩, ⟨S128x128, p 1⟩, ⟨S128x128, p 2⟩, ⟨S128x128, p 3⟩, ⟨S128x128, p 4⟩, ⟨S128x128, p 5⟩,
        ⟨S128x128, p 6⟩, ⟨S128x128, p 7⟩, ⟨S128x128, p 8⟩, ⟨S128x128, p 9⟩, ⟨S128x128, p 10⟩, ⟨S128x128, p 11⟩, ⟨S128x128, p 12⟩,
        ⟨S128x128, p 13⟩, ⟨S128x128, p 14⟩, ⟨S128x128, p 15⟩] concat_16 j
      = p ⟨(j 1 : ℕ) / 128, by have : (j 1 : ℕ) < 2048 := (j 1).isLt; omega⟩ (ix2 (j 0) ⟨(j 1 : ℕ) % 128, by omega⟩) := by
    intro j
    refine hc j _ rfl _ ?_ ?_
    · rfl
    · intro b hb
      fin_cases b
      · rfl
      · exact absurd rfl hb
  refine (pv_apply0 _ v o i c).trans ?_
  congr 1
  rw [sum_tiles 16 2048 rfl]
  refine Finset.sum_congr rfl fun T _ => Finset.sum_congr rfl fun l _ => ?_
  rw [hc']
  congr 2
  · apply Fin.ext; show (128 * (T : ℕ) + l) / 128 = T; omega
  · show ix2 i _ = ix2 i l; congr 1; apply Fin.ext; show (128 * (T : ℕ) + l) % 128 = l; omega

/-- After the first stage over block `w`: the output's accumulator. -/
def afterC (s : Bool) (w : ℕ) (st : St Ideal) : St Ideal :=
  Function.update st .oa fun x => (st .oa x + ∑ T ∈ Finset.range 16, pv s st (16 * w + T) (x 0) (x 1) : EReal)

theorem run_stageC (s : Bool) (w : BitVec 32) (hw : w.toNat < 16) (k : MP Ideal) (st : St Ideal) :
    run (stageC s w hw k) st = run k (afterC s w.toNat st) := by
  unfold stageC
  rw [run_seq16 _ (fun j => pOf s st (16 * w.toNat + j)) st fun j k => run_pTile s w hw j k st]
  rw [run_ld, run_ld, run_ld, run_st]
  congr 1
  unfold afterC
  congr 1
  refine (overlay_whole _ _).trans ?_
  funext x
  obtain ⟨i, c, rfl⟩ : ∃ a b : Fin 128, x = ix2 a b := ⟨x 0, x 1, eq_ix2 x⟩
  refine (pv_apply (fun j => pOf s st (16 * w.toNat + j)) _ _ i c).trans ?_
  rw [idx_whole, Finset.sum_range]
  congr 1
  refine Finset.sum_congr rfl fun T _ => Finset.sum_congr rfl fun l _ => ?_
  rw [idx_v]
  unfold pOf
  congr 3
  apply Fin.ext
  show 2048 * w.toNat + (128 * (T : ℕ) + l) = _ % 32768
  omega

/-! ## The weights -/

/-- The weight at row `i`, lane `l` of tile `T`. -/
def wt (s : Bool) (st : St Ideal) (T : ℕ) (i l : Fin 128) : EReal :=
  Ideal.exp2 (st (.buf (!s)) (ix3 (tl T) i l) * st (.aq (!s)) (ix2 i l) - st .sh (ix2 i l))

/-- The weights of the rows below `r`, and of the rows below `r + 32` in the first `n` tiles of block `w`; the rows' sums are
    over the rows below `r`. -/
def bufB (s : Bool) (w r n : ℕ) (st : St Ideal) : RegOf Ideal (.buf (!s)) := fun x =>
  if 16 * w ≤ (x 0 : ℕ) ∧ (x 0 : ℕ) < 16 * w + 16 ∧ ((x 1 : ℕ) < r ∨ ((x 1 : ℕ) < r + 32 ∧ (x 0 : ℕ) < 16 * w + n))
    then wt s st (x 0 : ℕ) (x 1) (x 2) else st (.buf (!s)) x

def rsB (s : Bool) (w r : ℕ) (st : St Ideal) : RegOf Ideal .rs := fun x =>
  if (x 0 : ℕ) < r then (st .rs x + ∑ T ∈ Finset.range 16, wt s st (16 * w + T) (x 0) (x 1) : EReal) else st .rs x

def midB (s : Bool) (w r n : ℕ) (st : St Ideal) : St Ideal :=
  Function.update (Function.update st .rs (rsB s w r st)) (.buf (!s)) (bufB s w r n st)

theorem midB_other (s : Bool) (w r n : ℕ) (st : St Ideal) (x : W) (h1 : x ≠ .rs) (h2 : x ≠ .buf (!s)) : midB s w r n st x = st x := by
  unfold midB
  rw [Function.update_of_ne h2, Function.update_of_ne h1]

theorem midB_buf (s : Bool) (w r n : ℕ) (st : St Ideal) : midB s w r n st (.buf (!s)) = bufB s w r n st := by
  unfold midB
  rw [Function.update_self]

theorem midB_rs (s : Bool) (w r n : ℕ) (st : St Ideal) : midB s w r n st .rs = rsB s w r st := by
  unfold midB
  rw [Function.update_of_ne (by cases s <;> decide), Function.update_self]

theorem u_apply (b : FVec Ideal S1x32x128 .f32) (a h : FVec Ideal S32x128 .f32) (i : Fin 32) (l : Fin 128) :
    (exp2 (subf (mulf (shapeCast S32x128 b c_grp) a) h) : FVec Ideal S32x128 .f32) (ix2 i l)
      = Ideal.exp2 (b (ix3 0 i l) * a (ix2 i l) - h (ix2 i l)) := by
  pointwise
  rfl

theorem cast_grp (x : FVec Ideal S32x128 .f32) (u : Fin 1) (i : Fin 32) (l : Fin 128) :
    (shapeCast S1x32x128 x c_grp' : FVec Ideal S1x32x128 .f32) (ix3 u i l) = x (ix2 i l) := by
  pointwise

theorem cast_rows (x : FVec Ideal S32x128 .f32) (i : Fin 32) (l : Fin 128) :
    (shapeCast S32x128 x c_rows : FVec Ideal S32x128 .f32) (ix2 i l) = x (ix2 i l) := by
  pointwise

/-- The rows' sums in the making: row group `g`, the first `n` tiles. -/
def accB (s : Bool) (w : ℕ) (g : Fin 4) (n : ℕ) (st : St Ideal) : FVec Ideal S32x128 .f32 := fun x =>
  (st .rs (ix2 ⟨32 * g + (x 0 : ℕ), by have : (x 0 : ℕ) < 32 := (x 0).isLt; omega⟩ (x 1))
    + ∑ T ∈ Finset.range n, wt s st (16 * w + T) ⟨32 * g + (x 0 : ℕ), by have : (x 0 : ℕ) < 32 := (x 0).isLt; omega⟩ (x 1) : EReal)

theorem run_uTile (s : Bool) (w : BitVec 32) (hw : w.toNat < 16) (g : Fin 4) (j : Fin 16) (k : FVec Ideal S32x128 .f32 → MP Ideal) (st : St Ideal) :
    run (uTile s w hw g j (accB s w.toNat g j st) k) (midB s w.toNat (32 * g) j st)
      = run (k (accB s w.toNat g (j + 1) st)) (midB s w.toNat (32 * g) (j + 1) st) := by
  have hT : ((tl (16 * w.toNat + j) : Fin 256) : ℕ) = 16 * w.toNat + j := by show _ % 256 = _; omega
  have hu : ∀ (i : Fin 32) (l : Fin 128), Ideal.exp2 (midB s w.toNat (32 * g) j st (.buf (!s)) ((rTileG w hw j g).toLoadRect.idx (ix3 0 i l))
        * midB s w.toNat (32 * g) j st (.aq (!s)) ((rg g).toLoadRect.idx (ix2 i l))
        - midB s w.toNat (32 * g) j st .sh ((rg g).toLoadRect.idx (ix2 i l)))
      = wt s st (16 * w.toNat + j) ⟨32 * g + i, by omega⟩ l := by
    intro i l
    rw [midB_buf, midB_other _ _ _ _ _ _ (by cases s <;> decide) (by cases s <;> decide), midB_other _ _ _ _ _ _ (by decide) (by cases s <;> decide),
      idx_tileG, idx_rows]
    unfold wt bufB
    rw [if_neg]
    show ¬ (_ ∧ _ ∧ (32 * (g : ℕ) + (i : ℕ) < 32 * g ∨ (_ ∧ ((tl (16 * w.toNat + j) : Fin 256) : ℕ) < 16 * w.toNat + j)))
    omega
  unfold uTile
  rw [run_ld, run_ld, run_ld, run_ld, run_st]
  have e1 : (addf (accB s w.toNat g j st) (exp2 (subf (mulf (shapeCast S32x128 (fun x => midB s w.toNat (32 * g) j st (.buf (!s)) ((rTileG w hw j g).toLoadRect.idx x)) c_grp)
      (fun x => midB s w.toNat (32 * g) j st (.aq (!s)) ((rg g).toLoadRect.idx x)))
      (fun x => midB s w.toNat (32 * g) j st .sh ((rg g).toLoadRect.idx x))) : FVec Ideal S32x128 .f32) : FVec Ideal S32x128 .f32) = accB s w.toNat g (j + 1) st := by
    funext x
    obtain ⟨i, l, rfl⟩ : ∃ (a : Fin 32) (b : Fin 128), x = ix2 a b := ⟨x 0, x 1, eq_ix2 x⟩
    refine (congrArg (accB s w.toNat g j st (ix2 i l) + ·) ((u_apply _ _ _ i l).trans (hu i l))).trans ?_
    unfold accB
    rw [Finset.sum_range_succ, ← add_assoc]
    rfl
  have e2 : Function.update (midB s w.toNat (32 * g) j st) (.buf (!s)) ((rTileG w hw j g).overlay (midB s w.toNat (32 * g) j st (.buf (!s)))
      (shapeCast S1x32x128 (exp2 (subf (mulf (shapeCast S32x128 (fun x => midB s w.toNat (32 * g) j st (.buf (!s)) ((rTileG w hw j g).toLoadRect.idx x)) c_grp)
      (fun x => midB s w.toNat (32 * g) j st (.aq (!s)) ((rg g).toLoadRect.idx x)))
      (fun x => midB s w.toNat (32 * g) j st .sh ((rg g).toLoadRect.idx x))) : FVec Ideal S32x128 .f32) c_grp' : FVec Ideal S1x32x128 .f32))
      = midB s w.toNat (32 * g) (j + 1) st := by
    unfold midB
    rw [Function.update_idem]
    congr 1
    funext x
    obtain ⟨T, i, l, rfl⟩ : ∃ (a : Fin 256) (b c : Fin 128), x = ix3 a b c := ⟨x 0, x 1, x 2, eq_ix3 x⟩
    refine (overlay_tile 32 _ _ _ _ _ T i l).trans ?_
    rw [tileW_toNat w hw j]
    by_cases h : (T : ℕ) = 16 * w.toNat + j ∧ 32 * (g : ℕ) ≤ (i : ℕ) ∧ (i : ℕ) < 32 * g + 32
    · rw [dif_pos h]
      refine (cast_grp _ _ _ _).trans ((u_apply _ _ _ _ _).trans ((hu _ _).trans ?_))
      unfold bufB
      rw [if_pos]
      · show wt s st _ _ _ = wt s st (T : ℕ) i l
        rw [h.1]
        congr 1
        apply Fin.ext
        show 32 * (g : ℕ) + (i - 32 * g) = i
        omega
      · show _ ≤ (T : ℕ) ∧ (T : ℕ) < _ ∧ ((i : ℕ) < _ ∨ ((i : ℕ) < _ ∧ (T : ℕ) < _))
        omega
    · rw [dif_neg h]
      have hm := congrFun (midB_buf s w.toNat (32 * g) j st) (ix3 T i l)
      unfold midB at hm
      rw [hm]
      unfold bufB
      congr 1
      show (_ ≤ (T : ℕ) ∧ (T : ℕ) < _ ∧ ((i : ℕ) < _ ∨ ((i : ℕ) < _ ∧ (T : ℕ) < _))) = (_ ≤ (T : ℕ) ∧ (T : ℕ) < _ ∧ ((i : ℕ) < _ ∨ ((i : ℕ) < _ ∧ (T : ℕ) < _)))
      apply propext
      omega
  exact congr (congrArg run (congrArg k e1)) e2

theorem run_stageB (s : Bool) (w : BitVec 32) (hw : w.toNat < 16) (g : Fin 4) (k : MP Ideal) (st : St Ideal) :
    run (stageB s w hw g k) (midB s w.toNat (32 * g) 0 st) = run k (midB s w.toNat (32 * (g + 1)) 0 st) := by
  unfold stageB
  rw [run_ld]
  have e0 : (fun x => midB s w.toNat (32 * g) 0 st .rs ((rg g).toLoadRect.idx x)) = accB s w.toNat g 0 st := by
    funext x
    obtain ⟨i, l, rfl⟩ : ∃ (a : Fin 32) (b : Fin 128), x = ix2 a b := ⟨x 0, x 1, eq_ix2 x⟩
    rw [midB_rs, idx_rows]
    unfold rsB accB
    rw [if_neg (by show ¬ (32 * (g : ℕ) + i < 32 * g); omega), Finset.range_zero, Finset.sum_empty, add_zero]
    rfl
  rw [e0, run_fold16 (uTile s w hw g) (fun n => accB s w.toNat g n st) (fun n => midB s w.toNat (32 * g) n st) fun j k => run_uTile s w hw g j k st]
  rw [run_ld, run_st]
  congr 1
  rw [midB_rs]
  unfold midB
  rw [Function.update_comm (by cases s <;> decide), Function.update_idem]
  have e1 : (rg g).overlay (rsB s w.toNat (32 * g) st) (shapeCast S32x128 (accB s w.toNat g 16 st) c_rows) = rsB s w.toNat (32 * (g + 1)) st := by
    funext x
    obtain ⟨i, l, rfl⟩ : ∃ (a b : Fin 128), x = ix2 a b := ⟨x 0, x 1, eq_ix2 x⟩
    refine (overlay_rows 32 _ _ _ _ i l).trans ?_
    by_cases h : 32 * (g : ℕ) ≤ (i : ℕ) ∧ (i : ℕ) < 32 * g + 32
    · rw [dif_pos h]
      refine (cast_rows _ _ _).trans ?_
      unfold accB rsB
      have e : (⟨32 * (g : ℕ) + ((i : ℕ) - 32 * g), by omega⟩ : Fin 128) = i := by apply Fin.ext; show 32 * (g : ℕ) + (i - 32 * g) = i; omega
      rw [if_pos (by show (i : ℕ) < _; omega)]
      show st .rs (ix2 (⟨32 * (g : ℕ) + ((i : ℕ) - 32 * g), _⟩ : Fin 128) l) + ∑ T ∈ _, wt s st _ (⟨32 * (g : ℕ) + ((i : ℕ) - 32 * g), _⟩ : Fin 128) l = st .rs (ix2 i l) + ∑ T ∈ _, wt s st _ i l
      rw [e]
    · rw [dif_neg h]
      unfold rsB
      congr 1
      show ((i : ℕ) < _) = ((i : ℕ) < _)
      apply propext
      omega
  have e2 : bufB s w.toNat (32 * g) 16 st = bufB s w.toNat (32 * (g + 1)) 0 st := by
    funext x
    unfold bufB
    congr 1
    apply propext
    have h1 : (x 0 : ℕ) < 256 := (x 0).isLt
    have h2 : (x 1 : ℕ) < 128 := (x 1).isLt
    omega
  rw [e1, e2]

/-- After the second stage over block `w`: the weights in place of the scores, and their sums. -/
def afterB (s : Bool) (w : ℕ) (st : St Ideal) : St Ideal := midB s w 128 0 st

theorem run_stagesB (s : Bool) (w : BitVec 32) (hw : w.toNat < 16) (k : MP Ideal) (st : St Ideal) :
    run (do4 (stageB s w hw) k) st = run k (afterB s w.toNat st) := by
  have e0 : midB s w.toNat 0 0 st = st := by
    unfold midB
    have e1 : rsB s w.toNat 0 st = st .rs := by
      funext x
      unfold rsB
      rw [if_neg (by omega)]
    have e2 : bufB s w.toNat 0 0 st = st (.buf (!s)) := by
      funext x
      unfold bufB
      rw [if_neg (by omega)]
    rw [e1, e2, Function.update_eq_self, Function.update_eq_self]
  have h := run_do4 (stageB s w hw) (fun n => midB s w.toNat (32 * n) 0 st) (fun j k => run_stageB s w hw j k st) k
  rw [show midB s w.toNat (32 * 0) 0 st = st from e0] at h
  exact h

end Cert.Attn
-- ==== Proof.Scores.lean ====
/-
  What the scores' stage of the kernel's body leaves in the regions, over the extended reals, entry by entry, and with it the
  whole body over one block of keys.
-/
module

public import proofs.«01_k».proof.Proof.Stages

@[expose] public section

set_option maxRecDepth 16384

noncomputable section

namespace Cert.Attn

open Idealize.ShloMosaic Idealize.ShloMosaic.TcCoe

/-- Row `i` of a half's queries in the pair's block. -/
def qrow (s : Bool) (i : Fin 128) : Fin 256 := ⟨(bif s then 0 else 128) + i, by cases s <;> simp <;> omega⟩
/-- The key tile holding tile `T`. -/
def ktl (T : ℕ) : Fin 128 := ⟨T / 2 % 128, Nat.mod_lt _ (by decide)⟩
/-- Lane `l` of tile `T` in its key tile. -/
def kln (T : ℕ) (l : Fin 128) : Fin 256 := ⟨128 * (T % 2) + l, by omega⟩

/-- A query against a key, times the key's scale. -/
def sc (s : Bool) (st : St Ideal) (T : ℕ) (i l : Fin 128) : EReal :=
  (∑ d : Fin 128, st .q (ix3 0 (qrow s i) d) * st .kt (ix4 0 (ktl T) d (kln T l))) * st .ks (ix4 0 (tl T) 0 l)

/-- The same, minus infinity at a key after the row's token; the rows start at token `first`. -/
def ms (s : Bool) (first : ℕ) (st : St Ideal) (T : ℕ) (i l : Fin 128) : EReal :=
  if 128 * T + (l : ℕ) ≤ first + (i : ℕ) / 8 then sc s st T i l else ⊥

def bufA (s : Bool) (first w n : ℕ) (st : St Ideal) : RegOf Ideal (.buf s) := fun x =>
  if 16 * w ≤ (x 0 : ℕ) ∧ (x 0 : ℕ) < 16 * w + n then ms s first st (x 0 : ℕ) (x 1) (x 2) else st (.buf s) x

def rmA (s : Bool) (first w n : ℕ) (st : St Ideal) : RegOf Ideal .rm := fun x =>
  (max (st .rm x) ((Finset.range n).sup fun T => ms s first st (16 * w + T) (x 0) (x 1)) : EReal)

def midA (s : Bool) (first w n : ℕ) (st : St Ideal) : St Ideal :=
  Function.update (Function.update st .rm (rmA s first w n st)) (.buf s) (bufA s first w n st)

theorem midA_other (s : Bool) (first w n : ℕ) (st : St Ideal) (x : W) (h1 : x ≠ .rm) (h2 : x ≠ .buf s) : midA s first w n st x = st x := by
  unfold midA
  rw [Function.update_of_ne h2, Function.update_of_ne h1]

theorem midA_buf (s : Bool) (first w n : ℕ) (st : St Ideal) : midA s first w n st (.buf s) = bufA s first w n st := by
  unfold midA
  rw [Function.update_self]

theorem midA_rm (s : Bool) (first w n : ℕ) (st : St Ideal) : midA s first w n st .rm = rmA s first w n st := by
  unfold midA
  rw [Function.update_of_ne (by cases s <;> decide), Function.update_self]

theorem t_apply (d : FVec Ideal S128x256 .f32) (h : Fin 2) (hd : S128x256.Slices (offS h) S128x128) (c : FVec Ideal S1x1x1x128 .f32) (i l : Fin 128) :
    (mulf (extractStridedSlice S128x128 (offS h) d hd) (broadcastTo S128x128 (shapeCast S1x128 c c_ks) b_ks) : FVec Ideal S128x128 .f32) (ix2 i l)
      = d (ix2 i ⟨128 * h + l, by omega⟩) * c (ix4 0 0 0 l) := by
  fin_cases h
  · pointwise
  · pointwise

theorem cast_tile (x : FVec Ideal S128x128 .f32) (u : Fin 1) (i l : Fin 128) :
    (shapeCast S1x128x128 x c_tile' : FVec Ideal S1x128x128 .f32) (ix3 u i l) = x (ix2 i l) := by
  pointwise

theorem max_apply (m x : FVec Ideal S128x128 .f32) (i l : Fin 128) :
    (shapeCast S128x128 (maximumf m x) c_whole : FVec Ideal S128x128 .f32) (ix2 i l) = max (m (ix2 i l) : EReal) (x (ix2 i l)) := by
  pointwise

theorem d_apply (q : FVec Ideal S1x128x128 .fp8e4m3) (x : FVec Ideal S1x1x128x256 .fp8e4m3) (i : Fin 128) (c : Fin 256) :
    (matmul dotQK none (shapeCast S128x128 q c_tile) (shapeCast S128x256 x c_kt) (constant S128x256 .f32 0x00000000#32) : FVec Ideal S128x256 .f32) (ix2 i c)
      = ∑ d : Fin 128, q (ix3 0 i d) * x (ix4 0 0 d c) := by
  pointwise

/-- What a mask of block `w` does. -/
def Masks (first w : ℕ) (mk : Fin 16 → FVec Ideal S128x128 .f32 → FVec Ideal S128x128 .f32) : Prop :=
  ∀ (j : Fin 16) (t : FVec Ideal S128x128 .f32) (i l : Fin 128),
    mk j t (ix2 i l) = if 128 * (16 * w + (j : ℕ)) + (l : ℕ) ≤ first + (i : ℕ) / 8 then t (ix2 i l) else (⊥ : EReal)

theorem update_twice (st : St Ideal) {a b : W} (h : a ≠ b) (x x' : RegOf Ideal a) (y y' : RegOf Ideal b) :
    Function.update (Function.update (Function.update (Function.update st a x) b y) b y') a x'
      = Function.update (Function.update st a x') b y' := by
  rw [Function.update_idem, Function.update_comm h, Function.update_idem]
  exact Function.update_comm (Ne.symm h) _ _ _

theorem run_tTile (s : Bool) (first : ℕ) (w : BitVec 32) (hw : w.toNat < 16) (mk : Fin 16 → FVec Ideal S128x128 .f32 → FVec Ideal S128x128 .f32)
    (hmk : Masks first w.toNat mk) (st : St Ideal) (d : FVec Ideal S128x256 .f32) (h : Fin 2) (hd : S128x256.Slices (offS h) S128x128) (j : Fin 16)
    (hdv : ∀ i l : Fin 128, d (ix2 i ⟨128 * h + l, by omega⟩) * st .ks (ix4 0 (tl (16 * w.toNat + j)) 0 l) = sc s st (16 * w.toNat + j) i l)
    (k : MP Ideal) :
    run (tTile s w hw mk d h hd j k) (midA s first w.toNat j st) = run k (midA s first w.toNat (j + 1) st) := by
  have hv : ∀ i l : Fin 128, mk j (mulf (extractStridedSlice S128x128 (offS h) d hd)
      (broadcastTo S128x128 (shapeCast S1x128 (fun x => midA s first w.toNat j st .ks ((rKs w hw j).toLoadRect.idx x)) c_ks) b_ks)) (ix2 i l)
      = ms s first st (16 * w.toNat + j) i l := by
    intro i l
    rw [hmk]
    unfold ms
    congr 1
    refine (t_apply d h hd _ i l).trans ?_
    rw [midA_other _ _ _ _ _ _ (by decide) (by cases s <;> decide), idx_ks]
    exact hdv i l
  unfold tTile
  rw [run_ld, run_ld, run_st, run_ld, run_ld, run_st]
  congr 1
  rw [Function.update_of_ne (show W.rm ≠ W.buf s by cases s <;> decide)]
  rw [midA_buf, midA_rm]
  have e1 : (rTile w hw j).overlay (bufA s first w.toNat j st) (shapeCast S1x128x128 (mk j (mulf (extractStridedSlice S128x128 (offS h) d hd)
      (broadcastTo S128x128 (shapeCast S1x128 (fun x => midA s first w.toNat j st .ks ((rKs w hw j).toLoadRect.idx x)) c_ks) b_ks))) c_tile')
      = bufA s first w.toNat (j + 1) st := by
    funext x
    obtain ⟨T, i, l, rfl⟩ : ∃ (a : Fin 256) (b c : Fin 128), x = ix3 a b c := ⟨x 0, x 1, x 2, eq_ix3 x⟩
    refine (overlay_tile 128 _ _ _ _ _ T i l).trans ?_
    rw [tileW_toNat w hw j]
    by_cases h : (T : ℕ) = 16 * w.toNat + j ∧ 0 ≤ (i : ℕ) ∧ (i : ℕ) < 0 + 128
    · rw [dif_pos h]
      refine (cast_tile _ _ _ _).trans ((hv _ _).trans ?_)
      unfold bufA
      rw [if_pos (by show _ ≤ (T : ℕ) ∧ (T : ℕ) < _; omega)]
      show _ = ms s first st (T : ℕ) i l
      rw [h.1]
      rfl
    · rw [dif_neg h]
      unfold bufA
      congr 1
      show (_ ≤ (T : ℕ) ∧ (T : ℕ) < _) = (_ ≤ (T : ℕ) ∧ (T : ℕ) < _)
      apply propext
      omega
  have e2 : r0.overlay (rmA s first w.toNat j st) (shapeCast S128x128 (maximumf (fun x => rmA s first w.toNat j st (r0.toLoadRect.idx x))
      (mk j (mulf (extractStridedSlice S128x128 (offS h) d hd)
      (broadcastTo S128x128 (shapeCast S1x128 (fun x => midA s first w.toNat j st .ks ((rKs w hw j).toLoadRect.idx x)) c_ks) b_ks)))) c_whole)
      = rmA s first w.toNat (j + 1) st := by
    refine (overlay_whole _ _).trans ?_
    funext x
    obtain ⟨i, l, rfl⟩ : ∃ (a b : Fin 128), x = ix2 a b := ⟨x 0, x 1, eq_ix2 x⟩
    refine (max_apply _ _ _ _).trans ?_
    rw [hv, idx_whole]
    unfold rmA
    rw [Finset.range_add_one, Finset.sup_insert, sup_comm]
    exact max_left_comm (α := EReal) _ _ _
  rw [e1, e2]
  unfold midA
  exact update_twice st (by cases s <;> decide) _ _ _ _

/-- A half's queries, -/
def qIn (s : Bool) (st : St Ideal) : FVec Ideal S1x128x128 .fp8e4m3 := fun x => st .q ((rQ s).toLoadRect.idx x)
/-- and a key tile, as they are read. -/
def ktIn (w : BitVec 32) (hw : w.toNat < 16) (j : Fin 8) (st : St Ideal) : FVec Ideal S1x1x128x256 .fp8e4m3 :=
  fun x => st .kt ((rKt w hw j).toLoadRect.idx x)

theorem run_stageA (s : Bool) (first : ℕ) (w : BitVec 32) (hw : w.toNat < 16) (mk : Fin 16 → FVec Ideal S128x128 .f32 → FVec Ideal S128x128 .f32)
    (hmk : Masks first w.toNat mk) (st : St Ideal) (jt : Fin 8) (k : MP Ideal) :
    run (stageA s w hw mk (shapeCast S128x128 (qIn s st) c_tile) jt k) (midA s first w.toNat (2 * jt) st)
      = run k (midA s first w.toNat (2 * (jt + 1)) st) := by
  unfold stageA
  rw [run_ld]
  have hd : ∀ (i : Fin 128) (c : Fin 256), (matmul dotQK none (shapeCast S128x128 (qIn s st) c_tile)
      (shapeCast S128x256 (ktIn w hw jt (midA s first w.toNat (2 * jt) st)) c_kt) (constant S128x256 .f32 0x00000000#32)
        : FVec Ideal S128x256 .f32) (ix2 i c)
      = ∑ d : Fin 128, st .q (ix3 0 (qrow s i) d) * st .kt (ix4 0 ⟨8 * w.toNat + jt, by omega⟩ d c) := by
    intro i c
    refine (d_apply _ _ i c).trans ?_
    refine Finset.sum_congr rfl fun d _ => ?_
    unfold qIn ktIn
    rw [midA_other _ _ _ _ _ _ (by decide) (by cases s <;> decide), idx_kt, idx_q]
    rfl
  have h0 := run_tTile s first w hw mk hmk st (matmul dotQK none (shapeCast S128x128 (qIn s st) c_tile)
      (shapeCast S128x256 (ktIn w hw jt (midA s first w.toNat (2 * jt) st)) c_kt) (constant S128x256 .f32 0x00000000#32)) 0 slice_0
      ⟨2 * jt, by omega⟩ (by
        intro i l
        rw [hd]
        unfold sc
        congr 1
        refine Finset.sum_congr rfl fun d _ => ?_
        congr 3
        · apply Fin.ext; show 8 * w.toNat + (jt : ℕ) = (16 * w.toNat + 2 * jt) / 2 % 128; omega
        · apply Fin.ext; show 128 * 0 + (l : ℕ) = 128 * ((16 * w.toNat + 2 * jt) % 2) + l; omega)
  have h1 := run_tTile s first w hw mk hmk st (matmul dotQK none (shapeCast S128x128 (qIn s st) c_tile)
      (shapeCast S128x256 (ktIn w hw jt (midA s first w.toNat (2 * jt) st)) c_kt) (constant S128x256 .f32 0x00000000#32)) 1 slice_1
      ⟨2 * jt + 1, by omega⟩ (by
        intro i l
        rw [hd]
        unfold sc
        congr 1
        refine Finset.sum_congr rfl fun d _ => ?_
        congr 3
        · apply Fin.ext; show 8 * w.toNat + (jt : ℕ) = (16 * w.toNat + (2 * jt + 1)) / 2 % 128; omega
        · apply Fin.ext; show 128 * 1 + (l : ℕ) = 128 * ((16 * w.toNat + (2 * jt + 1)) % 2) + l; omega)
  exact (h0 _).trans (h1 k)

/-- After the third stage over block `w`: the scores, and their rows' largest. -/
def afterA (s : Bool) (first w : ℕ) (st : St Ideal) : St Ideal := midA s first w 16 st

theorem run_stagesA (s : Bool) (first : ℕ) (w : BitVec 32) (hw : w.toNat < 16) (mk : Fin 16 → FVec Ideal S128x128 .f32 → FVec Ideal S128x128 .f32)
    (hmk : Masks first w.toNat mk) (k : MP Ideal) (st : St Ideal) :
    run (do8 (stageA s w hw mk (shapeCast S128x128 (qIn s st) c_tile)) k) st = run k (afterA s first w.toNat st) := by
  have e0 : midA s first w.toNat (2 * 0) st = st := by
    unfold midA
    have e1 : rmA s first w.toNat (2 * 0) st = st .rm := by
      funext x
      unfold rmA
      rw [Nat.mul_zero, Finset.range_zero, Finset.sup_empty]
      exact max_bot_right _
    have e2 : bufA s first w.toNat (2 * 0) st = st (.buf s) := by
      funext x
      unfold bufA
      rw [if_neg (by omega)]
    rw [e1, e2, Function.update_eq_self, Function.update_eq_self]
  have h := run_do8 (stageA s w hw mk (shapeCast S128x128 (qIn s st) c_tile))
    (fun n => midA s first w.toNat (2 * n) st) (fun j k => run_stageA s first w hw mk hmk st j k) k
  rw [show midA s first w.toNat (2 * 0) st = st from e0] at h
  exact h

/-- After the body over block `w`. -/
def after (s : Bool) (first w : ℕ) (st : St Ideal) : St Ideal := afterA s first w (afterB s w (afterC s w st))

theorem run_blk (s : Bool) (first : ℕ) (w : BitVec 32) (hw : w.toNat < 16) (mk : Fin 16 → FVec Ideal S128x128 .f32 → FVec Ideal S128x128 .f32)
    (hmk : Masks first w.toNat mk) (k : MP Ideal) (st : St Ideal) :
    run (blk s w hw mk k) st = run k (after s first w.toNat st) := by
  unfold blk
  rw [run_stageC, run_stagesB, run_ld]
  exact run_stagesA s first w hw mk hmk k _

end Cert.Attn
-- ==== Proof.Loops.lean ====
/-
  What a half's loops over the blocks of keys leave in the regions, over the extended reals, entry by entry.
-/
module

public import proofs.«01_k».proof.Proof.Scores
public import proofs.«01_k».proof.Proof.Words
public import Idealize.ShloMosaic.Lib.WordCmp

@[expose] public section

set_option maxRecDepth 16384

noncomputable section

namespace Cert.Attn

open Idealize.ShloMosaic Idealize.ShloMosaic.TcCoe

theorem sup_range_add (f : ℕ → EReal) (n m : ℕ) :
    (Finset.range (n + m)).sup f = max ((Finset.range n).sup f) ((Finset.range m).sup fun k => f (n + k)) := by
  induction m with
  | zero => simp
  | succ m ih =>
    rw [← Nat.add_assoc, Finset.range_add_one, Finset.sup_insert, ih, Finset.range_add_one (n := m), Finset.sup_insert]
    exact max_left_comm (α := EReal) _ _ _

/-- After the first `n` blocks of keys, from `st`: `st'`. -/
structure At (s : Bool) (first n : ℕ) (st st' : St Ideal) : Prop where
  other : ∀ x : W, x ≠ .buf false → x ≠ .buf true → x ≠ .rm → x ≠ .rs → x ≠ .oa → st' x = st x
  score : ∀ (T : Fin 256) (i l : Fin 128), st' (.buf s) (ix3 T i l) = if (T : ℕ) < 16 * n then ms s first st T i l else st (.buf s) (ix3 T i l)
  weight : ∀ (T : Fin 256) (i l : Fin 128), st' (.buf (!s)) (ix3 T i l) = if (T : ℕ) < 16 * n then wt s st T i l else st (.buf (!s)) (ix3 T i l)
  largest : ∀ i l : Fin 128, st' .rm (ix2 i l) = max (st .rm (ix2 i l) : EReal) ((Finset.range (16 * n)).sup fun T => ms s first st T i l)
  total : ∀ i l : Fin 128, st' .rs (ix2 i l) = (st .rs (ix2 i l) + ∑ T ∈ Finset.range (16 * n), wt s st T i l : EReal)
  out : ∀ i c : Fin 128, st' .oa (ix2 i c) = (st .oa (ix2 i c) + ∑ T ∈ Finset.range (16 * n), pv s st T i c : EReal)

theorem At.zero (s : Bool) (first : ℕ) (st : St Ideal) : At s first 0 st st where
  other _ _ _ _ _ _ := rfl
  score T i l := by simp
  weight T i l := by simp
  largest i l := by simp
  total i l := by simp
  out i c := by simp

theorem tl_val (T : ℕ) (h : T < 256) : tl T = ⟨T, h⟩ := Fin.ext (Nat.mod_eq_of_lt h)

theorem ne_not (s : Bool) : W.buf s ≠ W.buf (!s) := by cases s <;> decide

/-- The third stage: what it leaves alone. -/
theorem afterA_other (s : Bool) (first w : ℕ) (st : St Ideal) (x : W) (h1 : x ≠ .rm) (h2 : x ≠ .buf s) : afterA s first w st x = st x :=
  midA_other s first w 16 st x h1 h2
theorem afterB_other (s : Bool) (w : ℕ) (st : St Ideal) (x : W) (h1 : x ≠ .rs) (h2 : x ≠ .buf (!s)) : afterB s w st x = st x :=
  midB_other s w 128 0 st x h1 h2
theorem afterC_other (s : Bool) (w : ℕ) (st : St Ideal) (x : W) (h1 : x ≠ .oa) : afterC s w st x = st x :=
  Function.update_of_ne h1 _ _

theorem sc_congr (s : Bool) (st st' : St Ideal) (h1 : st' .q = st .q) (h2 : st' .kt = st .kt) (h3 : st' .ks = st .ks) (first T : ℕ) (i l : Fin 128) :
    ms s first st' T i l = ms s first st T i l := by
  unfold ms sc
  rw [h1, h2, h3]

/-- One more block. -/
theorem At.next (s : Bool) (first n : ℕ) (hn : n < 16) (st st' : St Ideal) (h : At s first n st st') : At s first (n + 1) st (after s first n st') := by
  have hs := ne_not s
  have hB : ∀ x : W, x ≠ .rm → x ≠ .buf s → after s first n st' x = afterB s n (afterC s n st') x := fun x h1 h2 => afterA_other s first n _ x h1 h2
  have hms : ∀ T i l, ms s first (afterB s n (afterC s n st')) T i l = ms s first st T i l := by
    intro T i l
    apply sc_congr
    all_goals
      rw [afterB_other _ _ _ _ (by decide) (by cases s <;> decide), afterC_other _ _ _ _ (by decide),
        h.other _ (by decide) (by decide) (by decide) (by decide) (by decide)]
  have hwt : ∀ T i l, 16 * n ≤ T → T < 256 → wt s (afterC s n st') T i l = wt s st T i l := by
    intro T i l h1 h2
    unfold wt
    rw [afterC_other _ _ _ _ (by cases s <;> decide), afterC_other _ _ _ _ (by cases s <;> decide), afterC_other _ _ _ _ (by decide), tl_val T h2,
      h.weight, if_neg (by show ¬ T < _; omega), h.other (.aq (!s)) (by cases s <;> decide) (by cases s <;> decide) (by cases s <;> decide) (by cases s <;> decide) (by cases s <;> decide),
      h.other .sh (by decide) (by decide) (by decide) (by decide) (by decide)]
  have hpv : ∀ T i c, 16 * n ≤ T → T < 256 → pv s st' T i c = pv s st T i c := by
    intro T i c h1 h2
    unfold pv
    refine Finset.sum_congr rfl fun l _ => ?_
    rw [tl_val T h2, h.score, if_neg (by show ¬ T < _; omega), h.other .no (by decide) (by decide) (by decide) (by decide) (by decide),
      h.other .v (by decide) (by decide) (by decide) (by decide) (by decide)]
  constructor
  · intro x h1 h2 h3 h4 h5
    rw [hB x h3 (by cases s <;> assumption), afterB_other _ _ _ _ h4 (by cases s <;> assumption), afterC_other _ _ _ _ h5]
    exact h.other x h1 h2 h3 h4 h5
  · intro T i l
    show midA s first n 16 (afterB s n (afterC s n st')) (.buf s) (ix3 T i l) = _
    rw [midA_buf]
    unfold bufA
    show (if 16 * n ≤ (T : ℕ) ∧ (T : ℕ) < 16 * n + 16 then ms s first (afterB s n (afterC s n st')) T i l else afterB s n (afterC s n st') (.buf s) (ix3 T i l)) = _
    rw [hms, afterB_other _ _ _ _ (by cases s <;> decide) hs, afterC_other _ _ _ _ (by cases s <;> decide), h.score]
    by_cases a : (T : ℕ) < 16 * n
    · rw [if_neg (by omega), if_pos a, if_pos (by omega)]
    · by_cases b : (T : ℕ) < 16 * n + 16
      · rw [if_pos (by omega), if_pos (by omega)]
      · rw [if_neg (by omega), if_neg (by omega), if_neg (by omega)]
  · intro T i l
    rw [hB _ (by cases s <;> decide) hs.symm]
    show midB s n 128 0 (afterC s n st') (.buf (!s)) (ix3 T i l) = _
    rw [midB_buf]
    unfold bufB
    show (if 16 * n ≤ (T : ℕ) ∧ (T : ℕ) < 16 * n + 16 ∧ ((i : ℕ) < 128 ∨ ((i : ℕ) < 128 + 32 ∧ (T : ℕ) < 16 * n + 0)) then wt s (afterC s n st') T i l else afterC s n st' (.buf (!s)) (ix3 T i l)) = _
    rw [afterC_other _ _ _ _ (by cases s <;> decide), h.weight]
    by_cases a : (T : ℕ) < 16 * n
    · rw [if_neg (by omega), if_pos a, if_pos (by omega)]
    · by_cases b : (T : ℕ) < 16 * n + 16
      · rw [if_pos (by omega), if_pos (by omega)]
        exact hwt _ _ _ (by omega) T.isLt
      · rw [if_neg (by omega), if_neg (by omega), if_neg (by omega)]
  · intro i l
    show midA s first n 16 (afterB s n (afterC s n st')) .rm (ix2 i l) = _
    rw [midA_rm]
    unfold rmA
    show max (afterB s n (afterC s n st') .rm (ix2 i l) : EReal) ((Finset.range 16).sup fun T => ms s first (afterB s n (afterC s n st')) (16 * n + T) i l) = _
    rw [afterB_other _ _ _ _ (by decide) (by cases s <;> decide), afterC_other _ _ _ _ (by decide), h.largest, show 16 * (n + 1) = 16 * n + 16 by omega, sup_range_add,
      max_assoc]
    congr 2
    exact Finset.sup_congr rfl fun T _ => hms _ _ _
  · intro i l
    rw [hB _ (by decide) (by cases s <;> decide)]
    show midB s n 128 0 (afterC s n st') .rs (ix2 i l) = _
    rw [midB_rs]
    unfold rsB
    rw [if_pos (show ((ix2 i l : S128x128.Idx) 0 : ℕ) < 128 from i.isLt)]
    show (afterC s n st' .rs (ix2 i l) + ∑ T ∈ Finset.range 16, wt s (afterC s n st') (16 * n + T) i l : EReal) = _
    rw [afterC_other _ _ _ _ (by decide), h.total, show 16 * (n + 1) = 16 * n + 16 by omega, Finset.sum_range_add, add_assoc]
    congr 2
    exact Finset.sum_congr rfl fun T hT => hwt _ _ _ (by omega) (by have := Finset.mem_range.mp hT; omega)
  · intro i c
    rw [hB _ (by decide) (by cases s <;> decide), afterB_other _ _ _ _ (by decide) (by cases s <;> decide)]
    unfold afterC
    rw [Function.update_self]
    show (st' .oa (ix2 i c) + ∑ T ∈ Finset.range 16, pv s st' (16 * n + T) i c : EReal) = _
    rw [h.out, show 16 * (n + 1) = 16 * n + 16 by omega, Finset.sum_range_add, add_assoc]
    congr 2
    exact Finset.sum_congr rfl fun T hT => hpv _ _ _ (by omega) (by have := Finset.mem_range.mp hT; omega)

theorem foldl_finRange {X : Type} (m : ℕ) (f : Fin m → X → X) (P : ℕ → X → Prop) (h : ∀ (k : Fin m) x, P k x → P (k + 1) (f k x)) (x : X) (h0 : P 0 x) :
    P m ((List.finRange m).foldl (fun x k => f k x) x) := by
  induction m with
  | zero => exact h0
  | succ m ih =>
    rw [List.finRange_succ_last, List.foldl_append, List.foldl_map]
    exact h (Fin.last m) _ (ih (fun k => f k.castSucc) fun k x hk => h k.castSucc x hk)

theorem foldl_finRange' {X : Type} (m M : ℕ) (hm : m = M) (f : Fin m → X → X) (P : ℕ → X → Prop) (h : ∀ (k : Fin m) x, P k x → P (k + 1) (f k x)) (x : X)
    (h0 : P 0 x) : P M ((List.finRange m).foldl (fun x k => f k x) x) := by
  subst hm
  exact foldl_finRange m f P h x h0

/-! ## The masks -/

theorem masks_none (first w : ℕ) (h : 2048 * (w + 1) ≤ first) : Masks first w noMask := by
  intro j t i l
  rw [if_pos (by omega)]
  rfl

theorem row_word : ∀ i : Fin 128,
    (Scalar.select
            (IntOp.andi
              (IntOp.cmpi .ne
                (IntOp.subi (BitVec.setWidth 32 (IntOp.cmpi .sgt (BitVec.ofNat 32 i) 0#32))
                  (BitVec.setWidth 32 (IntOp.cmpi .slt (BitVec.ofNat 32 i) 0#32)))
                (Scalar.subi (Scalar.extui (Scalar.cmpi .sgt 8#32 0#32))
                  (Scalar.extui (Scalar.cmpi .slt 8#32 0#32))))
              (IntOp.cmpi .ne (IntOp.remsi ArithUnit.vector (BitVec.ofNat 32 i) 8#32) 0#32))
            (IntOp.subi (IntOp.divsi ArithUnit.vector (BitVec.ofNat 32 i) 8#32) 1#32)
            (IntOp.divsi ArithUnit.vector (BitVec.ofNat 32 i) 8#32) : BitVec 32) = BitVec.ofNat 32 (i / 8) := by
  decide +kernel

theorem negInf : Ideal.ofBits .f32 0xFF800000#32 = ⊥ := by simp [Ideal.ofBits, Ideal.ieee]

theorem key_word (w j l : ℕ) (hw : w < 16) (hj : j < 16) (hl : l < 128) :
    IntOp.addi (Scalar.muli (Scalar.addi (Scalar.muli (BitVec.ofNat 32 w) 16#32) (BitVec.ofNat 32 j)) 128#32) (BitVec.ofNat 32 l)
      = BitVec.ofNat 32 (128 * (16 * w + j) + l) := by
  apply BitVec.eq_of_toNat_eq
  simp only [Scalar.addi, Scalar.muli, IntOp.addi, IntOp.muli, BitVec.toNat_add, BitVec.toNat_mul, BitVec.toNat_ofNat]
  omega

theorem masks_mask (first w : ℕ) (hf : first ≤ 32768) (hw : w < 16) (fw ww : BitVec 32) (h1 : fw = BitVec.ofNat 32 first) (h2 : ww = BitVec.ofNat 32 w) :
    Masks first w (mask fw ww) := by
  subst h1 h2
  intro j t i l
  have e := row_word i
  pointwise [mask]
  rw [e, key_word w j l hw j.isLt l.isLt, negInf]
  have e2 : IntOp.addi (BitVec.ofNat 32 first) (BitVec.ofNat 32 ((i : ℕ) / 8)) = BitVec.ofNat 32 (first + (i : ℕ) / 8) := by
    apply BitVec.eq_of_toNat_eq
    simp only [IntOp.addi, BitVec.toNat_add, BitVec.toNat_ofNat]
    omega
  have hj := j.isLt
  have hl := l.isLt
  have hi := i.isLt
  rw [e2, WordCmp.cmpi_sle_ofNat (by norm_num; omega) (by norm_num; omega)]
  unfold Scalar.select
  by_cases h : 128 * (16 * w + (j : ℕ)) + (l : ℕ) ≤ first + (i : ℕ) / 8
  · simp [h]
  · simp [h]

/-! ## The loops -/

/-- The four loops of a half at point `n`, then `k`. -/
def loops {F : FTy → Type} [FloatOps F] (s : Bool) (n : ℕ) (H : Words s n) (k : MP F) : MP F :=
  .loop (mainL (tripsU s n)) H.okU (fun k => blk s (kbW 0#32 0#32 k) (H.kbU k) noMask .done) <|
  .loop (restL (tripsU s n)) H.okU' (fun k => blk s (kbW 0#32 (stopW (tripsU s n)) k) (H.kbU' k) noMask .done) <|
  .loop (mainL (tripsM s n)) H.okM (fun k => blk s (kbW (fullW s n) 0#32 k) (H.kbM k)
    (mask (firstW s n) (kbW (fullW s n) 0#32 k)) .done) <|
  .loop (restL (tripsM s n)) H.okM' (fun k => blk s (kbW (fullW s n) (stopW (tripsM s n)) k) (H.kbM' k)
    (mask (firstW s n) (kbW (fullW s n) (stopW (tripsM s n)) k)) .done) k

theorem foldl_none {X : Type} (m : ℕ) (hm : m = 0) (f : X → Fin m → X) (x : X) : (List.finRange m).foldl f x = x := by
  subst hm
  rfl

/-- They run over all the blocks of keys. -/
theorem run_loops (s : Bool) (n : ℕ) (hn : n < 1025) (H : Words s n) (k : MP Ideal) (st : St Ideal) :
    ∃ st', At s (16 * rowN s n) (allN s n) st st' ∧ run (loops s n H k) st = run k st' := by
  have hf := full_le (s := s) hn
  have ha := all_le (s := s) hn
  unfold loops
  rw [run_loop, run_loop, run_loop, run_loop, foldl_none _ (trips_restU hn), foldl_none _ (trips_restM hn)]
  refine ⟨_, ?_, rfl⟩
  have hU := foldl_finRange' _ _ (trips_mainU hn) (fun (k : Fin (mainL (tripsU s n)).trips) st => run (blk s (kbW 0#32 0#32 k) (H.kbU k) noMask .done) st)
    (fun m st' => m ≤ fullN s n → At s (16 * rowN s n) m st st') (by
      intro k st' h hk
      have e : (kbW 0#32 0#32 k).toNat = (k : ℕ) := by
        rw [kbU_eq hn, BitVec.toNat_ofNat]
        omega
      have := run_blk s (16 * rowN s n) (kbW 0#32 0#32 k) (H.kbU k) noMask (masks_none _ _ (by rw [e]; unfold fullN at hk; omega)) .done st'
      rw [this, run_done, e]
      exact At.next s _ _ (by omega) _ _ (h (by omega))) st (fun _ => At.zero _ _ _)
  have hU' := hU le_rfl
  have hM := foldl_finRange' _ _ (trips_mainM hn) (fun (k : Fin (mainL (tripsM s n)).trips) st => run (blk s (kbW (fullW s n) 0#32 k) (H.kbM k)
    (mask (firstW s n) (kbW (fullW s n) 0#32 k)) .done) st)
    (fun m st' => fullN s n + m ≤ allN s n → At s (16 * rowN s n) (fullN s n + m) st st') (by
      intro k st' h hk
      have e : (kbW (fullW s n) 0#32 k).toNat = fullN s n + (k : ℕ) := by
        rw [kbM_eq hn, BitVec.toNat_ofNat]
        omega
      have := run_blk s (16 * rowN s n) (kbW (fullW s n) 0#32 k) (H.kbM k) (mask (firstW s n) (kbW (fullW s n) 0#32 k))
        (by rw [e]; exact masks_mask _ _ (by unfold rowN; omega) (by omega) _ _ (firstW_eq hn) (kbM_eq hn k)) .done st'
      rw [this, run_done, e]
      exact At.next s _ (fullN s n + (k : ℕ)) (by omega) _ _ (h (by omega))) _ (fun _ => hU')
  have hM' := hM (by omega)
  rw [Nat.add_sub_cancel' hf] at hM'
  exact hM'

end Cert.Attn
-- ==== Proof.Half.lean ====
/-
  What a half's preparation and its end leave in the regions, over the extended reals, entry by entry, and with the loops between
  them the whole half.
-/
module

public import proofs.«01_k».proof.Proof.Loops

@[expose] public section

set_option maxRecDepth 16384

noncomputable section

namespace Cert.Attn

open Idealize.ShloMosaic Idealize.ShloMosaic.TcCoe

theorem cast_whole {F : FTy → Type} [FloatOps F] (x : FVec F S128x128 .f32) : shapeCast S128x128 x c_whole = x := by
  funext y
  obtain ⟨i, l, rfl⟩ : ∃ (a b : Fin 128), y = ix2 a b := ⟨y 0, y 1, eq_ix2 y⟩
  pointwise

theorem read_whole {α : Type} (f : S128x128.Idx → α) : (fun x => f (r0.toLoadRect.idx x)) = f := by
  funext y
  obtain ⟨i, l, rfl⟩ : ∃ (a b : Fin 128), y = ix2 a b := ⟨y 0, y 1, eq_ix2 y⟩
  rw [idx_whole]

/-- A whole array's contents, -/
def rdV {F : FTy → Type} (v : V) (st : St F) : FVec F S128x128 .f32 :=
  match v with
  | .aq s => st (.aq s)
  | .rm => st .rm
  | .rs => st .rs
  | .oa => st .oa
  | .sh => st .sh
  | .no => st .no
  | .os => st .os

/-- and the contents with it overwritten. -/
def upV {F : FTy → Type} (v : V) (x : FVec F S128x128 .f32) (st : St F) : St F :=
  match v with
  | .aq s => Function.update st (.aq s) x
  | .rm => Function.update st .rm x
  | .rs => Function.update st .rs x
  | .oa => Function.update st .oa x
  | .sh => Function.update st .sh x
  | .no => Function.update st .no x
  | .os => Function.update st .os x

/-- A whole array read. -/
theorem run_ldV {F : FTy → Type} [FloatOps F] (v : V) (k : FVec F S128x128 .f32 → MP F) (st : St F) :
    run (ldV v k) st = run (k (rdV v st)) st := by
  cases v <;> exact run_congr k st (read_whole _)

/-- A whole array overwritten. -/
theorem run_stV {F : FTy → Type} [FloatOps F] (v : V) (x : FVec F S128x128 .f32) (k : MP F) (st : St F) :
    run (stV v x k) st = run k (upV v x st) := by
  cases v <;> (exact congrArg (run k) (congrArg (Function.update st _) ((overlay_whole _ _).trans (cast_whole x))))

/-! ## The queries' scales -/

/-- Where a token's scales lie in a half. -/
def tokOff (s : Bool) : ℕ := bif s then 0 else 16

/-- The scale of row `i`, times a constant. -/
def aqv (s : Bool) (c : EReal) (st : St Ideal) (i : Fin 128) : EReal :=
  st .qs (ix4 0 0 ⟨(i : ℕ) % 8, by omega⟩ ⟨tokOff s + (i : ℕ) / 8, by cases s <;> simp [tokOff] <;> omega⟩) * c

def midQ (s : Bool) (c : EReal) (n : ℕ) (st : St Ideal) : St Ideal :=
  Function.update st (.aq s) (fun x => if (x 0 : ℕ) < 8 * n then aqv s c st (x 0) else st (.aq s) x)

theorem aq_apply (x : FVec Ideal S1x1x8x1 .f32) (c : Ideal .f32) (h : Fin 8) (l : Fin 128) :
    (shapeCast S8x128 (mulf (broadcastTo S8x128 (shapeCast S8x1 (shapeCast S8x1 x c_qs) c_qs') b_qs) (broadcast S8x128 c)) c_8x128 : FVec Ideal S8x128 .f32) (ix2 h l)
      = x (ix4 0 0 h 0) * c := by
  pointwise

theorem run_aqTok (s : Bool) (c : Ideal .f32) (t : Fin 16) (k : MP Ideal) (st : St Ideal) :
    run (aqTok s c t k) (midQ s c t st) = run k (midQ s c (t + 1) st) := by
  unfold aqTok
  rw [run_ld, run_ld, run_st]
  congr 1
  unfold midQ
  rw [Function.update_idem]
  congr 1
  funext x
  obtain ⟨i, l, rfl⟩ : ∃ (a b : Fin 128), x = ix2 a b := ⟨x 0, x 1, eq_ix2 x⟩
  refine (overlay_rows 8 _ _ _ _ i l).trans ?_
  by_cases h : 8 * (t : ℕ) ≤ (i : ℕ) ∧ (i : ℕ) < 8 * t + 8
  · rw [dif_pos h]
    refine (aq_apply _ _ _ _).trans ?_
    rw [if_pos (show ((ix2 i l : S128x128.Idx) 0 : ℕ) < 8 * (t + 1) by show (i : ℕ) < _; omega)]
    rw [Function.update_of_ne (show W.qs ≠ W.aq s by cases s <;> decide)]
    show st .qs _ * c = st .qs _ * c
    congr 2
    funext a
    apply Fin.ext
    fin_cases a
    · rfl
    · rfl
    · show 0 + 1 * ((i : ℕ) - 8 * t) = (i : ℕ) % 8
      omega
    · show (bif s then 0 else 16) + (t : ℕ) + 1 * 0 = tokOff s + (i : ℕ) / 8
      unfold tokOff
      omega
  · rw [dif_neg h, Function.update_self]
    congr 1
    show ((i : ℕ) < _) = ((i : ℕ) < _)
    apply propext
    omega

theorem run_aqToks (s : Bool) (c : Ideal .f32) (k : MP Ideal) (st : St Ideal) :
    run (do16 (aqTok s c) k) st = run k (Function.update st (.aq s) fun x => aqv s c st (x 0)) := by
  have e0 : midQ s c 0 st = st := by
    unfold midQ
    simp
  have h := run_do16 (aqTok s c) (fun n => midQ s c n st) (fun j k => run_aqTok s c j k st) k
  rw [show midQ s c 0 st = st from e0] at h
  rw [h]
  congr 1
  unfold midQ
  congr 1
  funext x
  exact if_pos (show (x 0 : ℕ) < 8 * 16 from (x 0).isLt)

/-- The values' scales, as they are read. -/
def vsIn (st : St Ideal) : FVec Ideal S1x1x128 .f32 := st .vs

/-- The rows' largest, their sums and a half's scales, as they are read. -/
def rmIn (st : St Ideal) : FVec Ideal S128x128 .f32 := st .rm
def rsIn (st : St Ideal) : FVec Ideal S128x128 .f32 := st .rs
def aqIn (s : Bool) (st : St Ideal) : FVec Ideal S128x128 .f32 := st (.aq s)

/-- After a half's preparation. -/
structure AtPre (s : Bool) (cE cS : Ideal .f32) (st st' : St Ideal) : Prop where
  other : ∀ x : W, x ≠ .no → x ≠ .os → x ≠ .sh → x ≠ .aq s → x ≠ .rm → x ≠ .rs → x ≠ .oa → st' x = st x
  no : st' .no = normOf cE (rsIn st)
  os : st' .os = oscaleOf cE (rsIn st) (vsIn st)
  sh : st' .sh = (shiftOf (rmIn st) (aqIn (!s) st) : FVec Ideal S128x128 .f32)
  aq : ∀ i l : Fin 128, st' (.aq s) (ix2 i l) = aqv s cS st i
  rm : ∀ i l : Fin 128, st' .rm (ix2 i l) = (⊥ : EReal)
  rs : ∀ i l : Fin 128, st' .rs (ix2 i l) = (0 : EReal)
  oa : ∀ i l : Fin 128, st' .oa (ix2 i l) = (0 : EReal)

theorem run_pre (s : Bool) (cE cS : Ideal .f32) (k : MP Ideal) (st : St Ideal) :
    ∃ st', AtPre s cE cS st st' ∧ run (pre s cE cS k) st = run k st' := by
  have hvs : (fun x => st .vs ((Rect.unit (s := S1x1x128) ![0, 0, 0] S1x1x128.size (by decide)).toLoadRect.idx x)) = vsIn st := by
    funext x
    show st .vs _ = st .vs x
    congr 1
    funext a
    apply Fin.ext
    fin_cases a
    · show 0 + 1 * (x 0 : ℕ) = _; simp
    · show 0 + 1 * (x 1 : ℕ) = _; simp
    · show 0 + 1 * (x 2 : ℕ) = _; simp
  unfold pre
  rw [run_ldV, run_stV, run_ld, run_stV, run_ldV, run_ldV, run_stV, run_aqToks, run_stV, run_stV, run_stV]
  refine ⟨_, ?_, rfl⟩
  unfold upV rdV
  dsimp only
  constructor
  · intro x h1 h2 h3 h4 h5 h6 h7
    rw [Function.update_of_ne h7, Function.update_of_ne h6, Function.update_of_ne h5, Function.update_of_ne h4, Function.update_of_ne h3, Function.update_of_ne h2,
      Function.update_of_ne h1]
  · rw [Function.update_of_ne (by decide), Function.update_of_ne (by decide), Function.update_of_ne (by decide), Function.update_of_ne (by cases s <;> decide),
      Function.update_of_ne (by decide), Function.update_of_ne (by decide), Function.update_self]
    rfl
  · rw [Function.update_of_ne (by decide), Function.update_of_ne (by decide), Function.update_of_ne (by decide), Function.update_of_ne (by cases s <;> decide),
      Function.update_of_ne (by decide), Function.update_self]
    congr 1
  · rw [Function.update_of_ne (by decide), Function.update_of_ne (by decide), Function.update_of_ne (by decide), Function.update_of_ne (by cases s <;> decide), Function.update_self]
    rw [Function.update_of_ne (by decide), Function.update_of_ne (by decide), Function.update_of_ne (by cases s <;> decide), Function.update_of_ne (by cases s <;> decide)]
    rfl
  · intro i l
    rw [Function.update_of_ne (by cases s <;> decide), Function.update_of_ne (by cases s <;> decide), Function.update_of_ne (by cases s <;> decide), Function.update_self]
    unfold aqv
    rw [Function.update_of_ne (by decide), Function.update_of_ne (by decide), Function.update_of_ne (by decide)]
    rfl
  · intro i l
    rw [Function.update_of_ne (by decide), Function.update_of_ne (by decide), Function.update_self]
    exact negInf
  · intro i l
    rw [Function.update_of_ne (by decide), Function.update_self]
    exact Ideal.ofBits_zero_f32
  · intro i l
    rw [Function.update_self]
    exact Ideal.ofBits_zero_f32

/-! ## The end -/

/-- The outputs of the first `n` heads. -/
def outO (s : Bool) (n : ℕ) (o : FVec Ideal S128x128 .f32) (old : FVec Ideal S1x32x1024 .bf16) : FVec Ideal S1x32x1024 .bf16 := fun x =>
  if tokOff s ≤ (x 1 : ℕ) ∧ (x 1 : ℕ) < tokOff s + 16 ∧ (x 2 : ℕ) < 128 * n
    then (o (ix2 ⟨(8 * ((x 1 : ℕ) - tokOff s) + (x 2 : ℕ) / 128) % 128, by omega⟩ ⟨(x 2 : ℕ) % 128, by omega⟩) : EReal) else old x

theorem out_apply (x : FVec Ideal S16x128 .f32) (h) (u : Fin 1) (t : Fin 16) (l : Fin 128) :
    (shapeCast S1x16x128 (truncf .bf16 x h) c_out : FVec Ideal S1x16x128 .bf16) (ix3 u t l) = x (ix2 t l) := by
  pointwise

theorem overlay_out {α : Type} (s : Bool) (h : Fin 8) (inb) (f : S1x32x1024.Idx → α) (x : S1x16x128.Idx → α) (u : Fin 1) (y : Fin 32) (z : Fin 1024) :
    (Rect.unit (s := S1x32x1024) ![0, (bif s then 0 else 16), 128 * h.val] S1x16x128.size inb).overlay f x (ix3 u y z)
      = if hc : tokOff s ≤ (y : ℕ) ∧ (y : ℕ) < tokOff s + 16 ∧ 128 * (h : ℕ) ≤ (z : ℕ) ∧ (z : ℕ) < 128 * h + 128
        then x (ix3 u (⟨(y : ℕ) - tokOff s, by omega⟩ : Fin 16) (⟨(z : ℕ) - 128 * h, by omega⟩ : Fin 128)) else f (ix3 u y z) := by
  rw [overlay_unit]
  by_cases hc : tokOff s ≤ (y : ℕ) ∧ (y : ℕ) < tokOff s + 16 ∧ 128 * (h : ℕ) ≤ (z : ℕ) ∧ (z : ℕ) < 128 * h + 128
  · rw [dif_pos hc, dif_pos]
    · congr 1
      funext a
      apply Fin.ext
      fin_cases a
      · rfl
      · rfl
      · rfl
    · intro a
      fin_cases a
      · show 0 ≤ (u : ℕ) ∧ (u : ℕ) < 0 + 1; omega
      · show tokOff s ≤ (y : ℕ) ∧ (y : ℕ) < tokOff s + 16; omega
      · show 128 * (h : ℕ) ≤ (z : ℕ) ∧ (z : ℕ) < 128 * h + 128; omega
  · rw [dif_neg hc, dif_neg]
    intro h'
    have h1 := h' 1
    have h2 := h' 2
    exact hc ⟨h1.1, h1.2, h2.1, h2.2⟩

/-- The accumulator's and the output's contents, as they are read. -/
def oaIn (st : St Ideal) : FVec Ideal S128x128 .f32 := st .oa
def osIn (st : St Ideal) : FVec Ideal S128x128 .f32 := st .os
def outIn (st : St Ideal) : FVec Ideal S1x32x1024 .bf16 := st .out

def midO (s : Bool) (n : ℕ) (st : St Ideal) : St Ideal := Function.update st .out (outO s n (oaIn st) (outIn st))

theorem idx_head (h : Fin 8) (inb) (t : Fin 16) (l : Fin 128) :
    (⟨![h.val, 0], S16x128.size, ![8, 1], inb⟩ : LoadRect S128x128).idx (ix2 t l) = ix2 ⟨(8 * (t : ℕ) + h) % 128, by omega⟩ l := by
  funext a
  apply Fin.ext
  fin_cases a
  · show (h : ℕ) + 8 * (t : ℕ) = (8 * (t : ℕ) + h) % 128
    omega
  · show 0 + 1 * (l : ℕ) = (l : ℕ)
    omega

theorem run_outHead (s : Bool) (h : Fin 8) (k : MP Ideal) (st : St Ideal) :
    run (outHead s h k) (midO s h st) = run k (midO s (h + 1) st) := by
  unfold outHead
  rw [run_ld, run_ld, run_st]
  congr 1
  unfold midO
  rw [Function.update_idem]
  congr 1
  funext x
  obtain ⟨u, y, z, rfl⟩ : ∃ (a : Fin 1) (b : Fin 32) (c : Fin 1024), x = ix3 a b c := ⟨x 0, x 1, x 2, eq_ix3 x⟩
  refine (overlay_out s h _ _ _ u y z).trans ?_
  by_cases hc : tokOff s ≤ (y : ℕ) ∧ (y : ℕ) < tokOff s + 16 ∧ 128 * (h : ℕ) ≤ (z : ℕ) ∧ (z : ℕ) < 128 * h + 128
  · rw [dif_pos hc]
    refine (out_apply _ _ _ _ _).trans ?_
    rw [idx_head, Function.update_of_ne (by decide)]
    refine Eq.trans ?_ (Eq.symm (if_pos (show tokOff s ≤ (y : ℕ) ∧ (y : ℕ) < tokOff s + 16 ∧ (z : ℕ) < 128 * (h + 1) by omega)))
    show st .oa _ = st .oa _
    congr 1
    funext a
    apply Fin.ext
    fin_cases a
    · show (8 * ((y : ℕ) - tokOff s) + h) % 128 = (8 * ((y : ℕ) - tokOff s) + (z : ℕ) / 128) % 128
      omega
    · show (z : ℕ) - 128 * h = (z : ℕ) % 128
      omega
  · rw [dif_neg hc, Function.update_self]
    unfold outO
    congr 1
    show (_ ≤ (y : ℕ) ∧ (y : ℕ) < _ ∧ (z : ℕ) < _) = (_ ≤ (y : ℕ) ∧ (y : ℕ) < _ ∧ (z : ℕ) < _)
    apply propext
    omega

theorem run_outs (s : Bool) (k : MP Ideal) (st : St Ideal) : run (do8 (outHead s) k) st = run k (midO s 8 st) := by
  have e0 : midO s 0 st = st := by
    unfold midO
    have : outO s 0 (oaIn st) (outIn st) = outIn st := by
      funext x
      exact if_neg (by omega)
    rw [this]
    exact Function.update_eq_self _ _
  have h := run_do8 (outHead s) (fun n => midO s n st) (fun j k => run_outHead s j k st) k
  rw [show midO s 0 st = st from e0] at h
  exact h

/-- After a half's end. -/
structure AtFin (s : Bool) (st st' : St Ideal) : Prop where
  other : ∀ x : W, x ≠ .oa → x ≠ .out → st' x = st x
  out : ∀ (u : Fin 1) (y : Fin 32) (h : Fin 8) (c : Fin 128), tokOff s ≤ (y : ℕ) → (y : ℕ) < tokOff s + 16 →
    outIn st' (ix3 u y ⟨128 * h + c, by omega⟩)
      = (oaIn st (ix2 ⟨(8 * ((y : ℕ) - tokOff s) + h) % 128, by omega⟩ c) * osIn st (ix2 ⟨(8 * ((y : ℕ) - tokOff s) + h) % 128, by omega⟩ c) : EReal)
  keep : ∀ (u : Fin 1) (y : Fin 32) (z : Fin 1024), ¬ (tokOff s ≤ (y : ℕ) ∧ (y : ℕ) < tokOff s + 16) → outIn st' (ix3 u y z) = outIn st (ix3 u y z)

theorem run_fin (s : Bool) (k : MP Ideal) (st : St Ideal) : ∃ st', AtFin s st st' ∧ run (fin s k) st = run k st' := by
  unfold fin
  rw [run_ldV, run_ldV, run_stV, run_outs]
  have e1 : oaIn (upV .oa (mulf (oaIn st) (osIn st)) st) = mulf (oaIn st) (osIn st) := by
    unfold oaIn upV
    exact Function.update_self _ _ _
  have e2 : outIn (upV .oa (mulf (oaIn st) (osIn st)) st) = outIn st := by
    unfold outIn upV
    exact Function.update_of_ne (by decide) _ _
  have e3 : outIn (midO s 8 (upV .oa (mulf (oaIn st) (osIn st)) st)) = outO s 8 (mulf (oaIn st) (osIn st)) (outIn st) := by
    refine Eq.trans (b := outO s 8 (oaIn (upV .oa (mulf (oaIn st) (osIn st)) st)) (outIn (upV .oa (mulf (oaIn st) (osIn st)) st))) ?_ (by rw [e1, e2])
    show midO s 8 _ .out = _
    unfold midO
    exact Function.update_self _ _ _
  refine ⟨midO s 8 (upV .oa (mulf (oaIn st) (osIn st)) st), ⟨?_, ?_, ?_⟩, rfl⟩
  · intro x h1 h2
    unfold midO
    rw [Function.update_of_ne h2]
    unfold upV
    exact Function.update_of_ne h1 _ _
  · intro u y h c h1 h2
    rw [e3]
    refine (if_pos (show tokOff s ≤ (y : ℕ) ∧ (y : ℕ) < tokOff s + 16 ∧ 128 * (h : ℕ) + c < 128 * 8 by omega)).trans ?_
    have e1 : (⟨(8 * ((y : ℕ) - tokOff s) + (128 * (h : ℕ) + c) / 128) % 128, by omega⟩ : Fin 128) = ⟨(8 * ((y : ℕ) - tokOff s) + h) % 128, by omega⟩ := by
      apply Fin.ext; show _ % 128 = _ % 128; omega
    have e2 : (⟨(128 * (h : ℕ) + c) % 128, by omega⟩ : Fin 128) = c := by apply Fin.ext; show _ % 128 = _; omega
    show mulf (oaIn st) (osIn st) (ix2 ⟨(8 * ((y : ℕ) - tokOff s) + (128 * (h : ℕ) + c) / 128) % 128, by omega⟩ ⟨(128 * (h : ℕ) + c) % 128, by omega⟩) = _
    rw [e1, e2]
    rfl
  · intro u y z h
    rw [e3]
    exact if_neg (show ¬ (tokOff s ≤ (y : ℕ) ∧ (y : ℕ) < tokOff s + 16 ∧ (z : ℕ) < 128 * 8) by omega)

/-- A whole half: its preparation, its loops, its end. -/
theorem run_half (s : Bool) (n : ℕ) (hn : n < 1025) (H : Words s n) (cE cS : Ideal .f32) (k : MP Ideal) (st : St Ideal) :
    ∃ st1 st2 st3, AtPre s cE cS st st1 ∧ At s (16 * rowN s n) (allN s n) st1 st2 ∧ AtFin s st2 st3 ∧ run (half s n H cE cS k) st = run k st3 := by
  obtain ⟨st1, h1, e1⟩ := run_pre s cE cS (loops s n H (fin s k)) st
  obtain ⟨st2, h2, e2⟩ := run_loops s n hn H (fin s k) st1
  obtain ⟨st3, h3, e3⟩ := run_fin s k st2
  exact ⟨st1, st2, st3, h1, h2, h3, e1.trans (e2.trans e3)⟩

end Cert.Attn
-- ==== Proof.Spec.lean ====
/-
  What the attention kernel computes, over the extended reals, and the invariant its halves keep: before a half, one buffer holds
  the scores of the block of queries the half turns into weights, the other the weights of the block it finishes.
-/
module

public import proofs.«01_k».proof.Proof.Half
public import proofs.«01_k».proof.Proof.Safe

@[expose] public section

set_option maxRecDepth 16384

noncomputable section

namespace Cert.Attn

open Idealize.ShloMosaic Idealize.ShloMosaic.TcCoe

/-- One batch's arrays: queries and their scales by block and row, keys, their scales and values by tile and lane. -/
structure Env where
  Q : ℕ → Fin 128 → Fin 128 → EReal
  QS : ℕ → Fin 128 → EReal
  K : ℕ → Fin 128 → Fin 128 → EReal
  KS : ℕ → Fin 128 → EReal
  X : ℕ → Fin 128 → Fin 128 → EReal
  XS : Fin 128 → EReal
  /-- One over the logarithm of two, and the scores' scale times it. -/
  cE : Ideal .f32
  cS : Ideal .f32

namespace Env
variable (E : Env)

/-- The masked score of row `i` of block `r` against lane `l` of tile `T`. -/
def S (r T : ℕ) (i l : Fin 128) : EReal :=
  if 128 * T + (l : ℕ) ≤ 16 * r + (i : ℕ) / 8 then (∑ d : Fin 128, E.Q r i d * E.K T l d) * E.KS T l else ⊥
/-- The row's scale. -/
def aq (r : ℕ) (i : Fin 128) : EReal := E.QS r i * E.cS
def aqV (r : ℕ) : FVec Ideal S128x128 .f32 := fun x => E.aq r (x 0)
/-- Lane by lane, the row's largest score. -/
def rmV (r : ℕ) : FVec Ideal S128x128 .f32 := fun x => ((Finset.range 256).sup fun T => E.S r T (x 0) (x 1) : EReal)
/-- The row's shift. -/
def shV (r : ℕ) : FVec Ideal S128x128 .f32 := shiftOf (E.rmV r) (E.aqV r)
/-- The weight. -/
def U (r T : ℕ) (i l : Fin 128) : EReal := Ideal.exp2 (E.S r T i l * E.aq r i - E.shV r (ix2 i l))
/-- Lane by lane, the row's sum of weights. -/
def rsV (r : ℕ) : FVec Ideal S128x128 .f32 := fun x => (∑ T ∈ Finset.range 256, E.U r T (x 0) (x 1) : EReal)
def xsV : FVec Ideal S1x1x128 .f32 := fun x => E.XS (x 2)
/-- The result. -/
def O (r : ℕ) (i c : Fin 128) : EReal :=
  (∑ T ∈ Finset.range 256, ∑ l : Fin 128, (E.U r T i l * normOf E.cE (E.rsV r) (ix2 i l)) * E.X T l c) * oscaleOf E.cE (E.rsV r) E.xsV (ix2 i c)

/-- A key after the row's token has no weight. -/
def Causal : Prop := ∀ r T : ℕ, ∀ i l : Fin 128, r ≤ 2047 → 16 * r + (i : ℕ) / 8 < 128 * T + (l : ℕ) → E.U r T i l = 0

end Env

/-- What half `s` of point `n` finds in its input blocks. -/
structure Has (E : Env) (s : Bool) (n : ℕ) (st : St Ideal) : Prop where
  q : 2 * n + halfN s ≤ 2047 → ∀ i d, st .q (ix3 0 (qrow s i) d) = E.Q (2047 - (2 * n + halfN s)) i d
  qs : 2 * n + halfN s ≤ 2047 → ∀ i, aqv s E.cS st i = E.aq (2047 - (2 * n + halfN s)) i
  kt : ∀ T, T < 256 → ∀ l d, st .kt (ix4 0 (ktl T) d (kln T l)) = E.K T l d
  ks : ∀ T, T < 256 → ∀ l, st .ks (ix4 0 (tl T) 0 l) = E.KS T l
  v : ∀ T, T < 256 → ∀ l c, st .v (ix3 0 (vrow T l) c) = E.X T l c
  vs : vsIn st = E.xsV

/-- How many blocks of keys half number `p` runs over. -/
def lim (p : ℕ) : ℕ := (min (2050 - p) 2048 + 127) / 128

/-- Before half number `p`, which is a half `s`. -/
structure Inv (E : Env) (s : Bool) (p : ℕ) (st : St Ideal) : Prop where
  score : 1 ≤ p → p ≤ 2048 → ∀ (T : Fin 256) (i l : Fin 128), (T : ℕ) < 16 * lim (p - 1) → st (.buf (!s)) (ix3 T i l) = E.S (2048 - p) T i l
  rm : 1 ≤ p → p ≤ 2048 → rmIn st = E.rmV (2048 - p)
  aq : 1 ≤ p → p ≤ 2048 → aqIn (!s) st = E.aqV (2048 - p)
  weight : 2 ≤ p → p ≤ 2049 → ∀ (T : Fin 256) (i l : Fin 128), (T : ℕ) < 16 * lim (p - 1) → st (.buf s) (ix3 T i l) = E.U (2049 - p) T i l
  rs : 2 ≤ p → p ≤ 2049 → rsIn st = E.rsV (2049 - p)

theorem lim_le (p : ℕ) : lim p ≤ lim (p - 1) := by unfold lim; omega
theorem lim_le_16 (p : ℕ) : lim p ≤ 16 := by unfold lim; omega

theorem sum_extend (f : ℕ → EReal) (m : ℕ) (hm : m ≤ 256) (h : ∀ T, m ≤ T → T < 256 → f T = 0) :
    ∑ T ∈ Finset.range m, f T = ∑ T ∈ Finset.range 256, f T :=
  Finset.sum_subset (Finset.range_subset_range.mpr hm) fun T h1 h2 => h T (by simpa using h2) (Finset.mem_range.mp h1)

theorem sup_extend (f : ℕ → EReal) (m : ℕ) (hm : m ≤ 256) (h : ∀ T, m ≤ T → T < 256 → f T = ⊥) :
    (Finset.range m).sup f = (Finset.range 256).sup f := by
  apply le_antisymm
  · exact Finset.sup_mono (Finset.range_subset_range.mpr hm)
  · refine Finset.sup_le fun T hT => ?_
    by_cases hT' : T < m
    · exact Finset.le_sup (f := f) (Finset.mem_range.mpr hT')
    · rw [h T (by omega) (Finset.mem_range.mp hT)]
      exact bot_le

/-- A half keeps the invariant, and writes its block of outputs. -/
theorem half_step (E : Env) (hE : E.Causal) (s : Bool) (n p : ℕ) (hn : n < 1025) (hp : p = 2 * n + halfN s) (H : Words s n) (k : MP Ideal) (st : St Ideal)
    (hi : Has E s n st) (hv : Inv E s p st) :
    ∃ st', run (half s n H E.cE E.cS k) st = run k st' ∧ Inv E (!s) (p + 1) st'
      ∧ (∀ x : W, x.isIn = true → st' x = st x)
      ∧ (2 ≤ p → ∀ (y : Fin 32) (h : Fin 8) (c : Fin 128), tokOff s ≤ (y : ℕ) → (y : ℕ) < tokOff s + 16 →
          outIn st' (ix3 0 y ⟨128 * h + c, by omega⟩) = E.O (2049 - p) ⟨(8 * ((y : ℕ) - tokOff s) + h) % 128, by omega⟩ c)
      ∧ (∀ (y : Fin 32) (z : Fin 1024), ¬ (tokOff s ≤ (y : ℕ) ∧ (y : ℕ) < tokOff s + 16) → outIn st' (ix3 0 y z) = outIn st (ix3 0 y z)) := by
  obtain ⟨st1, st2, st3, h1, h2, h3, e⟩ := run_half s n hn H E.cE E.cS k st
  have hp1 : p ≤ 2049 := by cases s <;> simp [halfN] at hp <;> omega
  have hlim : allN s n = lim p := by unfold allN lim; rw [hp, ← Nat.sub_sub]
  have hll := lim_le p
  have hl16 := lim_le_16 p
  rw [hlim] at h2
  have hrow : p ≤ 2047 → rowN s n = 2047 - p := by intro _; unfold rowN; omega
  have hin1 : ∀ x : W, x.isIn = true → st1 x = st x := by
    intro x hx
    apply h1.other x <;> (rintro rfl; first | exact absurd hx (by decide) | (cases s <;> exact absurd hx (by decide)))
  have hin2 : ∀ x : W, x.isIn = true → st2 x = st1 x := by
    intro x hx
    apply h2.other x <;> (rintro rfl; exact absurd hx (by decide))
  have hin3 : ∀ x : W, x.isIn = true → st3 x = st2 x := by
    intro x hx
    apply h3.other x <;> (rintro rfl; exact absurd hx (by decide))
  have hms : p ≤ 2047 → ∀ T i l, T < 256 → ms s (16 * rowN s n) st1 T i l = E.S (2047 - p) T i l := by
    intro hp' T i l hT
    unfold ms sc Env.S
    rw [hrow hp', hin1 .q (by decide), hin1 .kt (by decide), hin1 .ks (by decide), hi.ks T hT]
    congr 2
    refine Finset.sum_congr rfl fun d _ => ?_
    rw [hi.q (by omega), hi.kt T hT, ← hp]
  have hwt : 1 ≤ p → p ≤ 2048 → ∀ T i l, T < 16 * lim p → wt s st1 T i l = E.U (2048 - p) T i l := by
    intro ha hb T i l hT
    unfold wt Env.U
    have e1 : st1 (.buf (!s)) (ix3 (tl T) i l) = E.S (2048 - p) T i l := by
      rw [h1.other _ (by cases s <;> decide) (by cases s <;> decide) (by cases s <;> decide) (by cases s <;> decide) (by cases s <;> decide) (by cases s <;> decide) (by cases s <;> decide),
        hv.score ha hb _ _ _ (by rw [tl_val T (by omega)]; show T < _; omega), tl_val T (by omega)]
    have e2 : st1 (.aq (!s)) (ix2 i l) = E.aq (2048 - p) i := by
      rw [h1.other _ (by cases s <;> decide) (by cases s <;> decide) (by cases s <;> decide) (by cases s <;> decide) (by cases s <;> decide) (by cases s <;> decide) (by cases s <;> decide)]
      exact congrFun (hv.aq ha hb) (ix2 i l)
    have e3 : st1 .sh (ix2 i l) = E.shV (2048 - p) (ix2 i l) := by
      rw [h1.sh, hv.rm ha hb, hv.aq ha hb]
      rfl
    rw [e1, e2, e3]
  refine ⟨st3, e, ?_, fun x hx => (hin3 x hx).trans ((hin2 x hx).trans (hin1 x hx)), ?_, ?_⟩
  · constructor
    · intro _ hb T i l hT
      rw [Bool.not_not, h3.other _ (by cases s <;> decide) (by cases s <;> decide), h2.score, if_pos (by simpa using hT), hms (by omega) _ _ _ T.isLt,
        show 2048 - (p + 1) = 2047 - p by omega]
    · intro _ hb
      funext x
      obtain ⟨i, l, rfl⟩ : ∃ (a b : Fin 128), x = ix2 a b := ⟨x 0, x 1, eq_ix2 x⟩
      show st3 .rm (ix2 i l) = (Finset.range 256).sup fun T => E.S (2048 - (p + 1)) T i l
      rw [h3.other _ (by decide) (by decide), h2.largest, h1.rm, show 2048 - (p + 1) = 2047 - p by omega]
      refine (max_bot_left _).trans ?_
      rw [← sup_extend (fun T => E.S (2047 - p) T i l) (16 * lim p) (by omega)]
      · exact Finset.sup_congr rfl fun T hT => hms (by omega) _ _ _ (by have := Finset.mem_range.mp hT; omega)
      · intro T hT hT'
        unfold Env.S
        rw [if_neg]
        unfold lim at hT
        omega
    · intro _ hb
      funext x
      obtain ⟨i, l, rfl⟩ : ∃ (a b : Fin 128), x = ix2 a b := ⟨x 0, x 1, eq_ix2 x⟩
      show st3 (.aq (!(!s))) (ix2 i l) = E.aq (2048 - (p + 1)) i
      rw [Bool.not_not, h3.other _ (by cases s <;> decide) (by cases s <;> decide),
        h2.other _ (by cases s <;> decide) (by cases s <;> decide) (by cases s <;> decide) (by cases s <;> decide) (by cases s <;> decide), h1.aq,
        hi.qs (by omega), ← hp, show 2048 - (p + 1) = 2047 - p by omega]
    · intro ha hb T i l hT
      rw [h3.other _ (by cases s <;> decide) (by cases s <;> decide), h2.weight, if_pos (by simpa using hT), hwt (by omega) (by omega) _ _ _ (by simpa using hT),
        show 2049 - (p + 1) = 2048 - p by omega]
    · intro ha hb
      funext x
      obtain ⟨i, l, rfl⟩ : ∃ (a b : Fin 128), x = ix2 a b := ⟨x 0, x 1, eq_ix2 x⟩
      show st3 .rs (ix2 i l) = ∑ T ∈ Finset.range 256, E.U (2049 - (p + 1)) T i l
      rw [h3.other _ (by decide) (by decide), h2.total, h1.rs, show 2049 - (p + 1) = 2048 - p by omega, zero_add]
      rw [← sum_extend (fun T => E.U (2048 - p) T i l) (16 * lim p) (by omega)]
      · exact Finset.sum_congr rfl fun T hT => hwt (by omega) (by omega) _ _ _ (Finset.mem_range.mp hT)
      · intro T hT hT'
        apply hE _ _ _ _ (by omega)
        unfold lim at hT
        omega
  · intro ha y h c hy1 hy2
    rw [h3.out 0 y h c hy1 hy2]
    generalize (⟨(8 * ((y : ℕ) - tokOff s) + h) % 128, by omega⟩ : Fin 128) = i
    unfold Env.O
    congr 1
    · show st2 .oa (ix2 i c) = _
      rw [h2.out, h1.oa, zero_add]
      rw [← sum_extend (fun T => ∑ l : Fin 128, (E.U (2049 - p) T i l * normOf E.cE (E.rsV (2049 - p)) (ix2 i l)) * E.X T l c) (16 * lim p) (by omega)]
      · refine Finset.sum_congr rfl fun T hT => Finset.sum_congr rfl fun l _ => ?_
        have hT' := Finset.mem_range.mp hT
        rw [h1.no, hv.rs ha hp1, hin1 .v (by decide), hi.v T (by omega),
          h1.other _ (by cases s <;> decide) (by cases s <;> decide) (by cases s <;> decide) (by cases s <;> decide) (by cases s <;> decide) (by cases s <;> decide) (by cases s <;> decide),
          hv.weight ha hp1 _ _ _ (by rw [tl_val T (by omega)]; show T < _; omega), tl_val T (by omega)]
      · intro T hT hT'
        refine Finset.sum_eq_zero fun l _ => ?_
        rw [hE _ _ _ _ (by omega) (by unfold lim at hT; omega), zero_mul, zero_mul]
    · show st2 .os (ix2 i c) = _
      rw [h2.other _ (by decide) (by decide) (by decide) (by decide) (by decide), h1.os, hv.rs ha hp1, hi.vs]
  · intro y z hyz
    rw [h3.keep 0 y z hyz]
    show st2 .out _ = st .out _
    rw [h2.other _ (by decide) (by decide) (by decide) (by decide) (by decide), h1.other _ (by decide) (by decide) (by decide) (by cases s <;> decide) (by decide) (by decide) (by decide)]

end Cert.Attn
-- ==== Proof.Ref.lean ====
/-
  The reference's result, entry by entry.
-/
module

public import proofs.«01_k».proof.Proof.Gen.ReferenceIdeal.Frame
public import Idealize.ShloMosaic.Lib.Pipeline.ValueKit
public import Idealize.ShloMosaic.Lib.Pointwise
public import Idealize.ShloMosaic.Lib.WordCmp

@[expose] public section

set_option maxRecDepth 16384

noncomputable section

namespace Cert.Attn.RI

open Cert.ReferenceIdeal Cert.ReferenceIdeal.Gen
open Idealize.ShloMosaic Idealize.ShloMosaic.TcCoe

abbrev SS := S2x262144x32768
abbrev SR := S2x262144x1

/-- One over the logarithm of two, and the scores' scale. -/
def l2e : EReal := (Named.named κ "log2_e" 0x3FB8AA3B#32 : Ideal .f32)
def sm : EReal := (Named.named κ "sm_scale" 0x3DB504F3#32 : Ideal .f32)

/-! The reference's steps. -/

def qpos (v17 : IVec SS 32) (v36 : IVec SS 1) (v38 : IVec SS 32) : IVec SS 32 := select v36 v38 v17
def maskR (v14 : FVec Ideal SS .f32) (v39 : IVec SS 32) : FVec Ideal SS .f32 :=
  select (cmpi .sle (iota .tc SS 32 [2] iota_S2x262144x32768_d2_w32) v39) v14 (broadcast SS (Scalar.ofBits .f32 0xFF800000#32))
def maxR (y : FVec Ideal SS .f32) : FVec Ideal SR .f32 :=
  shapeCast S2x262144x1 (multiReduction .maximumf [2] S2x262144 y 0xFF800000#32 reduces_S2x262144x32768_S2x262144 (.inl rfl) rfl) shapeCasts_S2x262144_S2x262144x1
def uR (y : FVec Ideal SS .f32) (M : FVec Ideal SR .f32) : FVec Ideal SS .f32 :=
  exp (subf y (broadcastTo SS M broadcasts_S2x262144x1_S2x262144x32768))
def sumR (u : FVec Ideal SS .f32) : FVec Ideal SR .f32 :=
  shapeCast S2x262144x1 (multiReduction .add [2] S2x262144 u 0x00000000#32 reduces_S2x262144x32768_S2x262144 (.inl rfl) rfl) shapeCasts_S2x262144_S2x262144x1
def aR (M L : FVec Ideal SR .f32) : FVec Ideal SR .f32 := divf (exp (subf M M)) L
def eR (a : FVec Ideal SR .f32) : FVec Ideal SR .f32 :=
  select (cmpf .oeq a (broadcast SR (Scalar.ofBits .f32 0x00000000#32))) (broadcast SR (Scalar.ofBits .f32 0x00000000#32))
    (addf (floor (mulf (log (mulf a (broadcast SR (Scalar.ofBits .f32 0x3B124925#32)))) (broadcast SR (Named.named κ "log2_e" 0x3FB8AA3B#32))))
      (broadcast SR (Scalar.ofBits .f32 0x3F800000#32)))
def codesR (u : FVec Ideal SS .f32) (L e : FVec Ideal SR .f32) : FVec Ideal SS .fp8e4m3 :=
  truncf .fp8e4m3 (minimumf (broadcast SS (Scalar.ofBits .f32 0x43E00000#32)) (maximumf (broadcast SS (Scalar.ofBits .f32 0xC3E00000#32))
    (mulf (divf u (broadcastTo SS L broadcasts_S2x262144x1_S2x262144x32768))
      (broadcastTo SS (exp2 (subf (broadcast SR (Scalar.ofBits .f32 0x00000000#32)) e)) broadcasts_S2x262144x1_S2x262144x32768)))) bitsLt_fp8e4m3_f32
def outR (w : FVec Ideal SS .fp8e4m3) (e : FVec Ideal SR .f32) (v : FVec Ideal S2x32768x128 .fp8e4m3) : FVec Ideal S2x262144x128 .f32 :=
  mulf (matmul dot_S2x262144x32768_S2x32768x128_S2x262144x128_2_1_1_2_0_0 none w v (constant S2x262144x128 .f32 0x00000000#32))
    (broadcastTo S2x262144x128 (exp2 e) broadcasts_S2x262144x1_S2x262144x128)

theorem pay6_eq (v14 : FVec Ideal SS .f32) (v17 : IVec SS 32) (v36 : IVec SS 1) (v38 : IVec SS 32) (v78 : Vec Ideal S2x32768x128 .fp8e4m3) :
    k0_pay6 (F := Ideal) v14 v17 v36 v38 v78 =
      (let y := maskR v14 (qpos v17 v36 v38)
       let M := maxR y
       let u := uR y M
       let L := sumR u
       let e := eR (aR M L)
       outR (codesR u L e) e v78) := rfl

variable (b : Fin 2) (R : Fin 262144) (k : Fin 32768) (c : Fin 128)

theorem maskR_at (v14 : FVec Ideal SS .f32) (v39 : IVec SS 32) :
    maskR v14 v39 (ix3 b R k) = Scalar.select (IntOp.cmpi .sle (BitVec.ofNat 32 k) (v39 (ix3 b R k))) (v14 (ix3 b R k)) (Ideal.ofBits FTy.f32 4286578688#32) := by
  pointwise [maskR]
theorem maxR_at (y : FVec Ideal SS .f32) :
    maxR y (ix3 b R 0) = Finset.fold max (Ideal.ofBits FTy.f32 4286578688#32) (fun k => y (ix3 b R k)) Finset.univ := by
  pointwise [maxR]
theorem uR_at (y : FVec Ideal SS .f32) (M : FVec Ideal SR .f32) : uR y M (ix3 b R k) = Ideal.exp (y (ix3 b R k) - M (ix3 b R 0)) := by
  pointwise [uR]
theorem sumR_at (u : FVec Ideal SS .f32) : sumR u (ix3 b R 0) = ∑ k, u (ix3 b R k) := by
  pointwise [sumR]
theorem aR_at (M L : FVec Ideal SR .f32) : aR M L (ix3 b R 0) = Ideal.div (Ideal.exp (M (ix3 b R 0) - M (ix3 b R 0))) (L (ix3 b R 0)) := by
  pointwise [aR]
theorem eR_at (a : FVec Ideal SR .f32) : eR a (ix3 b R 0) = if a (ix3 b R 0) = 0 then 0 else
    Ideal.liftRound Int.floor (Ideal.log (a (ix3 b R 0) * Ideal.ofBits FTy.f32 991054117#32) * l2e) + 1 := by
  pointwise [eR, l2e]
theorem codesR_at (u : FVec Ideal SS .f32) (L e : FVec Ideal SR .f32) : codesR u L e (ix3 b R k) =
    min (Ideal.ofBits FTy.f32 0x43E00000#32) (max (Ideal.ofBits FTy.f32 0xC3E00000#32) (Ideal.div (u (ix3 b R k)) (L (ix3 b R 0)) * Ideal.exp2 (0 - e (ix3 b R 0)))) := by
  pointwise [codesR]
  rfl
theorem outR_at (w : FVec Ideal SS .fp8e4m3) (e : FVec Ideal SR .f32) (v : FVec Ideal S2x32768x128 .fp8e4m3) : outR w e v (ix3 b R c) =
    (∑ k, w (ix3 b R k) * v (ix3 b k c)) * Ideal.exp2 (e (ix3 b R 0)) := by
  pointwise [outR]
  rfl
theorem pay2_at (x0 : Vec Ideal S2x262144x128 .fp8e4m3) (x2 : Vec Ideal S2x32768x128 .fp8e4m3) (x1 : Vec Ideal S2x262144x1 .f32) (x3 : Vec Ideal S2x1x32768 .f32) :
    k0_pay2 (F := Ideal) x0 x2 x1 x3 (ix3 b R k) =
      ((∑ d, x0 (ix3 b R d) * x2 (ix3 b k d)) * (x1 (ix3 b R 0) * sm)) * x3 (ix3 b 0 k) := by
  pointwise [k0_pay2, sm]
theorem pay1_at (v82 : FVec Ideal S2x262144x128 .f32) (v83 : Vec Ideal S2x1x128 .f32) (y : Fin 32768) (z : Fin 1024) :
    k0_pay1 (F := Ideal) v82 v83 (ix3 b y z) = v82 (ix3 b ⟨y * 8 + z / 128, by omega⟩ ⟨z % 128, by omega⟩) * v83 (ix3 b 0 ⟨z % 128, by omega⟩) := by
  pointwise [k0_pay1]

/-- The token of a row, as a word. -/
theorem qpos_at : qpos k0_pay3 k0_pay4 k0_pay5 (ix3 b R k) = BitVec.ofNat 32 (R / 8) := by
  have hR := R.isLt
  have hd : IntOp.divsi .vector (BitVec.ofNat 32 R) 8#32 = BitVec.ofNat 32 (R / 8) := by
    unfold IntOp.divsi
    rw [if_neg (by unfold IntOp.SDivCorner; simp)]
    rw [BitVec.sdiv_eq]
    have h1 : (BitVec.ofNat 32 (R : ℕ)).msb = false := by rw [BitVec.msb_eq_false_iff_two_mul_lt]; simp; omega
    rw [h1, show (8#32).msb = false by decide]
    apply BitVec.eq_of_toNat_eq
    simp
    omega
  have hr : IntOp.remsi .vector (BitVec.ofNat 32 R) 8#32 = 0#32 ↔ (R : ℕ) % 8 = 0 := by
    refine (IntOp.remsi_eq_zero_iff _ (by simp; omega) 8 (by decide) (by decide)).trans ?_
    simp
    omega
  have h4 : k0_pay4 (ix3 b R k) = 0#1 := by
    pointwise [k0_pay4]
    have hs : IntOp.cmpi .sgt (BitVec.ofNat 32 R) 0#32 = BitVec.ofBool (decide (0 < (R : ℕ))) := WordCmp.cmpi_sgt_ofNat (b := 0) (by omega) (by decide)
    have hl : IntOp.cmpi .slt (BitVec.ofNat 32 R) 0#32 = BitVec.ofBool (decide ((R : ℕ) < 0)) := WordCmp.cmpi_slt_ofNat (b := 0) (by omega) (by decide)
    rw [hs, hl]
    by_cases h0 : (R : ℕ) = 0
    · rw [hr.mpr (by omega), decide_eq_false (show ¬ 0 < (R : ℕ) by omega), decide_eq_false (show ¬ (R : ℕ) < 0 by omega)]
      decide
    · rw [decide_eq_true (show 0 < (R : ℕ) by omega), decide_eq_false (show ¬ (R : ℕ) < 0 by omega)]
      generalize IntOp.remsi .vector (BitVec.ofNat 32 R) 8#32 = w
      generalize IntOp.cmpi .ne w 0#32 = w
      revert w
      decide
  unfold qpos
  show Scalar.select (k0_pay4 (ix3 b R k)) (k0_pay5 (ix3 b R k)) (k0_pay3 (ix3 b R k)) = _
  rw [h4]
  unfold Scalar.select
  rw [if_neg (by decide)]
  pointwise [k0_pay3]
  exact hd

/-- A row's output at one column, from its masked scores, the values' column and their scale. -/
def rowOut (y v : Fin 32768 → EReal) (vs : EReal) : EReal :=
  let M := Finset.fold max (Ideal.ofBits FTy.f32 4286578688#32) y Finset.univ
  let L := ∑ k, Ideal.exp (y k - M)
  let a := Ideal.div (Ideal.exp (M - M)) L
  let e := if a = 0 then 0 else Ideal.liftRound Int.floor (Ideal.log (a * Ideal.ofBits FTy.f32 991054117#32) * l2e) + 1
  (∑ k, min (Ideal.ofBits FTy.f32 0x43E00000#32) (max (Ideal.ofBits FTy.f32 0xC3E00000#32) (Ideal.div (Ideal.exp (y k - M)) L * Ideal.exp2 (0 - e))) * v k)
    * Ideal.exp2 e * vs

/-- A row's masked scores. -/
def rowY (x0 : FVec Ideal S2x262144x128 .fp8e4m3) (x2 : FVec Ideal S2x32768x128 .fp8e4m3) (x1 : FVec Ideal S2x262144x1 .f32) (x3 : FVec Ideal S2x1x32768 .f32) :
    Fin 32768 → EReal := fun k =>
  if (k : ℕ) ≤ R / 8 then ((∑ d, x0 (ix3 b R d) * x2 (ix3 b k d)) * (x1 (ix3 b R 0) * sm)) * x3 (ix3 b 0 k) else Ideal.ofBits FTy.f32 4286578688#32

theorem maskR_row (x0 : Vec Ideal S2x262144x128 .fp8e4m3) (x2 : Vec Ideal S2x32768x128 .fp8e4m3) (x1 : Vec Ideal S2x262144x1 .f32) (x3 : Vec Ideal S2x1x32768 .f32) :
    maskR (k0_pay2 (F := Ideal) x0 x2 x1 x3) (qpos k0_pay3 k0_pay4 k0_pay5) (ix3 b R k) = rowY b R x0 x2 x1 x3 k := by
  have hR := R.isLt
  have hk := k.isLt
  rw [maskR_at, qpos_at, pay2_at, WordCmp.cmpi_sle_ofNat (by omega) (by omega), WordCmp.select_decide]
  rfl

/-- The body's output. -/
theorem pay_at (x0 : Vec Ideal S2x262144x128 .fp8e4m3) (x2 : Vec Ideal S2x32768x128 .fp8e4m3) (x1 : Vec Ideal S2x262144x1 .f32) (x3 : Vec Ideal S2x1x32768 .f32)
    (x4 : Vec Ideal S2x32768x128 .fp8e4m3) (x5 : Vec Ideal S2x1x128 .f32) (t : Fin 32768) (z : Fin 1024) :
    k0_pay1 (k0_pay6 (F := Ideal) (k0_pay2 (F := Ideal) x0 x2 x1 x3) k0_pay3 k0_pay4 k0_pay5 x4) x5 (ix3 b t z) =
      rowOut (rowY b ⟨t * 8 + z / 128, by omega⟩ x0 x2 x1 x3) (fun k => x4 (ix3 b k ⟨z % 128, by omega⟩)) (x5 (ix3 b 0 ⟨z % 128, by omega⟩)) := by
  rw [pay1_at, pay6_eq]
  generalize (⟨t * 8 + z / 128, by omega⟩ : Fin 262144) = R
  generalize (⟨z % 128, by omega⟩ : Fin 128) = c
  dsimp only
  have hy : ∀ k, maskR (k0_pay2 (F := Ideal) x0 x2 x1 x3) (qpos k0_pay3 k0_pay4 k0_pay5) (ix3 b R k) = rowY b R x0 x2 x1 x3 k := fun k => maskR_row b R k x0 x2 x1 x3
  revert hy
  generalize maskR (k0_pay2 (F := Ideal) x0 x2 x1 x3) (qpos k0_pay3 k0_pay4 k0_pay5) = Y
  generalize rowY b R x0 x2 x1 x3 = y
  intro hy
  rw [outR_at]
  simp only [codesR_at, eR_at, aR_at, sumR_at, uR_at, maxR_at, hy]
  rfl

end Cert.Attn.RI
-- ==== Proof.Row.lean ====
/-
  One row of the attention, over real scores: what the kernel's arrays hold of it and what the reference computes of it, both in the
  row's weights, their sum and the power of two.
-/
module

public import proofs.«01_k».proof.Proof.Exponent
public import proofs.«01_k».proof.Proof.Spec
public import proofs.«01_k».proof.Proof.Ref

@[expose] public section

set_option maxRecDepth 16384

noncomputable section

namespace Cert.Attn

open Idealize.ShloMosaic Idealize.ShloMosaic.TcCoe

/-! ## Real sums among the extended reals -/

theorem coe_sum' {ι : Type} (A : Finset ι) (f : ι → ℝ) : ∑ x ∈ A, ((f x : ℝ) : EReal) = ((∑ x ∈ A, f x : ℝ) : EReal) := by
  classical
  induction A using Finset.induction_on with
  | empty => simp
  | insert a A ha ih => rw [Finset.sum_insert ha, Finset.sum_insert ha, ih, EReal.coe_add]

theorem fold_max_eq {ι : Type} [Fintype ι] (f : ι → EReal) (x : EReal) (h1 : ∀ k, f k ≤ x) (h2 : ∃ k, x ≤ f k) :
    Finset.fold max (⊥ : EReal) f Finset.univ = x := by
  obtain ⟨k, hk⟩ := h2
  refine le_antisymm ?_ ?_
  · exact (Finset.fold_max_le x).mpr ⟨bot_le, fun y _ => h1 y⟩
  · exact (Finset.le_fold_max x).mpr (Or.inr ⟨k, Finset.mem_univ k, hk⟩)

/-! ## The row -/

/-- Key `k0` has the largest of the scores `s` of a row whose token is `tok`. -/
structure Row (s : ℕ → ℝ) (tok k0 : ℕ) : Prop where
  tok_lt : tok < 32768
  key_le : k0 ≤ tok
  max : ∀ k ≤ tok, s k ≤ s k0

theorem Row.exists (s : ℕ → ℝ) {tok : ℕ} (h : tok < 32768) : ∃ k0, Row s tok k0 := by
  obtain ⟨k0, h0, h1⟩ := Finset.exists_max_image (Finset.range (tok + 1)) s ⟨0, by simp⟩
  exact ⟨k0, h, by simpa [Nat.lt_succ_iff] using h0, fun k hk => h1 k (by simpa [Nat.lt_succ_iff] using hk)⟩

/-- A key's weight. -/
def wR (s : ℕ → ℝ) (tok k0 : ℕ) (β : ℝ) (k : ℕ) : ℝ := if k ≤ tok then Real.exp ((s k - s k0) * β) else 0
/-- The row's sum of weights. -/
def sumR (s : ℕ → ℝ) (tok k0 : ℕ) (β : ℝ) : ℝ := ∑ k ∈ Finset.range 32768, wR s tok k0 β k
/-- The row's exponent. -/
def eR (s : ℕ → ℝ) (tok k0 : ℕ) (β : ℝ) : ℤ := expR (1 / sumR s tok k0 β * kR)

section
variable {s : ℕ → ℝ} {tok k0 : ℕ} {β : ℝ} (h : Row s tok k0) (hβ : 0 < β)
include h hβ

omit h hβ in
theorem wR_nonneg (k : ℕ) : 0 ≤ wR s tok k0 β k := by unfold wR; split <;> positivity
theorem wR_le (k : ℕ) : wR s tok k0 β k ≤ 1 := by
  unfold wR
  split
  · next hk =>
    rw [Real.exp_le_one_iff]
    exact mul_nonpos_of_nonpos_of_nonneg (sub_nonpos.mpr (h.max k hk)) hβ.le
  · norm_num
theorem sumR_range : 1 ≤ sumR s tok k0 β ∧ sumR s tok k0 β ≤ 32768 := by
  constructor
  · have e : wR s tok k0 β k0 = 1 := by unfold wR; rw [if_pos h.key_le]; simp
    rw [← e]
    exact Finset.single_le_sum (fun k _ => wR_nonneg k) (Finset.mem_range.mpr (lt_of_le_of_lt h.key_le h.tok_lt))
  · refine (Finset.sum_le_card_nsmul _ _ 1 fun k _ => wR_le h hβ k).trans ?_
    simp

/-! ## The kernel's arrays -/

variable (E : Env) (r : ℕ) (i : Fin 128)

/-- A row of the kernel's scores is real where the token sees the key, and so is its scale. -/
structure Reads (E : Env) (r : ℕ) (i : Fin 128) (s : ℕ → ℝ) (tok : ℕ) (β : ℝ) : Prop where
  score : ∀ T l, E.S r T i l = if 128 * T + (l : ℕ) ≤ tok then ((s (128 * T + l) : ℝ) : EReal) else ⊥
  scale : E.aq r i = ((β * (Real.log 2)⁻¹ : ℝ) : EReal)
  cE : E.cE = (((Real.log 2)⁻¹ : ℝ) : EReal)

variable {E r i} (g : Reads E r i s tok β)
include g

theorem shift_row (l : Fin 128) : E.shV r (ix2 i l) = ((s k0 * (β * (Real.log 2)⁻¹) : ℝ) : EReal) := by
  have e : Finset.fold max (⊥ : EReal) (fun x : Fin 128 => E.rmV r (ix2 i x)) Finset.univ = ((s k0 : ℝ) : EReal) := by
    refine fold_max_eq _ _ (fun x => ?_) ⟨⟨k0 % 128, Nat.mod_lt _ (by decide)⟩, ?_⟩
    · refine Finset.sup_le fun T _ => ?_
      change E.S r T i x ≤ _
      rw [g.score]
      split
      · next hk => exact EReal.coe_le_coe_iff.mpr (h.max _ hk)
      · exact bot_le
    · have hk := h.key_le
      have ht := h.tok_lt
      refine le_trans ?_ (Finset.le_sup (f := fun T => E.S r T i (⟨k0 % 128, Nat.mod_lt _ (by decide)⟩ : Fin 128))
        (b := k0 / 128) (Finset.mem_range.mpr (by omega)))
      have d : 128 * (k0 / 128) + k0 % 128 = k0 := by omega
      change _ ≤ E.S r (k0 / 128) i ⟨k0 % 128, _⟩
      rw [g.score]
      simp only [d]
      rw [if_pos hk]
  unfold Env.shV
  rw [shift_at, e]
  change _ * E.aq r i = _
  rw [g.scale, ← EReal.coe_mul]

theorem weight_row (T : ℕ) (l : Fin 128) : E.U r T i l = ((wR s tok k0 β (128 * T + l) : ℝ) : EReal) := by
  have h2 : Real.log 2 ≠ 0 := (Real.log_pos (by norm_num)).ne'
  have h2' : 0 < Real.log 2 := Real.log_pos (by norm_num)
  unfold Env.U
  rw [shift_row h hβ g, g.score, g.scale]
  unfold wR
  split
  · rw [← EReal.coe_mul, ← EReal.coe_sub, Ideal.exp2_coe]
    congr 1
    rw [Real.rpow_eq_pow, Real.rpow_def_of_pos (by norm_num)]
    congr 1
    field_simp
  · rw [EReal.bot_mul_coe_of_pos (by positivity), EReal.bot_sub]
    rfl

theorem sum_row : ∑ l : Fin 128, E.rsV r (ix2 i l) = ((sumR s tok k0 β : ℝ) : EReal) := by
  have e : ∀ l : Fin 128, E.rsV r (ix2 i l) = ∑ T : Fin 256, ((wR s tok k0 β (128 * T + l) : ℝ) : EReal) := fun l => by
    change ∑ T ∈ Finset.range 256, E.U r T i l = _
    rw [Finset.sum_range]
    exact Finset.sum_congr rfl fun T _ => weight_row h hβ g T l
  rw [Finset.sum_congr rfl fun l _ => e l, Finset.sum_comm]
  unfold sumR
  rw [Finset.sum_range, ← coe_sum']
  exact (sum_tiles 256 32768 rfl fun k => ((wR s tok k0 β k : ℝ) : EReal)).symm

theorem out_row (c : Fin 128) : E.O r i c
    = (∑ T : Fin 256, ∑ l : Fin 128, ((wR s tok k0 β (128 * T + l) * (1 / sumR s tok k0 β * (2 : ℝ) ^ (-eR s tok k0 β)) : ℝ) : EReal) * E.X T l c)
      * ((((2 : ℝ) ^ eR s tok k0 β : ℝ) : EReal) * E.XS c) := by
  obtain ⟨a, b⟩ := sumR_range h hβ
  unfold Env.O
  rw [Finset.sum_range, g.cE, oscale_real _ _ _ _ a b (sum_row h hβ g)]
  refine congrArg₂ (· * ·) (Finset.sum_congr rfl fun T _ => Finset.sum_congr rfl fun l _ => ?_) rfl
  rw [norm_real _ _ _ a b (sum_row h hβ g), weight_row h hβ g, ← EReal.coe_mul]
  rfl

end

/-! ## The reference -/

theorem l2e_eq : RI.l2e = (((Real.log 2)⁻¹ : ℝ) : EReal) := IdealRules.named_const.ideal_named_scalar _ _ _ _ rfl
theorem sm_eq : RI.sm = (((Real.sqrt 128)⁻¹ : ℝ) : EReal) := IdealRules.named_const.ideal_named_scalar _ _ _ _ rfl

theorem exp2_int (n : ℤ) : Ideal.exp2 ((n : ℝ) : EReal) = (((2 : ℝ) ^ n : ℝ) : EReal) := by
  rw [Ideal.exp2_coe]
  congr 1
  rw [Real.rpow_eq_pow, Real.rpow_intCast]

theorem ref_row {s : ℕ → ℝ} {tok k0 : ℕ} {β : ℝ} (h : Row s tok k0) (hβ : 0 < β) (y v : Fin 32768 → EReal) (vs : EReal)
    (hy : ∀ k : Fin 32768, y k = if (k : ℕ) ≤ tok then ((s k * β : ℝ) : EReal) else ⊥) :
    RI.rowOut y v vs
      = (∑ k : Fin 32768, ((wR s tok k0 β k * (1 / sumR s tok k0 β * (2 : ℝ) ^ (-eR s tok k0 β)) : ℝ) : EReal) * v k)
        * (((2 : ℝ) ^ eR s tok k0 β : ℝ) : EReal) * vs := by
  obtain ⟨a, b⟩ := sumR_range h hβ
  obtain ⟨x1, x2⟩ := x_range a b
  have hR : 0 < sumR s tok k0 β := by linarith
  have n : Ideal.ofBits FTy.f32 4286578688#32 = ⊥ := by simp [Ideal.ofBits, Ideal.ieee]
  have hM : Finset.fold max (Ideal.ofBits FTy.f32 4286578688#32) y Finset.univ = ((s k0 * β : ℝ) : EReal) := by
    rw [n]
    refine fold_max_eq _ _ (fun k => ?_) ⟨⟨k0, lt_of_le_of_lt h.key_le h.tok_lt⟩, ?_⟩
    · rw [hy]
      split
      · next hk => exact EReal.coe_le_coe_iff.mpr (mul_le_mul_of_nonneg_right (h.max _ hk) hβ.le)
      · exact bot_le
    · rw [hy, if_pos h.key_le]
  have hw : ∀ k : Fin 32768, Ideal.exp (y k - ((s k0 * β : ℝ) : EReal)) = ((wR s tok k0 β k : ℝ) : EReal) := fun k => by
    rw [hy]
    unfold wR
    split
    · rw [← EReal.coe_sub, Ideal.exp_coe, sub_mul]
    · rw [EReal.bot_sub]
      rfl
  have h1 : Ideal.exp (((s k0 * β : ℝ) : EReal) - ((s k0 * β : ℝ) : EReal)) = 1 := by
    rw [← EReal.coe_sub, sub_self, Ideal.exp_coe, Real.exp_zero]
    rfl
  have hL : ∑ k : Fin 32768, ((wR s tok k0 β k : ℝ) : EReal) = ((sumR s tok k0 β : ℝ) : EReal) := by
    rw [coe_sum']
    unfold sumR
    rw [Finset.sum_range]
  have ha : Ideal.div 1 ((sumR s tok k0 β : ℝ) : EReal) = ((1 / sumR s tok k0 β : ℝ) : EReal) := by
    rw [Ideal.div_coe hR.ne', one_mul]
  have ha0 : ((1 / sumR s tok k0 β : ℝ) : EReal) ≠ 0 := by
    rw [Ne, EReal.coe_eq_zero]
    exact (one_div_pos.mpr hR).ne'
  have he : Ideal.liftRound Int.floor (Ideal.log (((1 / sumR s tok k0 β : ℝ) : EReal) * Ideal.ofBits FTy.f32 991054117#32) * RI.l2e) + 1
      = ((eR s tok k0 β : ℝ) : EReal) := by
    have p : 0 < 1 / sumR s tok k0 β * kR := lt_of_lt_of_le (by positivity) x1
    rw [K_eq, ← EReal.coe_mul, l2e_eq]
    change Ideal.liftRound Int.floor (Ideal.log ((1 / sumR s tok k0 β * kR : ℝ) : EReal) * _) + 1 = _
    rw [Ideal.log_coe, if_neg (not_le.mpr p), ← EReal.coe_mul, Ideal.liftRound_coe]
    unfold eR expR
    push_cast
    rfl
  have hn : (0 : EReal) - ((eR s tok k0 β : ℝ) : EReal) = (((-eR s tok k0 β : ℤ) : ℝ) : EReal) := by
    rw [zero_sub, ← EReal.coe_neg]
    push_cast
    rfl
  have hc : ∀ k : Fin 32768, min (Ideal.ofBits FTy.f32 0x43E00000#32) (max (Ideal.ofBits FTy.f32 0xC3E00000#32)
      (Ideal.div ((wR s tok k0 β k : ℝ) : EReal) ((sumR s tok k0 β : ℝ) : EReal) * (((2 : ℝ) ^ (-eR s tok k0 β) : ℝ) : EReal)))
      = ((wR s tok k0 β k * (1 / sumR s tok k0 β * (2 : ℝ) ^ (-eR s tok k0 β)) : ℝ) : EReal) := fun k => by
    have w0 : 0 ≤ wR s tok k0 β k := wR_nonneg k
    have w1 := wR_le h hβ (k : ℕ)
    have q : 1 / sumR s tok k0 β * (2 : ℝ) ^ (-eR s tok k0 β) ≤ 448 := inv_lt a
    have q0 : 0 ≤ 1 / sumR s tok k0 β * (2 : ℝ) ^ (-eR s tok k0 β) :=
      mul_nonneg (one_div_pos.mpr hR).le (zpow_nonneg (by norm_num) _)
    rw [Ideal.div_coe hR.ne', ← EReal.coe_mul, ← EReal.coe_mul, mul_assoc]
    refine (congrArg₂ (fun a b => min a (max b _)) top_eq bot_eq).trans ?_
    rw [max_eq_right, min_eq_right]
    · exact EReal.coe_le_coe_iff.mpr (by nlinarith)
    · exact EReal.coe_le_coe_iff.mpr (by nlinarith)
  unfold RI.rowOut
  simp only [hM, h1]
  simp only [hw]
  simp only [hL, ha, if_neg ha0, he, hn, exp2_int]
  simp only [hc]

end Cert.Attn
-- ==== Proof.Inputs.lean ====
/-
  The blocks the kernel's body reads at a point of the grid, as entries of the arguments.
-/
module

public import proofs.«01_k».proof.Proof.Spec
public import proofs.«01_k».proof.Proof.KernelIdealRun
public import Idealize.ShloMosaic.Lib.Pipeline.ValueKit
public import Idealize.ShloMosaic.Lib.Pointwise

@[expose] public section

set_option maxRecDepth 16384

noncomputable section

namespace Cert.Attn.KI

open Cert.KernelIdeal Cert.KernelIdeal.Hand
open Idealize.ShloMosaic Idealize.ShloMosaic.TcCoe

variable (m : (ℓ : Loc nD τ sig) → Buf (Elt Ideal) ℓ)

/-! The arguments. -/

def qA (c : Dev nD) : FVec Ideal S2x262144x128 .f32 := m ((c : Thread nD τ).loc main_arg0)
def qsA (c : Dev nD) : FVec Ideal S2x8x32768 .f32 := m ((c : Thread nD τ).loc main_arg1)
def ktA (c : Dev nD) : FVec Ideal S2x128x128x256 .f32 := m ((c : Thread nD τ).loc main_arg2)
def ksA (c : Dev nD) : FVec Ideal S2x256x1x128 .f32 := m ((c : Thread nD τ).loc main_arg3)
def vA (c : Dev nD) : FVec Ideal S2x32768x128 .fp8e4m3 := m ((c : Thread nD τ).loc main_arg4)
def vsA (c : Dev nD) : FVec Ideal S2x1x128 .f32 := m ((c : Thread nD τ).loc main_arg5)

/-- One batch's arrays. -/
def env (c : Dev nD) (b : Fin 2) : Env where
  Q r i d := qA m c (ix3 b ⟨(128 * r + i) % 262144, by omega⟩ d)
  QS r i := qsA m c (ix3 b ⟨i % 8, by omega⟩ ⟨(16 * r + i / 8) % 32768, by omega⟩)
  K T l d := ktA m c (ix4 b ⟨T / 2 % 128, by omega⟩ d ⟨128 * (T % 2) + l, by omega⟩)
  KS T l := ksA m c (ix4 b ⟨T % 256, by omega⟩ 0 l)
  X T l c' := vA m c (ix3 b ⟨(128 * T + l) % 32768, by omega⟩ c')
  XS c' := vsA m c (ix3 b 0 c')
  cE := Named.named κ "log2_e" 0x3FB8AA3B#32
  cS := Named.named κ "log2_scale" 0x3E0293EE#32

theorem coords1 : ∀ t : Fin cfg0.N, (grid0.coords t 1).val = t.val % 1025 := by decide +kernel

/-- Which block each window is at. -/
theorem idx : ∀ t : Fin cfg0.N,
    win0_0.index t = ![t.val / 1025, 1023 - t.val % 1025, 0] ∧ win0_1.index t = ![t.val / 1025, 1023 - t.val % 1025, 0, 0]
    ∧ win0_2.index t = ![t.val / 1025, 0, 0, 0] ∧ win0_3.index t = ![t.val / 1025, 0, 0, 0]
    ∧ win0_4.index t = ![t.val / 1025, 0, 0] ∧ win0_5.index t = ![t.val / 1025, 0, 0]
    ∧ win0_6.index t = ![t.val / 1025, min (1024 - t.val % 1025) 1023, 0] := by decide +kernel

/-- The first point of a batch writes nothing back. -/
theorem flush : ∀ t : Fin cfg0.N, win0_6.flush t = true → t.val % 1025 ≠ 0 := by decide +kernel

end Cert.Attn.KI
-- ==== Proof.Blocks.lean ====
/-
  The blocks the kernel's body reads at a point of the grid, entry by entry.
-/
module

public import proofs.«01_k».proof.Proof.Inputs

@[expose] public section

set_option maxRecDepth 16384

noncomputable section

namespace Cert.Attn.KI

open Cert.KernelIdeal Cert.KernelIdeal.Hand
open Idealize.ShloMosaic Idealize.ShloMosaic.TcCoe

variable (m : (ℓ : Loc nD τ sig) → Buf (Elt Ideal) ℓ)

def qB (c : Dev nD) (t : Fin cfg0.N) : FVec Ideal S1x256x128 .fp8e4m3 := iblk m c 0 t
def qsB (c : Dev nD) (t : Fin cfg0.N) : FVec Ideal S1x1x8x32 .f32 := iblk m c 1 t
def ktB (c : Dev nD) (t : Fin cfg0.N) : FVec Ideal S1x128x128x256 .fp8e4m3 := iblk m c 2 t
def ksB (c : Dev nD) (t : Fin cfg0.N) : FVec Ideal S1x256x1x128 .f32 := iblk m c 3 t
def vB (c : Dev nD) (t : Fin cfg0.N) : FVec Ideal S1x32768x128 .fp8e4m3 := iblk m c 4 t
def vsB (c : Dev nD) (t : Fin cfg0.N) : FVec Ideal S1x1x128 .f32 := iblk m c 5 t

theorem lt_N (t : Fin cfg0.N) : t.val / 1025 < 2 := by
  have h : t.val < 2050 := lt_of_lt_of_eq t.isLt N_0
  omega

def bat (t : Fin cfg0.N) : Fin 2 := ⟨t.val / 1025, lt_N t⟩

theorem qB_at (c : Dev nD) (t : Fin cfg0.N) (r : Fin 256) (d : Fin 128) :
    qB m c t (ix3 0 r d) = qA m c (ix3 (bat t) ⟨256 * (1023 - t.val % 1025) + r, by omega⟩ d) := by
  unfold qB qA bat
  have hi := idx t
  unfold iblk
  entry_read
  blk_ext [hi]

theorem qsB_at (c : Dev nD) (t : Fin cfg0.N) (h : Fin 8) (o : Fin 32) :
    qsB m c t (ix4 0 0 h o) = qsA m c (ix3 (bat t) h ⟨32 * (1023 - t.val % 1025) + o, by omega⟩) := by
  unfold qsB qsA bat
  have hi := idx t
  unfold iblk
  entry_read
  have e : (win0_1.blk t).view.emb (ix4 0 0 h o) = ix4 (⟨t.val / 1025, lt_N t⟩ : Fin 2) (⟨1023 - t.val % 1025, by omega⟩ : Fin 1024) h o := by blk_ext [hi]
  refine (congrArg (transpose S2x1024x8x32 [0, 2, 1, 3] (shapeCast S2x8x1024x32 (qsA m c) shapeCasts_S2x8x32768_S2x8x1024x32)
    transposes_S2x8x1024x32_S2x1024x8x32_0_2_1_3) e).trans ?_
  pointwise
  unfold qsA
  blk_ext

theorem ktB_at (c : Dev nD) (t : Fin cfg0.N) (T : Fin 128) (d : Fin 128) (l : Fin 256) :
    ktB m c t (ix4 0 T d l) = ktA m c (ix4 (bat t) T d l) := by
  unfold ktB ktA bat
  have hi := idx t
  unfold iblk
  entry_read
  blk_ext [hi]

theorem ksB_at (c : Dev nD) (t : Fin cfg0.N) (T : Fin 256) (l : Fin 128) :
    ksB m c t (ix4 0 T 0 l) = ksA m c (ix4 (bat t) T 0 l) := by
  unfold ksB ksA bat
  have hi := idx t
  unfold iblk
  entry_read
  blk_ext [hi]

theorem vB_at (c : Dev nD) (t : Fin cfg0.N) (k : Fin 32768) (l : Fin 128) :
    vB m c t (ix3 0 k l) = vA m c (ix3 (bat t) k l) := by
  unfold vB vA bat
  have hi := idx t
  unfold iblk
  entry_read
  blk_ext [hi]

theorem vsB_at (c : Dev nD) (t : Fin cfg0.N) (l : Fin 128) :
    vsB m c t (ix3 0 0 l) = vsA m c (ix3 (bat t) 0 l) := by
  unfold vsB vsA bat
  have hi := idx t
  unfold iblk
  entry_read
  blk_ext [hi]

theorem word1 (t : Fin cfg0.N) : (grid0.coords t 1).val = t.val % 1025 := coords1 t

/-- What a half finds in its input blocks. -/
theorem has (c : Dev nD) (t : Fin cfg0.N) (s : Bool) (st : St Ideal) (h : Ins m c t st) : Has (env m c (bat t)) s (t.val % 1025) st where
  q hp i d := by
    rw [h.q]
    refine (qB_at m c t (qrow s i) d).trans ?_
    show qA m c _ = qA m c _
    congr 2
    apply Fin.ext
    show 256 * (1023 - t.val % 1025) + ((bif s then 0 else 128) + (i : ℕ)) = (128 * (2047 - (2 * (t.val % 1025) + halfN s)) + (i : ℕ)) % 262144
    cases s <;> simp only [halfN, cond_true, cond_false] at hp ⊢ <;> simp at hp ⊢ <;> omega
  qs hp i := by
    unfold aqv Env.aq
    rw [h.qs]
    congr 1
    refine (qsB_at m c t ⟨(i : ℕ) % 8, by omega⟩ ⟨tokOff s + i / 8, by cases s <;> simp [tokOff] <;> omega⟩).trans ?_
    show qsA m c _ = qsA m c _
    congr 2
    apply Fin.ext
    show 32 * (1023 - t.val % 1025) + (tokOff s + (i : ℕ) / 8) = (16 * (2047 - (2 * (t.val % 1025) + halfN s)) + (i : ℕ) / 8) % 32768
    cases s <;> simp only [halfN, tokOff, cond_true, cond_false] at hp ⊢ <;> simp at hp ⊢ <;> omega
  kt T hT l d := by
    rw [h.kt]
    exact ktB_at m c t (ktl T) d (kln T l)
  ks T hT l := by
    rw [h.ks]
    exact ksB_at m c t (tl T) l
  v T hT l d := by
    rw [h.v]
    exact vB_at m c t (vrow T l) d
  vs := by
    unfold vsIn
    rw [h.vs]
    funext x
    obtain ⟨a, b, l, rfl⟩ : ∃ (a b : Fin 1) (l : Fin 128), x = ix3 a b l := ⟨x 0, x 1, x 2, eq_ix3 x⟩
    obtain rfl : a = 0 := Subsingleton.elim _ _
    obtain rfl : b = 0 := Subsingleton.elim _ _
    exact vsB_at m c t l

end Cert.Attn.KI
-- ==== Proof.Point.lean ====
/-
  The invariant from one point of the grid to the next, and the output block a point leaves.
-/
module

public import proofs.«01_k».proof.Proof.Blocks

@[expose] public section

set_option maxRecDepth 16384

noncomputable section

namespace Cert.Attn

open Idealize.ShloMosaic Idealize.ShloMosaic.TcCoe

variable {F : FTy → Type} [FloatOps F]

theorem run_clear (k : MP F) (st : St F) : run (clear k) st = run k (run (clear .done) st) := by
  simp only [clear, stV, run_loop, run_ld, run_st, run_done]

theorem safe_clear' : Safe (clear (F := F) .done) :=
  .loop (fun _ => .ld fun _ => .st rfl <| .ld fun _ => .st rfl .done) <|
    safe_stV _ _ _ <| safe_stV _ _ _ <| safe_stV _ _ _ <| safe_stV _ _ _ <| safe_stV _ _ _ .done

theorem clear_in {w : W} (hw : w.isIn = true) (st : St F) : run (clear .done) st w = st w := run_in hw _ safe_clear' st

/-- What point `n` of a batch leaves in its output block. -/
def Outs (E : Env) (n : ℕ) (X : FVec Ideal S1x32x1024 .bf16) : Prop :=
  1 ≤ n → ∀ (y : Fin 32) (h : Fin 8) (c : Fin 128),
    X (ix3 0 y ⟨128 * h + c, by omega⟩) = E.O (2 * (1024 - n) + y / 16) ⟨(8 * ((y : ℕ) % 16) + h) % 128, by omega⟩ c

theorem has_of (E : Env) (s : Bool) (n : ℕ) (st st' : St Ideal) (h : ∀ x : W, x.isIn = true → st' x = st x) (hs : Has E s n st) : Has E s n st' := by
  constructor
  · rw [h .q rfl]; exact hs.q
  · unfold aqv; rw [h .qs rfl]; exact hs.qs
  · rw [h .kt rfl]; exact hs.kt
  · rw [h .ks rfl]; exact hs.ks
  · rw [h .v rfl]; exact hs.v
  · unfold vsIn; rw [h .vs rfl]; exact hs.vs

theorem both (E : Env) (hE : E.Causal) (n : ℕ) (hn : n < 1025) (H0 : Words false n) (H1 : Words true n) (st : St Ideal)
    (h0 : Has E false n st) (h1 : Has E true n st) (hv : Inv E false (2 * n) st) :
    ∃ st', run (half false n H0 E.cE E.cS <| half true n H1 E.cE E.cS .done) st = st' ∧ Inv E false (2 * (n + 1)) st' ∧ Outs E n (outIn st') := by
  obtain ⟨a, ea, va, ia, oa, -⟩ := half_step E hE false n (2 * n) hn rfl H0 (half true n H1 E.cE E.cS .done) st h0 hv
  obtain ⟨b, eb, vb, ib, ob, kb⟩ := half_step E hE true n (2 * n + 1) hn rfl H1 .done a (has_of E true n st a ia h1) va
  refine ⟨b, ea.trans eb, vb, ?_⟩
  intro hn1 y h c
  by_cases hy : (y : ℕ) < 16
  · rw [ob (by omega) y h c (Nat.zero_le _) (by simpa [tokOff] using hy)]
    congr 1
    · omega
    · apply Fin.ext
      show (8 * ((y : ℕ) - 0) + (h : ℕ)) % 128 = (8 * ((y : ℕ) % 16) + h) % 128
      omega
  · rw [kb y _ (by simp [tokOff]; omega), oa (by omega) y h c (by simp [tokOff]; omega) (by simp [tokOff])]
    congr 1
    · omega
    · apply Fin.ext
      show (8 * ((y : ℕ) - 16) + (h : ℕ)) % 128 = (8 * ((y : ℕ) % 16) + h) % 128
      omega

theorem Inv.zero (E : Env) (s : Bool) (st : St Ideal) : Inv E s 0 st :=
  ⟨fun h => absurd h (by decide), fun h => absurd h (by decide), fun h => absurd h (by decide), fun h => absurd h (by decide), fun h => absurd h (by decide)⟩

namespace KI

open Cert.KernelIdeal Cert.KernelIdeal.Hand

variable (m : (ℓ : Loc nD τ sig) → Buf (Elt Ideal) ℓ)

/-- Before point `n`. -/
def Jv (c : Dev nD) (n : ℕ) (st : St Ideal) : Prop :=
  Attn.Inv (env m c ⟨n / 1025 % 2, by omega⟩) false (2 * (n % 1025)) st
/-- After point `t`. -/
def Ov (c : Dev nD) (t : Fin cfg0.N) (X : RegOf Ideal .out) : Prop :=
  Outs (env m c (bat t)) (t.val % 1025) X

theorem step_eq (c : Dev nD) (b : Fin 2) (t : Fin cfg0.N) (st : St Ideal) : step t st = run (body (F := Ideal) (k0_cond1 (grid0.coords t) = 1#1) inferInstance
      (grid0.coords t 1).val (words (grid0.coords t 1).isLt) (words (grid0.coords t 1).isLt) (env m c b).cE (env m c b).cS) st := rfl

theorem body_next (E : Env) (hE : E.Causal) (p : Prop) (dec : Decidable p) (n : ℕ) (hn : n < 1025) (H0 : Words false n) (H1 : Words true n) (st : St Ideal)
    (h0 : Has E false n st) (h1 : Has E true n st) (hv : Attn.Inv E false (2 * n) st) (hp : p → n = 0) :
    Attn.Inv E false (2 * (n + 1)) (run (body p dec n H0 H1 E.cE E.cS) st) ∧ Outs E n (outIn (run (body p dec n H0 H1 E.cE E.cS) st)) := by
  unfold body
  rw [run_cond]
  split
  · rename_i h
    obtain rfl := hp h
    rw [run_clear]
    obtain ⟨st', e, h⟩ := both E hE 0 hn H0 H1 (run (clear .done) st) (has_of E _ _ st _ (fun _ hx => clear_in hx st) h0) (has_of E _ _ st _ (fun _ hx => clear_in hx st) h1) (Inv.zero _ _ _)
    rw [e]; exact h
  · obtain ⟨st', e, h⟩ := both E hE n hn H0 H1 st h0 h1 hv
    rw [e]; exact h

theorem cond_first : ∀ t : Fin cfg0.N, k0_cond1 (grid0.coords t) = 1#1 → (grid0.coords t 1).val = 0 := by decide +kernel

theorem good (hE : ∀ c b, (env m c b).Causal) : Good m (Jv m) (Ov m) where
  start c s := by
    unfold Jv
    exact Inv.zero _ _ _
  scratch c n s s' h hv := by
    unfold Jv at hv ⊢
    constructor
    · rw [← h _ rfl (by decide)]; exact hv.score
    · unfold rmIn; rw [← h _ rfl (by decide)]; exact hv.rm
    · unfold aqIn; rw [← h _ rfl (by decide)]; exact hv.aq
    · rw [← h _ rfl (by decide)]; exact hv.weight
    · unfold rsIn; rw [← h _ rfl (by decide)]; exact hv.rs
  next c t st hi hv := by
    have ht : t.val < 2050 := lt_of_lt_of_eq t.isLt N_0
    have hb : (⟨t.val / 1025 % 2, by omega⟩ : Fin 2) = bat t := Fin.ext (Nat.mod_eq_of_lt (lt_N t))
    unfold Jv at hv
    rw [hb] at hv
    have hw := word1 t
    rw [step_eq m c (bat t)]
    have hh := has m c t
    rw [← hw] at hh hv
    obtain ⟨h1, h2⟩ := body_next (env m c (bat t)) (hE c (bat t)) (k0_cond1 (grid0.coords t) = 1#1) inferInstance (grid0.coords t 1).val (grid0.coords t 1).isLt
      (words (grid0.coords t 1).isLt) (words (grid0.coords t 1).isLt) st (hh false st hi) (hh true st hi) hv (cond_first t)
    refine ⟨?_, ?_⟩
    · unfold Jv
      by_cases hl : t.val % 1025 + 1 < 1025
      · rw [show (t.val + 1) % 1025 = (grid0.coords t 1).val + 1 by omega,
          show (⟨(t.val + 1) / 1025 % 2, by omega⟩ : Fin 2) = bat t from Fin.ext (by show (t.val + 1) / 1025 % 2 = t.val / 1025; omega)]
        exact h1
      · rw [show (t.val + 1) % 1025 = 0 by omega]
        exact Inv.zero _ _ _
    · unfold Ov
      rw [← hw]
      exact h2

end KI

end Cert.Attn
-- ==== Proof.Output.lean ====
/-
  The kernel's output array after the run, entry by entry.
-/
module

public import proofs.«01_k».proof.Proof.Point
public import Idealize.ShloMosaic.Lib.Pipeline.ArrRel
public import Idealize.ShloMosaic.Lib.Pipeline.Covers

@[expose] public section

set_option maxRecDepth 16384

noncomputable section

namespace Cert.Attn.KI

open Cert.KernelIdeal Cert.KernelIdeal.Hand
open Idealize.ShloMosaic Idealize.ShloMosaic.TcCoe
open Idealize.ShloMosaic.Pipeline (RDat)

variable (m : (ℓ : Loc nD τ sig) → Buf (Elt Ideal) ℓ)

/-- The kernel's result. -/
def outK (c : Dev nD) : FVec Ideal S2x32768x1024 .bf16 := fun x =>
  ((env m c (x 0)).O ((x 1 : ℕ) / 16) ⟨(8 * ((x 1 : ℕ) % 16) + (x 2 : ℕ) / 128) % 128, by omega⟩ ⟨(x 2 : ℕ) % 128, by omega⟩ : EReal)

theorem idx6 (t : Fin cfg0.N) : win0_6.index t = ![t.val / 1025, min (1024 - t.val % 1025) 1023, 0] := (idx t).2.2.2.2.2.2

theorem covers : (cfg0.win 6).Covers :=
  (cfg0.win 6).covers_of_index_surj rfl (by decide) fun β => by
    have h0 : (β 0 : ℕ) < 2 := lt_of_lt_of_eq (β 0).isLt (by decide : (cfg0.win 6).nblk 0 = 2)
    have h1 : (β 1 : ℕ) < 1024 := lt_of_lt_of_eq (β 1).isLt (by decide : (cfg0.win 6).nblk 1 = 1024)
    have h2 : (β 2 : ℕ) < 1 := lt_of_lt_of_eq (β 2).isLt (by decide : (cfg0.win 6).nblk 2 = 1)
    refine ⟨⟨1025 * (β 0 : ℕ) + (1024 - (β 1 : ℕ)), lt_of_lt_of_eq (show _ < 2050 by omega) N_0.symm⟩, fun a => ?_⟩
    refine (congrFun (idx6 _) a).trans ?_
    fin_cases a
    · show (1025 * (β 0 : ℕ) + (1024 - (β 1 : ℕ))) / 1025 = β 0
      omega
    · show min (1024 - (1025 * (β 0 : ℕ) + (1024 - (β 1 : ℕ))) % 1025) 1023 = β 1
      omega
    · show 0 = (β 2 : ℕ)
      omega

/-- What one entry of an output block is, given where it lies. -/
theorem block_at (c : Dev nD) (t : Fin cfg0.N) (X : FVec Ideal S1x32x1024 .bf16) (h : Ov m c t X) (ht : t.val % 1025 ≠ 0) (y : Fin 32) (z : Fin 1024) :
    X (ix3 0 y z) = outK m c (ix3 (bat t) ⟨32 * (min (1024 - t.val % 1025) 1023) + y, by omega⟩ z) := by
  have hz : z = ⟨128 * ((⟨(z : ℕ) / 128, by omega⟩ : Fin 8) : ℕ) + ((⟨(z : ℕ) % 128, by omega⟩ : Fin 128) : ℕ), by
      show 128 * ((z : ℕ) / 128) + (z : ℕ) % 128 < 1024; omega⟩ :=
    Fin.ext (by show (z : ℕ) = 128 * ((z : ℕ) / 128) + (z : ℕ) % 128; omega)
  conv_lhs => rw [hz]
  refine (h (by omega) y _ _).trans ?_
  unfold outK
  show Env.O _ _ _ _ = Env.O _ _ _ _
  congr 1
  · show _ = (32 * (min (1024 - t.val % 1025) 1023) + (y : ℕ)) / 16
    omega
  · apply Fin.ext
    show (8 * ((y : ℕ) % 16) + (z : ℕ) / 128) % 128 = (8 * ((32 * (min (1024 - t.val % 1025) 1023) + (y : ℕ)) % 16) + (z : ℕ) / 128) % 128
    omega

instance (e : EltTy) : Nonempty (Elt Ideal e) := inferInstance

theorem out_eq (c : Dev nD) {r : PUnit × MemSt nD τ sig (Elt Ideal)} (h : RDat.FramePost cfg0 (rdat m (Jv m) (Ov m)) (Hand.V m) r) :
    r.2.mem ((c.tc : Thread nD τ).loc main_v4) = outK m c := by
  obtain ⟨after, hL, hA⟩ := h.exists_exact c
  refine (hA 6).trans ?_
  refine Pipeline.Dat.arrAt_eq_of_covers ((rdat m (Jv m) (Ov m) c).withAfter after) 6 (outK m c) covers (fun t hf y => ?_) (Memref.isWhole_whole main_v4)
  have hO : Ov m c t (after 6 t) := by
    obtain ⟨Y, -, h⟩ := hL 6 t hf
    exact h
  have ht := flush t hf
  have hi := idx6 t
  refine Eq.trans ?_ ((block_at m c t (after 6 t) hO ht (y 1) (y 2)).trans ?_)
  · refine (cast_eq _ _).trans ?_
    show after 6 t _ = after 6 t _
    blk_ext [hi]
  · unfold bat
    blk_ext [hi]

end Cert.Attn.KI
-- ==== Proof.RefRun.lean ====
/-
  The reference's output array after the run, from the arguments.
-/
module

public import proofs.«01_k».proof.Proof.Ref

@[expose] public section

set_option maxRecDepth 16384

noncomputable section

namespace Cert.Attn.RI

open Cert.ReferenceIdeal Cert.ReferenceIdeal.Gen
open Idealize.ShloMosaic Idealize.ShloMosaic.TcCoe Idealize.ShloMosaic.Tactic

variable (m : (ℓ : Loc nD τ sig) → Buf (Elt Ideal) ℓ)

/-- A row's masked scores, from the arguments. -/
def argY (q : FVec Ideal S2x262144x128 .f32) (qs : FVec Ideal S2x8x32768 .f32) (kt : FVec Ideal S2x128x128x256 .f32) (ks : FVec Ideal S2x256x1x128 .f32)
    (b : Fin 2) (R : Fin 262144) : Fin 32768 → EReal := fun k =>
  if (k : ℕ) ≤ R / 8 then
    ((∑ d : Fin 128, q (ix3 b R d) * kt (ix4 b ⟨k / 256, by omega⟩ d ⟨k % 256, by omega⟩)) * (qs (ix3 b ⟨R % 8, by omega⟩ ⟨R / 8, by omega⟩) * sm))
      * ks (ix4 b ⟨k / 128, by omega⟩ 0 ⟨k % 128, by omega⟩)
  else Ideal.ofBits FTy.f32 4286578688#32

/-- The result, from the arguments. -/
def argOut (q : FVec Ideal S2x262144x128 .f32) (qs : FVec Ideal S2x8x32768 .f32) (kt : FVec Ideal S2x128x128x256 .f32) (ks : FVec Ideal S2x256x1x128 .f32)
    (v : FVec Ideal S2x32768x128 .fp8e4m3) (vs : FVec Ideal S2x1x128 .f32) (b : Fin 2) (t : Fin 32768) (z : Fin 1024) : EReal :=
  rowOut (argY q qs kt ks b ⟨t * 8 + z / 128, by omega⟩) (fun k => v (ix3 b k ⟨z % 128, by omega⟩)) (vs (ix3 b 0 ⟨z % 128, by omega⟩))

def x0 (c : Dev nD) (t : Fin cfg0.N) : FVec Ideal S2x262144x128 .fp8e4m3 := iblk m c 0 t
def x1 (c : Dev nD) (t : Fin cfg0.N) : FVec Ideal S2x262144x1 .f32 := iblk m c 1 t
def x2 (c : Dev nD) (t : Fin cfg0.N) : FVec Ideal S2x32768x128 .fp8e4m3 := iblk m c 2 t
def x3 (c : Dev nD) (t : Fin cfg0.N) : FVec Ideal S2x1x32768 .f32 := iblk m c 3 t
def x4 (c : Dev nD) (t : Fin cfg0.N) : FVec Ideal S2x32768x128 .fp8e4m3 := iblk m c 4 t
def x5 (c : Dev nD) (t : Fin cfg0.N) : FVec Ideal S2x1x128 .f32 := iblk m c 5 t

def a0 (c : Dev nD) : FVec Ideal S2x262144x128 .f32 := m ((c : Thread nD τ).loc main_arg0)
def a1 (c : Dev nD) : FVec Ideal S2x8x32768 .f32 := m ((c : Thread nD τ).loc main_arg1)
def a2 (c : Dev nD) : FVec Ideal S2x128x128x256 .f32 := m ((c : Thread nD τ).loc main_arg2)
def a3 (c : Dev nD) : FVec Ideal S2x256x1x128 .f32 := m ((c : Thread nD τ).loc main_arg3)
def a4 (c : Dev nD) : FVec Ideal S2x32768x128 .fp8e4m3 := m ((c : Thread nD τ).loc main_arg4)
def a5 (c : Dev nD) : FVec Ideal S2x1x128 .f32 := m ((c : Thread nD τ).loc main_arg5)

theorem idxR : ∀ t : Fin cfg0.N,
    win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] := by decide +kernel

variable (c : Dev nD) (t : Fin cfg0.N) (b : Fin 2) (R : Fin 262144) (k : Fin 32768) (d : Fin 128)

theorem x0_at : x0 m c t (ix3 b R d) = a0 m c (ix3 b R d) := by
  unfold x0 a0
  have hi := idxR t
  unfold iblk
  entry_read
  blk_ext [hi]
theorem x1_at : x1 m c t (ix3 b R 0) = a1 m c (ix3 b ⟨R % 8, by omega⟩ ⟨R / 8, by omega⟩) := by
  unfold x1
  have hi := idxR t
  unfold iblk
  entry_read
  have e : (win0_1.blk t).view.emb (ix3 b R 0) = ix3 b R 0 := by blk_ext [hi]
  refine (congrArg (shapeCast S2x262144x1 (transpose S2x32768x8 [0, 2, 1] (a1 m c) transposes_S2x8x32768_S2x32768x8_0_2_1) shapeCasts_S2x32768x8_S2x262144x1) e).trans ?_
  pointwise
theorem x2_at : x2 m c t (ix3 b k d) = a2 m c (ix4 b ⟨k / 256, by omega⟩ d ⟨k % 256, by omega⟩) := by
  unfold x2
  have hi := idxR t
  unfold iblk
  entry_read
  have e : (win0_2.blk t).view.emb (ix3 b k d) = ix3 b k d := by blk_ext [hi]
  refine (congrArg (shapeCast S2x32768x128 (transpose S2x128x256x128 [0, 1, 3, 2] (a2 m c : S2x128x128x256.Idx → EReal) transposes_S2x128x128x256_S2x128x256x128_0_1_3_2) shapeCasts_S2x128x256x128_S2x32768x128) e).trans ?_
  pointwise
theorem x3_at : x3 m c t (ix3 b 0 k) = a3 m c (ix4 b ⟨k / 128, by omega⟩ 0 ⟨k % 128, by omega⟩) := by
  unfold x3
  have hi := idxR t
  unfold iblk
  entry_read
  have e : (win0_3.blk t).view.emb (ix3 b 0 k) = ix3 b 0 k := by blk_ext [hi]
  refine (congrArg (shapeCast S2x1x32768 (a3 m c) shapeCasts_S2x256x1x128_S2x1x32768) e).trans ?_
  pointwise
theorem x4_at : x4 m c t (ix3 b k d) = a4 m c (ix3 b k d) := by
  unfold x4 a4
  have hi := idxR t
  unfold iblk
  entry_read
  blk_ext [hi]
theorem x5_at : x5 m c t (ix3 b 0 d) = a5 m c (ix3 b 0 d) := by
  unfold x5 a5
  have hi := idxR t
  unfold iblk
  entry_read
  blk_ext [hi]

theorem rowY_eq : rowY b R (x0 m c t) (x2 m c t) (x1 m c t) (x3 m c t) = argY (a0 m c) (a1 m c) (a2 m c) (a3 m c) b R := by
  funext k
  unfold rowY argY
  simp only [x0_at, x1_at, x2_at, x3_at]

/-- The reference's result. -/
def outR' : FVec Ideal S2x32768x1024 .bf16 := fun x => (argOut (a0 m c) (a1 m c) (a2 m c) (a3 m c) (a4 m c) (a5 m c) (x 0) (x 1) (x 2) : EReal)

theorem pay_eq (t : Fin cfg0.grid.N) (b : Fin 2) (u : Fin 32768) (z : Fin 1024) :
    k0_pay1 (k0_pay6 (k0_pay2 (x0 m c t) (x2 m c t) (x1 m c t) (x3 m c t)) k0_pay3 k0_pay4 k0_pay5 (x4 m c t))
      (x5 m c t) (ix3 b u z) = outR' m c (ix3 b u z) := by
  refine (pay_at b (x0 m c t) (x2 m c t) (x1 m c t) (x3 m c t) (x4 m c t) (x5 m c t) u z).trans ?_
  rw [rowY_eq, x5_at]
  simp only [x4_at]
  rfl

theorem arr_eq : (dats m 0 c).arrAt 6 (cfgs 0).N = outR' m c := by
  refine (dats m 0 c).arrAt_eq_of_covers 6 (outR' m c) (by decide +kernel) fun t hf y => ?_
  have hi := idxR t
  refine (cast_eq _ _).trans ?_
  rw [after0_6]
  frame_out
  have e : (win0_6.xinj (grid0.coords t) y : S2x32768x1024.Idx) = ix3 (y 0) (y 1) (y 2) := by blk_ext [hi]
  refine (congrArg _ e).trans ((pay_eq m c t (y 0) (y 1) (y 2)).trans (congrArg (outR' m c) ?_))
  blk_ext [hi]

theorem out_eq {r : PUnit × MemSt nD τ sig (Elt Ideal)} (h : Pipeline.FramePost cfgs (dats m) 0 (V m) r) :
    r.2.mem ((c.tc : Thread nD τ).loc main_v7) = outR' m c :=
  (Pipeline.FramePost.out_eq h c 6).trans (arr_eq m c)

end Cert.Attn.RI
-- ==== Proof.Equal.lean ====
/-
  The two results are one: from finite arguments, with the queries' scales positive, the kernel's array is the reference's.
-/
module

public import proofs.«01_k».proof.Proof.Row
public import proofs.«01_k».proof.Proof.Output
public import proofs.«01_k».proof.Proof.RefRun
public import proofs.«01_k».proof.Pre_finite
public import Idealize.ShloMosaic.Lib.Pointwise
public import Idealize.ShloMosaic.Lib.StableHlo.Predicate

@[expose] public section

set_option maxRecDepth 16384

noncomputable section

namespace Cert.Attn

open Idealize.ShloMosaic Idealize.ShloMosaic.TcCoe

/-! ## What the precondition says -/

/-- The side conditions the precondition's function takes. -/
theorem pre_facts : Cert.Pre_finite.Facts where
  bcast_S_S2x262144x128 := by decide
  bcast_S_S2x128x128x256 := by decide
  bcast_S_S2x8x32768 := by decide
  bcast_S_S2x256x1x128 := by decide

/-- A real among the extended reals. -/
def IsR (x : EReal) : Prop := ∃ r : ℝ, x = (r : EReal)

theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {ι : Type} (A : Finset ι) (f : ι → EReal) (h : ∀ k, IsR (f k)) : IsR (∑ k ∈ A, f k) := by
  choose g hg using h
  exact ⟨∑ k ∈ A, g k, by rw [← coe_sum']; exact Finset.sum_congr rfl fun k _ => hg k⟩
theorem IsR.eq {x : EReal} (hx : IsR x) : x = ((x.toReal : ℝ) : EReal) := by
  obtain ⟨a, rfl⟩ := hx
  rfl

theorem inf_eq : Ideal.ofBits FTy.f32 2139095040#32 = ⊤ := by simp [Ideal.ofBits, Ideal.ieee]
theorem zero_eq : Ideal.ofBits FTy.f32 0#32 = 0 := by simp [Ideal.ofBits, Ideal.ieee]

theorem isR_of_abs {x : Ideal .f32} (h : BitVec.ofBool (decide ((FloatOps.absf x : EReal) < Ideal.ofBits FTy.f32 2139095040#32)) = 1#1) : IsR x := by
  rw [StableHlo.Predicate.ofBool_eq_one_iff, decide_eq_true_eq, inf_eq] at h
  induction x using EReal.rec with
  | bot => exact absurd h (by simp [FloatOps.absf])
  | top => exact absurd h (by simp [FloatOps.absf])
  | coe r => exact ⟨r, rfl⟩

section
open Cert.Pre_finite

/-- Queries, keys and keys' scales are real, the queries' scales real and positive. -/
structure RealArgs (x0 : FVec Ideal S2x262144x128 .f32) (x1 : FVec Ideal S2x8x32768 .f32) (x2 : FVec Ideal S2x128x128x256 .f32)
    (x3 : FVec Ideal S2x256x1x128 .f32) : Prop where
  q : ∀ b R d, IsR (x0 (ix3 b R d))
  k : ∀ b T d l, IsR (x2 (ix4 b T d l))
  ks : ∀ b T l, IsR (x3 (ix4 b T 0 l))
  qs : ∀ b h t, ∃ r : ℝ, 0 < r ∧ x1 (ix3 b h t) = (r : EReal)

/-- The precondition's five predicates, all ones, say that. -/
theorem RealArgs.of [Cert.Pre_finite.Facts] (x0 : FVec Ideal S2x262144x128 .f32) (x1 : FVec Ideal S2x8x32768 .f32) (x2 : FVec Ideal S2x128x128x256 .f32)
    (x3 : FVec Ideal S2x256x1x128 .f32) (x4 : FVec Ideal S2x32768x128 .fp8e4m3) (x5 : FVec Ideal S2x1x128 .f32)
    (h0 : (fn x0 x1 x2 x3 x4 x5).1 = fun _ => 1#1) (h1 : (fn x0 x1 x2 x3 x4 x5).2.1 = fun _ => 1#1)
    (h2 : (fn x0 x1 x2 x3 x4 x5).2.2.1 = fun _ => 1#1) (h3 : (fn x0 x1 x2 x3 x4 x5).2.2.2.1 = fun _ => 1#1)
    (h4 : (fn x0 x1 x2 x3 x4 x5).2.2.2.2 = fun _ => 1#1) : RealArgs x0 x1 x2 x3 := by
  unfold fn at h0 h1 h2 h3 h4
  dsimp only at h0 h1 h2 h3 h4
  refine ⟨fun b R d => isR_of_abs ?_, fun b T d l => isR_of_abs ?_, fun b T l => isR_of_abs ?_, fun b h t => ?_⟩
  · refine Eq.trans (Eq.symm ?_) (congrFun h0 (ix3 b R d))
    pointwise
  · refine Eq.trans (Eq.symm ?_) (congrFun h1 (ix4 b T d l))
    pointwise
  · refine Eq.trans (Eq.symm ?_) (congrFun h4 (ix4 b T 0 l))
    pointwise
  · have a : BitVec.ofBool (decide (Ideal.ofBits FTy.f32 0#32 < x1 (ix3 b h t))) = 1#1 := by
      refine Eq.trans (Eq.symm ?_) (congrFun h2 (ix3 b h t))
      pointwise
    have a' : BitVec.ofBool (decide (x1 (ix3 b h t) < Ideal.ofBits FTy.f32 2139095040#32)) = 1#1 := by
      refine Eq.trans (Eq.symm ?_) (congrFun h3 (ix3 b h t))
      pointwise
    rw [StableHlo.Predicate.ofBool_eq_one_iff, decide_eq_true_eq, zero_eq] at a
    rw [StableHlo.Predicate.ofBool_eq_one_iff, decide_eq_true_eq, inf_eq] at a'
    have e : x1 (ix3 b h t) = (((x1 (ix3 b h t) : EReal).toReal : ℝ) : EReal) :=
      (EReal.coe_toReal a'.ne (ne_bot_of_gt a)).symm
    refine ⟨_, ?_, e⟩
    rw [e] at a
    exact EReal.coe_pos.mp a

end

/-! ## A row of the kernel's scores -/

section
open Cert.KernelIdeal
variable (m : (ℓ : Loc nD τ sig) → Buf (Elt Ideal) ℓ) (c : Dev nD) (h : RealArgs (KI.qA m c) (KI.qsA m c) (KI.ktA m c) (KI.ksA m c))

/-- A row's score against a key, unmasked. -/
def scoreE (b : Fin 2) (r : ℕ) (i : Fin 128) (k : ℕ) : EReal :=
  (∑ d : Fin 128, (KI.env m c b).Q r i d * (KI.env m c b).K (k / 128) ⟨k % 128, Nat.mod_lt _ (by decide)⟩ d)
    * (KI.env m c b).KS (k / 128) ⟨k % 128, Nat.mod_lt _ (by decide)⟩

include h

theorem scoreE_real (b : Fin 2) (r : ℕ) (i : Fin 128) (k : ℕ) : IsR (scoreE m c b r i k) :=
  (IsR.sum _ _ fun d => (h.q _ _ _).mul (h.k _ _ _ _)).mul (h.ks _ _ _)

theorem reads (b : Fin 2) (r : ℕ) (i : Fin 128) : ∃ q : ℝ, 0 < q
    ∧ KI.qsA m c (ix3 b ⟨i % 8, by omega⟩ ⟨(16 * r + i / 8) % 32768, by omega⟩) = (q : EReal)
    ∧ Reads (KI.env m c b) r i (fun k => (scoreE m c b r i k).toReal) (16 * r + i / 8) (q * (Real.sqrt 128)⁻¹) := by
  obtain ⟨q, hq, e⟩ := h.qs b ⟨i % 8, by omega⟩ ⟨(16 * r + i / 8) % 32768, by omega⟩
  refine ⟨q, hq, e, ⟨fun T l => ?_, ?_, IdealRules.named_const.ideal_named_scalar _ _ _ _ rfl⟩⟩
  · have a : (128 * T + (l : ℕ)) / 128 = T := by omega
    have a' : (⟨(128 * T + (l : ℕ)) % 128, Nat.mod_lt _ (by decide)⟩ : Fin 128) = l := by ext; simp only; omega
    unfold Env.S
    rw [← (scoreE_real m c h b r i (128 * T + l)).eq]
    unfold scoreE
    rw [a, a']
  · have e2 : (KI.env m c b).cS = (((Real.sqrt 128)⁻¹ * (Real.log 2)⁻¹ : ℝ) : EReal) := IdealRules.named_const.ideal_named_scalar _ _ _ _ rfl
    unfold Env.aq
    rw [e2]
    refine (congrArg (· * _) e).trans ?_
    rw [← EReal.coe_mul, mul_assoc]

theorem causal (b : Fin 2) : (KI.env m c b).Causal := fun r T i l hr hk => by
  obtain ⟨q, hq, -, g⟩ := reads m c h b r i
  obtain ⟨k0, hk0⟩ := Row.exists (fun k => (scoreE m c b r i k).toReal) (tok := 16 * r + i / 8) (by omega)
  rw [weight_row hk0 (by positivity) g]
  unfold wR
  rw [if_neg (by omega)]
  rfl

/-- One entry. -/
theorem entry (b : Fin 2) (t : Fin 32768) (z : Fin 1024) :
    (KI.env m c b).O (t / 16) ⟨(8 * (t % 16) + z / 128) % 128, Nat.mod_lt _ (by decide)⟩ ⟨z % 128, Nat.mod_lt _ (by decide)⟩
      = RI.argOut (KI.qA m c) (KI.qsA m c) (KI.ktA m c) (KI.ksA m c) (KI.vA m c) (KI.vsA m c) b t z := by
  have ht := t.isLt
  have hz := z.isLt
  obtain ⟨i, hi⟩ : ∃ i : Fin 128, i = ⟨(8 * (t % 16) + z / 128) % 128, Nat.mod_lt _ (by decide)⟩ := ⟨_, rfl⟩
  have hi' : (i : ℕ) = 8 * (t % 16) + z / 128 := by rw [hi]; simp only; omega
  rw [← hi]
  obtain ⟨q, hq, e, g⟩ := reads m c h b (t / 16) i
  have tk : 16 * ((t : ℕ) / 16) + (i : ℕ) / 8 = t := by omega
  obtain ⟨k0, hk0⟩ := Row.exists (fun k => (scoreE m c b (t / 16) i k).toReal) (tok := 16 * (t / 16) + i / 8) (by omega)
  rw [out_row hk0 (by positivity) g]
  unfold RI.argOut
  rw [ref_row hk0 (β := q * (Real.sqrt 128)⁻¹) (by positivity)]
  · rw [sum_tiles 256 32768 rfl, mul_assoc]
    refine congrArg₂ (· * ·) (Finset.sum_congr rfl fun T _ => Finset.sum_congr rfl fun l _ => congrArg₂ (· * ·) rfl ?_) rfl
    refine congrArg (fun n => KI.vA m c (ix3 b n _)) ?_
    ext
    have := T.isLt
    simp only
    omega
  · intro k
    have hk := k.isLt
    have hR : ((t : ℕ) * 8 + z / 128) / 8 = t := by omega
    unfold RI.argY
    simp only [hR, tk]
    by_cases hkt : (k : ℕ) ≤ t
    · rw [if_pos hkt, if_pos hkt, EReal.coe_mul, ← (scoreE_real m c h b (t / 16) i k).eq, EReal.coe_mul, ← sm_eq]
      have eq : ∀ d, KI.qA m c (ix3 b ⟨t * 8 + z / 128, by omega⟩ d) = (KI.env m c b).Q (t / 16) i d := fun d => by
        refine congrArg (fun n => KI.qA m c (ix3 b n d)) ?_
        ext; simp only; omega
      have ek : ∀ d, KI.ktA m c (ix4 b ⟨k / 256, by omega⟩ d ⟨k % 256, by omega⟩) = (KI.env m c b).K (k / 128) ⟨k % 128, Nat.mod_lt _ (by decide)⟩ d := fun d => by
        refine congrArg₂ (fun n l => KI.ktA m c (ix4 b n d l)) ?_ ?_ <;> (ext; simp only; omega)
      have es : KI.ksA m c (ix4 b ⟨k / 128, by omega⟩ 0 ⟨k % 128, by omega⟩) = (KI.env m c b).KS (k / 128) ⟨k % 128, Nat.mod_lt _ (by decide)⟩ := by
        refine congrArg (fun n => KI.ksA m c (ix4 b n 0 _)) ?_
        ext; simp only; omega
      have eqs : KI.qsA m c (ix3 b ⟨(t * 8 + z / 128) % 8, by omega⟩ ⟨(t * 8 + z / 128) / 8, by omega⟩) = (q : EReal) := by
        rw [← e]
        refine congrArg₂ (fun n l => KI.qsA m c (ix3 b n l)) ?_ ?_ <;> (ext; simp only; omega)
      have eqs' : KI.qsA m c (ix3 b ⟨(t * 8 + z / 128) % 8, by omega⟩ t) = (q : EReal) := by
        rw [← eqs]
        refine congrArg (fun l => KI.qsA m c (ix3 b _ l)) ?_
        ext; simp only; omega
      simp only [eq, ek, es, eqs']
      unfold scoreE
      exact mul_right_comm _ _ _
    · rw [if_neg hkt, if_neg hkt]
      simp [Ideal.ofBits, Ideal.ieee]

/-- The kernel's array is the reference's, where the reference's arguments are the kernel's. -/
theorem out_same (m' : (ℓ : Loc ReferenceIdeal.nD ReferenceIdeal.τ ReferenceIdeal.sig) → Buf (Elt Ideal) ℓ)
    (e0 : RI.a0 m' c = KI.qA m c) (e1 : RI.a1 m' c = KI.qsA m c) (e2 : RI.a2 m' c = KI.ktA m c) (e3 : RI.a3 m' c = KI.ksA m c)
    (e4 : RI.a4 m' c = KI.vA m c) (e5 : RI.a5 m' c = KI.vsA m c) : RI.outR' m' c = KI.outK m c := by
  funext x
  unfold RI.outR' KI.outK
  rw [e0, e1, e2, e3, e4, e5]
  exact (entry m c h (x 0) (x 1) (x 2)).symm

end

end Cert.Attn
-- ==== Proof.Quantise.lean ====
/-
  A quantiser's power of two: where a slice's largest entry is zero or a normal number's worth, the kernel's exponent of it is the one
  plain arithmetic gives, so that the kernel's scale and codes are those of plain arithmetic.
-/
module

public import proofs.«01_k».proof.Proof.Exponent
public import Idealize.ShloMosaic.Lib.StableHlo.Predicate

@[expose] public section

set_option maxRecDepth 16384

noncomputable section

namespace Cert.Quantise

open Idealize.ShloMosaic Idealize.ShloMosaic.TcCoe
open Cert.Attn (w2 ew w2_eq word_step ew_of fields K_eq tiny_eq kR expR lt_expR expR_le)

/-- A slice's largest entry, by absolute value. -/
def amax {n : ℕ} (f : Fin n → Ideal .f32) : EReal :=
  Finset.fold max (Ideal.ofBits FTy.f32 4286578688#32) (fun x => (FloatOps.absf (f x) : Ideal .f32)) Finset.univ

/-- The base-two logarithm of e, as the kernel names it. -/
def cL : EReal := (((Real.log 2)⁻¹ : ℝ) : EReal)

/-- The kernel's word for a slice's exponent, its scale and one code. -/
def kWord (a : EReal) : BitVec 32 := ew cL (a * Ideal.ofBits FTy.f32 991054117#32)
def kScale (a : EReal) : EReal := w2 (kWord a)
def kCode (v a : EReal) : EReal :=
  min (Ideal.ofBits FTy.f32 1138753536#32) (max (Ideal.ofBits FTy.f32 3286237184#32) (v * w2 (IntOp.subi 0#32 (kWord a))))

/-- The same in plain arithmetic. -/
def rExp (a : EReal) : EReal :=
  if a = 0 then 0
  else Ideal.liftRound Int.floor (Ideal.div (Ideal.log (a * Ideal.ofBits FTy.f32 991054117#32)) (Ideal.log (Ideal.ofBits FTy.f32 1073741824#32))) + 1
def rScale (a : EReal) : EReal := Ideal.exp (rExp a * Ideal.log (Ideal.ofBits FTy.f32 1073741824#32))
def rCode (v a : EReal) : EReal :=
  min (Ideal.ofBits FTy.f32 1138753536#32) (max (Ideal.ofBits FTy.f32 3286237184#32)
    (v * Ideal.exp (-rExp a * Ideal.log (Ideal.ofBits FTy.f32 1073741824#32))))

/-- A largest entry within range: zero, or with a quotient by the largest code that is a normal number; and finite in sixteen bits. -/
def Ok (a : EReal) : Prop :=
  (a = 0 ∨ Ideal.ofBits FTy.f32 8388608#32 ≤ a * Ideal.ofBits FTy.f32 991054117#32) ∧ a ≤ Ideal.ofBits FTy.f32 2139029504#32

/-- The precondition's words at a slice say that. -/
theorem ok_of_words {a : EReal}
    (h : IntOp.ori (BitVec.ofBool (decide (a = 0))) (BitVec.ofBool (decide (Ideal.ofBits FTy.f32 8388608#32 ≤ a * Ideal.ofBits FTy.f32 991054117#32))) = 1#1)
    (h' : BitVec.ofBool (decide (a ≤ Ideal.ofBits FTy.f32 2139029504#32)) = 1#1) : Ok a := by
  rw [StableHlo.Predicate.ofBool_eq_one_iff, decide_eq_true_eq] at h'
  refine ⟨?_, h'⟩
  by_contra hc
  rw [not_or] at hc
  rw [decide_eq_false hc.1, decide_eq_false hc.2] at h
  exact absurd h (by decide)

theorem two_eq : Ideal.ofBits FTy.f32 1073741824#32 = ((2 : ℝ) : EReal) := by
  refine (fields _ 128 0 (by decide) (by decide) (by decide) (by decide) (by decide)).trans ?_
  norm_num
theorem big_eq : Ideal.ofBits FTy.f32 2139029504#32 = ((16711680 * (2 : ℝ) ^ (104 : ℤ) : ℝ) : EReal) := by
  refine (fields _ 254 8323072 (by decide) (by decide) (by decide) (by decide) (by decide)).trans ?_
  norm_num

theorem log_two : Ideal.log (Ideal.ofBits FTy.f32 1073741824#32) = ((Real.log 2 : ℝ) : EReal) := by
  rw [two_eq, Ideal.log_coe, if_neg (by norm_num)]

theorem exp_int (n : ℤ) : Ideal.exp (((n : ℝ) : EReal) * ((Real.log 2 : ℝ) : EReal)) = (((2 : ℝ) ^ n : ℝ) : EReal) := by
  rw [← EReal.coe_mul, Ideal.exp_coe]
  congr 1
  rw [← Real.rpow_intCast, Real.rpow_def_of_pos (by norm_num), mul_comm]

/-- One integer is the exponent on both sides. -/
theorem same {a : EReal} (h : Ok a) : ∃ n : ℤ, -126 ≤ n ∧ n ≤ 126 ∧ kWord a = BitVec.ofInt 32 n ∧ rExp a = ((n : ℝ) : EReal) := by
  obtain ⟨h1, h2⟩ := h
  by_cases h0 : a = 0
  · refine ⟨0, by norm_num, by norm_num, ?_, ?_⟩
    · unfold kWord ew
      rw [h0, zero_mul, if_pos]
      · rfl
      · rw [tiny_eq]
        exact EReal.coe_pos.mpr (by positivity)
    · unfold rExp
      rw [if_pos h0]
      simp
  · replace h1 := h1.resolve_left h0
    obtain ⟨r, rfl⟩ : ∃ r : ℝ, a = (r : EReal) := by
      induction a using EReal.rec with
      | bot =>
        rw [K_eq, tiny_eq, EReal.bot_mul_coe_of_pos (by positivity)] at h1
        exact absurd h1 (by simp)
      | top =>
        rw [big_eq] at h2
        exact absurd (top_le_iff.mp h2) (EReal.coe_ne_top _)
      | coe r => exact ⟨r, rfl⟩
    have hk : kR = 9586981 * (2 : ℝ) ^ (-32 : ℤ) := rfl
    have e : (r : EReal) * Ideal.ofBits FTy.f32 991054117#32 = ((r * kR : ℝ) : EReal) := by rw [K_eq, EReal.coe_mul]; rfl
    rw [e, tiny_eq] at h1
    rw [big_eq] at h2
    replace h1 := EReal.coe_le_coe_iff.mp h1
    replace h2 := EReal.coe_le_coe_iff.mp h2
    have hx : 0 < r * kR := lt_of_lt_of_le (by positivity) h1
    have hb : r * kR < (2 : ℝ) ^ (126 : ℤ) := by
      have hk0 : 0 < kR := by rw [hk]; positivity
      refine lt_of_le_of_lt (mul_le_mul_of_nonneg_right h2 hk0.le) ?_
      rw [hk]
      norm_num
    have p1 : (-126 : ℤ) < expR (r * kR) := (zpow_lt_zpow_iff_right₀ (by norm_num : (1 : ℝ) < 2)).mp (lt_of_le_of_lt h1 (lt_expR hx))
    have p2 : expR (r * kR) - 1 < (126 : ℤ) := (zpow_lt_zpow_iff_right₀ (by norm_num : (1 : ℝ) < 2)).mp (lt_of_le_of_lt (expR_le hx) hb)
    refine ⟨expR (r * kR), by omega, by omega, ?_, ?_⟩
    · unfold kWord cL
      rw [e]
      exact ew_of h1 (by omega) (by omega)
    · unfold rExp
      have hl : Real.log 2 ≠ 0 := (Real.log_pos (by norm_num)).ne'
      rw [if_neg h0, e, log_two, Ideal.log_coe, if_neg (not_le.mpr hx), Ideal.div_coe hl, ← EReal.coe_mul, Ideal.liftRound_coe]
      unfold expR
      rw [one_div]
      push_cast
      rfl

theorem scale_eq {a : EReal} (h : Ok a) : kScale a = rScale a := by
  obtain ⟨n, h1, h2, h3, h4⟩ := same h
  unfold kScale rScale
  rw [h3, h4, log_two, exp_int, w2_eq n h1 h2]

theorem code_eq {a : EReal} (h : Ok a) (v : EReal) : kCode v a = rCode v a := by
  obtain ⟨n, h1, h2, h3, h4⟩ := same h
  unfold kCode rCode
  have e : -((n : ℝ) : EReal) = (((-n : ℤ) : ℝ) : EReal) := by push_cast; rfl
  rw [h3, h4, log_two, (word_step n h1 h2).2.2, e, exp_int, w2_eq (-n) (by omega) (by omega)]

end Cert.Quantise
-- ==== Proof.QuantKRef.lean ====
/-
  The keys' quantiser in plain arithmetic: what its results hold at an index.
-/
module

public import proofs.«01_k».proof.Proof.Quantise
public import proofs.«01_k».proof.Proof.Gen.RefKIdeal.Run
public import proofs.«01_k».proof.Pre_range_k
public import Idealize.ShloMosaic.Lib.Tactic.CleanTypes
public import Idealize.ShloMosaic.Lib.StableHlo.Predicate

@[expose] public section

set_option maxRecDepth 16384

noncomputable section

namespace Cert.QK

open Idealize.ShloMosaic Idealize.ShloMosaic.TcCoe
open Cert.Quantise

/-- A token's largest entry. -/
def big (X : FVec Ideal (⟨3, ![2, 32768, 128]⟩ : Shape) .bf16) (b : Fin 2) (s : Fin 32768) : EReal := amax fun k => X (ix3 b s k)

section
open Cert.Pre_range_k

theorem pre_facts : Cert.Pre_range_k.Facts where
  bitsLt_bf16_f32 := by decide
  reducesTo_S2x32768x128_S2x32768_d2 := by decide
  h_S_ := by decide
  bcast_S_S2x32768 := by decide

variable [Cert.Pre_range_k.Facts]
open Cert.Pre_range_k.Facts

/-- Every token's largest entry, as the precondition states it, and its two predicates of them. -/
def preBigs (X : FVec Ideal S2x32768x128 .bf16) : FVec Ideal S2x32768 .f32 :=
  Host.reduce FloatOps.maximumf (Host.absf (extf .f32 X bitsLt_bf16_f32)) (constant S_ .f32 0xFF800000#32) reducesTo_S2x32768x128_S2x32768_d2 h_S_
def preLow (B : FVec Ideal S2x32768 .f32) : IVec S2x32768 1 :=
  ori (cmpf .oeq B (broadcastInDim S2x32768 ![] bcast_S_S2x32768 (constant S_ .f32 0x00000000#32)))
    (cmpf .oge (mulf B (broadcastInDim S2x32768 ![] bcast_S_S2x32768 (constant S_ .f32 0x3B124925#32)))
      (broadcastInDim S2x32768 ![] bcast_S_S2x32768 (constant S_ .f32 0x00800000#32)))
def preHigh (B : FVec Ideal S2x32768 .f32) : IVec S2x32768 1 :=
  cmpf .ole B (broadcastInDim S2x32768 ![] bcast_S_S2x32768 (constant S_ .f32 0x7F7F0000#32))

theorem preBigs_at (X : FVec Ideal S2x32768x128 .bf16) (b : Fin 2) (s : Fin 32768) : preBigs X (ix2 b s) = big X b s := by
  pointwise [preBigs, big, amax]
theorem preLow_at (B : FVec Ideal S2x32768 .f32) (b : Fin 2) (s : Fin 32768) : preLow B (ix2 b s)
    = IntOp.ori (BitVec.ofBool (decide (B (ix2 b s) = 0)))
      (BitVec.ofBool (decide (Ideal.ofBits FTy.f32 8388608#32 ≤ B (ix2 b s) * Ideal.ofBits FTy.f32 991054117#32))) := by
  pointwise [preLow]
theorem preHigh_at (B : FVec Ideal S2x32768 .f32) (b : Fin 2) (s : Fin 32768) : preHigh B (ix2 b s)
    = BitVec.ofBool (decide (B (ix2 b s) ≤ Ideal.ofBits FTy.f32 2139029504#32)) := by
  pointwise [preHigh]

/-- The precondition says that every token's largest entry is within range. -/
theorem ok_of (X : FVec Ideal S2x32768x128 .bf16) (h0 : (fn X).1 = fun _ => 1#1) (h1 : (fn X).2 = fun _ => 1#1)
    (b : Fin 2) (s : Fin 32768) : Ok (big X b s) := by
  have a : preLow (preBigs X) (ix2 b s) = 1#1 := congrFun h0 (ix2 b s)
  have a' : preHigh (preBigs X) (ix2 b s) = 1#1 := congrFun h1 (ix2 b s)
  rw [preLow_at, preBigs_at] at a
  rw [preHigh_at, preBigs_at] at a'
  exact ok_of_words a a'
end

section
open Cert.RefKIdeal Cert.RefKIdeal.Gen

variable (X : FVec Ideal S2x32768x128 .bf16)

/-- Every token's largest entry, its exponent and the two powers of two, as the quantiser states them. -/
def bigs : FVec Ideal S2x32768 .f32 :=
  Host.reduce FloatOps.maximumf (Host.absf (extf .f32 X bitsLt_bf16_f32)) (constant S_ .f32 0xFF800000#32) reducesTo_S2x32768x128_S2x32768_d2 h_S_
def ln2 : FVec Ideal S2x32768x1 .f32 := broadcastInDim S2x32768x1 ![] bcast_S_S2x32768x1 (Host.log (constant S_ .f32 0x40000000#32))
def exps (B : FVec Ideal S2x32768 .f32) : FVec Ideal S2x32768x1 .f32 :=
  select (cmpf .oeq (broadcastInDim S2x32768x1 ![0, 1] bcast_S2x32768_S2x32768x1_0_1 B) (broadcastInDim S2x32768x1 ![] bcast_S_S2x32768x1 (constant S_ .f32 0x00000000#32)))
    (broadcastInDim S2x32768x1 ![] bcast_S_S2x32768x1 (constant S_ .f32 0x00000000#32))
    (addf (Host.floor (Host.divf (Host.log (mulf (broadcastInDim S2x32768x1 ![0, 1] bcast_S2x32768_S2x32768x1_0_1 B)
      (broadcastInDim S2x32768x1 ![] bcast_S_S2x32768x1 (constant S_ .f32 0x3B124925#32)))) ln2))
      (broadcastInDim S2x32768x1 ![] bcast_S_S2x32768x1 (constant S_ .f32 0x3F800000#32)))
def codesOf (B : FVec Ideal S2x32768 .f32) : FVec Ideal S2x32768x128 .fp8e4m3 :=
  Host.convertf .fp8e4m3 (minimumf (broadcastInDim S2x32768x128 ![] bcast_S_S2x32768x128 (constant S_ .f32 0x43E00000#32))
    (maximumf (broadcastInDim S2x32768x128 ![] bcast_S_S2x32768x128 (constant S_ .f32 0xC3E00000#32))
      (mulf (extf .f32 X bitsLt_bf16_f32) (broadcastInDim S2x32768x128 ![0, 1, 2] bcast_S2x32768x1_S2x32768x128_0_1_2 (Host.exp (mulf (Host.negf (exps B)) ln2))))))
def scalesOf (B : FVec Ideal S2x32768 .f32) : FVec Ideal S2x32768x1 .f32 := Host.exp (mulf (exps B) ln2)

theorem bigs_at (b : Fin 2) (s : Fin 32768) : bigs X (ix2 b s) = big X b s := by
  pointwise [bigs, big, amax]
theorem exps_at (B : FVec Ideal S2x32768 .f32) (b : Fin 2) (s : Fin 32768) : exps B (ix3 b s 0) = rExp (B (ix2 b s)) := by
  pointwise [exps, ln2, rExp]
theorem codesOf_at (B : FVec Ideal S2x32768 .f32) (b : Fin 2) (s : Fin 32768) (d : Fin 128) : codesOf X B (ix3 b s d) = rCode (X (ix3 b s d)) (B (ix2 b s)) := by
  pointwise [codesOf, ln2, rCode]
  rw [exps_at]
theorem scalesOf_at (B : FVec Ideal S2x32768 .f32) (b : Fin 2) (s : Fin 32768) : scalesOf B (ix3 b s 0) = rScale (B (ix2 b s)) := by
  pointwise [scalesOf, ln2, rScale]
  rw [exps_at]
theorem codesT_at (C : FVec Ideal S2x32768x128 .fp8e4m3) (b : Fin 2) (j : Fin 128) (d : Fin 128) (l : Fin 256) :
    transpose S2x128x128x256 [0, 1, 3, 2] (shapeCast S2x128x256x128 C shapeCasts_S2x32768x128_S2x128x256x128) transposes_S2x128x256x128_S2x128x128x256_0_1_3_2 (ix4 b j d l)
      = C (ix3 b ⟨j * 256 + l, by omega⟩ d) := by
  pointwise
theorem scalesT_at (C : FVec Ideal S2x32768x1 .f32) (b : Fin 2) (j : Fin 256) (l : Fin 128) :
    shapeCast S2x256x1x128 C shapeCasts_S2x32768x1_S2x256x1x128 (ix4 b j 0 l) = C (ix3 b ⟨j * 128 + l, by omega⟩ 0) := by
  pointwise

/-- Every execution of the quantiser ends with these results. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = codesOf (m ((c.tc : Thread nD τ).loc main_arg0)) (bigs (m ((c.tc : Thread nD τ).loc main_arg0)))
      ∧ r.2.mem ((c.tc : Thread nD τ).loc main_v28) = transpose S2x128x128x256 [0, 1, 3, 2]
          (shapeCast S2x128x256x128 (codesOf (m ((c.tc : Thread nD τ).loc main_arg0)) (bigs (m ((c.tc : Thread nD τ).loc main_arg0)))) shapeCasts_S2x32768x128_S2x128x256x128)
          transposes_S2x128x256x128_S2x128x128x256_0_1_3_2
      ∧ r.2.mem ((c.tc : Thread nD τ).loc main_v29) = shapeCast S2x256x1x128 (scalesOf (bigs (m ((c.tc : Thread nD τ).loc main_arg0)))) shapeCasts_S2x32768x1_S2x256x1x128
      ∧ r.2.mem ((c.tc : Thread nD τ).loc main_arg0) = m ((c.tc : Thread nD τ).loc main_arg0) :=
  (θ_run _ _ _).mono (fun r h c => h c) (Cert.RefKIdeal.Value.run m ρ)
end

end Cert.QK
-- ==== Proof.QuantKRun.lean ====
/-
  The call that quantises the keys, over the reals: what its results hold at an index.
-/
module

public import proofs.«01_k».proof.Proof.QuantKRef
public import Idealize.ShloMosaic.Lib.Pipeline.ValueKit.Tiles
public import Idealize.ShloMosaic.Lib.Pipeline.ValueKit.Geometry
public import proofs.«01_k».proof.Proof.Gen.QuantKIdeal.Value

@[expose] public section

set_option maxRecDepth 16384

noncomputable section

namespace Cert.QK

open Idealize.ShloMosaic Idealize.ShloMosaic.TcCoe
open Cert.QuantKIdeal Cert.QuantKIdeal.Gen
open Cert.Quantise

variable (x : Vec Ideal S1x2048x128 .bf16)

/-- The word a token's exponent is held as. -/
theorem kword (s : Fin 2048) : k0_pay8 (k0_pay38 x) (k0_pay39 x) 0#32 (ix2 0 s) = kWord (amax fun k => x (ix3 0 s k)) := by
  unfold k0_pay39 k0_pay38
  pointwise [k0_pay8, k0_pay7, k0_pay6, k0_pay5, k0_pay4]
  rw [show (Named.named κ "log2_e" 1069066811#32 : Ideal .f32) = cL from IdealRules.named_const.ideal_named_scalar _ _ _ _ rfl]
  rfl
theorem code_at (d : Fin 128) (s : Fin 2048) :
    k0_pay9 (k0_pay37 x) (k0_pay38 x) (k0_pay39 x) 0#32 (ix2 d s) = kCode (x (ix3 0 s d)) (amax fun k => x (ix3 0 s k)) := by
  unfold k0_pay37
  pointwise [k0_pay9, k0_pay4]
  rw [kword]
  rfl
theorem scale_at (s : Fin 2048) : k0_pay41 x (ix2 0 s) = kScale (amax fun k => x (ix3 0 s k)) := by
  unfold k0_pay41
  pointwise [k0_pay11]
  rw [kword]
  rfl
theorem out1_at (s : Fin 2048) (d : Fin 128) : out0_1 x (ix3 0 s d) = kCode (x (ix3 0 s d)) (amax fun k => x (ix3 0 s k)) := by
  unfold out0_1
  frame_out
  pointwise [k0_pay10]
  exact code_at x d s
theorem out2_at (j : Fin 8) (d : Fin 128) (l : Fin 256) : out0_2 x (ix4 0 j d l)
    = kCode (x (ix3 0 ⟨j * 256 + l, by omega⟩ d)) (amax fun k => x (ix3 0 ⟨j * 256 + l, by omega⟩ k)) := by
  rw [← code_at x d]
  unfold out0_2
  canon_tiles y h
  all_goals
    pointwise [k0_pay20, k0_pay19, k0_pay18, k0_pay17, k0_pay16, k0_pay15, k0_pay14, k0_pay13, k0_pay12, k0_pay40]
    refine congrArg₂ (fun a b => k0_pay9 (k0_pay37 x) (k0_pay38 x) (k0_pay39 x) 0#32 (ix2 a b)) (Fin.ext ?_) (Fin.ext ?_)
    all_goals simp only [ix4] at h1 h2 h3 ⊢; omega
theorem out3_at (j : Fin 16) (l : Fin 128) : out0_3 x (ix4 0 j 0 l) = kScale (amax fun k => x (ix3 0 ⟨j * 128 + l, by omega⟩ k)) := by
  rw [← scale_at x]
  unfold out0_3
  canon_tiles y h
  all_goals
    pointwise [k0_pay1, k0_pay2, k0_pay3, k0_pay21, k0_pay22, k0_pay23, k0_pay24, k0_pay25, k0_pay26, k0_pay27, k0_pay28, k0_pay29, k0_pay30, k0_pay31, k0_pay32, k0_pay33, k0_pay34, k0_pay35, k0_pay36]
    refine congrArg (fun b => k0_pay41 x (ix2 0 b)) (Fin.ext ?_)
    simp only [ix4] at h1 h2 h3 ⊢
    omega

variable (m : (ℓ : Loc nD τ sig) → Buf (Elt Ideal) ℓ) (c : Dev nD) (t : Fin cfg0.N)

/-- The keys. -/
def arg : FVec Ideal S2x32768x128 .bf16 := m ((c : Thread nD τ).loc main_arg0)

/-- The call's results. -/
def codes : FVec Ideal S2x32768x128 .fp8e4m3 := fun x => (kCode (arg m c x) (big (arg m c) (x 0) (x 1)) : EReal)
def codesT : FVec Ideal S2x128x128x256 .fp8e4m3 := fun x =>
  (kCode (arg m c (ix3 (x 0) ⟨(x 1 : ℕ) * 256 + (x 3 : ℕ), by have h1 : (x 1 : ℕ) < 128 := (x 1).isLt; have h2 : (x 3 : ℕ) < 256 := (x 3).isLt; omega⟩ (x 2)))
    (big (arg m c) (x 0) ⟨(x 1 : ℕ) * 256 + (x 3 : ℕ), by have h1 : (x 1 : ℕ) < 128 := (x 1).isLt; have h2 : (x 3 : ℕ) < 256 := (x 3).isLt; omega⟩) : EReal)
def scales : FVec Ideal S2x256x1x128 .f32 := fun x =>
  (kScale (big (arg m c) (x 0) ⟨(x 1 : ℕ) * 128 + (x 3 : ℕ), by have h1 : (x 1 : ℕ) < 256 := (x 1).isLt; have h2 : (x 3 : ℕ) < 128 := (x 3).isLt; omega⟩) : EReal)

theorem idx : ∀ t : Fin cfg0.N, win0_0.index t = ![t.val / 16, t.val % 16, 0] ∧ win0_1.index t = ![t.val / 16, t.val % 16, 0]
    ∧ win0_2.index t = ![t.val / 16, t.val % 16, 0, 0] ∧ win0_3.index t = ![t.val / 16, t.val % 16, 0, 0] := by decide +kernel

theorem point_lt : t.val < 32 := lt_of_lt_of_eq t.isLt (by decide : cfg0.N = 32)

def bat : Fin 2 := ⟨t.val / 16, by have := point_lt t; omega⟩
def tok (s : Fin 2048) : Fin 32768 := ⟨t.val % 16 * 2048 + s, by omega⟩

theorem blk_at (s : Fin 2048) (d : Fin 128) : (iblk m c 0 t : Vec Ideal S1x2048x128 .bf16) (ix3 0 s d) = arg m c (ix3 (bat t) (tok t s) d) := by
  unfold arg bat tok
  have hi := idx t
  unfold iblk
  entry_read
  blk_ext [hi]

theorem pay1 (s : Fin 2048) (d : Fin 128) : out0_1 (iblk m c 0 t) (ix3 0 s d) = codes m c (ix3 (bat t) (tok t s) d) := by
  refine (out1_at _ s d).trans ?_
  simp only [blk_at]
  rfl
theorem pay2 (j : Fin 8) (d : Fin 128) (l : Fin 256) : out0_2 (iblk m c 0 t) (ix4 0 j d l)
    = codesT m c (ix4 (bat t) ⟨t.val % 16 * 8 + j, by omega⟩ d l) := by
  refine (out2_at _ j d l).trans ?_
  simp only [blk_at]
  have e : tok t ⟨j * 256 + l, by omega⟩ = ⟨(t.val % 16 * 8 + j) * 256 + l, by omega⟩ := by unfold tok; ext; simp only; omega
  rw [e]
  rfl
theorem pay3 (j : Fin 16) (l : Fin 128) : out0_3 (iblk m c 0 t) (ix4 0 j 0 l) = scales m c (ix4 (bat t) ⟨t.val % 16 * 16 + j, by omega⟩ 0 l) := by
  refine (out3_at _ j l).trans ?_
  simp only [blk_at]
  have e : tok t ⟨j * 128 + l, by omega⟩ = ⟨(t.val % 16 * 16 + j) * 128 + l, by omega⟩ := by unfold tok; ext; simp only; omega
  rw [e]
  rfl

theorem arr1 : (dats m 0 c).arrAt 1 cfg0.N = codes m c := by
  refine (dats m 0 c).arrAt_eq_of_covers 1 (codes m c) (by decide +kernel) fun t hf y => ?_
  have hi := idx t
  refine (cast_eq _ _).trans ?_
  rw [after0_1]
  have e : (win0_1.xinj (grid0.coords t) y : S1x2048x128.Idx) = ix3 0 (y 1) (y 2) := by blk_ext [hi]
  refine (congrArg _ e).trans ((pay1 m c t (y 1) (y 2)).trans (congrArg (codes m c) ?_))
  unfold bat tok
  blk_ext [hi]
theorem arr2 : (dats m 0 c).arrAt 2 cfg0.N = codesT m c := by
  refine (dats m 0 c).arrAt_eq_of_covers 2 (codesT m c) (by decide +kernel) fun t hf y => ?_
  have hi := idx t
  refine (cast_eq _ _).trans ?_
  rw [after0_2]
  have e : (win0_2.xinj (grid0.coords t) y : S1x8x128x256.Idx) = ix4 0 (y 1) (y 2) (y 3) := by blk_ext [hi]
  refine (congrArg _ e).trans ((pay2 m c t (y 1) (y 2) (y 3)).trans (congrArg (codesT m c) ?_))
  unfold bat
  blk_ext [hi]
theorem arr3 : (dats m 0 c).arrAt 3 cfg0.N = scales m c := by
  refine (dats m 0 c).arrAt_eq_of_covers 3 (scales m c) (by decide +kernel) fun t hf y => ?_
  have hi := idx t
  refine (cast_eq _ _).trans ?_
  rw [after0_3]
  have e : (win0_3.xinj (grid0.coords t) y : S1x16x1x128.Idx) = ix4 0 (y 1) 0 (y 3) := by blk_ext [hi]
  refine (congrArg _ e).trans ((pay3 m c t (y 1) (y 3)).trans (congrArg (scales m c) ?_))
  unfold bat
  blk_ext [hi]

end Cert.QK
-- ==== Proof.QuantKEqual.lean ====
/-
  The call that quantises the keys against its reference, over the reals.
-/
module

public import proofs.«01_k».proof.Defs
public import proofs.«01_k».proof.Proof.QuantKRun

@[expose] public section

set_option maxRecDepth 16384

noncomputable section

namespace Cert.QK

open Idealize.ShloMosaic Idealize.ShloMosaic.TcCoe
open Cert.Quantise

section
open Cert.QuantKIdeal

variable (m : (ℓ : Loc nD τ sig) → Buf (Elt Ideal) ℓ) (c : Dev nD) (hb : ∀ b s, Ok (big (arg m c) b s))
include hb

theorem codes_eq : codes m c = codesOf (arg m c) (bigs (arg m c)) := by
  funext x
  obtain ⟨b, s, d, rfl⟩ : ∃ (a : Fin 2) (b : Fin 32768) (c : Fin 128), x = ix3 a b c := ⟨x 0, x 1, x 2, eq_ix3 x⟩
  rw [codesOf_at, bigs_at]
  exact code_eq (hb _ _) _
theorem codesT_eq : codesT m c = transpose S2x128x128x256 [0, 1, 3, 2]
    (shapeCast Cert.RefKIdeal.S2x128x256x128 (codesOf (arg m c) (bigs (arg m c))) Cert.RefKIdeal.Gen.facts.shapeCasts_S2x32768x128_S2x128x256x128)
    Cert.RefKIdeal.Gen.facts.transposes_S2x128x256x128_S2x128x128x256_0_1_3_2 := by
  funext x
  obtain ⟨b, j, d, l, rfl⟩ : ∃ (a : Fin 2) (b c : Fin 128) (d : Fin 256), x = ix4 a b c d := ⟨x 0, x 1, x 2, x 3, eq_ix4 x⟩
  refine Eq.trans ?_ (codesT_at _ _ _ _ _).symm
  rw [codesOf_at, bigs_at]
  exact code_eq (hb _ _) _
theorem scales_eq : scales m c = shapeCast S2x256x1x128 (scalesOf (bigs (arg m c))) Cert.RefKIdeal.Gen.facts.shapeCasts_S2x32768x1_S2x256x1x128 := by
  funext x
  obtain ⟨b, j, u, l, rfl⟩ : ∃ (a : Fin 2) (b : Fin 256) (c : Fin 1) (d : Fin 128), x = ix4 a b c d := ⟨x 0, x 1, x 2, x 3, eq_ix4 x⟩
  obtain rfl : u = 0 := Subsingleton.elim _ _
  refine Eq.trans ?_ (scalesT_at _ _ _ _).symm
  rw [scalesOf_at, bigs_at]
  exact scale_eq (hb _ _)
end

section
open Cert.RefKIdeal Cert.RefKIdeal.Gen

/-- The reference holds no semaphore. -/
theorem no_sem : IsEmpty (SemLoc sig) := ⟨fun s => by cases s with | reg s => exact s.elim0 | dma s => exact s.elim0⟩

/-- The reference ends, leaves its argument as it was and every counter at zero. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run _ _ _).mono (fun r h => ⟨fun c => (h c).2.2.2, funext fun s => (no_sem.false s.2).elim⟩) (ref_run m ρ)
end

/-- The codes, the transposed codes and the scales of the keys are the reference's. -/
theorem equal : Cert.algebraic_QuantKIdeal_RefKIdeal_pre_range_k (hQuantKIdeal := Cert.QuantKIdeal.Gen.facts)
    (hRefKIdeal := Cert.RefKIdeal.Gen.facts) (hPre_range_k := pre_facts) := by
  intro m g m' g' hp he
  have hb := fun c => @ok_of pre_facts _ (hp c).1 (hp c).2
  refine ⟨fun c => codes m c, fun c => codesT m c, fun c => scales m c, ?_, ?_⟩
  · refine (θ_run _ _ _).mono (fun r h c => ?_) (Cert.QuantKIdeal.Value.run_blocks m g)
    exact ⟨(h c).1.trans (arr1 m c), (h c).2.1.trans (arr2 m c), (h c).2.2.1.trans (arr3 m c), (h c).2.2.2⟩
  · refine (θ_run _ _ _).mono (fun r h c => ?_) (ref_run m' g')
    have h := h c
    rw [he c] at h
    rw [he c]
    exact ⟨h.1.trans (codes_eq m c (hb c)).symm, h.2.1.trans (codesT_eq m c (hb c)).symm, h.2.2.1.trans (scales_eq m c (hb c)).symm, h.2.2.2⟩

end Cert.QK
-- ==== Proof.lean ====
/-
  The proof of `Cert.Claim`: each frame is the run of its program, each rewritten constant is the one named, and the kernel's result
  after its run is the reference's after its own.
-/
module

public import proofs.«01_k».proof.Defs
public import proofs.«01_k».proof.Proof.KernelRun
public import proofs.«01_k».proof.Proof.KernelIdealRun
public import proofs.«01_k».proof.Proof.Gen.ReferenceIdeal.Frame
public import proofs.«01_k».proof.Proof.Equal
public import proofs.«01_k».proof.Proof.Gen.QuantK.Frame
public import proofs.«01_k».proof.Proof.Gen.QuantKIdeal.Frame
public import proofs.«01_k».proof.Proof.QuantKEqual

@[expose] public section

noncomputable section

namespace Cert.Proof

open Idealize.ShloMosaic Idealize.ShloMosaic.TcCoe

/-- On every device the arguments the precondition admits are real, with positive scales of the queries. -/
theorem args (m : (ℓ : Loc Cert.KernelIdeal.nD Cert.KernelIdeal.τ Cert.KernelIdeal.sig) → Buf (Elt Ideal) ℓ)
    (h : Cert.Pre_KernelIdeal_finite (hPre_finite := Cert.Attn.pre_facts) m) (c : Dev Cert.KernelIdeal.nD) :
    Cert.Attn.RealArgs (Cert.Attn.KI.qA m c) (Cert.Attn.KI.qsA m c) (Cert.Attn.KI.ktA m c) (Cert.Attn.KI.ksA m c) := by
  have hc := h c
  exact @Cert.Attn.RealArgs.of Cert.Attn.pre_facts _ _ _ _ _ _ hc.1 hc.2.1 hc.2.2.1 hc.2.2.2.1 hc.2.2.2.2

theorem equal : Cert.algebraic_KernelIdeal_ReferenceIdeal_pre_finite (hKernelIdeal := Cert.KernelIdeal.Hand.facts)
    (hReferenceIdeal := Cert.ReferenceIdeal.Gen.facts) (hPre_finite := Cert.Attn.pre_facts) := by
  intro m g m' g' hp he
  refine ⟨fun c => Cert.Attn.KI.outK m c, ?_, ?_⟩
  · refine (θ_run _ _ _).mono (fun r h c => ?_)
      (Cert.Attn.KI.run_main m g _ _ (Cert.Attn.KI.good m fun c b => Cert.Attn.causal m c (args m hp c) b))
    exact ⟨Cert.Attn.KI.out_eq m c h.1, Cert.Attn.KI.unchanged m _ _ c h.1⟩
  · refine (θ_run _ _ _).mono (fun r h c => ?_)
      (θ_run_and (Cert.ReferenceIdeal.Gen.run_main m' g') (Cert.ReferenceIdeal.Gen.unchanged m' g'))
    obtain ⟨e0, e1, e2, e3, e4, e5⟩ := he c
    exact ⟨(Cert.Attn.RI.out_eq m' c h.1).trans (Cert.Attn.out_same m c (args m hp c) m' e0 e1 e2 e3 e4 e5), h.2 c⟩

theorem claim : Cert.Claim :=
  ⟨Cert.Kernel.Hand.facts, Cert.KernelIdeal.Hand.facts, Cert.ReferenceIdeal.Gen.facts, Cert.QuantK.Gen.facts, Cert.QuantKIdeal.Gen.facts,
    Cert.RefKIdeal.Gen.facts, Cert.Attn.pre_facts, Cert.QK.pre_facts,
    fun m g _ => Cert.Attn.K.frame m g,
    fun m g _ => Cert.Attn.KI.frame m g,
    fun m g _ => Cert.Attn.KI.frame m g,
    fun m g _ => Cert.ReferenceIdeal.Gen.frame m g,
    fun m g _ => Cert.ReferenceIdeal.Gen.frame m g,
    fun m g _ => Cert.QuantK.Gen.frame m g,
    fun m g _ => Cert.QuantKIdeal.Gen.frame m g,
    fun m g _ => Cert.QuantKIdeal.Gen.frame m g,
    fun m g _ => Cert.QK.ref_frame m g,
    fun m g _ => Cert.QK.ref_frame m g,
    ⟨IdealRules.named_const.statement _ _ _ _ _ rfl, IdealRules.named_const.statement _ _ _ _ _ rfl⟩,
    equal,
    IdealRules.named_const.statement _ _ _ _ _ rfl,
    Cert.QK.equal⟩

end Cert.Proof

end
